-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_in [hPre_finite_in : Cert.Pre_finite_in.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_in.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_in [hPre_finite_in : Cert.Pre_finite_in.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_in.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_ctx [hPre_finite_ctx : Cert.Pre_finite_ctx.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_ctx.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_ctx [hPre_finite_ctx : Cert.Pre_finite_ctx.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_ctx.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_mod [hPre_finite_mod : Cert.Pre_finite_mod.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_mod.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_mod [hPre_finite_mod : Cert.Pre_finite_mod.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_mod.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite_in [hKernel3Ideal : Cert.Kernel3Ideal.Facts] [hPre_finite_in : Cert.Pre_finite_in.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_in m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite_in [hReference3Ideal : Cert.Reference3Ideal.Facts] [hPre_finite_in : Cert.Pre_finite_in.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_in m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite_ctx [hKernel5Ideal : Cert.Kernel5Ideal.Facts] [hPre_finite_ctx : Cert.Pre_finite_ctx.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_ctx m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite_ctx [hReference5Ideal : Cert.Reference5Ideal.Facts] [hPre_finite_ctx : Cert.Pre_finite_ctx.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_ctx m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite_mod [hKernel6Ideal : Cert.Kernel6Ideal.Facts] [hPre_finite_mod : Cert.Pre_finite_mod.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_mod m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite_mod [hReference6Ideal : Cert.Reference6Ideal.Facts] [hPre_finite_mod : Cert.Pre_finite_mod.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_mod m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v101) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15))

def preserves_Kernel3_Kernel3Ideal : Prop :=
  IdealRules.named_const.Statement Cert.Kernel3Ideal.κ "scale" .f32 0x3E38AA3B#32 (((8 * (Real.log 2))⁻¹ : ℝ) : EReal)

def algebraic_Kernel3Ideal_Reference3Ideal_pre_finite_in [hKernel3Ideal : Cert.Kernel3Ideal.Facts] [hReference3Ideal : Cert.Reference3Ideal.Facts] [hPre_finite_in : Cert.Pre_finite_in.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_in m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v117_0)) (v1 : (c : Dev Cert.Kernel3Ideal.nD) → Buf (Elt Ideal) ((c.tc : Thread Cert.Kernel3Ideal.nD Cert.Kernel3Ideal.τ).loc Cert.Kernel3Ideal.main_v117_1)) (v2 : (c : Dev Cert.Kernel3Ideal.nD) → Buf (Elt Ideal) ((c.tc : Thread Cert.Kernel3Ideal.nD Cert.Kernel3Ideal.τ).loc Cert.Kernel3Ideal.main_v117_2)) (v3 : (c : Dev Cert.Kernel3Ideal.nD) → Buf (Elt Ideal) ((c.tc : Thread Cert.Kernel3Ideal.nD Cert.Kernel3Ideal.τ).loc Cert.Kernel3Ideal.main_v117_3)) (v4 : (c : Dev Cert.Kernel3Ideal.nD) → Buf (Elt Ideal) ((c.tc : Thread Cert.Kernel3Ideal.nD Cert.Kernel3Ideal.τ).loc Cert.Kernel3Ideal.main_v117_4)) (v5 : (c : Dev Cert.Kernel3Ideal.nD) → Buf (Elt Ideal) ((c.tc : Thread Cert.Kernel3Ideal.nD Cert.Kernel3Ideal.τ).loc Cert.Kernel3Ideal.main_v117_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v117_0) = v0 c
          ∧ r.2.mem ((c.tc : Thread Cert.Kernel3Ideal.nD Cert.Kernel3Ideal.τ).loc Cert.Kernel3Ideal.main_v117_1) = v1 c
          ∧ r.2.mem ((c.tc : Thread Cert.Kernel3Ideal.nD Cert.Kernel3Ideal.τ).loc Cert.Kernel3Ideal.main_v117_2) = v2 c
          ∧ r.2.mem ((c.tc : Thread Cert.Kernel3Ideal.nD Cert.Kernel3Ideal.τ).loc Cert.Kernel3Ideal.main_v117_3) = v3 c
          ∧ r.2.mem ((c.tc : Thread Cert.Kernel3Ideal.nD Cert.Kernel3Ideal.τ).loc Cert.Kernel3Ideal.main_v117_4) = v4 c
          ∧ r.2.mem ((c.tc : Thread Cert.Kernel3Ideal.nD Cert.Kernel3Ideal.τ).loc Cert.Kernel3Ideal.main_v117_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v70) = v0 c
          ∧ r.2.mem ((c.tc : Thread Cert.Reference3Ideal.nD Cert.Reference3Ideal.τ).loc Cert.Reference3Ideal.main_v71) = v1 c
          ∧ r.2.mem ((c.tc : Thread Cert.Reference3Ideal.nD Cert.Reference3Ideal.τ).loc Cert.Reference3Ideal.main_v72) = v2 c
          ∧ r.2.mem ((c.tc : Thread Cert.Reference3Ideal.nD Cert.Reference3Ideal.τ).loc Cert.Reference3Ideal.main_v162) = v3 c
          ∧ r.2.mem ((c.tc : Thread Cert.Reference3Ideal.nD Cert.Reference3Ideal.τ).loc Cert.Reference3Ideal.main_v165) = v4 c
          ∧ r.2.mem ((c.tc : Thread Cert.Reference3Ideal.nD Cert.Reference3Ideal.τ).loc Cert.Reference3Ideal.main_v167) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v93) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15))

def preserves_Kernel5_Kernel5Ideal : Prop :=
  True

def algebraic_Kernel5Ideal_Reference5Ideal_pre_finite_ctx [hKernel5Ideal : Cert.Kernel5Ideal.Facts] [hReference5Ideal : Cert.Reference5Ideal.Facts] [hPre_finite_ctx : Cert.Pre_finite_ctx.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_ctx m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v24) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_finite_mod [hKernel6Ideal : Cert.Kernel6Ideal.Facts] [hReference6Ideal : Cert.Reference6Ideal.Facts] [hPre_finite_mod : Cert.Pre_finite_mod.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_mod m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v14_0)) (v1 : (c : Dev Cert.Kernel7Ideal.nD) → Buf (Elt Ideal) ((c.tc : Thread Cert.Kernel7Ideal.nD Cert.Kernel7Ideal.τ).loc Cert.Kernel7Ideal.main_v14_1)) (v2 : (c : Dev Cert.Kernel7Ideal.nD) → Buf (Elt Ideal) ((c.tc : Thread Cert.Kernel7Ideal.nD Cert.Kernel7Ideal.τ).loc Cert.Kernel7Ideal.main_v14_2)) (v3 : (c : Dev Cert.Kernel7Ideal.nD) → Buf (Elt Ideal) ((c.tc : Thread Cert.Kernel7Ideal.nD Cert.Kernel7Ideal.τ).loc Cert.Kernel7Ideal.main_v14_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v14_0) = v0 c
          ∧ r.2.mem ((c.tc : Thread Cert.Kernel7Ideal.nD Cert.Kernel7Ideal.τ).loc Cert.Kernel7Ideal.main_v14_1) = v1 c
          ∧ r.2.mem ((c.tc : Thread Cert.Kernel7Ideal.nD Cert.Kernel7Ideal.τ).loc Cert.Kernel7Ideal.main_v14_2) = v2 c
          ∧ r.2.mem ((c.tc : Thread Cert.Kernel7Ideal.nD Cert.Kernel7Ideal.τ).loc Cert.Kernel7Ideal.main_v14_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v334) = v0 c
          ∧ r.2.mem ((c.tc : Thread Cert.Reference7Ideal.nD Cert.Reference7Ideal.τ).loc Cert.Reference7Ideal.main_v335) = v1 c
          ∧ r.2.mem ((c.tc : Thread Cert.Reference7Ideal.nD Cert.Reference7Ideal.τ).loc Cert.Reference7Ideal.main_v336) = v2 c
          ∧ r.2.mem ((c.tc : Thread Cert.Reference7Ideal.nD Cert.Reference7Ideal.τ).loc Cert.Reference7Ideal.main_v333) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_qk : Cert.Pre_finite_qk.Facts) (hPre_finite_in : Cert.Pre_finite_in.Facts) (hPre_finite_ctx : Cert.Pre_finite_ctx.Facts) (hPre_finite_mod : Cert.Pre_finite_mod.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_in (hKernel3Ideal := hKernel3Ideal) (hPre_finite_in := hPre_finite_in)
    ∧ quiescent_Reference3Ideal (hReference3Ideal := hReference3Ideal)
    ∧ quiescent_Reference3Ideal_pre_finite_in (hReference3Ideal := hReference3Ideal) (hPre_finite_in := hPre_finite_in)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_ctx (hKernel5Ideal := hKernel5Ideal) (hPre_finite_ctx := hPre_finite_ctx)
    ∧ quiescent_Reference5Ideal (hReference5Ideal := hReference5Ideal)
    ∧ quiescent_Reference5Ideal_pre_finite_ctx (hReference5Ideal := hReference5Ideal) (hPre_finite_ctx := hPre_finite_ctx)
    ∧ quiescent_Kernel6 (hKernel6 := hKernel6)
    ∧ quiescent_Kernel6Ideal (hKernel6Ideal := hKernel6Ideal)
    ∧ quiescent_Kernel6Ideal_pre_finite_mod (hKernel6Ideal := hKernel6Ideal) (hPre_finite_mod := hPre_finite_mod)
    ∧ quiescent_Reference6Ideal (hReference6Ideal := hReference6Ideal)
    ∧ quiescent_Reference6Ideal_pre_finite_mod (hReference6Ideal := hReference6Ideal) (hPre_finite_mod := hPre_finite_mod)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_in (hKernel3Ideal := hKernel3Ideal) (hReference3Ideal := hReference3Ideal) (hPre_finite_in := hPre_finite_in)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_ctx (hKernel5Ideal := hKernel5Ideal) (hReference5Ideal := hReference5Ideal) (hPre_finite_ctx := hPre_finite_ctx)
    ∧ preserves_Kernel6_Kernel6Ideal
    ∧ algebraic_Kernel6Ideal_Reference6Ideal_pre_finite_mod (hKernel6Ideal := hKernel6Ideal) (hReference6Ideal := hReference6Ideal) (hPre_finite_mod := hPre_finite_mod)
    ∧ preserves_Kernel7_Kernel7Ideal
    ∧ algebraic_Kernel7Ideal_Reference7Ideal (hKernel7Ideal := hKernel7Ideal) (hReference7Ideal := hReference7Ideal)
-- ==== Pre_finite_ctx.lean ====
abbrev S256x16640 : Shape := ⟨2, ![256, 16640]⟩
abbrev S2x16640x64 : Shape := ⟨3, ![2, 16640, 64]⟩
abbrev S128x16640 : Shape := ⟨2, ![128, 16640]⟩
abbrev S256x256 : Shape := ⟨2, ![256, 256]⟩
abbrev S2x256x64 : Shape := ⟨3, ![2, 256, 64]⟩
abbrev S_ : Shape := ⟨0, ![]⟩

class Facts : Prop where
  bitsLt_bf16_f32 : FTy.bits .bf16 < FTy.bits .f32
  slices_S256x16640_S256x256_0_16384 : S256x16640.Slices ![0, 16384] S256x256
  slices_S2x16640x64_S2x256x64_0_16384_0 : S2x16640x64.Slices ![0, 16384, 0] S2x256x64
  bcast_S_S256x256 : S_.BroadcastsInDim S256x256 (![] : Fin 0 → Fin S256x256.rank)
  reducesTo_S256x256_S_d0_1 : S256x256.ReducesTo [0, 1] S_
  h_S_ : 0 < S_.numel
  bcast_S_S2x256x64 : S_.BroadcastsInDim S2x256x64 (![] : Fin 0 → Fin S2x256x64.rank)
  reducesTo_S2x256x64_S_d0_1_2 : S2x256x64.ReducesTo [0, 1, 2] S_

variable [Facts]

def fn {F : FTy → Type} [FloatOps F] (main_arg0 : FVec F S256x16640 .bf16) (main_arg1 : FVec F S2x16640x64 .bf16) (main_arg2 : FVec F S128x16640 .bf16) : IVec S_ 1 :=
  let main_v0 : FVec F S256x16640 .f32 := (extf .f32 · bitsLt_bf16_f32) main_arg0
  let main_v1 : FVec F S256x256 .f32 := (extractStridedSlice S256x256 ![0, 16384] · slices_S256x16640_S256x256_0_16384) main_v0
  let main_v2 : FVec F S256x256 .f32 := Host.absf main_v1
  let main_v3 : FVec F S2x16640x64 .f32 := (extf .f32 · bitsLt_bf16_f32) main_arg1
  let main_v4 : FVec F S2x256x64 .f32 := (extractStridedSlice S2x256x64 ![0, 16384, 0] · slices_S2x16640x64_S2x256x64_0_16384_0) main_v3
  let main_v5 : FVec F S2x256x64 .f32 := Host.absf main_v4
  let main_cst : FVec F S_ .f32 := constant S_ .f32 0x7F800000#32
  let main_v6 : FVec F S256x256 .f32 := broadcastInDim S256x256 ![] bcast_S_S256x256 main_cst
  let main_v7 : IVec S256x256 1 := cmpf .olt main_v2 main_v6
  let main_c : IVec S_ 1 := constantI S_ 1 1#1
  let main_v8 : IVec S_ 1 := (fun x v => Host.reduce IntOp.andi x v reducesTo_S256x256_S_d0_1 h_S_) main_v7 main_c
  let main_cst_0 : FVec F S_ .f32 := constant S_ .f32 0x7F800000#32
  let main_v9 : FVec F S2x256x64 .f32 := broadcastInDim S2x256x64 ![] bcast_S_S2x256x64 main_cst_0
  let main_v10 : IVec S2x256x64 1 := cmpf .olt main_v5 main_v9
  let main_c_1 : IVec S_ 1 := constantI S_ 1 1#1
  let main_v11 : IVec S_ 1 := (fun x v => Host.reduce IntOp.andi x v reducesTo_S2x256x64_S_d0_1_2 h_S_) main_v10 main_c_1
  let main_v12 : IVec S_ 1 := andi main_v8 main_v11
  main_v12
-- ==== Pre_finite_in.lean ====
abbrev S16640x1024 : Shape := ⟨2, ![16640, 1024]⟩
abbrev S2x6x1024 : Shape := ⟨3, ![2, 6, 1024]⟩
abbrev S1024 : Shape := ⟨1, ![1024]⟩
abbrev S1024x1792 : Shape := ⟨2, ![1024, 1792]⟩
abbrev S64 : Shape := ⟨1, ![64]⟩
abbrev S2x2x1024 : Shape := ⟨3, ![2, 2, 1024]⟩
abbrev S1024x384 : Shape := ⟨2, ![1024, 384]⟩
abbrev S_ : Shape := ⟨0, ![]⟩

class Facts : Prop where
  slices_S2x6x1024_S2x2x1024_0_0_0 : S2x6x1024.Slices ![0, 0, 0] S2x2x1024
  slices_S1024x1792_S1024x384_0_1280 : S1024x1792.Slices ![0, 1280] S1024x384
  bcast_S_S2x2x1024 : S_.BroadcastsInDim S2x2x1024 (![] : Fin 0 → Fin S2x2x1024.rank)
  reducesTo_S2x2x1024_S_d0_1_2 : S2x2x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x384 : S_.BroadcastsInDim S1024x384 (![] : Fin 0 → Fin S1024x384.rank)
  reducesTo_S1024x384_S_d0_1 : S1024x384.ReducesTo [0, 1] S_

variable [Facts]

def fn {F : FTy → Type} [FloatOps F] (main_arg0 : FVec F S16640x1024 .f32) (main_arg1 : FVec F S2x6x1024 .f32) (main_arg2 : FVec F S1024 .f32) (main_arg3 : FVec F S1024x1792 .f32) (main_arg4 : FVec F S64 .f32) (main_arg5 : FVec F S64 .f32) : IVec S_ 1 :=
  let main_v0 : FVec F S2x2x1024 .f32 := (extractStridedSlice S2x2x1024 ![0, 0, 0] · slices_S2x6x1024_S2x2x1024_0_0_0) main_arg1
  let main_v1 : FVec F S2x2x1024 .f32 := Host.absf main_v0
  let main_v2 : FVec F S1024 .f32 := Host.absf main_arg2
  let main_v3 : FVec F S1024x384 .f32 := (extractStridedSlice S1024x384 ![0, 1280] · slices_S1024x1792_S1024x384_0_1280) main_arg3
  let main_v4 : FVec F S1024x384 .f32 := Host.absf main_v3
  let main_cst : FVec F S_ .f32 := constant S_ .f32 0x7F800000#32
  let main_v5 : FVec F S2x2x1024 .f32 := broadcastInDim S2x2x1024 ![] bcast_S_S2x2x1024 main_cst
  let main_v6 : IVec S2x2x1024 1 := cmpf .olt main_v1 main_v5
  let main_c : IVec S_ 1 := constantI S_ 1 1#1
  let main_v7 : IVec S_ 1 := (fun x v => Host.reduce IntOp.andi x v reducesTo_S2x2x1024_S_d0_1_2 h_S_) main_v6 main_c
  let main_cst_0 : FVec F S_ .f32 := constant S_ .f32 0x7F800000#32
  let main_v8 : FVec F S1024 .f32 := broadcastInDim S1024 ![] bcast_S_S1024 main_cst_0
  let main_v9 : IVec S1024 1 := cmpf .olt main_v2 main_v8
  let main_c_1 : IVec S_ 1 := constantI S_ 1 1#1
  let main_v10 : IVec S_ 1 := (fun x v => Host.reduce IntOp.andi x v reducesTo_S1024_S_d0 h_S_) main_v9 main_c_1
  let main_v11 : IVec S_ 1 := andi main_v7 main_v10
  let main_cst_2 : FVec F S_ .f32 := constant S_ .f32 0x7F800000#32
  let main_v12 : FVec F S1024x384 .f32 := broadcastInDim S1024x384 ![] bcast_S_S1024x384 main_cst_2
  let main_v13 : IVec S1024x384 1 := cmpf .olt main_v4 main_v12
  let main_c_3 : IVec S_ 1 := constantI S_ 1 1#1
  let main_v14 : IVec S_ 1 := (fun x v => Host.reduce IntOp.andi x v reducesTo_S1024x384_S_d0_1 h_S_) main_v13 main_c_3
  let main_v15 : IVec S_ 1 := andi main_v11 main_v14
  main_v15
-- ==== Pre_finite_mod.lean ====
abbrev S1x1024 : Shape := ⟨2, ![1, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S4x1024x6144 : S_.BroadcastsInDim S4x1024x6144 (![] : Fin 0 → Fin S4x1024x6144.rank)
  reducesTo_S4x1024x6144_S_d0_1_2 : S4x1024x6144.ReducesTo [0, 1, 2] S_

variable [Facts]

def fn {F : FTy → Type} [FloatOps F] (main_arg0 : FVec F S1x1024 .f32) (main_arg1 : FVec F S1024 .f32) (main_arg2 : FVec F S4x1024x6144 .f32) (main_arg3 : FVec F S4x6144 .f32) : IVec S_ 1 :=
  let main_v0 : FVec F S1x1024 .f32 := Host.absf main_arg0
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S4x1024x6144 .f32 := Host.absf main_arg2
  let main_cst_2 : FVec F S_ .f32 := constant S_ .f32 0x7F800000#32
  let main_v10 : FVec F S4x1024x6144 .f32 := broadcastInDim S4x1024x6144 ![] bcast_S_S4x1024x6144 main_cst_2
  let main_v11 : IVec S4x1024x6144 1 := cmpf .olt main_v9 main_v10
  let main_c_3 : IVec S_ 1 := constantI S_ 1 1#1
  let main_v12 : IVec S_ 1 := (fun x v => Host.reduce IntOp.andi x v reducesTo_S4x1024x6144_S_d0_1_2 h_S_) main_v11 main_c_3
  let main_v13 : IVec S_ 1 := andi main_v8 main_v12
  main_v13
-- ==== Pre_finite_qk.lean ====
abbrev S256x16640 : Shape := ⟨2, ![256, 16640]⟩
abbrev S2x16640x64 : Shape := ⟨3, ![2, 16640, 64]⟩
abbrev S128x16640 : Shape := ⟨2, ![128, 16640]⟩
abbrev S256x16384 : Shape := ⟨2, ![256, 16384]⟩
abbrev S_ : Shape := ⟨0, ![]⟩

class Facts : Prop where
  bitsLt_bf16_f32 : FTy.bits .bf16 < FTy.bits .f32
  slices_S256x16640_S256x16384_0_0 : S256x16640.Slices ![0, 0] S256x16384
  bcast_S_S256x16384 : S_.BroadcastsInDim S256x16384 (![] : Fin 0 → Fin S256x16384.rank)
  reducesTo_S256x16384_S_d0_1 : S256x16384.ReducesTo [0, 1] S_
  h_S_ : 0 < S_.numel
  bcast_S_S2x16640x64 : S_.BroadcastsInDim S2x16640x64 (![] : Fin 0 → Fin S2x16640x64.rank)
  reducesTo_S2x16640x64_S_d0_1_2 : S2x16640x64.ReducesTo [0, 1, 2] S_

variable [Facts]

def fn {F : FTy → Type} [FloatOps F] (main_arg0 : FVec F S256x16640 .bf16) (main_arg1 : FVec F S2x16640x64 .bf16) (main_arg2 : FVec F S128x16640 .bf16) : IVec S_ 1 :=
  let main_v0 : FVec F S256x16640 .f32 := (extf .f32 · bitsLt_bf16_f32) main_arg0
  let main_v1 : FVec F S256x16384 .f32 := (extractStridedSlice S256x16384 ![0, 0] · slices_S256x16640_S256x16384_0_0) main_v0
  let main_v2 : FVec F S256x16384 .f32 := Host.absf main_v1
  let main_v3 : FVec F S2x16640x64 .f32 := (extf .f32 · bitsLt_bf16_f32) main_arg1
  let main_v4 : FVec F S2x16640x64 .f32 := Host.absf main_v3
  let main_cst : FVec F S_ .f32 := constant S_ .f32 0x7F800000#32
  let main_v5 : FVec F S256x16384 .f32 := broadcastInDim S256x16384 ![] bcast_S_S256x16384 main_cst
  let main_v6 : IVec S256x16384 1 := cmpf .olt main_v2 main_v5
  let main_c : IVec S_ 1 := constantI S_ 1 1#1
  let main_v7 : IVec S_ 1 := (fun x v => Host.reduce IntOp.andi x v reducesTo_S256x16384_S_d0_1 h_S_) main_v6 main_c
  let main_cst_0 : FVec F S_ .f32 := constant S_ .f32 0x7F800000#32
  let main_v8 : FVec F S2x16640x64 .f32 := broadcastInDim S2x16640x64 ![] bcast_S_S2x16640x64 main_cst_0
  let main_v9 : IVec S2x16640x64 1 := cmpf .olt main_v4 main_v8
  let main_c_1 : IVec S_ 1 := constantI S_ 1 1#1
  let main_v10 : IVec S_ 1 := (fun x v => Host.reduce IntOp.andi x v reducesTo_S2x16640x64_S_d0_1_2 h_S_) main_v9 main_c_1
  let main_v11 : IVec S_ 1 := andi main_v7 main_v10
  main_v11
-- ==== Kernel.lean ====
abbrev S256x16640 : Shape := ⟨2, ![256, 16640]⟩
abbrev S2x16640x64 : Shape := ⟨3, ![2, 16640, 64]⟩
abbrev S128x16640 : Shape := ⟨2, ![128, 16640]⟩
abbrev S256x16384 : Shape := ⟨2, ![256, 16384]⟩
abbrev S128x4096 : Shape := ⟨2, ![128, 4096]⟩
abbrev S1x4096x64 : Shape := ⟨3, ![1, 4096, 64]⟩
abbrev S64x4096 : Shape := ⟨2, ![64, 4096]⟩
abbrev S1x256x64 : Shape := ⟨3, ![1, 256, 64]⟩
abbrev S64x256 : Shape := ⟨2, ![64, 256]⟩
abbrev S16x1x512 : Shape := ⟨3, ![16, 1, 512]⟩
abbrev S16x80x512 : Shape := ⟨3, ![16, 80, 512]⟩
abbrev S4096x64 : Shape := ⟨2, ![4096, 64]⟩
abbrev S16x4096 : Shape := ⟨2, ![16, 4096]⟩
abbrev S80x4096 : Shape := ⟨2, ![80, 4096]⟩
abbrev S64x512 : Shape := ⟨2, ![64, 512]⟩
abbrev S4096x512 : Shape := ⟨2, ![4096, 512]⟩
abbrev S1x1x512 : Shape := ⟨3, ![1, 1, 512]⟩
abbrev S1x512 : Shape := ⟨2, ![1, 512]⟩
abbrev S512 : Shape := ⟨1, ![512]⟩
abbrev S1x80x512 : Shape := ⟨3, ![1, 80, 512]⟩
abbrev S80x512 : Shape := ⟨2, ![80, 512]⟩
abbrev S256x64 : Shape := ⟨2, ![256, 64]⟩
abbrev S16x256 : Shape := ⟨2, ![16, 256]⟩
abbrev S80x256 : Shape := ⟨2, ![80, 256]⟩
abbrev S256x512 : Shape := ⟨2, ![256, 512]⟩

abbrev nBuf : Space → Nat
  | .hbm => 4
  | .vmem => 14
  | .smem => 0
  | _ => 0

abbrev bufTy : (tb : Table) → Fin (tcTables nBuf tb) → BufTy
  | .hbm, ⟨0, _⟩ => ⟨S256x16640, .bf16⟩
  | .hbm, ⟨1, _⟩ => ⟨S2x16640x64, .bf16⟩
  | .hbm, ⟨2, _⟩ => ⟨S128x16640, .bf16⟩
  | .hbm, ⟨3, _⟩ => ⟨S256x16384, .bf16⟩
  | .local _ .vmem, ⟨0, _⟩ => ⟨S128x4096, .bf16⟩
  | .local _ .vmem, ⟨1, _⟩ => ⟨S128x4096, .bf16⟩
  | .local _ .vmem, ⟨2, _⟩ => ⟨S1x4096x64, .bf16⟩
  | .local _ .vmem, ⟨3, _⟩ => ⟨S1x4096x64, .bf16⟩
  | .local _ .vmem, ⟨4, _⟩ => ⟨S64x4096, .bf16⟩
  | .local _ .vmem, ⟨5, _⟩ => ⟨S64x4096, .bf16⟩
  | .local _ .vmem, ⟨6, _⟩ => ⟨S1x256x64, .bf16⟩
  | .local _ .vmem, ⟨7, _⟩ => ⟨S1x256x64, .bf16⟩
  | .local _ .vmem, ⟨8, _⟩ => ⟨S64x256, .bf16⟩
  | .local _ .vmem, ⟨9, _⟩ => ⟨S64x256, .bf16⟩
  | .local _ .vmem, ⟨10, _⟩ => ⟨S128x4096, .bf16⟩
  | .local _ .vmem, ⟨11, _⟩ => ⟨S128x4096, .bf16⟩
  | .local _ .vmem, ⟨12, _⟩ => ⟨S16x1x512, .f32⟩
  | .local _ .vmem, ⟨13, _⟩ => ⟨S16x80x512, .f32⟩
  | _, _ => ⟨S256x16640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v408 : BitVec 1 := Scalar.cmpi .eq arg2 c3_i32
  let v409 : BitVec 32 := Scalar.extui v408
  let c0_i32_254 : BitVec 32 := 0#32
  let v410 : BitVec 1 := Scalar.cmpi .ne v409 c0_i32_254
  v410

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let c0_i32 : BitVec 32 := 0#32
  let c0_i32_0 : BitVec 32 := 0#32
  ![arg0.toNat, c64_i32.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let c0_i32 : BitVec 32 := 0#32
  ![arg0.toNat, c64_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4096x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S64x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S64x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceIdeal.lean ====
abbrev S256x16640 : Shape := ⟨2, ![256, 16640]⟩
abbrev S2x16640x64 : Shape := ⟨3, ![2, 16640, 64]⟩
abbrev S128x16640 : Shape := ⟨2, ![128, 16640]⟩
abbrev S256x16384 : Shape := ⟨2, ![256, 16384]⟩
abbrev S2x2x64x16384 : Shape := ⟨4, ![2, 2, 64, 16384]⟩
abbrev S2x64x16640 : Shape := ⟨3, ![2, 64, 16640]⟩
abbrev S2x2x16384x16640 : Shape := ⟨4, ![2, 2, 16384, 16640]⟩
abbrev S_ : Shape := ⟨0, ![]⟩
abbrev S2x2x16384 : Shape := ⟨3, ![2, 2, 16384]⟩
abbrev S2x2x16384x1 : Shape := ⟨4, ![2, 2, 16384, 1]⟩
abbrev S2x64x2x16384 : Shape := ⟨4, ![2, 64, 2, 16384]⟩

abbrev nBuf : Space → Nat
  | .hbm => 30
  | .vmem => 0
  | .smem => 0
  | _ => 0

abbrev bufTy : (tb : Table) → Fin (tcTables nBuf tb) → BufTy
  | .hbm, ⟨0, _⟩ => ⟨S256x16640, .bf16⟩
  | .hbm, ⟨1, _⟩ => ⟨S2x16640x64, .bf16⟩
  | .hbm, ⟨2, _⟩ => ⟨S128x16640, .bf16⟩
  | .hbm, ⟨3, _⟩ => ⟨S256x16384, .bf16⟩
  | .hbm, ⟨4, _⟩ => ⟨S2x2x64x16384, .bf16⟩
  | .hbm, ⟨5, _⟩ => ⟨S2x64x16640, .bf16⟩
  | .hbm, ⟨6, _⟩ => ⟨S2x2x16384x16640, .f32⟩
  | .hbm, ⟨7, _⟩ => ⟨S_, .f32⟩
  | .hbm, ⟨8, _⟩ => ⟨S_, .f32⟩
  | .hbm, ⟨9, _⟩ => ⟨S2x2x16384x16640, .f32⟩
  | .hbm, ⟨10, _⟩ => ⟨S2x2x16384x16640, .f32⟩
  | .hbm, ⟨11, _⟩ => ⟨S_, .f32⟩
  | .hbm, ⟨12, _⟩ => ⟨S2x2x16384, .f32⟩
  | .hbm, ⟨13, _⟩ => ⟨S_, .f32⟩
  | .hbm, ⟨14, _⟩ => ⟨S2x2x16384, .f32⟩
  | .hbm, ⟨15, _⟩ => ⟨S2x2x16384, .f32⟩
  | .hbm, ⟨16, _⟩ => ⟨S2x2x16384x1, .f32⟩
  | .hbm, ⟨17, _⟩ => ⟨S2x2x16384x16640, .f32⟩
  | .hbm, ⟨18, _⟩ => ⟨S2x2x16384x16640, .f32⟩
  | .hbm, ⟨19, _⟩ => ⟨S2x2x16384x16640, .f32⟩
  | .hbm, ⟨20, _⟩ => ⟨S_, .f32⟩
  | .hbm, ⟨21, _⟩ => ⟨S2x2x16384, .f32⟩
  | .hbm, ⟨22, _⟩ => ⟨S2x2x16384x1, .f32⟩
  | .hbm, ⟨23, _⟩ => ⟨S2x2x16384x16640, .f32⟩
  | .hbm, ⟨24, _⟩ => ⟨S2x2x16384x16640, .f32⟩
  | .hbm, ⟨25, _⟩ => ⟨S2x2x16384x16640, .bf16⟩
  | .hbm, ⟨26, _⟩ => ⟨S2x64x2x16384, .f32⟩
  | .hbm, ⟨27, _⟩ => ⟨S2x2x64x16384, .f32⟩
  | .hbm, ⟨28, _⟩ => ⟨S256x16384, .f32⟩
  | .hbm, ⟨29, _⟩ => ⟨S256x16384, .bf16⟩
  | _, _ => ⟨S256x16640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel2.lean ====
abbrev S16640x1024 : Shape := ⟨2, ![16640, 1024]⟩
abbrev S2x6x1024 : Shape := ⟨3, ![2, 6, 1024]⟩
abbrev S16384x256 : Shape := ⟨2, ![16384, 256]⟩
abbrev S256x256 : Shape := ⟨2, ![256, 256]⟩
abbrev S16640x256 : Shape := ⟨2, ![16640, 256]⟩
abbrev S256x16384 : Shape := ⟨2, ![256, 16384]⟩
abbrev S256 : Shape := ⟨1, ![256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x256 : Shape := ⟨2, ![1, 256]⟩
abbrev S1x1024 : Shape := ⟨2, ![1, 1024]⟩
abbrev S256x1024 : Shape := ⟨2, ![256, 1024]⟩
abbrev S1x6x1024 : Shape := ⟨3, ![1, 6, 1024]⟩
abbrev S6x1024 : Shape := ⟨2, ![6, 1024]⟩
abbrev S256x1 : Shape := ⟨2, ![256, 1]⟩
abbrev S256x4096 : Shape := ⟨2, ![256, 4096]⟩

abbrev nBuf : Space → Nat
  | .hbm => 25
  | .vmem => 24
  | .smem => 0
  | _ => 0

abbrev bufTy : (tb : Table) → Fin (tcTables nBuf tb) → BufTy
  | .hbm, ⟨0, _⟩ => ⟨S16640x1024, .f32⟩
  | .hbm, ⟨1, _⟩ => ⟨S2x6x1024, .f32⟩
  | .hbm, ⟨2, _⟩ => ⟨S16384x256, .f32⟩
  | .hbm, ⟨3, _⟩ => ⟨S256x256, .f32⟩
  | .hbm, ⟨4, _⟩ => ⟨S16640x256, .f32⟩
  | .hbm, ⟨5, _⟩ => ⟨S16640x256, .f32⟩
  | .hbm, ⟨6, _⟩ => ⟨S256x16384, .bf16⟩
  | .hbm, ⟨7, _⟩ => ⟨S256x256, .bf16⟩
  | .hbm, ⟨8, _⟩ => ⟨S256x256, .f32⟩
  | .hbm, ⟨9, _⟩ => ⟨S256, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024x4096, .f32⟩
  | .hbm, ⟨15, _⟩ => ⟨S4096x1024, .f32⟩
  | .hbm, ⟨16, _⟩ => ⟨S256x256, .bf16⟩
  | .hbm, ⟨17, _⟩ => ⟨S1x256, .f32⟩
  | .hbm, ⟨18, _⟩ => ⟨S1024x1024, .bf16⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1024x4096, .bf16⟩
  | .hbm, ⟨23, _⟩ => ⟨S4096x1024, .bf16⟩
  | .hbm, ⟨24, _⟩ => ⟨S16640x1024, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .bf16⟩
  | .local _ .vmem, ⟨12, _⟩ => ⟨S256x256, .bf16⟩
  | .local _ .vmem, ⟨13, _⟩ => ⟨S256x256, .bf16⟩
  | .local _ .vmem, ⟨14, _⟩ => ⟨S256x256, .bf16⟩
  | .local _ .vmem, ⟨15, _⟩ => ⟨S1x256, .f32⟩
  | .local _ .vmem, ⟨16, _⟩ => ⟨S1024x1024, .bf16⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1024x4096, .bf16⟩
  | .local _ .vmem, ⟨21, _⟩ => ⟨S4096x1024, .bf16⟩
  | .local _ .vmem, ⟨22, _⟩ => ⟨S256x1024, .f32⟩
  | .local _ .vmem, ⟨23, _⟩ => ⟨S256x1024, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg16_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x4096 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4096x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference2Ideal.lean ====
abbrev S16640x1024 : Shape := ⟨2, ![16640, 1024]⟩
abbrev S2x6x1024 : Shape := ⟨3, ![2, 6, 1024]⟩
abbrev S16384x256 : Shape := ⟨2, ![16384, 256]⟩
abbrev S256x256 : Shape := ⟨2, ![256, 256]⟩
abbrev S16640x256 : Shape := ⟨2, ![16640, 256]⟩
abbrev S256x16384 : Shape := ⟨2, ![256, 16384]⟩
abbrev S256 : Shape := ⟨1, ![256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S6x16640x1024 : Shape := ⟨3, ![6, 16640, 1024]⟩
abbrev S_ : Shape := ⟨0, ![]⟩
abbrev S1x6x1024 : Shape := ⟨3, ![1, 6, 1024]⟩
abbrev S6x1x1024 : Shape := ⟨3, ![6, 1, 1024]⟩
abbrev S1x16640x1024 : Shape := ⟨3, ![1, 16640, 1024]⟩
abbrev S1x256 : Shape := ⟨2, ![1, 256]⟩
abbrev S16640 : Shape := ⟨1, ![16640]⟩
abbrev S16640x1 : Shape := ⟨2, ![16640, 1]⟩
abbrev S1x1024 : Shape := ⟨2, ![1, 1024]⟩
abbrev S16640x4096 : Shape := ⟨2, ![16640, 4096]⟩

abbrev nBuf : Space → Nat
  | .hbm => 139
  | .vmem => 0
  | .smem => 0
  | _ => 0

abbrev hbmTy0_0 (i : Nat) : BufTy := match i % 128 with
  | 0 => ⟨S16640x1024, .f32⟩
  | 1 => ⟨S2x6x1024, .f32⟩
  | 2 => ⟨S16384x256, .f32⟩
  | 3 => ⟨S256x256, .f32⟩
  | 4 => ⟨S16640x256, .f32⟩
  | 5 => ⟨S16640x256, .f32⟩
  | 6 => ⟨S256x16384, .bf16⟩
  | 7 => ⟨S256x256, .bf16⟩
  | 8 => ⟨S256x256, .f32⟩
  | 9 => ⟨S256, .f32⟩
  | 10 => ⟨S1024x1024, .f32⟩
  | 11 => ⟨S1024, .f32⟩
  | 12 => ⟨S1024, .f32⟩
  | 13 => ⟨S1024, .f32⟩
  | 14 => ⟨S1024x4096, .f32⟩
  | 15 => ⟨S4096x1024, .f32⟩
  | 16 => ⟨S6x16640x1024, .i32⟩
  | 17 => ⟨S_, .i32⟩
  | 18 => ⟨S6x16640x1024, .i32⟩
  | 19 => ⟨S6x16640x1024, .i1⟩
  | 20 => ⟨S1x6x1024, .f32⟩
  | 21 => ⟨S6x1x1024, .f32⟩
  | 22 => ⟨S1x6x1024, .f32⟩
  | 23 => ⟨S6x1x1024, .f32⟩
  | 24 => ⟨S6x16640x1024, .f32⟩
  | 25 => ⟨S6x16640x1024, .f32⟩
  | 26 => ⟨S6x16640x1024, .f32⟩
  | 27 => ⟨S1x16640x1024, .f32⟩
  | 28 => ⟨S1x16640x1024, .f32⟩
  | 29 => ⟨S1x16640x1024, .f32⟩
  | 30 => ⟨S1x16640x1024, .f32⟩
  | 31 => ⟨S1x16640x1024, .f32⟩
  | 32 => ⟨S1x16640x1024, .f32⟩
  | 33 => ⟨S16640x1024, .f32⟩
  | 34 => ⟨S16640x1024, .f32⟩
  | 35 => ⟨S16640x1024, .f32⟩
  | 36 => ⟨S16640x1024, .f32⟩
  | 37 => ⟨S16640x1024, .f32⟩
  | 38 => ⟨S16640x1024, .f32⟩
  | 39 => ⟨S16640x256, .f32⟩
  | 40 => ⟨S16640x256, .f32⟩
  | 41 => ⟨S_, .f32⟩
  | 42 => ⟨S16640x256, .f32⟩
  | 43 => ⟨S16640x256, .f32⟩
  | 44 => ⟨S16640x256, .f32⟩
  | 45 => ⟨S_, .f32⟩
  | 46 => ⟨S16640x256, .f32⟩
  | 47 => ⟨S16640x256, .f32⟩
  | 48 => ⟨S16640x256, .f32⟩
  | 49 => ⟨S_, .f32⟩
  | 50 => ⟨S16640x256, .f32⟩
  | 51 => ⟨S16640x256, .f32⟩
  | 52 => ⟨S_, .f32⟩
  | 53 => ⟨S16640x256, .f32⟩
  | 54 => ⟨S16640x256, .f32⟩
  | 55 => ⟨S16640x256, .f32⟩
  | 56 => ⟨S16640x256, .f32⟩
  | 57 => ⟨S1x256, .f32⟩
  | 58 => ⟨S16640x256, .f32⟩
  | 59 => ⟨S16640x256, .f32⟩
  | 60 => ⟨S16640x256, .f32⟩
  | 61 => ⟨S16640x256, .f32⟩
  | 62 => ⟨S_, .f32⟩
  | 63 => ⟨S16640x256, .f32⟩
  | 64 => ⟨S16640x256, .f32⟩
  | 65 => ⟨S_, .f32⟩
  | 66 => ⟨S16640x256, .f32⟩
  | 67 => ⟨S16640x256, .f32⟩
  | 68 => ⟨S16640x256, .f32⟩
  | 69 => ⟨S16640x256, .f32⟩
  | 70 => ⟨S16384x256, .bf16⟩
  | 71 => ⟨S256x256, .bf16⟩
  | 72 => ⟨S16640x256, .bf16⟩
  | 73 => ⟨S16640x256, .f32⟩
  | 74 => ⟨S16640x1024, .f32⟩
  | 75 => ⟨S16640x1024, .f32⟩
  | 76 => ⟨S16640x1024, .f32⟩
  | 77 => ⟨S_, .f32⟩
  | 78 => ⟨S16640, .f32⟩
  | 79 => ⟨S16640x1, .f32⟩
  | 80 => ⟨S_, .f32⟩
  | 81 => ⟨S16640x1, .f32⟩
  | 82 => ⟨S16640x1, .f32⟩
  | 83 => ⟨S_, .f32⟩
  | 84 => ⟨S16640x1, .f32⟩
  | 85 => ⟨S16640x1, .f32⟩
  | 86 => ⟨S16640x1, .f32⟩
  | 87 => ⟨S16640x1024, .f32⟩
  | 88 => ⟨S16640x1024, .f32⟩
  | 89 => ⟨S1x1024, .f32⟩
  | 90 => ⟨S16640x1024, .f32⟩
  | 91 => ⟨S16640x1024, .f32⟩
  | 92 => ⟨S16640x1024, .f32⟩
  | 93 => ⟨S16640x1024, .f32⟩
  | 94 => ⟨S16640x1024, .f32⟩
  | 95 => ⟨S_, .f32⟩
  | 96 => ⟨S16640, .f32⟩
  | 97 => ⟨S16640x1, .f32⟩
  | 98 => ⟨S_, .f32⟩
  | 99 => ⟨S16640x1, .f32⟩
  | 100 => ⟨S16640x1, .f32⟩
  | 101 => ⟨S_, .f32⟩
  | 102 => ⟨S16640x1, .f32⟩
  | 103 => ⟨S16640x1, .f32⟩
  | 104 => ⟨S16640x1, .f32⟩
  | 105 => ⟨S16640x1024, .f32⟩
  | 106 => ⟨S16640x1024, .f32⟩
  | 107 => ⟨S1x1024, .f32⟩
  | 108 => ⟨S16640x1024, .f32⟩
  | 109 => ⟨S16640x1024, .f32⟩
  | 110 => ⟨S_, .f32⟩
  | 111 => ⟨S16640x1024, .f32⟩
  | 112 => ⟨S16640x1024, .f32⟩
  | 113 => ⟨S16640x1024, .f32⟩
  | 114 => ⟨S16640x1024, .f32⟩
  | 115 => ⟨S16640x4096, .f32⟩
  | 116 => ⟨S_, .f32⟩
  | 117 => ⟨S16640x4096, .f32⟩
  | 118 => ⟨S16640x4096, .f32⟩
  | 119 => ⟨S16640x4096, .f32⟩
  | 120 => ⟨S16640x1024, .f32⟩
  | 121 => ⟨S16640x1024, .f32⟩
  | 122 => ⟨S_, .f32⟩
  | 123 => ⟨S16640, .f32⟩
  | 124 => ⟨S16640x1, .f32⟩
  | 125 => ⟨S_, .f32⟩
  | 126 => ⟨S16640x1, .f32⟩
  | 127 => ⟨S16640x1, .f32⟩
  | _ => ⟨S16640x1024, .f32⟩

abbrev hbmTy0_1 (i : Nat) : BufTy := match i % 128 with
  | 0 => ⟨S_, .f32⟩
  | 1 => ⟨S16640x1, .f32⟩
  | 2 => ⟨S16640x1, .f32⟩
  | 3 => ⟨S16640x1, .f32⟩
  | 4 => ⟨S16640x1024, .f32⟩
  | 5 => ⟨S16640x1024, .f32⟩
  | 6 => ⟨S1x1024, .f32⟩
  | 7 => ⟨S16640x1024, .f32⟩
  | 8 => ⟨S16640x1024, .f32⟩
  | 9 => ⟨S16640x1024, .f32⟩
  | 10 => ⟨S16640x1024, .f32⟩
  | _ => ⟨S16640x1024, .f32⟩

abbrev hbmTy (i : Nat) : BufTy := match i / 128 with
  | 0 => hbmTy0_0 i
  | 1 => hbmTy0_1 i
  | _ => ⟨S16640x1024, .f32⟩

abbrev bufTy : (tb : Table) → Fin (tcTables nBuf tb) → BufTy
  | .hbm, ⟨i, _⟩ => hbmTy i
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_call0_v0 : Ref sig .tc := ⟨.hbm, 24, rfl⟩
abbrev main_call0_v1 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_0 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_1 : Ref sig .tc := ⟨.hbm, 49, rfl⟩
abbrev main_v28 : Ref sig .tc := ⟨.hbm, 50, rfl⟩
abbrev main_v29 : Ref sig .tc := ⟨.hbm, 51, rfl⟩
abbrev main_cst_2 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_3 : Ref sig .tc := ⟨.hbm, 62, rfl⟩
abbrev main_v39 : Ref sig .tc := ⟨.hbm, 63, rfl⟩
abbrev main_v40 : Ref sig .tc := ⟨.hbm, 64, rfl⟩
abbrev main_cst_4 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_5 : Ref sig .tc := ⟨.hbm, 77, rfl⟩
abbrev main_v52 : Ref sig .tc := ⟨.hbm, 78, rfl⟩
abbrev main_v53 : Ref sig .tc := ⟨.hbm, 79, rfl⟩
abbrev main_cst_6 : Ref sig .tc := ⟨.hbm, 80, rfl⟩
abbrev main_v54 : Ref sig .tc := ⟨.hbm, 81, rfl⟩
abbrev main_v55 : Ref sig .tc := ⟨.hbm, 82, rfl⟩
abbrev main_cst_7 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_8 : Ref sig .tc := ⟨.hbm, 95, rfl⟩
abbrev main_v67 : Ref sig .tc := ⟨.hbm, 96, rfl⟩
abbrev main_v68 : Ref sig .tc := ⟨.hbm, 97, rfl⟩
abbrev main_cst_9 : Ref sig .tc := ⟨.hbm, 98, rfl⟩
abbrev main_v69 : Ref sig .tc := ⟨.hbm, 99, rfl⟩
abbrev main_v70 : Ref sig .tc := ⟨.hbm, 100, rfl⟩
abbrev main_cst_10 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_11 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_call1_cst : Ref sig .tc := ⟨.hbm, 116, rfl⟩
abbrev main_call1_v0 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_12 : Ref sig .tc := ⟨.hbm, 122, rfl⟩
abbrev main_v88 : Ref sig .tc := ⟨.hbm, 123, rfl⟩
abbrev main_v89 : Ref sig .tc := ⟨.hbm, 124, rfl⟩
abbrev main_cst_13 : Ref sig .tc := ⟨.hbm, 125, rfl⟩
abbrev main_v90 : Ref sig .tc := ⟨.hbm, 126, rfl⟩
abbrev main_v91 : Ref sig .tc := ⟨.hbm, 127, rfl⟩
abbrev main_cst_14 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩

abbrev nD : Nat := 1
abbrev τ : Topo := Topo.v7x

variable {F : FTy → Type} [FloatOps F]
-- ==== Kernel3.lean ====
abbrev S16640x1024 : Shape := ⟨2, ![16640, 1024]⟩
abbrev S2x6x1024 : Shape := ⟨3, ![2, 6, 1024]⟩
abbrev S1024 : Shape := ⟨1, ![1024]⟩
abbrev S1024x1792 : Shape := ⟨2, ![1024, 1792]⟩
abbrev S64 : Shape := ⟨1, ![64]⟩
abbrev S16384 : Shape := ⟨1, ![16384]⟩
abbrev S16 : Shape := ⟨1, ![16]⟩
abbrev S_ : Shape := ⟨0, ![]⟩
abbrev S16384x1 : Shape := ⟨2, ![16384, 1]⟩
abbrev S1x16 : Shape := ⟨2, ![1, 16]⟩
abbrev S16384x16 : Shape := ⟨2, ![16384, 16]⟩
abbrev S16384x32 : Shape := ⟨2, ![16384, 32]⟩
abbrev S256x32 : Shape := ⟨2, ![256, 32]⟩
abbrev S16640x32 : Shape := ⟨2, ![16640, 32]⟩
abbrev S16640x128 : Shape := ⟨2, ![16640, 128]⟩
abbrev S32 : Shape := ⟨1, ![32]⟩
abbrev S4 : Shape := ⟨1, ![4]⟩
abbrev S4x1 : Shape := ⟨2, ![4, 1]⟩
abbrev S1x64 : Shape := ⟨2, ![1, 64]⟩
abbrev S4x64 : Shape := ⟨2, ![4, 64]⟩
abbrev S256 : Shape := ⟨1, ![256]⟩
abbrev S2 : Shape := ⟨1, ![2]⟩
abbrev S2x1 : Shape := ⟨2, ![2, 1]⟩
abbrev S2x64 : Shape := ⟨2, ![2, 64]⟩
abbrev S128 : Shape := ⟨1, ![128]⟩
abbrev S1280 : Shape := ⟨1, ![1280]⟩
abbrev S1792 : Shape := ⟨1, ![1792]⟩
abbrev S4x64x64 : Shape := ⟨3, ![4, 64, 64]⟩
abbrev S4x64x1x64 : Shape := ⟨4, ![4, 64, 1, 64]⟩
abbrev S4x4 : Shape := ⟨2, ![4, 4]⟩
abbrev S4x1x4x1 : Shape := ⟨4, ![4, 1, 4, 1]⟩
abbrev S4x64x4x64 : Shape := ⟨4, ![4, 64, 4, 64]⟩
abbrev S256x256 : Shape := ⟨2, ![256, 256]⟩
abbrev S1792x1 : Shape := ⟨2, ![1792, 1]⟩
abbrev S64x1 : Shape := ⟨2, ![64, 1]⟩
abbrev S1x256 : Shape := ⟨2, ![1, 256]⟩
abbrev S1x128 : Shape := ⟨2, ![1, 128]⟩
abbrev S1x1024 : Shape := ⟨2, ![1, 1024]⟩
abbrev S16640x768 : Shape := ⟨2, ![16640, 768]⟩
abbrev S16640x256 : Shape := ⟨2, ![16640, 256]⟩
abbrev S256x16640 : Shape := ⟨2, ![256, 16640]⟩
abbrev S2x16640x64 : Shape := ⟨3, ![2, 16640, 64]⟩
abbrev S128x16640 : Shape := ⟨2, ![128, 16640]⟩
abbrev S256x1024 : Shape := ⟨2, ![256, 1024]⟩
abbrev S1x6x1024 : Shape := ⟨3, ![1, 6, 1024]⟩
abbrev S256x128 : Shape := ⟨2, ![256, 128]⟩
abbrev S256x768 : Shape := ⟨2, ![256, 768]⟩
abbrev S2x256x64 : Shape := ⟨3, ![2, 256, 64]⟩
abbrev S128x256 : Shape := ⟨2, ![128, 256]⟩
abbrev S6x1024 : Shape := ⟨2, ![6, 1024]⟩
abbrev S256x1 : Shape := ⟨2, ![256, 1]⟩
abbrev S256x1792 : Shape := ⟨2, ![256, 1792]⟩
abbrev S128x128 : Shape := ⟨2, ![128, 128]⟩
abbrev S256x64 : Shape := ⟨2, ![256, 64]⟩
abbrev S1x256x64 : Shape := ⟨3, ![1, 256, 64]⟩

abbrev nBuf : Space → Nat
  | .hbm => 189
  | .vmem => 25
  | .smem => 0
  | _ => 0

abbrev hbmTy0_0 (i : Nat) : BufTy := match i % 128 with
  | 0 => ⟨S16640x1024, .f32⟩
  | 1 => ⟨S2x6x1024, .f32⟩
  | 2 => ⟨S1024, .f32⟩
  | 3 => ⟨S1024x1792, .f32⟩
  | 4 => ⟨S64, .f32⟩
  | 5 => ⟨S64, .f32⟩
  | 6 => ⟨S16384, .i32⟩
  | 7 => ⟨S16, .f32⟩
  | 8 => ⟨S_, .f32⟩
  | 9 => ⟨S16, .f32⟩
  | 10 => ⟨S16, .f32⟩
  | 11 => ⟨S_, .f32⟩
  | 12 => ⟨S16, .f32⟩
  | 13 => ⟨S16, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S_, .i32⟩
  | 22 => ⟨S_, .i32⟩
  | 23 => ⟨S16384, .i32⟩
  | 24 => ⟨S16384, .i32⟩
  | 25 => ⟨S16384, .i32⟩
  | 26 => ⟨S_, .i32⟩
  | 27 => ⟨S16384, .i32⟩
  | 28 => ⟨S16384, .i1⟩
  | 29 => ⟨S16384, .i32⟩
  | 30 => ⟨S16384, .i32⟩
  | 31 => ⟨S_, .i32⟩
  | 32 => ⟨S16384, .i32⟩
  | 33 => ⟨S16384, .i1⟩
  | 34 => ⟨S16384, .i1⟩
  | 35 => ⟨S_, .i32⟩
  | 36 => ⟨S16384, .i32⟩
  | 37 => ⟨S16384, .i32⟩
  | 38 => ⟨S16384, .i32⟩
  | 39 => ⟨S16384, .f32⟩
  | 40 => ⟨S16384x1, .f32⟩
  | 41 => ⟨S1x16, .f32⟩
  | 42 => ⟨S16384x16, .f32⟩
  | 43 => ⟨S16384x16, .f32⟩
  | 44 => ⟨S16384x16, .f32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S16384, .i32⟩
  | 52 => ⟨S16384, .i32⟩
  | 53 => ⟨S_, .i32⟩
  | 54 => ⟨S16384, .i32⟩
  | 55 => ⟨S16384, .i1⟩
  | 56 => ⟨S_, .i32⟩
  | 57 => ⟨S16384, .i32⟩
  | 58 => ⟨S16384, .i1⟩
  | 59 => ⟨S_, .i32⟩
  | 60 => ⟨S_, .i1⟩
  | 61 => ⟨S16384, .i1⟩
  | 62 => ⟨S16384, .i1⟩
  | 63 => ⟨S16384, .i1⟩
  | 64 => ⟨S16384, .i32⟩
  | 65 => ⟨S16384, .i32⟩
  | 66 => ⟨S16384, .i32⟩
  | 67 => ⟨S16384, .f32⟩
  | 68 => ⟨S16384x1, .f32⟩
  | 69 => ⟨S1x16, .f32⟩
  | 70 => ⟨S16384x16, .f32⟩
  | 71 => ⟨S16384x16, .f32⟩
  | 72 => ⟨S16384x16, .f32⟩
  | 73 => ⟨S16384x32, .f32⟩
  | 74 => ⟨S_, .f32⟩
  | 75 => ⟨S256x32, .f32⟩
  | 76 => ⟨S16640x32, .f32⟩
  | 77 => ⟨S16640x32, .f32⟩
  | 78 => ⟨S16640x32, .f32⟩
  | 79 => ⟨S16640x128, .f32⟩
  | 80 => ⟨S16640x32, .f32⟩
  | 81 => ⟨S16640x32, .f32⟩
  | 82 => ⟨S16640x128, .f32⟩
  | 83 => ⟨S32, .i32⟩
  | 84 => ⟨S_, .i32⟩
  | 85 => ⟨S32, .i32⟩
  | 86 => ⟨S32, .i32⟩
  | 87 => ⟨S_, .i32⟩
  | 88 => ⟨S32, .i32⟩
  | 89 => ⟨S32, .i32⟩
  | 90 => ⟨S32, .i32⟩
  | 91 => ⟨S_, .i32⟩
  | 92 => ⟨S32, .i32⟩
  | 93 => ⟨S32, .i32⟩
  | 94 => ⟨S_, .i32⟩
  | 95 => ⟨S32, .i32⟩
  | 96 => ⟨S32, .i32⟩
  | 97 => ⟨S64, .i32⟩
  | 98 => ⟨S4, .i32⟩
  | 99 => ⟨S4x1, .i32⟩
  | 100 => ⟨S_, .i32⟩
  | 101 => ⟨S4x1, .i32⟩
  | 102 => ⟨S4x1, .i32⟩
  | 103 => ⟨S1x64, .i32⟩
  | 104 => ⟨S4x64, .i32⟩
  | 105 => ⟨S4x64, .i32⟩
  | 106 => ⟨S4x64, .i32⟩
  | 107 => ⟨S256, .i32⟩
  | 108 => ⟨S_, .i32⟩
  | 109 => ⟨S256, .i32⟩
  | 110 => ⟨S256, .i32⟩
  | 111 => ⟨S2, .i32⟩
  | 112 => ⟨S2x1, .i32⟩
  | 113 => ⟨S_, .i32⟩
  | 114 => ⟨S2x1, .i32⟩
  | 115 => ⟨S2x1, .i32⟩
  | 116 => ⟨S1x64, .i32⟩
  | 117 => ⟨S2x64, .i32⟩
  | 118 => ⟨S2x64, .i32⟩
  | 119 => ⟨S2x64, .i32⟩
  | 120 => ⟨S128, .i32⟩
  | 121 => ⟨S_, .i32⟩
  | 122 => ⟨S128, .i32⟩
  | 123 => ⟨S128, .i32⟩
  | 124 => ⟨S1280, .i32⟩
  | 125 => ⟨S128, .i32⟩
  | 126 => ⟨S_, .i32⟩
  | 127 => ⟨S128, .i32⟩
  | _ => ⟨S16640x1024, .f32⟩

abbrev hbmTy0_1 (i : Nat) : BufTy := match i % 128 with
  | 0 => ⟨S128, .i32⟩
  | 1 => ⟨S1792, .i32⟩
  | 2 => ⟨S_, .f32⟩
  | 3 => ⟨S4x64x64, .f32⟩
  | 4 => ⟨S4x64x1x64, .f32⟩
  | 5 => ⟨S4x4, .i32⟩
  | 6 => ⟨S4x4, .i32⟩
  | 7 => ⟨S_, .i32⟩
  | 8 => ⟨S4x4, .i32⟩
  | 9 => ⟨S4x4, .i32⟩
  | 10 => ⟨S4x4, .i1⟩
  | 11 => ⟨S4x4, .f32⟩
  | 12 => ⟨S4x1x4x1, .f32⟩
  | 13 => ⟨S4x64x4x64, .f32⟩
  | 14 => ⟨S4x64x4x64, .f32⟩
  | 15 => ⟨S4x64x4x64, .f32⟩
  | 16 => ⟨S256x256, .f32⟩
  | 17 => ⟨S256x256, .bf16⟩
  | 18 => ⟨S_, .i32⟩
  | 19 => ⟨S1792, .i32⟩
  | 20 => ⟨S1792, .i1⟩
  | 21 => ⟨S_, .i32⟩
  | 22 => ⟨S1792, .i32⟩
  | 23 => ⟨S1792, .i32⟩
  | 24 => ⟨S1792, .i32⟩
  | 25 => ⟨S1792x1, .i32⟩
  | 26 => ⟨S1024x1792, .f32⟩
  | 27 => ⟨S1024x1792, .bf16⟩
  | 28 => ⟨S_, .i32⟩
  | 29 => ⟨S64, .i32⟩
  | 30 => ⟨S64, .i1⟩
  | 31 => ⟨S_, .i32⟩
  | 32 => ⟨S64, .i32⟩
  | 33 => ⟨S64, .i32⟩
  | 34 => ⟨S64, .i32⟩
  | 35 => ⟨S64x1, .i32⟩
  | 36 => ⟨S64, .f32⟩
  | 37 => ⟨S1x64, .f32⟩
  | 38 => ⟨S4x64, .f32⟩
  | 39 => ⟨S256, .f32⟩
  | 40 => ⟨S1x256, .f32⟩
  | 41 => ⟨S_, .i32⟩
  | 42 => ⟨S64, .i32⟩
  | 43 => ⟨S64, .i1⟩
  | 44 => ⟨S_, .i32⟩
  | 45 => ⟨S64, .i32⟩
  | 46 => ⟨S64, .i32⟩
  | 47 => ⟨S64, .i32⟩
  | 48 => ⟨S64x1, .i32⟩
  | 49 => ⟨S64, .f32⟩
  | 50 => ⟨S1x64, .f32⟩
  | 51 => ⟨S2x64, .f32⟩
  | 52 => ⟨S128, .f32⟩
  | 53 => ⟨S1x128, .f32⟩
  | 54 => ⟨S1x1024, .f32⟩
  | 55 => ⟨S16640x768, .f32⟩
  | 56 => ⟨S16640x256, .f32⟩
  | 57 => ⟨S16640x256, .f32⟩
  | 58 => ⟨S256x16640, .bf16⟩
  | 59 => ⟨S2x16640x64, .bf16⟩
  | 60 => ⟨S128x16640, .bf16⟩
  | _ => ⟨S16640x1024, .f32⟩

abbrev hbmTy (i : Nat) : BufTy := match i / 128 with
  | 0 => hbmTy0_0 i
  | 1 => hbmTy0_1 i
  | _ => ⟨S16640x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x1792, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x256, .f32⟩
  | .local _ .vmem, ⟨11, _⟩ => ⟨S1x128, .f32⟩
  | .local _ .vmem, ⟨12, _⟩ => ⟨S256x256, .bf16⟩
  | .local _ .vmem, ⟨13, _⟩ => ⟨S256x768, .f32⟩
  | .local _ .vmem, ⟨14, _⟩ => ⟨S256x768, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .bf16⟩
  | .local _ .vmem, ⟨20, _⟩ => ⟨S256x256, .bf16⟩
  | .local _ .vmem, ⟨21, _⟩ => ⟨S2x256x64, .bf16⟩
  | .local _ .vmem, ⟨22, _⟩ => ⟨S2x256x64, .bf16⟩
  | .local _ .vmem, ⟨23, _⟩ => ⟨S128x256, .bf16⟩
  | .local _ .vmem, ⟨24, _⟩ => ⟨S128x256, .bf16⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_c_3 : Ref sig .tc := ⟨.hbm, 45, rfl⟩
abbrev main_call1_v0 : Ref sig .tc := ⟨.hbm, 46, rfl⟩
abbrev main_call1_c : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_c_1 : Ref sig .tc := ⟨.hbm, 53, rfl⟩
abbrev main_call1_v5 : Ref sig .tc := ⟨.hbm, 54, rfl⟩
abbrev main_call1_v6 : Ref sig .tc := ⟨.hbm, 55, rfl⟩
abbrev main_call1_c_2 : Ref sig .tc := ⟨.hbm, 56, rfl⟩
abbrev main_call1_v7 : Ref sig .tc := ⟨.hbm, 57, rfl⟩
abbrev main_call1_v8 : Ref sig .tc := ⟨.hbm, 58, rfl⟩
abbrev main_call1_c_3 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_cst_4 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_c_5 : Ref sig .tc := ⟨.hbm, 84, rfl⟩
abbrev main_v35 : Ref sig .tc := ⟨.hbm, 85, rfl⟩
abbrev main_v36 : Ref sig .tc := ⟨.hbm, 86, rfl⟩
abbrev main_c_6 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_c_7 : Ref sig .tc := ⟨.hbm, 91, rfl⟩
abbrev main_v40 : Ref sig .tc := ⟨.hbm, 92, rfl⟩
abbrev main_v41 : Ref sig .tc := ⟨.hbm, 93, rfl⟩
abbrev main_c_8 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_c_9 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_c_10 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_c_11 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_c_12 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_c_13 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_cst_14 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_c_15 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_c_16 : Ref sig .tc := ⟨.hbm, 146, rfl⟩
abbrev main_v86 : Ref sig .tc := ⟨.hbm, 147, rfl⟩
abbrev main_v87 : Ref sig .tc := ⟨.hbm, 148, rfl⟩
abbrev main_c_17 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_c_18 : Ref sig .tc := ⟨.hbm, 156, rfl⟩
abbrev main_v94 : Ref sig .tc := ⟨.hbm, 157, rfl⟩
abbrev main_v95 : Ref sig .tc := ⟨.hbm, 158, rfl⟩
abbrev main_c_19 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_c_20 : Ref sig .tc := ⟨.hbm, 169, rfl⟩
abbrev main_v105 : Ref sig .tc := ⟨.hbm, 170, rfl⟩
abbrev main_v106 : Ref sig .tc := ⟨.hbm, 171, rfl⟩
abbrev main_c_21 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117_0 : Ref sig .tc := ⟨.hbm, 183, rfl⟩
abbrev main_v117_1 : Ref sig .tc := ⟨.hbm, 184, rfl⟩
abbrev main_v117_2 : Ref sig .tc := ⟨.hbm, 185, rfl⟩
abbrev main_v117_3 : Ref sig .tc := ⟨.hbm, 186, rfl⟩
abbrev main_v117_4 : Ref sig .tc := ⟨.hbm, 187, rfl⟩
abbrev main_v117_5 : Ref sig .tc := ⟨.hbm, 188, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x256x64 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Kernel3Ideal.lean ====
variable {F : FTy → Type} [FloatOps F] [Named F]
def κ : String → Option EReal := fun
  | "scale" => some (((8 * (Real.log 2))⁻¹ : ℝ) : EReal)
  | _ => none
-- ==== Reference3Ideal.lean ====
abbrev S16640x1024 : Shape := ⟨2, ![16640, 1024]⟩
abbrev S2x6x1024 : Shape := ⟨3, ![2, 6, 1024]⟩
abbrev S1024 : Shape := ⟨1, ![1024]⟩
abbrev S1024x1792 : Shape := ⟨2, ![1024, 1792]⟩
abbrev S64 : Shape := ⟨1, ![64]⟩
abbrev S256 : Shape := ⟨1, ![256]⟩
abbrev S256x64 : Shape := ⟨2, ![256, 64]⟩
abbrev S16384 : Shape := ⟨1, ![16384]⟩
abbrev S1x64 : Shape := ⟨2, ![1, 64]⟩
abbrev S16 : Shape := ⟨1, ![16]⟩
abbrev S_ : Shape := ⟨0, ![]⟩
abbrev S16384x1 : Shape := ⟨2, ![16384, 1]⟩
abbrev S1x16 : Shape := ⟨2, ![1, 16]⟩
abbrev S16384x16 : Shape := ⟨2, ![16384, 16]⟩
abbrev S16384x32 : Shape := ⟨2, ![16384, 32]⟩
abbrev S6x16640x1024 : Shape := ⟨3, ![6, 16640, 1024]⟩
abbrev S1x6x1024 : Shape := ⟨3, ![1, 6, 1024]⟩
abbrev S6x1x1024 : Shape := ⟨3, ![6, 1, 1024]⟩
abbrev S1x16640x1024 : Shape := ⟨3, ![1, 16640, 1024]⟩
abbrev S16640 : Shape := ⟨1, ![16640]⟩
abbrev S16640x1 : Shape := ⟨2, ![16640, 1]⟩
abbrev S1x1024 : Shape := ⟨2, ![1, 1024]⟩
abbrev S16640x1792 : Shape := ⟨2, ![16640, 1792]⟩
abbrev S16640x768 : Shape := ⟨2, ![16640, 768]⟩
abbrev S16640x256 : Shape := ⟨2, ![16640, 256]⟩
abbrev S16640x128 : Shape := ⟨2, ![16640, 128]⟩
abbrev S16640x4x64 : Shape := ⟨3, ![16640, 4, 64]⟩
abbrev S16640x4 : Shape := ⟨2, ![16640, 4]⟩
abbrev S16640x4x1 : Shape := ⟨3, ![16640, 4, 1]⟩
abbrev S1x1x64 : Shape := ⟨3, ![1, 1, 64]⟩
abbrev S16384x4x64 : Shape := ⟨3, ![16384, 4, 64]⟩
abbrev S16384x4x32x2 : Shape := ⟨4, ![16384, 4, 32, 2]⟩
abbrev S16384x4x32x1 : Shape := ⟨4, ![16384, 4, 32, 1]⟩
abbrev S16384x4x32 : Shape := ⟨3, ![16384, 4, 32]⟩
abbrev S16384x1x32 : Shape := ⟨3, ![16384, 1, 32]⟩
abbrev S256x4x64 : Shape := ⟨3, ![256, 4, 64]⟩
abbrev S16640x4x32x2 : Shape := ⟨4, ![16640, 4, 32, 2]⟩
abbrev S16640x2x64 : Shape := ⟨3, ![16640, 2, 64]⟩
abbrev S16640x2 : Shape := ⟨2, ![16640, 2]⟩
abbrev S16640x2x1 : Shape := ⟨3, ![16640, 2, 1]⟩
abbrev S16384x2x64 : Shape := ⟨3, ![16384, 2, 64]⟩
abbrev S16384x2x32x2 : Shape := ⟨4, ![16384, 2, 32, 2]⟩
abbrev S16384x2x32x1 : Shape := ⟨4, ![16384, 2, 32, 1]⟩
abbrev S16384x2x32 : Shape := ⟨3, ![16384, 2, 32]⟩
abbrev S256x2x64 : Shape := ⟨3, ![256, 2, 64]⟩
abbrev S16640x2x32x2 : Shape := ⟨4, ![16640, 2, 32, 2]⟩
abbrev S4x2x32x16640 : Shape := ⟨4, ![4, 2, 32, 16640]⟩
abbrev S256x16640 : Shape := ⟨2, ![256, 16640]⟩
abbrev S2x16640x2x32 : Shape := ⟨4, ![2, 16640, 2, 32]⟩
abbrev S2x16640x64 : Shape := ⟨3, ![2, 16640, 64]⟩
abbrev S128x16640 : Shape := ⟨2, ![128, 16640]⟩

abbrev nBuf : Space → Nat
  | .hbm => 193
  | .vmem => 0
  | .smem => 0
  | _ => 0

abbrev hbmTy0_0 (i : Nat) : BufTy := match i % 128 with
  | 0 => ⟨S16640x1024, .f32⟩
  | 1 => ⟨S2x6x1024, .f32⟩
  | 2 => ⟨S1024, .f32⟩
  | 3 => ⟨S1024x1792, .f32⟩
  | 4 => ⟨S64, .f32⟩
  | 5 => ⟨S64, .f32⟩
  | 6 => ⟨S256, .i32⟩
  | 7 => ⟨S256x64, .i32⟩
  | 8 => ⟨S16384, .i32⟩
  | 9 => ⟨S64, .i32⟩
  | 10 => ⟨S1x64, .i32⟩
  | 11 => ⟨S256x64, .i32⟩
  | 12 => ⟨S16384, .i32⟩
  | 13 => ⟨S16, .f32⟩
  | 14 => ⟨S_, .f32⟩
  | 15 => ⟨S16, .f32⟩
  | 16 => ⟨S16, .f32⟩
  | 17 => ⟨S_, .f32⟩
  | 18 => ⟨S16, .f32⟩
  | 19 => ⟨S16, .f32⟩
  | 20 => ⟨S16, .f32⟩
  | 21 => ⟨S_, .f32⟩
  | 22 => ⟨S16, .f32⟩
  | 23 => ⟨S16, .f32⟩
  | 24 => ⟨S_, .f32⟩
  | 25 => ⟨S16, .f32⟩
  | 26 => ⟨S16, .f32⟩
  | 27 => ⟨S16384, .f32⟩
  | 28 => ⟨S16384x1, .f32⟩
  | 29 => ⟨S1x16, .f32⟩
  | 30 => ⟨S16384x16, .f32⟩
  | 31 => ⟨S16384x16, .f32⟩
  | 32 => ⟨S16384x16, .f32⟩
  | 33 => ⟨S16384, .f32⟩
  | 34 => ⟨S16384x1, .f32⟩
  | 35 => ⟨S1x16, .f32⟩
  | 36 => ⟨S16384x16, .f32⟩
  | 37 => ⟨S16384x16, .f32⟩
  | 38 => ⟨S16384x16, .f32⟩
  | 39 => ⟨S16384x32, .f32⟩
  | 40 => ⟨S16384x32, .f32⟩
  | 41 => ⟨S16384x32, .f32⟩
  | 42 => ⟨S6x16640x1024, .i32⟩
  | 43 => ⟨S_, .i32⟩
  | 44 => ⟨S6x16640x1024, .i32⟩
  | 45 => ⟨S6x16640x1024, .i1⟩
  | 46 => ⟨S1x6x1024, .f32⟩
  | 47 => ⟨S6x1x1024, .f32⟩
  | 48 => ⟨S1x6x1024, .f32⟩
  | 49 => ⟨S6x1x1024, .f32⟩
  | 50 => ⟨S6x16640x1024, .f32⟩
  | 51 => ⟨S6x16640x1024, .f32⟩
  | 52 => ⟨S6x16640x1024, .f32⟩
  | 53 => ⟨S1x16640x1024, .f32⟩
  | 54 => ⟨S1x16640x1024, .f32⟩
  | 55 => ⟨S1x16640x1024, .f32⟩
  | 56 => ⟨S1x16640x1024, .f32⟩
  | 57 => ⟨S1x16640x1024, .f32⟩
  | 58 => ⟨S1x16640x1024, .f32⟩
  | 59 => ⟨S16640x1024, .f32⟩
  | 60 => ⟨S16640x1024, .f32⟩
  | 61 => ⟨S16640x1024, .f32⟩
  | 62 => ⟨S16640x1024, .f32⟩
  | 63 => ⟨S16640x1024, .f32⟩
  | 64 => ⟨S16640x1024, .f32⟩
  | 65 => ⟨S16640x1024, .f32⟩
  | 66 => ⟨S_, .f32⟩
  | 67 => ⟨S16640, .f32⟩
  | 68 => ⟨S16640x1, .f32⟩
  | 69 => ⟨S_, .f32⟩
  | 70 => ⟨S16640x1, .f32⟩
  | 71 => ⟨S16640x1, .f32⟩
  | 72 => ⟨S_, .f32⟩
  | 73 => ⟨S16640x1, .f32⟩
  | 74 => ⟨S16640x1, .f32⟩
  | 75 => ⟨S16640x1, .f32⟩
  | 76 => ⟨S16640x1024, .f32⟩
  | 77 => ⟨S16640x1024, .f32⟩
  | 78 => ⟨S1x1024, .f32⟩
  | 79 => ⟨S16640x1024, .f32⟩
  | 80 => ⟨S16640x1024, .f32⟩
  | 81 => ⟨S_, .f32⟩
  | 82 => ⟨S16640x1024, .f32⟩
  | 83 => ⟨S16640x1024, .f32⟩
  | 84 => ⟨S16640x1024, .f32⟩
  | 85 => ⟨S16640x1024, .f32⟩
  | 86 => ⟨S16640x1792, .f32⟩
  | 87 => ⟨S16640x768, .f32⟩
  | 88 => ⟨S16640x256, .f32⟩
  | 89 => ⟨S16640x256, .f32⟩
  | 90 => ⟨S16640x256, .f32⟩
  | 91 => ⟨S16640x128, .f32⟩
  | 92 => ⟨S16640x128, .f32⟩
  | 93 => ⟨S16640x4x64, .f32⟩
  | 94 => ⟨S16640x4x64, .f32⟩
  | 95 => ⟨S_, .f32⟩
  | 96 => ⟨S16640x4, .f32⟩
  | 97 => ⟨S16640x4x1, .f32⟩
  | 98 => ⟨S_, .f32⟩
  | 99 => ⟨S16640x4x1, .f32⟩
  | 100 => ⟨S16640x4x1, .f32⟩
  | 101 => ⟨S_, .f32⟩
  | 102 => ⟨S16640x4x1, .f32⟩
  | 103 => ⟨S16640x4x1, .f32⟩
  | 104 => ⟨S16640x4x1, .f32⟩
  | 105 => ⟨S16640x4x64, .f32⟩
  | 106 => ⟨S16640x4x64, .f32⟩
  | 107 => ⟨S1x1x64, .f32⟩
  | 108 => ⟨S16640x4x64, .f32⟩
  | 109 => ⟨S16640x4x64, .f32⟩
  | 110 => ⟨S16384x4x64, .f32⟩
  | 111 => ⟨S16384x4x32x2, .f32⟩
  | 112 => ⟨S16384x4x32x1, .f32⟩
  | 113 => ⟨S16384x4x32, .f32⟩
  | 114 => ⟨S16384x4x32x1, .f32⟩
  | 115 => ⟨S16384x4x32, .f32⟩
  | 116 => ⟨S16384x1x32, .f32⟩
  | 117 => ⟨S16384x1x32, .f32⟩
  | 118 => ⟨S16384x4x32, .f32⟩
  | 119 => ⟨S16384x4x32, .f32⟩
  | 120 => ⟨S16384x4x32, .f32⟩
  | 121 => ⟨S16384x4x32, .f32⟩
  | 122 => ⟨S16384x4x32, .f32⟩
  | 123 => ⟨S16384x4x32, .f32⟩
  | 124 => ⟨S16384x4x32, .f32⟩
  | 125 => ⟨S16384x4x32, .f32⟩
  | 126 => ⟨S16384x4x32, .f32⟩
  | 127 => ⟨S16384x4x32, .f32⟩
  | _ => ⟨S16640x1024, .f32⟩

abbrev hbmTy0_1 (i : Nat) : BufTy := match i % 128 with
  | 0 => ⟨S16384x4x32x1, .f32⟩
  | 1 => ⟨S16384x4x32x1, .f32⟩
  | 2 => ⟨S16384x4x32x2, .f32⟩
  | 3 => ⟨S16384x4x64, .f32⟩
  | 4 => ⟨S256x4x64, .f32⟩
  | 5 => ⟨S16640x4x64, .f32⟩
  | 6 => ⟨S_, .f32⟩
  | 7 => ⟨S16640x4x64, .f32⟩
  | 8 => ⟨S16640x4x64, .f32⟩
  | 9 => ⟨S_, .f32⟩
  | 10 => ⟨S_, .f32⟩
  | 11 => ⟨S_, .f32⟩
  | 12 => ⟨S16640x4x64, .f32⟩
  | 13 => ⟨S16640x4x64, .f32⟩
  | 14 => ⟨S16640x4x32x2, .f32⟩
  | 15 => ⟨S16640x2x64, .f32⟩
  | 16 => ⟨S16640x2x64, .f32⟩
  | 17 => ⟨S_, .f32⟩
  | 18 => ⟨S16640x2, .f32⟩
  | 19 => ⟨S16640x2x1, .f32⟩
  | 20 => ⟨S_, .f32⟩
  | 21 => ⟨S16640x2x1, .f32⟩
  | 22 => ⟨S16640x2x1, .f32⟩
  | 23 => ⟨S_, .f32⟩
  | 24 => ⟨S16640x2x1, .f32⟩
  | 25 => ⟨S16640x2x1, .f32⟩
  | 26 => ⟨S16640x2x1, .f32⟩
  | 27 => ⟨S16640x2x64, .f32⟩
  | 28 => ⟨S16640x2x64, .f32⟩
  | 29 => ⟨S1x1x64, .f32⟩
  | 30 => ⟨S16640x2x64, .f32⟩
  | 31 => ⟨S16640x2x64, .f32⟩
  | 32 => ⟨S16384x2x64, .f32⟩
  | 33 => ⟨S16384x2x32x2, .f32⟩
  | 34 => ⟨S16384x2x32x1, .f32⟩
  | 35 => ⟨S16384x2x32, .f32⟩
  | 36 => ⟨S16384x2x32x1, .f32⟩
  | 37 => ⟨S16384x2x32, .f32⟩
  | 38 => ⟨S16384x1x32, .f32⟩
  | 39 => ⟨S16384x1x32, .f32⟩
  | 40 => ⟨S16384x2x32, .f32⟩
  | 41 => ⟨S16384x2x32, .f32⟩
  | 42 => ⟨S16384x2x32, .f32⟩
  | 43 => ⟨S16384x2x32, .f32⟩
  | 44 => ⟨S16384x2x32, .f32⟩
  | 45 => ⟨S16384x2x32, .f32⟩
  | 46 => ⟨S16384x2x32, .f32⟩
  | 47 => ⟨S16384x2x32, .f32⟩
  | 48 => ⟨S16384x2x32, .f32⟩
  | 49 => ⟨S16384x2x32, .f32⟩
  | 50 => ⟨S16384x2x32x1, .f32⟩
  | 51 => ⟨S16384x2x32x1, .f32⟩
  | 52 => ⟨S16384x2x32x2, .f32⟩
  | 53 => ⟨S16384x2x64, .f32⟩
  | 54 => ⟨S256x2x64, .f32⟩
  | 55 => ⟨S16640x2x64, .f32⟩
  | 56 => ⟨S16640x2x32x2, .f32⟩
  | 57 => ⟨S4x2x32x16640, .f32⟩
  | 58 => ⟨S256x16640, .f32⟩
  | 59 => ⟨S256x16640, .bf16⟩
  | 60 => ⟨S2x16640x2x32, .f32⟩
  | 61 => ⟨S2x16640x64, .f32⟩
  | 62 => ⟨S2x16640x64, .bf16⟩
  | 63 => ⟨S128x16640, .f32⟩
  | 64 => ⟨S128x16640, .bf16⟩
  | _ => ⟨S16640x1024, .f32⟩

abbrev hbmTy (i : Nat) : BufTy := match i / 128 with
  | 0 => hbmTy0_0 i
  | 1 => hbmTy0_1 i
  | _ => ⟨S16640x1024, .f32⟩

abbrev bufTy : (tb : Table) → Fin (tcTables nBuf tb) → BufTy
  | .hbm, ⟨i, _⟩ => hbmTy i
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_call0_v0 : Ref sig .tc := ⟨.hbm, 50, rfl⟩
abbrev main_call0_v1 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_3 : Ref sig .tc := ⟨.hbm, 66, rfl⟩
abbrev main_v53 : Ref sig .tc := ⟨.hbm, 67, rfl⟩
abbrev main_v54 : Ref sig .tc := ⟨.hbm, 68, rfl⟩
abbrev main_cst_4 : Ref sig .tc := ⟨.hbm, 69, rfl⟩
abbrev main_v55 : Ref sig .tc := ⟨.hbm, 70, rfl⟩
abbrev main_v56 : Ref sig .tc := ⟨.hbm, 71, rfl⟩
abbrev main_cst_5 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_6 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_cst_7 : Ref sig .tc := ⟨.hbm, 95, rfl⟩
abbrev main_v78 : Ref sig .tc := ⟨.hbm, 96, rfl⟩
abbrev main_v79 : Ref sig .tc := ⟨.hbm, 97, rfl⟩
abbrev main_cst_8 : Ref sig .tc := ⟨.hbm, 98, rfl⟩
abbrev main_v80 : Ref sig .tc := ⟨.hbm, 99, rfl⟩
abbrev main_v81 : Ref sig .tc := ⟨.hbm, 100, rfl⟩
abbrev main_cst_9 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_cst_10 : Ref sig .tc := ⟨.hbm, 134, rfl⟩
abbrev main_v114 : Ref sig .tc := ⟨.hbm, 135, rfl⟩
abbrev main_v115 : Ref sig .tc := ⟨.hbm, 136, rfl⟩
abbrev main_cst_11 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_cst_12 : Ref sig .tc := ⟨.hbm, 145, rfl⟩
abbrev main_v123 : Ref sig .tc := ⟨.hbm, 146, rfl⟩
abbrev main_v124 : Ref sig .tc := ⟨.hbm, 147, rfl⟩
abbrev main_cst_13 : Ref sig .tc := ⟨.hbm, 148, rfl⟩
abbrev main_v125 : Ref sig .tc := ⟨.hbm, 149, rfl⟩
abbrev main_v126 : Ref sig .tc := ⟨.hbm, 150, rfl⟩
abbrev main_cst_14 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩

abbrev nD : Nat := 1
abbrev τ : Topo := Topo.v7x

variable {F : FTy → Type} [FloatOps F]
-- ==== Kernel4.lean ====
abbrev S16640x1024 : Shape := ⟨2, ![16640, 1024]⟩
abbrev S2x6x1024 : Shape := ⟨3, ![2, 6, 1024]⟩
abbrev S16384x256 : Shape := ⟨2, ![16384, 256]⟩
abbrev S256x256 : Shape := ⟨2, ![256, 256]⟩
abbrev S16640x256 : Shape := ⟨2, ![16640, 256]⟩
abbrev S256x16384 : Shape := ⟨2, ![256, 16384]⟩
abbrev S256 : Shape := ⟨1, ![256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x256 : Shape := ⟨2, ![1, 256]⟩
abbrev S1x1024 : Shape := ⟨2, ![1, 1024]⟩
abbrev S16384x1024 : Shape := ⟨2, ![16384, 1024]⟩
abbrev S256x1024 : Shape := ⟨2, ![256, 1024]⟩
abbrev S1x6x1024 : Shape := ⟨3, ![1, 6, 1024]⟩
abbrev S6x1024 : Shape := ⟨2, ![6, 1024]⟩
abbrev S256x1 : Shape := ⟨2, ![256, 1]⟩
abbrev S256x4096 : Shape := ⟨2, ![256, 4096]⟩

abbrev nBuf : Space → Nat
  | .hbm => 25
  | .vmem => 24
  | .smem => 0
  | _ => 0

abbrev bufTy : (tb : Table) → Fin (tcTables nBuf tb) → BufTy
  | .hbm, ⟨0, _⟩ => ⟨S16640x1024, .f32⟩
  | .hbm, ⟨1, _⟩ => ⟨S2x6x1024, .f32⟩
  | .hbm, ⟨2, _⟩ => ⟨S16384x256, .f32⟩
  | .hbm, ⟨3, _⟩ => ⟨S256x256, .f32⟩
  | .hbm, ⟨4, _⟩ => ⟨S16640x256, .f32⟩
  | .hbm, ⟨5, _⟩ => ⟨S16640x256, .f32⟩
  | .hbm, ⟨6, _⟩ => ⟨S256x16384, .bf16⟩
  | .hbm, ⟨7, _⟩ => ⟨S256x256, .bf16⟩
  | .hbm, ⟨8, _⟩ => ⟨S256x256, .f32⟩
  | .hbm, ⟨9, _⟩ => ⟨S256, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024x4096, .f32⟩
  | .hbm, ⟨15, _⟩ => ⟨S4096x1024, .f32⟩
  | .hbm, ⟨16, _⟩ => ⟨S256x256, .bf16⟩
  | .hbm, ⟨17, _⟩ => ⟨S1x256, .f32⟩
  | .hbm, ⟨18, _⟩ => ⟨S1024x1024, .bf16⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1024x4096, .bf16⟩
  | .hbm, ⟨23, _⟩ => ⟨S4096x1024, .bf16⟩
  | .hbm, ⟨24, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .bf16⟩
  | .local _ .vmem, ⟨12, _⟩ => ⟨S256x256, .bf16⟩
  | .local _ .vmem, ⟨13, _⟩ => ⟨S256x256, .bf16⟩
  | .local _ .vmem, ⟨14, _⟩ => ⟨S256x256, .bf16⟩
  | .local _ .vmem, ⟨15, _⟩ => ⟨S1x256, .f32⟩
  | .local _ .vmem, ⟨16, _⟩ => ⟨S1024x1024, .bf16⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1024x4096, .bf16⟩
  | .local _ .vmem, ⟨21, _⟩ => ⟨S4096x1024, .bf16⟩
  | .local _ .vmem, ⟨22, _⟩ => ⟨S256x1024, .f32⟩
  | .local _ .vmem, ⟨23, _⟩ => ⟨S256x1024, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg16_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x4096 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4096x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference4Ideal.lean ====
abbrev S16640x1024 : Shape := ⟨2, ![16640, 1024]⟩
abbrev S2x6x1024 : Shape := ⟨3, ![2, 6, 1024]⟩
abbrev S16384x256 : Shape := ⟨2, ![16384, 256]⟩
abbrev S256x256 : Shape := ⟨2, ![256, 256]⟩
abbrev S16640x256 : Shape := ⟨2, ![16640, 256]⟩
abbrev S256x16384 : Shape := ⟨2, ![256, 16384]⟩
abbrev S256 : Shape := ⟨1, ![256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x6x1024 : Shape := ⟨3, ![1, 6, 1024]⟩
abbrev S6x1024 : Shape := ⟨2, ![6, 1024]⟩
abbrev S1x1024 : Shape := ⟨2, ![1, 1024]⟩
abbrev S_ : Shape := ⟨0, ![]⟩
abbrev S1x256 : Shape := ⟨2, ![1, 256]⟩
abbrev S16384x1024 : Shape := ⟨2, ![16384, 1024]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 128
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S2x6x1024, .f32⟩
  | .hbm, ⟨2, _⟩ => ⟨S16384x256, .f32⟩
  | .hbm, ⟨3, _⟩ => ⟨S256x256, .f32⟩
  | .hbm, ⟨4, _⟩ => ⟨S16640x256, .f32⟩
  | .hbm, ⟨5, _⟩ => ⟨S16640x256, .f32⟩
  | .hbm, ⟨6, _⟩ => ⟨S256x16384, .bf16⟩
  | .hbm, ⟨7, _⟩ => ⟨S256x256, .bf16⟩
  | .hbm, ⟨8, _⟩ => ⟨S256x256, .f32⟩
  | .hbm, ⟨9, _⟩ => ⟨S256, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024x4096, .f32⟩
  | .hbm, ⟨15, _⟩ => ⟨S4096x1024, .f32⟩
  | .hbm, ⟨16, _⟩ => ⟨S1x6x1024, .f32⟩
  | .hbm, ⟨17, _⟩ => ⟨S6x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S16384x256, .f32⟩
  | .hbm, ⟨25, _⟩ => ⟨S16384x256, .f32⟩
  | .hbm, ⟨26, _⟩ => ⟨S16384x256, .f32⟩
  | .hbm, ⟨27, _⟩ => ⟨S_, .f32⟩
  | .hbm, ⟨28, _⟩ => ⟨S16384x256, .f32⟩
  | .hbm, ⟨29, _⟩ => ⟨S16384x256, .f32⟩
  | .hbm, ⟨30, _⟩ => ⟨S16384x256, .f32⟩
  | .hbm, ⟨31, _⟩ => ⟨S_, .f32⟩
  | .hbm, ⟨32, _⟩ => ⟨S16384x256, .f32⟩
  | .hbm, ⟨33, _⟩ => ⟨S16384x256, .f32⟩
  | .hbm, ⟨34, _⟩ => ⟨S16384x256, .f32⟩
  | .hbm, ⟨35, _⟩ => ⟨S_, .f32⟩
  | .hbm, ⟨36, _⟩ => ⟨S16384x256, .f32⟩
  | .hbm, ⟨37, _⟩ => ⟨S16384x256, .f32⟩
  | .hbm, ⟨38, _⟩ => ⟨S_, .f32⟩
  | .hbm, ⟨39, _⟩ => ⟨S16384x256, .f32⟩
  | .hbm, ⟨40, _⟩ => ⟨S16384x256, .f32⟩
  | .hbm, ⟨41, _⟩ => ⟨S16384x256, .f32⟩
  | .hbm, ⟨42, _⟩ => ⟨S16384x256, .f32⟩
  | .hbm, ⟨43, _⟩ => ⟨S1x256, .f32⟩
  | .hbm, ⟨44, _⟩ => ⟨S16384x256, .f32⟩
  | .hbm, ⟨45, _⟩ => ⟨S16384x256, .f32⟩
  | .hbm, ⟨46, _⟩ => ⟨S16384x256, .f32⟩
  | .hbm, ⟨47, _⟩ => ⟨S16384x256, .f32⟩
  | .hbm, ⟨48, _⟩ => ⟨S_, .f32⟩
  | .hbm, ⟨49, _⟩ => ⟨S16384x256, .f32⟩
  | .hbm, ⟨50, _⟩ => ⟨S16384x256, .f32⟩
  | .hbm, ⟨51, _⟩ => ⟨S_, .f32⟩
  | .hbm, ⟨52, _⟩ => ⟨S16384x256, .f32⟩
  | .hbm, ⟨53, _⟩ => ⟨S16384x256, .f32⟩
  | .hbm, ⟨54, _⟩ => ⟨S16384x256, .f32⟩
  | .hbm, ⟨55, _⟩ => ⟨S16384x256, .f32⟩
  | .hbm, ⟨56, _⟩ => ⟨S16384x256, .bf16⟩
  | .hbm, ⟨57, _⟩ => ⟨S16384x256, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S16384, .f32⟩
  | .hbm, ⟨64, _⟩ => ⟨S16384x1, .f32⟩
  | .hbm, ⟨65, _⟩ => ⟨S_, .f32⟩
  | .hbm, ⟨66, _⟩ => ⟨S16384x1, .f32⟩
  | .hbm, ⟨67, _⟩ => ⟨S16384x1, .f32⟩
  | .hbm, ⟨68, _⟩ => ⟨S_, .f32⟩
  | .hbm, ⟨69, _⟩ => ⟨S16384x1, .f32⟩
  | .hbm, ⟨70, _⟩ => ⟨S16384x1, .f32⟩
  | .hbm, ⟨71, _⟩ => ⟨S16384x1, .f32⟩
  | .hbm, ⟨72, _⟩ => ⟨S16384x1024, .f32⟩
  | .hbm, ⟨73, _⟩ => ⟨S16384x1024, .f32⟩
  | .hbm, ⟨74, _⟩ => ⟨S1x1024, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S_, .f32⟩
  | .hbm, ⟨82, _⟩ => ⟨S16384, .f32⟩
  | .hbm, ⟨83, _⟩ => ⟨S16384x1, .f32⟩
  | .hbm, ⟨84, _⟩ => ⟨S_, .f32⟩
  | .hbm, ⟨85, _⟩ => ⟨S16384x1, .f32⟩
  | .hbm, ⟨86, _⟩ => ⟨S16384x1, .f32⟩
  | .hbm, ⟨87, _⟩ => ⟨S_, .f32⟩
  | .hbm, ⟨88, _⟩ => ⟨S16384x1, .f32⟩
  | .hbm, ⟨89, _⟩ => ⟨S16384x1, .f32⟩
  | .hbm, ⟨90, _⟩ => ⟨S16384x1, .f32⟩
  | .hbm, ⟨91, _⟩ => ⟨S16384x1024, .f32⟩
  | .hbm, ⟨92, _⟩ => ⟨S16384x1024, .f32⟩
  | .hbm, ⟨93, _⟩ => ⟨S1x1024, .f32⟩
  | .hbm, ⟨94, _⟩ => ⟨S16384x1024, .f32⟩
  | .hbm, ⟨95, _⟩ => ⟨S16384x1024, .f32⟩
  | .hbm, ⟨96, _⟩ => ⟨S_, .f32⟩
  | .hbm, ⟨97, _⟩ => ⟨S1x1024, .f32⟩
  | .hbm, ⟨98, _⟩ => ⟨S1x1024, .f32⟩
  | .hbm, ⟨99, _⟩ => ⟨S16384x1024, .f32⟩
  | .hbm, ⟨100, _⟩ => ⟨S16384x1024, .f32⟩
  | .hbm, ⟨101, _⟩ => ⟨S16384x1024, .f32⟩
  | .hbm, ⟨102, _⟩ => ⟨S16384x1024, .f32⟩
  | .hbm, ⟨103, _⟩ => ⟨S16384x4096, .f32⟩
  | .hbm, ⟨104, _⟩ => ⟨S_, .f32⟩
  | .hbm, ⟨105, _⟩ => ⟨S16384x4096, .f32⟩
  | .hbm, ⟨106, _⟩ => ⟨S16384x4096, .f32⟩
  | .hbm, ⟨107, _⟩ => ⟨S16384x4096, .f32⟩
  | .hbm, ⟨108, _⟩ => ⟨S16384x1024, .f32⟩
  | .hbm, ⟨109, _⟩ => ⟨S16384x1024, .f32⟩
  | .hbm, ⟨110, _⟩ => ⟨S_, .f32⟩
  | .hbm, ⟨111, _⟩ => ⟨S16384, .f32⟩
  | .hbm, ⟨112, _⟩ => ⟨S16384x1, .f32⟩
  | .hbm, ⟨113, _⟩ => ⟨S_, .f32⟩
  | .hbm, ⟨114, _⟩ => ⟨S16384x1, .f32⟩
  | .hbm, ⟨115, _⟩ => ⟨S16384x1, .f32⟩
  | .hbm, ⟨116, _⟩ => ⟨S_, .f32⟩
  | .hbm, ⟨117, _⟩ => ⟨S16384x1, .f32⟩
  | .hbm, ⟨118, _⟩ => ⟨S16384x1, .f32⟩
  | .hbm, ⟨119, _⟩ => ⟨S16384x1, .f32⟩
  | .hbm, ⟨120, _⟩ => ⟨S16384x1024, .f32⟩
  | .hbm, ⟨121, _⟩ => ⟨S16384x1024, .f32⟩
  | .hbm, ⟨122, _⟩ => ⟨S1x1024, .f32⟩
  | .hbm, ⟨123, _⟩ => ⟨S16384x1024, .f32⟩
  | .hbm, ⟨124, _⟩ => ⟨S16384x1024, .f32⟩
  | .hbm, ⟨125, _⟩ => ⟨S16384x1024, .f32⟩
  | .hbm, ⟨126, _⟩ => ⟨S16384x1024, .f32⟩
  | .hbm, ⟨127, _⟩ => ⟨S16384x1024, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_v18 : Ref sig .tc := ⟨.hbm, 37, rfl⟩
abbrev main_cst_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_5 : Ref sig .tc := ⟨.hbm, 62, rfl⟩
abbrev main_v40 : Ref sig .tc := ⟨.hbm, 63, rfl⟩
abbrev main_v41 : Ref sig .tc := ⟨.hbm, 64, rfl⟩
abbrev main_cst_6 : Ref sig .tc := ⟨.hbm, 65, rfl⟩
abbrev main_v42 : Ref sig .tc := ⟨.hbm, 66, rfl⟩
abbrev main_v43 : Ref sig .tc := ⟨.hbm, 67, rfl⟩
abbrev main_cst_7 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_8 : Ref sig .tc := ⟨.hbm, 81, rfl⟩
abbrev main_v56 : Ref sig .tc := ⟨.hbm, 82, rfl⟩
abbrev main_v57 : Ref sig .tc := ⟨.hbm, 83, rfl⟩
abbrev main_cst_9 : Ref sig .tc := ⟨.hbm, 84, rfl⟩
abbrev main_v58 : Ref sig .tc := ⟨.hbm, 85, rfl⟩
abbrev main_v59 : Ref sig .tc := ⟨.hbm, 86, rfl⟩
abbrev main_cst_10 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_11 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_call0_cst : Ref sig .tc := ⟨.hbm, 104, rfl⟩
abbrev main_call0_v0 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_12 : Ref sig .tc := ⟨.hbm, 110, rfl⟩
abbrev main_v79 : Ref sig .tc := ⟨.hbm, 111, rfl⟩
abbrev main_v80 : Ref sig .tc := ⟨.hbm, 112, rfl⟩
abbrev main_cst_13 : Ref sig .tc := ⟨.hbm, 113, rfl⟩
abbrev main_v81 : Ref sig .tc := ⟨.hbm, 114, rfl⟩
abbrev main_v82 : Ref sig .tc := ⟨.hbm, 115, rfl⟩
abbrev main_cst_14 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩

abbrev nD : Nat := 1
abbrev τ : Topo := Topo.v7x

variable {F : FTy → Type} [FloatOps F]
-- ==== Kernel5.lean ====
abbrev S256x16640 : Shape := ⟨2, ![256, 16640]⟩
abbrev S2x16640x64 : Shape := ⟨3, ![2, 16640, 64]⟩
abbrev S128x16640 : Shape := ⟨2, ![128, 16640]⟩
abbrev S256x256 : Shape := ⟨2, ![256, 256]⟩
abbrev S128x256 : Shape := ⟨2, ![128, 256]⟩
abbrev S1x256x64 : Shape := ⟨3, ![1, 256, 64]⟩
abbrev S64x256 : Shape := ⟨2, ![64, 256]⟩
abbrev S16x256 : Shape := ⟨2, ![16, 256]⟩
abbrev S80x256 : Shape := ⟨2, ![80, 256]⟩
abbrev S256x64 : Shape := ⟨2, ![256, 64]⟩
abbrev S256 : Shape := ⟨1, ![256]⟩
abbrev S1x256 : Shape := ⟨2, ![1, 256]⟩

abbrev nBuf : Space → Nat
  | .hbm => 4
  | .vmem => 8
  | .smem => 0
  | _ => 0

abbrev bufTy : (tb : Table) → Fin (tcTables nBuf tb) → BufTy
  | .hbm, ⟨0, _⟩ => ⟨S256x16640, .bf16⟩
  | .hbm, ⟨1, _⟩ => ⟨S2x16640x64, .bf16⟩
  | .hbm, ⟨2, _⟩ => ⟨S128x16640, .bf16⟩
  | .hbm, ⟨3, _⟩ => ⟨S256x256, .bf16⟩
  | .local _ .vmem, ⟨0, _⟩ => ⟨S128x256, .bf16⟩
  | .local _ .vmem, ⟨1, _⟩ => ⟨S128x256, .bf16⟩
  | .local _ .vmem, ⟨2, _⟩ => ⟨S1x256x64, .bf16⟩
  | .local _ .vmem, ⟨3, _⟩ => ⟨S1x256x64, .bf16⟩
  | .local _ .vmem, ⟨4, _⟩ => ⟨S64x256, .bf16⟩
  | .local _ .vmem, ⟨5, _⟩ => ⟨S64x256, .bf16⟩
  | .local _ .vmem, ⟨6, _⟩ => ⟨S128x256, .bf16⟩
  | .local _ .vmem, ⟨7, _⟩ => ⟨S128x256, .bf16⟩
  | _, _ => ⟨S256x16640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c64_i32 : BitVec 32 := 64#32
  let c0_i32 : BitVec 32 := 0#32
  ![arg0.toNat, c64_i32.toNat]

def cc0_transform_1 (i : grid0.Coords) : Fin 3 → Nat :=
  let arg0 : BitVec 32 := BitVec.ofNat 32 (i 0).val
  let c64_i32 : BitVec 32 := 64#32
  let c0_i32 : BitVec 32 := 0#32
  let c0_i32_0 : BitVec 32 := 0#32
  ![arg0.toNat, c64_i32.toNat, c0_i32.toNat]

def cc0_transform_2 (i : grid0.Coords) : Fin 2 → Nat :=
  let arg0 : BitVec 32 := BitVec.ofNat 32 (i 0).val
  let c64_i32 : BitVec 32 := 64#32
  let c0_i32 : BitVec 32 := 0#32
  ![arg0.toNat, c64_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S256x16640 : Shape := ⟨2, ![256, 16640]⟩
abbrev S2x16640x64 : Shape := ⟨3, ![2, 16640, 64]⟩
abbrev S128x16640 : Shape := ⟨2, ![128, 16640]⟩
abbrev S256x256 : Shape := ⟨2, ![256, 256]⟩
abbrev S2x2x64x256 : Shape := ⟨4, ![2, 2, 64, 256]⟩
abbrev S128x256 : Shape := ⟨2, ![128, 256]⟩
abbrev S2x64x256 : Shape := ⟨3, ![2, 64, 256]⟩
abbrev S2x256x64 : Shape := ⟨3, ![2, 256, 64]⟩
abbrev S2x2x256x256 : Shape := ⟨4, ![2, 2, 256, 256]⟩
abbrev S_ : Shape := ⟨0, ![]⟩
abbrev S2x2x256 : Shape := ⟨3, ![2, 2, 256]⟩
abbrev S2x2x256x1 : Shape := ⟨4, ![2, 2, 256, 1]⟩
abbrev S2x64x2x256 : Shape := ⟨4, ![2, 64, 2, 256]⟩

abbrev nBuf : Space → Nat
  | .hbm => 32
  | .vmem => 0
  | .smem => 0
  | _ => 0

abbrev bufTy : (tb : Table) → Fin (tcTables nBuf tb) → BufTy
  | .hbm, ⟨0, _⟩ => ⟨S256x16640, .bf16⟩
  | .hbm, ⟨1, _⟩ => ⟨S2x16640x64, .bf16⟩
  | .hbm, ⟨2, _⟩ => ⟨S128x16640, .bf16⟩
  | .hbm, ⟨3, _⟩ => ⟨S256x256, .bf16⟩
  | .hbm, ⟨4, _⟩ => ⟨S2x2x64x256, .bf16⟩
  | .hbm, ⟨5, _⟩ => ⟨S128x256, .bf16⟩
  | .hbm, ⟨6, _⟩ => ⟨S2x64x256, .bf16⟩
  | .hbm, ⟨7, _⟩ => ⟨S2x256x64, .bf16⟩
  | .hbm, ⟨8, _⟩ => ⟨S2x2x256x256, .f32⟩
  | .hbm, ⟨9, _⟩ => ⟨S_, .f32⟩
  | .hbm, ⟨10, _⟩ => ⟨S_, .f32⟩
  | .hbm, ⟨11, _⟩ => ⟨S2x2x256x256, .f32⟩
  | .hbm, ⟨12, _⟩ => ⟨S2x2x256x256, .f32⟩
  | .hbm, ⟨13, _⟩ => ⟨S_, .f32⟩
  | .hbm, ⟨14, _⟩ => ⟨S2x2x256, .f32⟩
  | .hbm, ⟨15, _⟩ => ⟨S_, .f32⟩
  | .hbm, ⟨16, _⟩ => ⟨S2x2x256, .f32⟩
  | .hbm, ⟨17, _⟩ => ⟨S2x2x256, .f32⟩
  | .hbm, ⟨18, _⟩ => ⟨S2x2x256x1, .f32⟩
  | .hbm, ⟨19, _⟩ => ⟨S2x2x256x256, .f32⟩
  | .hbm, ⟨20, _⟩ => ⟨S2x2x256x256, .f32⟩
  | .hbm, ⟨21, _⟩ => ⟨S2x2x256x256, .f32⟩
  | .hbm, ⟨22, _⟩ => ⟨S_, .f32⟩
  | .hbm, ⟨23, _⟩ => ⟨S2x2x256, .f32⟩
  | .hbm, ⟨24, _⟩ => ⟨S2x2x256x1, .f32⟩
  | .hbm, ⟨25, _⟩ => ⟨S2x2x256x256, .f32⟩
  | .hbm, ⟨26, _⟩ => ⟨S2x2x256x256, .f32⟩
  | .hbm, ⟨27, _⟩ => ⟨S2x2x256x256, .bf16⟩
  | .hbm, ⟨28, _⟩ => ⟨S2x64x2x256, .f32⟩
  | .hbm, ⟨29, _⟩ => ⟨S2x2x64x256, .f32⟩
  | .hbm, ⟨30, _⟩ => ⟨S256x256, .f32⟩
  | .hbm, ⟨31, _⟩ => ⟨S256x256, .bf16⟩
  | _, _ => ⟨S256x16640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel6.lean ====
abbrev S1x1024 : Shape := ⟨2, ![1, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩
abbrev S6x1024 : Shape := ⟨2, ![6, 1024]⟩
abbrev S8x1024 : Shape := ⟨2, ![8, 1024]⟩
abbrev S4x1x6144 : Shape := ⟨3, ![4, 1, 6144]⟩
abbrev S4x8x6144 : Shape := ⟨3, ![4, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩
abbrev S4x2x6144 : Shape := ⟨3, ![4, 2, 6144]⟩
abbrev S4x2x6x1024 : Shape := ⟨4, ![4, 2, 6, 1024]⟩

abbrev nBuf : Space → Nat
  | .hbm => 12
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024, .f32⟩
  | .hbm, ⟨5, _⟩ => ⟨S_, .f32⟩
  | .hbm, ⟨6, _⟩ => ⟨S6x1024, .f32⟩
  | .hbm, ⟨7, _⟩ => ⟨S8x1024, .f32⟩
  | .hbm, ⟨8, _⟩ => ⟨S4x1x6144, .f32⟩
  | .hbm, ⟨9, _⟩ => ⟨S4x8x6144, .f32⟩
  | .hbm, ⟨10, _⟩ => ⟨S4x2x6144, .f32⟩
  | .hbm, ⟨11, _⟩ => ⟨S4x2x6x1024, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S1x1024 : Shape := ⟨2, ![1, 1024]⟩
abbrev S1024 : Shape := ⟨1, ![1024]⟩
abbrev S4x1024x6144 : Shape := ⟨3, ![4, 1024, 6144]⟩
abbrev S4x6144 : Shape := ⟨2, ![4, 6144]⟩
abbrev S2x1024 : Shape := ⟨2, ![2, 1024]⟩
abbrev S_ : Shape := ⟨0, ![]⟩
abbrev S4x6144x2 : Shape := ⟨3, ![4, 6144, 2]⟩
abbrev S4x2x6144 : Shape := ⟨3, ![4, 2, 6144]⟩
abbrev S4x1x6144 : Shape := ⟨3, ![4, 1, 6144]⟩
abbrev S4x2x6x1024 : Shape := ⟨4, ![4, 2, 6, 1024]⟩

abbrev nBuf : Space → Nat
  | .hbm => 21
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S_, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S4x6144x2, .f32⟩
  | .hbm, ⟨16, _⟩ => ⟨S4x2x6144, .f32⟩
  | .hbm, ⟨17, _⟩ => ⟨S4x1x6144, .f32⟩
  | .hbm, ⟨18, _⟩ => ⟨S4x2x6144, .f32⟩
  | .hbm, ⟨19, _⟩ => ⟨S4x2x6144, .f32⟩
  | .hbm, ⟨20, _⟩ => ⟨S4x2x6x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩

abbrev nD : Nat := 1
abbrev τ : Topo := Topo.v7x

variable {F : FTy → Type} [FloatOps F]
-- ==== Kernel7.lean ====
abbrev S16640x768 : Shape := ⟨2, ![16640, 768]⟩
abbrev S16640x256 : Shape := ⟨2, ![16640, 256]⟩
abbrev S3x768 : Shape := ⟨2, ![3, 768]⟩
abbrev S768 : Shape := ⟨1, ![768]⟩
abbrev S4x64x64 : Shape := ⟨3, ![4, 64, 64]⟩
abbrev S256 : Shape := ⟨1, ![256]⟩
abbrev S1x768 : Shape := ⟨2, ![1, 768]⟩
abbrev S4x64x1x64 : Shape := ⟨4, ![4, 64, 1, 64]⟩
abbrev S4x4 : Shape := ⟨2, ![4, 4]⟩
abbrev S_ : Shape := ⟨0, ![]⟩
abbrev S4x1x4x1 : Shape := ⟨4, ![4, 1, 4, 1]⟩
abbrev S4x64x4x64 : Shape := ⟨4, ![4, 64, 4, 64]⟩
abbrev S256x256 : Shape := ⟨2, ![256, 256]⟩
abbrev S1x256 : Shape := ⟨2, ![1, 256]⟩
abbrev S256x768 : Shape := ⟨2, ![256, 768]⟩
abbrev S8x768 : Shape := ⟨2, ![8, 768]⟩
abbrev S8x256 : Shape := ⟨2, ![8, 256]⟩
abbrev S272x1 : Shape := ⟨2, ![272, 1]⟩
abbrev S272x768 : Shape := ⟨2, ![272, 768]⟩
abbrev S272x256 : Shape := ⟨2, ![272, 256]⟩

abbrev nBuf : Space → Nat
  | .hbm => 25
  | .vmem => 24
  | .smem => 0
  | _ => 0

abbrev bufTy : (tb : Table) → Fin (tcTables nBuf tb) → BufTy
  | .hbm, ⟨0, _⟩ => ⟨S16640x768, .f32⟩
  | .hbm, ⟨1, _⟩ => ⟨S16640x256, .f32⟩
  | .hbm, ⟨2, _⟩ => ⟨S3x768, .f32⟩
  | .hbm, ⟨3, _⟩ => ⟨S768, .f32⟩
  | .hbm, ⟨4, _⟩ => ⟨S4x64x64, .f32⟩
  | .hbm, ⟨5, _⟩ => ⟨S256, .f32⟩
  | .hbm, ⟨6, _⟩ => ⟨S1x768, .f32⟩
  | .hbm, ⟨7, _⟩ => ⟨S4x64x1x64, .f32⟩
  | .hbm, ⟨8, _⟩ => ⟨S4x4, .i32⟩
  | .hbm, ⟨9, _⟩ => ⟨S4x4, .i32⟩
  | .hbm, ⟨10, _⟩ => ⟨S_, .i32⟩
  | .hbm, ⟨11, _⟩ => ⟨S4x4, .i32⟩
  | .hbm, ⟨12, _⟩ => ⟨S4x4, .i32⟩
  | .hbm, ⟨13, _⟩ => ⟨S4x4, .i1⟩
  | .hbm, ⟨14, _⟩ => ⟨S4x4, .f32⟩
  | .hbm, ⟨15, _⟩ => ⟨S4x1x4x1, .f32⟩
  | .hbm, ⟨16, _⟩ => ⟨S4x64x4x64, .f32⟩
  | .hbm, ⟨17, _⟩ => ⟨S4x64x4x64, .f32⟩
  | .hbm, ⟨18, _⟩ => ⟨S4x64x4x64, .f32⟩
  | .hbm, ⟨19, _⟩ => ⟨S256x256, .f32⟩
  | .hbm, ⟨20, _⟩ => ⟨S1x256, .f32⟩
  | .hbm, ⟨21, _⟩ => ⟨S16640x256, .f32⟩
  | .hbm, ⟨22, _⟩ => ⟨S16640x256, .f32⟩
  | .hbm, ⟨23, _⟩ => ⟨S16640x256, .f32⟩
  | .hbm, ⟨24, _⟩ => ⟨S16640x256, .f32⟩
  | .local _ .vmem, ⟨0, _⟩ => ⟨S256x768, .f32⟩
  | .local _ .vmem, ⟨1, _⟩ => ⟨S256x768, .f32⟩
  | .local _ .vmem, ⟨2, _⟩ => ⟨S8x768, .f32⟩
  | .local _ .vmem, ⟨3, _⟩ => ⟨S8x768, .f32⟩
  | .local _ .vmem, ⟨4, _⟩ => ⟨S8x768, .f32⟩
  | .local _ .vmem, ⟨5, _⟩ => ⟨S8x768, .f32⟩
  | .local _ .vmem, ⟨6, _⟩ => ⟨S256x256, .f32⟩
  | .local _ .vmem, ⟨7, _⟩ => ⟨S256x256, .f32⟩
  | .local _ .vmem, ⟨8, _⟩ => ⟨S8x256, .f32⟩
  | .local _ .vmem, ⟨9, _⟩ => ⟨S8x256, .f32⟩
  | .local _ .vmem, ⟨10, _⟩ => ⟨S8x256, .f32⟩
  | .local _ .vmem, ⟨11, _⟩ => ⟨S8x256, .f32⟩
  | .local _ .vmem, ⟨12, _⟩ => ⟨S3x768, .f32⟩
  | .local _ .vmem, ⟨13, _⟩ => ⟨S1x768, .f32⟩
  | .local _ .vmem, ⟨14, _⟩ => ⟨S256x256, .f32⟩
  | .local _ .vmem, ⟨15, _⟩ => ⟨S1x256, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S256x256, .f32⟩
  | _, _ => ⟨S16640x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v14_2 : Ref sig .tc := ⟨.hbm, 23, rfl⟩
abbrev main_v14_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2079_i32 : BitVec 32 := 2079#32
  let v2 : BitVec 32 := Scalar.minsi v1 c2079_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2079_i32 : BitVec 32 := 2079#32
  let v2 : BitVec 32 := Scalar.minsi v1 c2079_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference7Ideal.lean ====
abbrev S16640x768 : Shape := ⟨2, ![16640, 768]⟩
abbrev S16640x256 : Shape := ⟨2, ![16640, 256]⟩
abbrev S3x768 : Shape := ⟨2, ![3, 768]⟩
abbrev S768 : Shape := ⟨1, ![768]⟩
abbrev S4x64x64 : Shape := ⟨3, ![4, 64, 64]⟩
abbrev S256 : Shape := ⟨1, ![256]⟩
abbrev S16384x768 : Shape := ⟨2, ![16384, 768]⟩
abbrev S_ : Shape := ⟨0, ![]⟩
abbrev S16386x768 : Shape := ⟨2, ![16386, 768]⟩
abbrev S1x768 : Shape := ⟨2, ![1, 768]⟩
abbrev S256x768 : Shape := ⟨2, ![256, 768]⟩
abbrev S258x768 : Shape := ⟨2, ![258, 768]⟩
abbrev S16384x256 : Shape := ⟨2, ![16384, 256]⟩
abbrev S16384 : Shape := ⟨1, ![16384]⟩
abbrev S16384x64 : Shape := ⟨2, ![16384, 64]⟩
abbrev S16386x64 : Shape := ⟨2, ![16386, 64]⟩
abbrev S16384x1 : Shape := ⟨2, ![16384, 1]⟩
abbrev S16388x64 : Shape := ⟨2, ![16388, 64]⟩
abbrev S16392x64 : Shape := ⟨2, ![16392, 64]⟩
abbrev S16400x64 : Shape := ⟨2, ![16400, 64]⟩
abbrev S16384x1x64 : Shape := ⟨3, ![16384, 1, 64]⟩
abbrev S16384x4x64 : Shape := ⟨3, ![16384, 4, 64]⟩
abbrev S4x64x16384 : Shape := ⟨3, ![4, 64, 16384]⟩
abbrev S1x256 : Shape := ⟨2, ![1, 256]⟩
abbrev S256x256 : Shape := ⟨2, ![256, 256]⟩
abbrev S256x64 : Shape := ⟨2, ![256, 64]⟩
abbrev S258x64 : Shape := ⟨2, ![258, 64]⟩
abbrev S256x1 : Shape := ⟨2, ![256, 1]⟩
abbrev S260x64 : Shape := ⟨2, ![260, 64]⟩
abbrev S264x64 : Shape := ⟨2, ![264, 64]⟩
abbrev S272x64 : Shape := ⟨2, ![272, 64]⟩
abbrev S256x1x64 : Shape := ⟨3, ![256, 1, 64]⟩
abbrev S256x4x64 : Shape := ⟨3, ![256, 4, 64]⟩
abbrev S4x64x256 : Shape := ⟨3, ![4, 64, 256]⟩

abbrev nBuf : Space → Nat
  | .hbm => 403
  | .vmem => 0
  | .smem => 0
  | _ => 0

abbrev hbmTy0_0 (i : Nat) : BufTy := match i % 128 with
  | 0 => ⟨S16640x768, .f32⟩
  | 1 => ⟨S16640x256, .f32⟩
  | 2 => ⟨S3x768, .f32⟩
  | 3 => ⟨S768, .f32⟩
  | 4 => ⟨S4x64x64, .f32⟩
  | 5 => ⟨S256, .f32⟩
  | 6 => ⟨S16384x768, .f32⟩
  | 7 => ⟨S_, .i32⟩
  | 8 => ⟨S_, .f32⟩
  | 9 => ⟨S16386x768, .f32⟩
  | 10 => ⟨S1x768, .f32⟩
  | 11 => ⟨S768, .f32⟩
  | 12 => ⟨S16384x768, .f32⟩
  | 13 => ⟨S1x768, .f32⟩
  | 14 => ⟨S16384x768, .f32⟩
  | 15 => ⟨S16384x768, .f32⟩
  | 16 => ⟨S1x768, .f32⟩
  | 17 => ⟨S16384x768, .f32⟩
  | 18 => ⟨S16384x768, .f32⟩
  | 19 => ⟨S1x768, .f32⟩
  | 20 => ⟨S768, .f32⟩
  | 21 => ⟨S16384x768, .f32⟩
  | 22 => ⟨S1x768, .f32⟩
  | 23 => ⟨S16384x768, .f32⟩
  | 24 => ⟨S16384x768, .f32⟩
  | 25 => ⟨S16384x768, .f32⟩
  | 26 => ⟨S1x768, .f32⟩
  | 27 => ⟨S768, .f32⟩
  | 28 => ⟨S16384x768, .f32⟩
  | 29 => ⟨S1x768, .f32⟩
  | 30 => ⟨S16384x768, .f32⟩
  | 31 => ⟨S16384x768, .f32⟩
  | 32 => ⟨S16384x768, .f32⟩
  | 33 => ⟨S256x768, .f32⟩
  | 34 => ⟨S_, .i32⟩
  | 35 => ⟨S_, .f32⟩
  | 36 => ⟨S258x768, .f32⟩
  | 37 => ⟨S1x768, .f32⟩
  | 38 => ⟨S768, .f32⟩
  | 39 => ⟨S256x768, .f32⟩
  | 40 => ⟨S1x768, .f32⟩
  | 41 => ⟨S256x768, .f32⟩
  | 42 => ⟨S256x768, .f32⟩
  | 43 => ⟨S1x768, .f32⟩
  | 44 => ⟨S256x768, .f32⟩
  | 45 => ⟨S256x768, .f32⟩
  | 46 => ⟨S1x768, .f32⟩
  | 47 => ⟨S768, .f32⟩
  | 48 => ⟨S256x768, .f32⟩
  | 49 => ⟨S1x768, .f32⟩
  | 50 => ⟨S256x768, .f32⟩
  | 51 => ⟨S256x768, .f32⟩
  | 52 => ⟨S256x768, .f32⟩
  | 53 => ⟨S1x768, .f32⟩
  | 54 => ⟨S768, .f32⟩
  | 55 => ⟨S256x768, .f32⟩
  | 56 => ⟨S1x768, .f32⟩
  | 57 => ⟨S256x768, .f32⟩
  | 58 => ⟨S256x768, .f32⟩
  | 59 => ⟨S256x768, .f32⟩
  | 60 => ⟨S16640x768, .f32⟩
  | 61 => ⟨S16384x256, .f32⟩
  | 62 => ⟨S16384, .i32⟩
  | 63 => ⟨S16384x64, .f32⟩
  | 64 => ⟨S_, .i32⟩
  | 65 => ⟨S_, .f32⟩
  | 66 => ⟨S16386x64, .f32⟩
  | 67 => ⟨S16384x64, .f32⟩
  | 68 => ⟨S_, .f32⟩
  | 69 => ⟨S16384x64, .f32⟩
  | 70 => ⟨S16384x64, .f32⟩
  | 71 => ⟨S16384x64, .f32⟩
  | 72 => ⟨S16384x64, .f32⟩
  | 73 => ⟨S_, .i32⟩
  | 74 => ⟨S16384, .i32⟩
  | 75 => ⟨S16384, .i32⟩
  | 76 => ⟨S_, .i32⟩
  | 77 => ⟨S16384, .i32⟩
  | 78 => ⟨S16384, .i32⟩
  | 79 => ⟨S_, .i32⟩
  | 80 => ⟨S16384, .i32⟩
  | 81 => ⟨S16384, .i32⟩
  | 82 => ⟨S_, .i32⟩
  | 83 => ⟨S16384, .i32⟩
  | 84 => ⟨S16384, .i32⟩
  | 85 => ⟨S16384, .i32⟩
  | 86 => ⟨S16384, .f32⟩
  | 87 => ⟨S16384x1, .f32⟩
  | 88 => ⟨S16384x64, .f32⟩
  | 89 => ⟨S16384x64, .f32⟩
  | 90 => ⟨S16384x64, .f32⟩
  | 91 => ⟨S16384x64, .f32⟩
  | 92 => ⟨S_, .i32⟩
  | 93 => ⟨S_, .f32⟩
  | 94 => ⟨S16388x64, .f32⟩
  | 95 => ⟨S16384x64, .f32⟩
  | 96 => ⟨S_, .f32⟩
  | 97 => ⟨S16384x64, .f32⟩
  | 98 => ⟨S16384x64, .f32⟩
  | 99 => ⟨S16384x64, .f32⟩
  | 100 => ⟨S16384x64, .f32⟩
  | 101 => ⟨S16384x64, .f32⟩
  | 102 => ⟨S16384x64, .f32⟩
  | 103 => ⟨S16384x64, .f32⟩
  | 104 => ⟨S16384x64, .f32⟩
  | 105 => ⟨S_, .i32⟩
  | 106 => ⟨S16384, .i32⟩
  | 107 => ⟨S16384, .i32⟩
  | 108 => ⟨S_, .i32⟩
  | 109 => ⟨S16384, .i32⟩
  | 110 => ⟨S16384, .i32⟩
  | 111 => ⟨S_, .i32⟩
  | 112 => ⟨S16384, .i32⟩
  | 113 => ⟨S16384, .i32⟩
  | 114 => ⟨S_, .i32⟩
  | 115 => ⟨S16384, .i32⟩
  | 116 => ⟨S16384, .i32⟩
  | 117 => ⟨S16384, .i32⟩
  | 118 => ⟨S16384, .f32⟩
  | 119 => ⟨S16384x1, .f32⟩
  | 120 => ⟨S16384x64, .f32⟩
  | 121 => ⟨S16384x64, .f32⟩
  | 122 => ⟨S16384x64, .f32⟩
  | 123 => ⟨S16384x64, .f32⟩
  | 124 => ⟨S_, .i32⟩
  | 125 => ⟨S_, .f32⟩
  | 126 => ⟨S16392x64, .f32⟩
  | 127 => ⟨S16384x64, .f32⟩
  | _ => ⟨S16640x768, .f32⟩

abbrev hbmTy0_1 (i : Nat) : BufTy := match i % 128 with
  | 0 => ⟨S_, .f32⟩
  | 1 => ⟨S16384x64, .f32⟩
  | 2 => ⟨S16384x64, .f32⟩
  | 3 => ⟨S16384x64, .f32⟩
  | 4 => ⟨S16384x64, .f32⟩
  | 5 => ⟨S16384x64, .f32⟩
  | 6 => ⟨S16384x64, .f32⟩
  | 7 => ⟨S16384x64, .f32⟩
  | 8 => ⟨S16384x64, .f32⟩
  | 9 => ⟨S16384x64, .f32⟩
  | 10 => ⟨S16384x64, .f32⟩
  | 11 => ⟨S16384x64, .f32⟩
  | 12 => ⟨S16384x64, .f32⟩
  | 13 => ⟨S16384x64, .f32⟩
  | 14 => ⟨S16384x64, .f32⟩
  | 15 => ⟨S16384x64, .f32⟩
  | 16 => ⟨S16384x64, .f32⟩
  | 17 => ⟨S_, .i32⟩
  | 18 => ⟨S16384, .i32⟩
  | 19 => ⟨S16384, .i32⟩
  | 20 => ⟨S_, .i32⟩
  | 21 => ⟨S16384, .i32⟩
  | 22 => ⟨S16384, .i32⟩
  | 23 => ⟨S_, .i32⟩
  | 24 => ⟨S16384, .i32⟩
  | 25 => ⟨S16384, .i32⟩
  | 26 => ⟨S_, .i32⟩
  | 27 => ⟨S16384, .i32⟩
  | 28 => ⟨S16384, .i32⟩
  | 29 => ⟨S16384, .i32⟩
  | 30 => ⟨S16384, .f32⟩
  | 31 => ⟨S16384x1, .f32⟩
  | 32 => ⟨S16384x64, .f32⟩
  | 33 => ⟨S16384x64, .f32⟩
  | 34 => ⟨S16384x64, .f32⟩
  | 35 => ⟨S16384x64, .f32⟩
  | 36 => ⟨S_, .i32⟩
  | 37 => ⟨S_, .f32⟩
  | 38 => ⟨S16400x64, .f32⟩
  | 39 => ⟨S16384x64, .f32⟩
  | 40 => ⟨S_, .f32⟩
  | 41 => ⟨S16384x64, .f32⟩
  | 42 => ⟨S16384x64, .f32⟩
  | 43 => ⟨S16384x64, .f32⟩
  | 44 => ⟨S16384x64, .f32⟩
  | 45 => ⟨S16384x64, .f32⟩
  | 46 => ⟨S16384x64, .f32⟩
  | 47 => ⟨S16384x64, .f32⟩
  | 48 => ⟨S16384x64, .f32⟩
  | 49 => ⟨S16384x64, .f32⟩
  | 50 => ⟨S16384x64, .f32⟩
  | 51 => ⟨S16384x64, .f32⟩
  | 52 => ⟨S16384x64, .f32⟩
  | 53 => ⟨S16384x64, .f32⟩
  | 54 => ⟨S16384x64, .f32⟩
  | 55 => ⟨S16384x64, .f32⟩
  | 56 => ⟨S16384x64, .f32⟩
  | 57 => ⟨S16384x64, .f32⟩
  | 58 => ⟨S16384x64, .f32⟩
  | 59 => ⟨S16384x64, .f32⟩
  | 60 => ⟨S16384x64, .f32⟩
  | 61 => ⟨S16384x64, .f32⟩
  | 62 => ⟨S16384x64, .f32⟩
  | 63 => ⟨S16384x64, .f32⟩
  | 64 => ⟨S16384x64, .f32⟩
  | 65 => ⟨S16384x64, .f32⟩
  | 66 => ⟨S16384x64, .f32⟩
  | 67 => ⟨S16384x64, .f32⟩
  | 68 => ⟨S16384x64, .f32⟩
  | 69 => ⟨S16384x64, .f32⟩
  | 70 => ⟨S16384x64, .f32⟩
  | 71 => ⟨S16384x64, .f32⟩
  | 72 => ⟨S16384x64, .f32⟩
  | 73 => ⟨S_, .i32⟩
  | 74 => ⟨S16384, .i32⟩
  | 75 => ⟨S16384, .i32⟩
  | 76 => ⟨S_, .i32⟩
  | 77 => ⟨S16384, .i32⟩
  | 78 => ⟨S16384, .i32⟩
  | 79 => ⟨S_, .i32⟩
  | 80 => ⟨S16384, .i32⟩
  | 81 => ⟨S16384, .i32⟩
  | 82 => ⟨S_, .i32⟩
  | 83 => ⟨S16384, .i32⟩
  | 84 => ⟨S16384, .i32⟩
  | 85 => ⟨S16384, .i32⟩
  | 86 => ⟨S16384, .f32⟩
  | 87 => ⟨S16384x1, .f32⟩
  | 88 => ⟨S16384x64, .f32⟩
  | 89 => ⟨S16384x64, .f32⟩
  | 90 => ⟨S16384x64, .f32⟩
  | 91 => ⟨S16384x1x64, .f32⟩
  | 92 => ⟨S16384x1x64, .f32⟩
  | 93 => ⟨S16384x1x64, .f32⟩
  | 94 => ⟨S16384x1x64, .f32⟩
  | 95 => ⟨S16384x4x64, .f32⟩
  | 96 => ⟨S4x64x16384, .f32⟩
  | 97 => ⟨S16384x4x64, .f32⟩
  | 98 => ⟨S16384x256, .f32⟩
  | 99 => ⟨S1x256, .f32⟩
  | 100 => ⟨S16384x256, .f32⟩
  | 101 => ⟨S16384x256, .f32⟩
  | 102 => ⟨S256x256, .f32⟩
  | 103 => ⟨S256, .i32⟩
  | 104 => ⟨S256x64, .f32⟩
  | 105 => ⟨S_, .i32⟩
  | 106 => ⟨S_, .f32⟩
  | 107 => ⟨S258x64, .f32⟩
  | 108 => ⟨S256x64, .f32⟩
  | 109 => ⟨S_, .f32⟩
  | 110 => ⟨S256x64, .f32⟩
  | 111 => ⟨S256x64, .f32⟩
  | 112 => ⟨S256x64, .f32⟩
  | 113 => ⟨S256x64, .f32⟩
  | 114 => ⟨S_, .i32⟩
  | 115 => ⟨S256, .i32⟩
  | 116 => ⟨S256, .i32⟩
  | 117 => ⟨S_, .i32⟩
  | 118 => ⟨S256, .i32⟩
  | 119 => ⟨S256, .i32⟩
  | 120 => ⟨S_, .i32⟩
  | 121 => ⟨S256, .i32⟩
  | 122 => ⟨S256, .i32⟩
  | 123 => ⟨S_, .i32⟩
  | 124 => ⟨S256, .i32⟩
  | 125 => ⟨S256, .i32⟩
  | 126 => ⟨S256, .i32⟩
  | 127 => ⟨S256, .f32⟩
  | _ => ⟨S16640x768, .f32⟩

abbrev hbmTy0_2 (i : Nat) : BufTy := match i % 128 with
  | 0 => ⟨S256x1, .f32⟩
  | 1 => ⟨S256x64, .f32⟩
  | 2 => ⟨S256x64, .f32⟩
  | 3 => ⟨S256x64, .f32⟩
  | 4 => ⟨S256x64, .f32⟩
  | 5 => ⟨S_, .i32⟩
  | 6 => ⟨S_, .f32⟩
  | 7 => ⟨S260x64, .f32⟩
  | 8 => ⟨S256x64, .f32⟩
  | 9 => ⟨S_, .f32⟩
  | 10 => ⟨S256x64, .f32⟩
  | 11 => ⟨S256x64, .f32⟩
  | 12 => ⟨S256x64, .f32⟩
  | 13 => ⟨S256x64, .f32⟩
  | 14 => ⟨S256x64, .f32⟩
  | 15 => ⟨S256x64, .f32⟩
  | 16 => ⟨S256x64, .f32⟩
  | 17 => ⟨S256x64, .f32⟩
  | 18 => ⟨S_, .i32⟩
  | 19 => ⟨S256, .i32⟩
  | 20 => ⟨S256, .i32⟩
  | 21 => ⟨S_, .i32⟩
  | 22 => ⟨S256, .i32⟩
  | 23 => ⟨S256, .i32⟩
  | 24 => ⟨S_, .i32⟩
  | 25 => ⟨S256, .i32⟩
  | 26 => ⟨S256, .i32⟩
  | 27 => ⟨S_, .i32⟩
  | 28 => ⟨S256, .i32⟩
  | 29 => ⟨S256, .i32⟩
  | 30 => ⟨S256, .i32⟩
  | 31 => ⟨S256, .f32⟩
  | 32 => ⟨S256x1, .f32⟩
  | 33 => ⟨S256x64, .f32⟩
  | 34 => ⟨S256x64, .f32⟩
  | 35 => ⟨S256x64, .f32⟩
  | 36 => ⟨S256x64, .f32⟩
  | 37 => ⟨S_, .i32⟩
  | 38 => ⟨S_, .f32⟩
  | 39 => ⟨S264x64, .f32⟩
  | 40 => ⟨S256x64, .f32⟩
  | 41 => ⟨S_, .f32⟩
  | 42 => ⟨S256x64, .f32⟩
  | 43 => ⟨S256x64, .f32⟩
  | 44 => ⟨S256x64, .f32⟩
  | 45 => ⟨S256x64, .f32⟩
  | 46 => ⟨S256x64, .f32⟩
  | 47 => ⟨S256x64, .f32⟩
  | 48 => ⟨S256x64, .f32⟩
  | 49 => ⟨S256x64, .f32⟩
  | 50 => ⟨S256x64, .f32⟩
  | 51 => ⟨S256x64, .f32⟩
  | 52 => ⟨S256x64, .f32⟩
  | 53 => ⟨S256x64, .f32⟩
  | 54 => ⟨S256x64, .f32⟩
  | 55 => ⟨S256x64, .f32⟩
  | 56 => ⟨S256x64, .f32⟩
  | 57 => ⟨S256x64, .f32⟩
  | 58 => ⟨S_, .i32⟩
  | 59 => ⟨S256, .i32⟩
  | 60 => ⟨S256, .i32⟩
  | 61 => ⟨S_, .i32⟩
  | 62 => ⟨S256, .i32⟩
  | 63 => ⟨S256, .i32⟩
  | 64 => ⟨S_, .i32⟩
  | 65 => ⟨S256, .i32⟩
  | 66 => ⟨S256, .i32⟩
  | 67 => ⟨S_, .i32⟩
  | 68 => ⟨S256, .i32⟩
  | 69 => ⟨S256, .i32⟩
  | 70 => ⟨S256, .i32⟩
  | 71 => ⟨S256, .f32⟩
  | 72 => ⟨S256x1, .f32⟩
  | 73 => ⟨S256x64, .f32⟩
  | 74 => ⟨S256x64, .f32⟩
  | 75 => ⟨S256x64, .f32⟩
  | 76 => ⟨S256x64, .f32⟩
  | 77 => ⟨S_, .i32⟩
  | 78 => ⟨S_, .f32⟩
  | 79 => ⟨S272x64, .f32⟩
  | 80 => ⟨S256x64, .f32⟩
  | 81 => ⟨S_, .f32⟩
  | 82 => ⟨S256x64, .f32⟩
  | 83 => ⟨S256x64, .f32⟩
  | 84 => ⟨S256x64, .f32⟩
  | 85 => ⟨S256x64, .f32⟩
  | 86 => ⟨S256x64, .f32⟩
  | 87 => ⟨S256x64, .f32⟩
  | 88 => ⟨S256x64, .f32⟩
  | 89 => ⟨S256x64, .f32⟩
  | 90 => ⟨S256x64, .f32⟩
  | 91 => ⟨S256x64, .f32⟩
  | 92 => ⟨S256x64, .f32⟩
  | 93 => ⟨S256x64, .f32⟩
  | 94 => ⟨S256x64, .f32⟩
  | 95 => ⟨S256x64, .f32⟩
  | 96 => ⟨S256x64, .f32⟩
  | 97 => ⟨S256x64, .f32⟩
  | 98 => ⟨S256x64, .f32⟩
  | 99 => ⟨S256x64, .f32⟩
  | 100 => ⟨S256x64, .f32⟩
  | 101 => ⟨S256x64, .f32⟩
  | 102 => ⟨S256x64, .f32⟩
  | 103 => ⟨S256x64, .f32⟩
  | 104 => ⟨S256x64, .f32⟩
  | 105 => ⟨S256x64, .f32⟩
  | 106 => ⟨S256x64, .f32⟩
  | 107 => ⟨S256x64, .f32⟩
  | 108 => ⟨S256x64, .f32⟩
  | 109 => ⟨S256x64, .f32⟩
  | 110 => ⟨S256x64, .f32⟩
  | 111 => ⟨S256x64, .f32⟩
  | 112 => ⟨S256x64, .f32⟩
  | 113 => ⟨S256x64, .f32⟩
  | 114 => ⟨S_, .i32⟩
  | 115 => ⟨S256, .i32⟩
  | 116 => ⟨S256, .i32⟩
  | 117 => ⟨S_, .i32⟩
  | 118 => ⟨S256, .i32⟩
  | 119 => ⟨S256, .i32⟩
  | 120 => ⟨S_, .i32⟩
  | 121 => ⟨S256, .i32⟩
  | 122 => ⟨S256, .i32⟩
  | 123 => ⟨S_, .i32⟩
  | 124 => ⟨S256, .i32⟩
  | 125 => ⟨S256, .i32⟩
  | 126 => ⟨S256, .i32⟩
  | 127 => ⟨S256, .f32⟩
  | _ => ⟨S16640x768, .f32⟩

abbrev hbmTy0_3 (i : Nat) : BufTy := match i % 128 with
  | 0 => ⟨S256x1, .f32⟩
  | 1 => ⟨S256x64, .f32⟩
  | 2 => ⟨S256x64, .f32⟩
  | 3 => ⟨S256x64, .f32⟩
  | 4 => ⟨S256x1x64, .f32⟩
  | 5 => ⟨S256x1x64, .f32⟩
  | 6 => ⟨S256x1x64, .f32⟩
  | 7 => ⟨S256x1x64, .f32⟩
  | 8 => ⟨S256x4x64, .f32⟩
  | 9 => ⟨S4x64x256, .f32⟩
  | 10 => ⟨S256x4x64, .f32⟩
  | 11 => ⟨S256x256, .f32⟩
  | 12 => ⟨S1x256, .f32⟩
  | 13 => ⟨S256x256, .f32⟩
  | 14 => ⟨S256x256, .f32⟩
  | 15 => ⟨S16640x256, .f32⟩
  | 16 => ⟨S16640x256, .f32⟩
  | 17 => ⟨S16640x256, .f32⟩
  | 18 => ⟨S16640x256, .f32⟩
  | _ => ⟨S16640x768, .f32⟩

abbrev hbmTy (i : Nat) : BufTy := match i / 128 with
  | 0 => hbmTy0_0 i
  | 1 => hbmTy0_1 i
  | 2 => hbmTy0_2 i
  | 3 => hbmTy0_3 i
  | _ => ⟨S16640x768, .f32⟩

abbrev bufTy : (tb : Table) → Fin (tcTables nBuf tb) → BufTy
  | .hbm, ⟨i, _⟩ => hbmTy i
  | _, _ => ⟨S16640x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_0 : Ref sig .tc := ⟨.hbm, 34, rfl⟩
abbrev main_call1_v0 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_c_1 : Ref sig .tc := ⟨.hbm, 64, rfl⟩
abbrev main_call2_v0 : Ref sig .tc := ⟨.hbm, 65, rfl⟩
abbrev main_v54 : Ref sig .tc := ⟨.hbm, 66, rfl⟩
abbrev main_v55 : Ref sig .tc := ⟨.hbm, 67, rfl⟩
abbrev main_cst : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_c_2 : Ref sig .tc := ⟨.hbm, 73, rfl⟩
abbrev main_v60 : Ref sig .tc := ⟨.hbm, 74, rfl⟩
abbrev main_v61 : Ref sig .tc := ⟨.hbm, 75, rfl⟩
abbrev main_c_3 : Ref sig .tc := ⟨.hbm, 76, rfl⟩
abbrev main_v62 : Ref sig .tc := ⟨.hbm, 77, rfl⟩
abbrev main_v63 : Ref sig .tc := ⟨.hbm, 78, rfl⟩
abbrev main_c_4 : Ref sig .tc := ⟨.hbm, 79, rfl⟩
abbrev main_v64 : Ref sig .tc := ⟨.hbm, 80, rfl⟩
abbrev main_v65 : Ref sig .tc := ⟨.hbm, 81, rfl⟩
abbrev main_c_5 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_c_6 : Ref sig .tc := ⟨.hbm, 92, rfl⟩
abbrev main_call3_v0 : Ref sig .tc := ⟨.hbm, 93, rfl⟩
abbrev main_v75 : Ref sig .tc := ⟨.hbm, 94, rfl⟩
abbrev main_v76 : Ref sig .tc := ⟨.hbm, 95, rfl⟩
abbrev main_cst_7 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_c_8 : Ref sig .tc := ⟨.hbm, 105, rfl⟩
abbrev main_v85 : Ref sig .tc := ⟨.hbm, 106, rfl⟩
abbrev main_v86 : Ref sig .tc := ⟨.hbm, 107, rfl⟩
abbrev main_c_9 : Ref sig .tc := ⟨.hbm, 108, rfl⟩
abbrev main_v87 : Ref sig .tc := ⟨.hbm, 109, rfl⟩
abbrev main_v88 : Ref sig .tc := ⟨.hbm, 110, rfl⟩
abbrev main_c_10 : Ref sig .tc := ⟨.hbm, 111, rfl⟩
abbrev main_v89 : Ref sig .tc := ⟨.hbm, 112, rfl⟩
abbrev main_v90 : Ref sig .tc := ⟨.hbm, 113, rfl⟩
abbrev main_c_11 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_c_12 : Ref sig .tc := ⟨.hbm, 124, rfl⟩
abbrev main_call4_v0 : Ref sig .tc := ⟨.hbm, 125, rfl⟩
abbrev main_v100 : Ref sig .tc := ⟨.hbm, 126, rfl⟩
abbrev main_v101 : Ref sig .tc := ⟨.hbm, 127, rfl⟩
abbrev main_cst_13 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_c_14 : Ref sig .tc := ⟨.hbm, 145, rfl⟩
abbrev main_v118 : Ref sig .tc := ⟨.hbm, 146, rfl⟩
abbrev main_v119 : Ref sig .tc := ⟨.hbm, 147, rfl⟩
abbrev main_c_15 : Ref sig .tc := ⟨.hbm, 148, rfl⟩
abbrev main_v120 : Ref sig .tc := ⟨.hbm, 149, rfl⟩
abbrev main_v121 : Ref sig .tc := ⟨.hbm, 150, rfl⟩
abbrev main_c_16 : Ref sig .tc := ⟨.hbm, 151, rfl⟩
abbrev main_v122 : Ref sig .tc := ⟨.hbm, 152, rfl⟩
abbrev main_v123 : Ref sig .tc := ⟨.hbm, 153, rfl⟩
abbrev main_c_17 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_c_18 : Ref sig .tc := ⟨.hbm, 164, rfl⟩
abbrev main_call5_v0 : Ref sig .tc := ⟨.hbm, 165, rfl⟩
abbrev main_v133 : Ref sig .tc := ⟨.hbm, 166, rfl⟩
abbrev main_v134 : Ref sig .tc := ⟨.hbm, 167, rfl⟩
abbrev main_cst_19 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_c_20 : Ref sig .tc := ⟨.hbm, 201, rfl⟩
abbrev main_v167 : Ref sig .tc := ⟨.hbm, 202, rfl⟩
abbrev main_v168 : Ref sig .tc := ⟨.hbm, 203, rfl⟩
abbrev main_c_21 : Ref sig .tc := ⟨.hbm, 204, rfl⟩
abbrev main_v169 : Ref sig .tc := ⟨.hbm, 205, rfl⟩
abbrev main_v170 : Ref sig .tc := ⟨.hbm, 206, rfl⟩
abbrev main_c_22 : Ref sig .tc := ⟨.hbm, 207, rfl⟩
abbrev main_v171 : Ref sig .tc := ⟨.hbm, 208, rfl⟩
abbrev main_v172 : Ref sig .tc := ⟨.hbm, 209, rfl⟩
abbrev main_c_23 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_c_24 : Ref sig .tc := ⟨.hbm, 233, rfl⟩
abbrev main_call6_v0 : Ref sig .tc := ⟨.hbm, 234, rfl⟩
abbrev main_v195 : Ref sig .tc := ⟨.hbm, 235, rfl⟩
abbrev main_v196 : Ref sig .tc := ⟨.hbm, 236, rfl⟩
abbrev main_cst_25 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_v200 : Ref sig .tc := ⟨.hbm, 241, rfl⟩
abbrev main_c_26 : Ref sig .tc := ⟨.hbm, 242, rfl⟩
abbrev main_v201 : Ref sig .tc := ⟨.hbm, 243, rfl⟩
abbrev main_v202 : Ref sig .tc := ⟨.hbm, 244, rfl⟩
abbrev main_c_27 : Ref sig .tc := ⟨.hbm, 245, rfl⟩
abbrev main_v203 : Ref sig .tc := ⟨.hbm, 246, rfl⟩
abbrev main_v204 : Ref sig .tc := ⟨.hbm, 247, rfl⟩
abbrev main_c_28 : Ref sig .tc := ⟨.hbm, 248, rfl⟩
abbrev main_v205 : Ref sig .tc := ⟨.hbm, 249, rfl⟩
abbrev main_v206 : Ref sig .tc := ⟨.hbm, 250, rfl⟩
abbrev main_c_29 : Ref sig .tc := ⟨.hbm, 251, rfl⟩
abbrev main_v207 : Ref sig .tc := ⟨.hbm, 252, rfl⟩
abbrev main_v208 : Ref sig .tc := ⟨.hbm, 253, rfl⟩
abbrev main_v209 : Ref sig .tc := ⟨.hbm, 254, rfl⟩
abbrev main_v210 : Ref sig .tc := ⟨.hbm, 255, rfl⟩
abbrev main_v211 : Ref sig .tc := ⟨.hbm, 256, rfl⟩
abbrev main_v212 : Ref sig .tc := ⟨.hbm, 257, rfl⟩
abbrev main_v213 : Ref sig .tc := ⟨.hbm, 258, rfl⟩
abbrev main_v214 : Ref sig .tc := ⟨.hbm, 259, rfl⟩
abbrev main_v215 : Ref sig .tc := ⟨.hbm, 260, rfl⟩
abbrev main_c_30 : Ref sig .tc := ⟨.hbm, 261, rfl⟩
abbrev main_call7_v0 : Ref sig .tc := ⟨.hbm, 262, rfl⟩
abbrev main_v216 : Ref sig .tc := ⟨.hbm, 263, rfl⟩
abbrev main_v217 : Ref sig .tc := ⟨.hbm, 264, rfl⟩
abbrev main_cst_31 : Ref sig .tc := ⟨.hbm, 265, rfl⟩
abbrev main_v218 : Ref sig .tc := ⟨.hbm, 266, rfl⟩
abbrev main_v219 : Ref sig .tc := ⟨.hbm, 267, rfl⟩
abbrev main_v220 : Ref sig .tc := ⟨.hbm, 268, rfl⟩
abbrev main_v221 : Ref sig .tc := ⟨.hbm, 269, rfl⟩
abbrev main_v222 : Ref sig .tc := ⟨.hbm, 270, rfl⟩
abbrev main_v223 : Ref sig .tc := ⟨.hbm, 271, rfl⟩
abbrev main_v224 : Ref sig .tc := ⟨.hbm, 272, rfl⟩
abbrev main_v225 : Ref sig .tc := ⟨.hbm, 273, rfl⟩
abbrev main_c_32 : Ref sig .tc := ⟨.hbm, 274, rfl⟩
abbrev main_v226 : Ref sig .tc := ⟨.hbm, 275, rfl⟩
abbrev main_v227 : Ref sig .tc := ⟨.hbm, 276, rfl⟩
abbrev main_c_33 : Ref sig .tc := ⟨.hbm, 277, rfl⟩
abbrev main_v228 : Ref sig .tc := ⟨.hbm, 278, rfl⟩
abbrev main_v229 : Ref sig .tc := ⟨.hbm, 279, rfl⟩
abbrev main_c_34 : Ref sig .tc := ⟨.hbm, 280, rfl⟩
abbrev main_v230 : Ref sig .tc := ⟨.hbm, 281, rfl⟩
abbrev main_v231 : Ref sig .tc := ⟨.hbm, 282, rfl⟩
abbrev main_c_35 : Ref sig .tc := ⟨.hbm, 283, rfl⟩
abbrev main_v232 : Ref sig .tc := ⟨.hbm, 284, rfl⟩
abbrev main_v233 : Ref sig .tc := ⟨.hbm, 285, rfl⟩
abbrev main_v234 : Ref sig .tc := ⟨.hbm, 286, rfl⟩
abbrev main_v235 : Ref sig .tc := ⟨.hbm, 287, rfl⟩
abbrev main_v236 : Ref sig .tc := ⟨.hbm, 288, rfl⟩
abbrev main_v237 : Ref sig .tc := ⟨.hbm, 289, rfl⟩
abbrev main_v238 : Ref sig .tc := ⟨.hbm, 290, rfl⟩
abbrev main_v239 : Ref sig .tc := ⟨.hbm, 291, rfl⟩
abbrev main_v240 : Ref sig .tc := ⟨.hbm, 292, rfl⟩
abbrev main_c_36 : Ref sig .tc := ⟨.hbm, 293, rfl⟩
abbrev main_call8_v0 : Ref sig .tc := ⟨.hbm, 294, rfl⟩
abbrev main_v241 : Ref sig .tc := ⟨.hbm, 295, rfl⟩
abbrev main_v242 : Ref sig .tc := ⟨.hbm, 296, rfl⟩
abbrev main_cst_37 : Ref sig .tc := ⟨.hbm, 297, rfl⟩
abbrev main_v243 : Ref sig .tc := ⟨.hbm, 298, rfl⟩
abbrev main_v244 : Ref sig .tc := ⟨.hbm, 299, rfl⟩
abbrev main_v245 : Ref sig .tc := ⟨.hbm, 300, rfl⟩
abbrev main_v246 : Ref sig .tc := ⟨.hbm, 301, rfl⟩
abbrev main_v247 : Ref sig .tc := ⟨.hbm, 302, rfl⟩
abbrev main_v248 : Ref sig .tc := ⟨.hbm, 303, rfl⟩
abbrev main_v249 : Ref sig .tc := ⟨.hbm, 304, rfl⟩
abbrev main_v250 : Ref sig .tc := ⟨.hbm, 305, rfl⟩
abbrev main_v251 : Ref sig .tc := ⟨.hbm, 306, rfl⟩
abbrev main_v252 : Ref sig .tc := ⟨.hbm, 307, rfl⟩
abbrev main_v253 : Ref sig .tc := ⟨.hbm, 308, rfl⟩
abbrev main_v254 : Ref sig .tc := ⟨.hbm, 309, rfl⟩
abbrev main_v255 : Ref sig .tc := ⟨.hbm, 310, rfl⟩
abbrev main_v256 : Ref sig .tc := ⟨.hbm, 311, rfl⟩
abbrev main_v257 : Ref sig .tc := ⟨.hbm, 312, rfl⟩
abbrev main_v258 : Ref sig .tc := ⟨.hbm, 313, rfl⟩
abbrev main_c_38 : Ref sig .tc := ⟨.hbm, 314, rfl⟩
abbrev main_v259 : Ref sig .tc := ⟨.hbm, 315, rfl⟩
abbrev main_v260 : Ref sig .tc := ⟨.hbm, 316, rfl⟩
abbrev main_c_39 : Ref sig .tc := ⟨.hbm, 317, rfl⟩
abbrev main_v261 : Ref sig .tc := ⟨.hbm, 318, rfl⟩
abbrev main_v262 : Ref sig .tc := ⟨.hbm, 319, rfl⟩
abbrev main_c_40 : Ref sig .tc := ⟨.hbm, 320, rfl⟩
abbrev main_v263 : Ref sig .tc := ⟨.hbm, 321, rfl⟩
abbrev main_v264 : Ref sig .tc := ⟨.hbm, 322, rfl⟩
abbrev main_c_41 : Ref sig .tc := ⟨.hbm, 323, rfl⟩
abbrev main_v265 : Ref sig .tc := ⟨.hbm, 324, rfl⟩
abbrev main_v266 : Ref sig .tc := ⟨.hbm, 325, rfl⟩
abbrev main_v267 : Ref sig .tc := ⟨.hbm, 326, rfl⟩
abbrev main_v268 : Ref sig .tc := ⟨.hbm, 327, rfl⟩
abbrev main_v269 : Ref sig .tc := ⟨.hbm, 328, rfl⟩
abbrev main_v270 : Ref sig .tc := ⟨.hbm, 329, rfl⟩
abbrev main_v271 : Ref sig .tc := ⟨.hbm, 330, rfl⟩
abbrev main_v272 : Ref sig .tc := ⟨.hbm, 331, rfl⟩
abbrev main_v273 : Ref sig .tc := ⟨.hbm, 332, rfl⟩
abbrev main_c_42 : Ref sig .tc := ⟨.hbm, 333, rfl⟩
abbrev main_call9_v0 : Ref sig .tc := ⟨.hbm, 334, rfl⟩
abbrev main_v274 : Ref sig .tc := ⟨.hbm, 335, rfl⟩
abbrev main_v275 : Ref sig .tc := ⟨.hbm, 336, rfl⟩
abbrev main_cst_43 : Ref sig .tc := ⟨.hbm, 337, rfl⟩
abbrev main_v276 : Ref sig .tc := ⟨.hbm, 338, rfl⟩
abbrev main_v277 : Ref sig .tc := ⟨.hbm, 339, rfl⟩
abbrev main_v278 : Ref sig .tc := ⟨.hbm, 340, rfl⟩
abbrev main_v279 : Ref sig .tc := ⟨.hbm, 341, rfl⟩
abbrev main_v280 : Ref sig .tc := ⟨.hbm, 342, rfl⟩
abbrev main_v281 : Ref sig .tc := ⟨.hbm, 343, rfl⟩
abbrev main_v282 : Ref sig .tc := ⟨.hbm, 344, rfl⟩
abbrev main_v283 : Ref sig .tc := ⟨.hbm, 345, rfl⟩
abbrev main_v284 : Ref sig .tc := ⟨.hbm, 346, rfl⟩
abbrev main_v285 : Ref sig .tc := ⟨.hbm, 347, rfl⟩
abbrev main_v286 : Ref sig .tc := ⟨.hbm, 348, rfl⟩
abbrev main_v287 : Ref sig .tc := ⟨.hbm, 349, rfl⟩
abbrev main_v288 : Ref sig .tc := ⟨.hbm, 350, rfl⟩
abbrev main_v289 : Ref sig .tc := ⟨.hbm, 351, rfl⟩
abbrev main_v290 : Ref sig .tc := ⟨.hbm, 352, rfl⟩
abbrev main_v291 : Ref sig .tc := ⟨.hbm, 353, rfl⟩
abbrev main_v292 : Ref sig .tc := ⟨.hbm, 354, rfl⟩
abbrev main_v293 : Ref sig .tc := ⟨.hbm, 355, rfl⟩
abbrev main_v294 : Ref sig .tc := ⟨.hbm, 356, rfl⟩
abbrev main_v295 : Ref sig .tc := ⟨.hbm, 357, rfl⟩
abbrev main_v296 : Ref sig .tc := ⟨.hbm, 358, rfl⟩
abbrev main_v297 : Ref sig .tc := ⟨.hbm, 359, rfl⟩
abbrev main_v298 : Ref sig .tc := ⟨.hbm, 360, rfl⟩
abbrev main_v299 : Ref sig .tc := ⟨.hbm, 361, rfl⟩
abbrev main_v300 : Ref sig .tc := ⟨.hbm, 362, rfl⟩
abbrev main_v301 : Ref sig .tc := ⟨.hbm, 363, rfl⟩
abbrev main_v302 : Ref sig .tc := ⟨.hbm, 364, rfl⟩
abbrev main_v303 : Ref sig .tc := ⟨.hbm, 365, rfl⟩
abbrev main_v304 : Ref sig .tc := ⟨.hbm, 366, rfl⟩
abbrev main_v305 : Ref sig .tc := ⟨.hbm, 367, rfl⟩
abbrev main_v306 : Ref sig .tc := ⟨.hbm, 368, rfl⟩
abbrev main_v307 : Ref sig .tc := ⟨.hbm, 369, rfl⟩
abbrev main_c_44 : Ref sig .tc := ⟨.hbm, 370, rfl⟩
abbrev main_v308 : Ref sig .tc := ⟨.hbm, 371, rfl⟩
abbrev main_v309 : Ref sig .tc := ⟨.hbm, 372, rfl⟩
abbrev main_c_45 : Ref sig .tc := ⟨.hbm, 373, rfl⟩
abbrev main_v310 : Ref sig .tc := ⟨.hbm, 374, rfl⟩
abbrev main_v311 : Ref sig .tc := ⟨.hbm, 375, rfl⟩
abbrev main_c_46 : Ref sig .tc := ⟨.hbm, 376, rfl⟩
abbrev main_v312 : Ref sig .tc := ⟨.hbm, 377, rfl⟩
abbrev main_v313 : Ref sig .tc := ⟨.hbm, 378, rfl⟩
abbrev main_c_47 : Ref sig .tc := ⟨.hbm, 379, rfl⟩
abbrev main_v314 : Ref sig .tc := ⟨.hbm, 380, rfl⟩
abbrev main_v315 : Ref sig .tc := ⟨.hbm, 381, rfl⟩
abbrev main_v316 : Ref sig .tc := ⟨.hbm, 382, rfl⟩
abbrev main_v317 : Ref sig .tc := ⟨.hbm, 383, rfl⟩
abbrev main_v318 : Ref sig .tc := ⟨.hbm, 384, rfl⟩
abbrev main_v319 : Ref sig .tc := ⟨.hbm, 385, rfl⟩
abbrev main_v320 : Ref sig .tc := ⟨.hbm, 386, rfl⟩
abbrev main_v321 : Ref sig .tc := ⟨.hbm, 387, rfl⟩
abbrev main_v322 : Ref sig .tc := ⟨.hbm, 388, rfl⟩
abbrev main_v323 : Ref sig .tc := ⟨.hbm, 389, rfl⟩
abbrev main_v324 : Ref sig .tc := ⟨.hbm, 390, rfl⟩
abbrev main_v325 : Ref sig .tc := ⟨.hbm, 391, rfl⟩
abbrev main_v326 : Ref sig .tc := ⟨.hbm, 392, rfl⟩
abbrev main_v327 : Ref sig .tc := ⟨.hbm, 393, rfl⟩
abbrev main_v328 : Ref sig .tc := ⟨.hbm, 394, rfl⟩
abbrev main_v329 : Ref sig .tc := ⟨.hbm, 395, rfl⟩
abbrev main_v330 : Ref sig .tc := ⟨.hbm, 396, rfl⟩
abbrev main_v331 : Ref sig .tc := ⟨.hbm, 397, rfl⟩
abbrev main_v332 : Ref sig .tc := ⟨.hbm, 398, rfl⟩
abbrev main_v333 : Ref sig .tc := ⟨.hbm, 399, rfl⟩
abbrev main_v334 : Ref sig .tc := ⟨.hbm, 400, rfl⟩
abbrev main_v335 : Ref sig .tc := ⟨.hbm, 401, rfl⟩
abbrev main_v336 : Ref sig .tc := ⟨.hbm, 402, rfl⟩

abbrev nD : Nat := 1
abbrev τ : Topo := Topo.v7x

variable {F : FTy → Type} [FloatOps F]
-- ==== Proof.Flash.Online.lean ====
module
public import Idealize.ShloMosaic.PureOps.Ideal
public import Idealize.ShloMosaic.PureOps.Ideal.Laws
public import Mathlib.Data.Finset.Fold
/-! The online softmax over the extended reals: one step over a run of keys, the state it keeps, and the quotient it
ends with. The scores are real numbers; the values are any extended reals. -/
@[expose] public section
noncomputable section
namespace Cert.KernelIdeal.Flash
open Idealize.ShloMosaic

/-- The running maximum after `n` further scores. -/
def stepM {n : ℕ} (s : Fin n → EReal) (m : EReal) : EReal := max m (Finset.univ.fold max ⊥ s)

/-- The running weighted sum after `n` further scores and values. -/
def stepA {n : ℕ} (s v : Fin n → EReal) (m a : EReal) : EReal :=
  Ideal.exp2 (m - stepM s m) * a + ∑ k, v k * Ideal.exp2 (s k - stepM s m)

/-- Over the first `N` keys, with scores `σ` and a family of value rows `v`: the maximum is a real number `μ`, and every
    weighted sum is that of the values with weights `2 ^ (σ κ - μ)`. -/
def Inv {ι : Type} (N : ℕ) (σ : ℕ → ℝ) (v : ι → ℕ → EReal) (m : EReal) (a : ι → EReal) : Prop :=
  ∃ μ : ℝ, m = (μ : EReal) ∧ ∀ r, a r = ∑ κ ∈ Finset.range N, ((Real.rpow 2 (σ κ - μ) : ℝ) : EReal) * v r κ

theorem exp2_sub (x y : ℝ) : Ideal.exp2 ((x : EReal) - (y : EReal)) = ((Real.rpow 2 (x - y) : ℝ) : EReal) := by
  rw [← EReal.coe_sub]; rfl

theorem rpow_two_pos (x : ℝ) : 0 < Real.rpow 2 x := Real.rpow_pos_of_pos two_pos x

/-- A nonnegative real factor goes into a sum of any extended reals. -/
theorem coe_mul_sum {ι : Type} (S : Finset ι) (c : ℝ) (hc : 0 ≤ c) (f : ι → EReal) :
    (c : EReal) * ∑ i ∈ S, f i = ∑ i ∈ S, (c : EReal) * f i := by
  classical
  induction S using Finset.induction_on with
  | empty => simp
  | insert i S hi ih =>
    rw [Finset.sum_insert hi, Finset.sum_insert hi, ← ih, EReal.left_distrib_of_nonneg_of_ne_top (by exact_mod_cast hc) (EReal.coe_ne_top c)]

/-- Changing the maximum from `μ` to `μ'` multiplies the weighted sum by `2 ^ (μ - μ')`. -/
theorem rescale {ι : Type} (S : Finset ι) (σ : ι → ℝ) (v : ι → EReal) (μ μ' : ℝ) :
    ((Real.rpow 2 (μ - μ') : ℝ) : EReal) * ∑ i ∈ S, ((Real.rpow 2 (σ i - μ) : ℝ) : EReal) * v i
      = ∑ i ∈ S, ((Real.rpow 2 (σ i - μ') : ℝ) : EReal) * v i := by
  rw [coe_mul_sum S _ (rpow_two_pos _).le]
  refine Finset.sum_congr rfl fun i _ => ?_
  rw [← mul_assoc, ← EReal.coe_mul]
  congr 2
  show (2 : ℝ) ^ (μ - μ') * (2 : ℝ) ^ (σ i - μ) = (2 : ℝ) ^ (σ i - μ')
  rw [← Real.rpow_add two_pos]
  congr 1; ring

/-- The running maximum of real numbers is a real number. -/
theorem stepM_real {n : ℕ} (s : Fin n → ℝ) (μ : ℝ) : ∃ μ' : ℝ, stepM (fun k => (s k : EReal)) (μ : EReal) = (μ' : EReal) := by
  have h1 : stepM (fun k => (s k : EReal)) (μ : EReal) < ⊤ := by
    unfold stepM
    exact max_lt (EReal.coe_lt_top _) ((Finset.fold_max_lt _).mpr ⟨bot_lt_top, fun k _ => EReal.coe_lt_top _⟩)
  have h2 : ⊥ < stepM (fun k => (s k : EReal)) (μ : EReal) := lt_of_lt_of_le (EReal.bot_lt_coe μ) (le_max_left _ _)
  exact ⟨_, (EReal.coe_toReal h1.ne h2.ne').symm⟩

/-- No key read: any real maximum, every sum zero. -/
theorem Inv.init {ι : Type} (σ : ℕ → ℝ) (v : ι → ℕ → EReal) (μ : ℝ) : Inv 0 σ v (μ : EReal) (fun _ => 0) :=
  ⟨μ, rfl, fun r => by simp⟩

/-- One step over the next `n` keys. -/
theorem Inv.step {ι : Type} {N n : ℕ} {σ : ℕ → ℝ} {v : ι → ℕ → EReal} {m : EReal} {a : ι → EReal} (h : Inv N σ v m a)
    (s : Fin n → EReal) (w : ι → Fin n → EReal) (hs : ∀ k : Fin n, s k = (σ (N + k) : EReal)) (hw : ∀ r (k : Fin n), w r k = v r (N + k)) :
    Inv (N + n) σ v (stepM s m) (fun r => stepA s (w r) m (a r)) := by
  obtain ⟨μ, rfl, ha⟩ := h
  obtain rfl : s = fun k : Fin n => (σ (N + k) : EReal) := funext hs
  obtain ⟨μ', hμ⟩ := stepM_real (fun k : Fin n => σ (N + k)) μ
  refine ⟨μ', hμ, fun r => ?_⟩
  show stepA _ (w r) _ (a r) = _
  unfold stepA
  rw [hμ, exp2_sub, ha r, rescale, Finset.sum_range_add]
  congr 1
  rw [Finset.sum_range]
  refine Finset.sum_congr rfl fun k _ => ?_
  rw [exp2_sub, hw, mul_comm]

/-- The softmax weights do not depend on the number subtracted from the scores, nor on the base when the scores are
    scaled by its logarithm. -/
theorem weight_eq {ι : Type} (S : Finset ι) (σ : ι → ℝ) (μ M : ℝ) (i : ι) :
    Real.rpow 2 (σ i - μ) / ∑ κ ∈ S, Real.rpow 2 (σ κ - μ)
      = Real.exp (σ i * Real.log 2 - M) / ∑ κ ∈ S, Real.exp (σ κ * Real.log 2 - M) := by
  have h : ∀ κ, Real.exp (σ κ * Real.log 2 - M) = Real.exp (μ * Real.log 2 - M) * Real.rpow 2 (σ κ - μ) := by
    intro κ
    show _ = _ * (2 : ℝ) ^ (σ κ - μ)
    rw [Real.rpow_def_of_pos two_pos, ← Real.exp_add]
    congr 1; ring
  simp only [h, ← Finset.mul_sum]
  rw [mul_div_mul_left _ _ (Real.exp_ne_zero _)]

theorem coe_sum {ι : Type} (S : Finset ι) (f : ι → ℝ) : ((∑ i ∈ S, f i : ℝ) : EReal) = ∑ i ∈ S, (f i : EReal) :=
  map_sum (⟨⟨(fun x : ℝ => (x : EReal)), EReal.coe_zero⟩, EReal.coe_add⟩ : ℝ →+ EReal) f S

theorem div_coe (x : EReal) (y : ℝ) (hy : 0 < y) : Ideal.div x (y : EReal) = ((y⁻¹ : ℝ) : EReal) * x := by
  unfold Ideal.div
  rw [if_neg (by exact_mod_cast hy.ne'), mul_comm, EReal.coe_inv]

/-- The quotient of the weighted sum by the sum of the weights is the sum of the values with the softmax weights. -/
theorem quotient {N : ℕ} (hN : 0 < N) (σ : ℕ → ℝ) (v : ℕ → EReal) (μ M : ℝ) :
    Ideal.div (∑ κ ∈ Finset.range N, ((Real.rpow 2 (σ κ - μ) : ℝ) : EReal) * v κ)
        (∑ κ ∈ Finset.range N, ((Real.rpow 2 (σ κ - μ) : ℝ) : EReal) * 1)
      = ∑ κ ∈ Finset.range N, v κ * Ideal.div ((Real.exp (σ κ * Real.log 2 - M) : ℝ) : EReal)
          (∑ κ ∈ Finset.range N, ((Real.exp (σ κ * Real.log 2 - M) : ℝ) : EReal)) := by
  have hne : (Finset.range N).Nonempty := ⟨0, Finset.mem_range.mpr hN⟩
  have h1 : 0 < ∑ κ ∈ Finset.range N, Real.rpow 2 (σ κ - μ) := Finset.sum_pos (fun κ _ => rpow_two_pos _) hne
  have h2 : 0 < ∑ κ ∈ Finset.range N, Real.exp (σ κ * Real.log 2 - M) := Finset.sum_pos (fun κ _ => Real.exp_pos _) hne
  simp only [mul_one]
  rw [← coe_sum, ← coe_sum, div_coe _ _ h1, coe_mul_sum _ _ (inv_pos.mpr h1).le]
  refine Finset.sum_congr rfl fun κ _ => ?_
  rw [div_coe _ _ h2, ← mul_assoc, ← EReal.coe_mul, ← EReal.coe_mul, mul_comm (v κ)]
  congr 2
  have := weight_eq (Finset.range N) σ μ M κ
  rw [div_eq_inv_mul, div_eq_inv_mul] at this
  exact this

end Cert.KernelIdeal.Flash
end
-- ==== Proof.Flash.Unit.lean ====
module
public import proofs.«01_k».proof.Proof.Gen.KernelIdeal.Value
public import proofs.«01_k».proof.Proof.Flash.Online
public import Idealize.ShloMosaic.Lib.Pipeline.ValueKit
public import Idealize.ShloMosaic.Lib.Pipeline.ReadBack
public import Idealize.ShloMosaic.Lib.Pointwise
@[expose] public section
set_option maxRecDepth 16384
noncomputable section
namespace Cert.KernelIdeal.Flash
open Idealize.ShloMosaic Cert.KernelIdeal Cert.KernelIdeal.Gen

/-- Column `j` of query group `g`: eight groups of 512 columns of each of the two heads of a block. -/
def qat (X : Vec Ideal S128x4096 .bf16) (g : Fin 16) (j : Fin 512) (d : Fin 64) : EReal :=
  X (ix2 ⟨64 * (g.val / 8) + d.val, by omega⟩ ⟨512 * (g.val % 8) + j.val, by omega⟩)

/-- The scores of a block of `n` keys against column `j` of group `g`. -/
def sc {n : ℕ} (X : Vec Ideal S128x4096 .bf16) (K : Vec Ideal ⟨3, ![1, n, 64]⟩ .bf16) (g : Fin 16) (j : Fin 512) (k : Fin n) : EReal :=
  ∑ d : Fin 64, K (ix3 0 k d) * qat X g j d

/-- Row `r` of the values: the 64 value rows, then rows of ones. -/
def vrow {n : ℕ} (V : Vec Ideal ⟨2, ![64, n]⟩ .bf16) (r : Fin 80) (k : Fin n) : EReal :=
  if h : r.val < 64 then V (ix2 ⟨r.val, h⟩ k) else 1

/-- The maxima of all groups after a block of keys. -/
def nextM {n : ℕ} (X : Vec Ideal S128x4096 .bf16) (K : Vec Ideal ⟨3, ![1, n, 64]⟩ .bf16) (M : Vec Ideal S16x1x512 .f32) : Vec Ideal S16x1x512 .f32 :=
  fun y => stepM (sc X K (y 0) (y 2)) (M y)

/-- The weighted sums of all groups after a block of keys. -/
def nextA {n : ℕ} (X : Vec Ideal S128x4096 .bf16) (K : Vec Ideal ⟨3, ![1, n, 64]⟩ .bf16) (V : Vec Ideal ⟨2, ![64, n]⟩ .bf16)
    (M : Vec Ideal S16x1x512 .f32) (A : Vec Ideal S16x80x512 .f32) : Vec Ideal S16x80x512 .f32 :=
  fun y => stepA (sc X K (y 0) (y 2)) (vrow V (y 1)) (M (ix3 (y 0) 0 (y 2))) (A y)

theorem negInf : Ideal.ofBits .f32 0xFF800000#32 = ⊥ := by simp [Ideal.ofBits, Ideal.ieee]

/-- Row `g` of a scratch of one row of 512 columns a group. -/
theorem embM (g : ℕ) (hg : g < 16) (i) (x : S1x1x512.Idx) :
    (Rect.unit (s := S16x1x512) ![g, 0, 0] ![1, 1, 512] i).emb x = ix3 (⟨g, hg⟩ : Fin 16) 0 (x 2) := by
  blk_ext

/-- Block `g` of a scratch of eighty rows of 512 columns a group. -/
theorem embA (g : ℕ) (hg : g < 16) (i) (x : S1x80x512.Idx) :
    (Rect.unit (s := S16x80x512) ![g, 0, 0] ![1, 80, 512] i).emb x = ix3 (⟨g, hg⟩ : Fin 16) (x 1) (x 2) := by
  blk_ext

/-- One group's new maxima are the group's part of `nextM`. -/
theorem pieceM (X : Vec Ideal S128x4096 .bf16) (K : Vec Ideal S1x4096x64 .bf16) (M : Vec Ideal S16x1x512 .f32) (g a b : ℕ)
    (ha : a = 64 * (g / 8)) (hb : b = 512 * (g % 8)) (hg : g < 16) (i₁ i₂) (x : S1x1x512.Idx) :
    k0_pay126 (k0_pay116 K (View.ld X (Rect.unit ![a, b] ![64, 512] i₁))) (View.ld M (Rect.unit ![g, 0, 0] ![1, 1, 512] i₂)) x
      = nextM X K M ((Rect.unit (s := S16x1x512) ![g, 0, 0] ![1, 1, 512] i₂).emb x) := by
  rw [embM g hg]
  subst ha hb
  pointwise [k0_pay126, k0_pay124, k0_pay116, k0_pay123, k0_pay113]
  rw [negInf]
  rfl

/-- One group's new weighted sums are the group's part of `nextA`. -/
theorem pieceA (X : Vec Ideal S128x4096 .bf16) (K : Vec Ideal S1x4096x64 .bf16) (V : Vec Ideal S64x4096 .bf16) (M : Vec Ideal S16x1x512 .f32)
    (A : Vec Ideal S16x80x512 .f32) (g a b : ℕ)
    (ha : a = 64 * (g / 8)) (hb : b = 512 * (g % 8)) (hg : g < 16) (i₁ i₂ i₃) (x : S1x80x512.Idx) :
    k0_pay125 (k0_pay114 V) (k0_pay116 K (View.ld X (Rect.unit ![a, b] ![64, 512] i₁))) (View.ld M (Rect.unit ![g, 0, 0] ![1, 1, 512] i₂))
        (View.ld A (Rect.unit ![g, 0, 0] ![1, 80, 512] i₃)) x
      = nextA X K V M A ((Rect.unit (s := S16x80x512) ![g, 0, 0] ![1, 80, 512] i₃).emb x) := by
  rw [embA g hg]
  subst ha hb
  pointwise [k0_pay125, k0_pay114, k0_pay124, k0_pay116, k0_pay123, k0_pay113]
  rw [negInf]
  rfl

/-- The last step over the context's keys and values, and the quotient of the value rows by the row of ones. -/
def outC (X : Vec Ideal S128x4096 .bf16) (K : Vec Ideal S1x256x64 .bf16) (V : Vec Ideal S64x256 .bf16)
    (M : Vec Ideal S16x1x512 .f32) (A : Vec Ideal S16x80x512 .f32) (g : Fin 16) (r : Fin 64) (j : Fin 512) : EReal :=
  Ideal.div (nextA X K V M A (ix3 g ⟨r.val, by omega⟩ j)) (nextA X K V M A (ix3 g 64 j))

/-- `outC` over a block of the result: the rows are the two heads', the columns the queries'. -/
def outB (X : Vec Ideal S128x4096 .bf16) (K : Vec Ideal S1x256x64 .bf16) (V : Vec Ideal S64x256 .bf16)
    (M : Vec Ideal S16x1x512 .f32) (A : Vec Ideal S16x80x512 .f32) : Vec Ideal S128x4096 .bf16 :=
  fun y => outC X K V M A ⟨8 * ((y 0).val / 64) + (y 1).val / 512, by
    have h0 : (y 0).val < 128 := (y 0).isLt
    have h1 : (y 1).val < 4096 := (y 1).isLt
    omega⟩ ⟨(y 0).val % 64, by omega⟩ ⟨(y 1).val % 512, by omega⟩

/-- A group's weighted sums after the context, over any maxima and sums of that group. -/
theorem ctxA (X : Vec Ideal S128x4096 .bf16) (K : Vec Ideal S1x256x64 .bf16) (V : Vec Ideal S64x256 .bf16) (M : Vec Ideal S16x1x512 .f32)
    (A : Vec Ideal S16x80x512 .f32) (g a b : ℕ)
    (ha : a = 64 * (g / 8)) (hb : b = 512 * (g % 8)) (hg : g < 16) (i₁) (m : Vec Ideal S1x1x512 .f32) (z : Vec Ideal S1x80x512 .f32)
    (hm : ∀ x, m x = M (ix3 (⟨g, hg⟩ : Fin 16) 0 (x 2))) (hz : ∀ x, z x = A (ix3 (⟨g, hg⟩ : Fin 16) (x 1) (x 2))) (x : S1x80x512.Idx) :
    k0_pay16 (k0_pay6 V) (k0_pay8 K (View.ld X (Rect.unit ![a, b] ![64, 512] i₁))) m z x
      = nextA X K V M A (ix3 (⟨g, hg⟩ : Fin 16) (x 1) (x 2)) := by
  subst ha hb
  pointwise [k0_pay16, k0_pay6, k0_pay15, k0_pay8, k0_pay14, k0_pay5]
  rw [negInf, hm, hz]
  rfl

/-- One group's part of the result, over any maxima and sums of that group. -/
theorem pieceO (X : Vec Ideal S128x4096 .bf16) (Kc : Vec Ideal S1x256x64 .bf16) (Vc : Vec Ideal S64x256 .bf16) (M : Vec Ideal S16x1x512 .f32)
    (A : Vec Ideal S16x80x512 .f32) (g a b : ℕ)
    (ha : a = 64 * (g / 8)) (hb : b = 512 * (g % 8)) (hg : g < 16) (i₁ i₂ i₃ : _) (m : Vec Ideal S1x1x512 .f32) (z : Vec Ideal S1x80x512 .f32)
    (hm : ∀ x, m x = M ((Rect.unit (s := S16x1x512) ![g, 0, 0] ![1, 1, 512] i₂).emb x))
    (hz : ∀ x, z x = A ((Rect.unit (s := S16x80x512) ![g, 0, 0] ![1, 80, 512] i₃).emb x)) (x : S64x512.Idx) :
    k0_pay2 (k0_pay16 (k0_pay6 Vc) (k0_pay8 Kc (View.ld X (Rect.unit ![a, b] ![64, 512] i₁))) m z) x
      = outB X Kc Vc M A ((Rect.unit (s := S128x4096) ![a, b] ![64, 512] i₁).emb x) := by
  have h := ctxA X Kc Vc M A g a b ha hb hg i₁ m z
    (fun x => (hm x).trans (by rw [embM g hg]; rfl)) (fun x => (hz x).trans (by rw [embA g hg]; rfl))
  pointwise [k0_pay2]
  rw [h, h]
  have e : (Rect.unit (s := S128x4096) ![a, b] ![64, 512] i₁).emb x = ix2 (⟨a + (x 0).val, by idx_bounds x; omega⟩ : Fin 128) (⟨b + (x 1).val, by idx_bounds x; omega⟩ : Fin 4096) := by
    blk_ext
  rw [e]
  unfold outB outC
  have hx0 : (x 0).val < 64 := (x 0).isLt
  have hx1 : (x 1).val < 512 := (x 1).isLt
  congr 3 <;> first | rfl | (ext; simp; omega)
end Cert.KernelIdeal.Flash
end
-- ==== Proof.Flash.Body.lean ====
module
public import proofs.«01_k».proof.Proof.Flash.Unit
/-! What one grid point of the attention kernel leaves: the maxima and the weighted sums of its sixteen groups, and at the
last point of a run the block of the result. -/
@[expose] public section
set_option maxRecDepth 65536
noncomputable section
namespace Cert.KernelIdeal.Flash
open Idealize.ShloMosaic Cert.KernelIdeal Cert.KernelIdeal.Gen

variable (m : (ℓ : Loc nD τ sig) → Buf (Elt Ideal) ℓ) (c : Dev nD)

/-- The maxima at the start of a run. -/
def M₀ : Vec Ideal S16x1x512 .f32 := fun _ => Ideal.ofBits .f32 0xF149F2CA#32

/-- The weighted sums at the start of a run. -/
def A₀ : Vec Ideal S16x80x512 .f32 := fun _ => 0

/-- What the point before a point left. -/
abbrev before (t : Fin cfg0.N) := outsAt0 m c (t.val - 1) (Nat.lt_of_le_of_lt (Nat.sub_le _ _) t.isLt)

/-- The maxima after a point inside a run. -/
theorem maxB (t : Fin cfg0.N) (h0 : ¬t.val % 4 = 0) (h1 : ¬t.val % 4 = 3) :
    (outsAt0 m c t.val t.isLt).2.1 = nextM (X0_0 m c t) (X0_1 m c t) (before m c t).2.1 := by
  rw [outsAt0_B m c t h0 h1]
  frame_open
  simp (disch := decide) only [↓ View.readCov_skip, ↓ View.readCov_cons_toLoadRect, ↓ View.readCov_fill]
  frame_out
  simp only [read_unread_whole]
  unfold before
  generalize (outsAt0 m c (t.val - 1) _).2.1 = M
  funext y
  refine View.canon_append_of_piecesOf (nextM (X0_0 m c t) (X0_1 m c t) M) [] [_, _, _, _, _, _, _, _, _, _, _, _, _, _, _, _] ⟨?_, ?_, ?_, ?_, ?_, ?_, ?_, ?_, ?_, ?_, ?_, ?_, ?_, ?_, ?_, ?_, trivial⟩ y ?_
  iterate 16 exact fun x => pieceM _ _ _ _ _ _ rfl rfl (by decide) _ _ x
  exact View.cover_of_tiledL _ ![1, 1, 512] (by sl_kernel_rfl) y

/-- The weighted sums after a point inside a run. -/
theorem sumB (t : Fin cfg0.N) (h0 : ¬t.val % 4 = 0) (h1 : ¬t.val % 4 = 3) :
    (outsAt0 m c t.val t.isLt).2.2 = nextA (X0_0 m c t) (X0_1 m c t) (X0_2 m c t) (before m c t).2.1 (before m c t).2.2 := by
  rw [outsAt0_B m c t h0 h1]
  frame_open
  simp (disch := decide) only [↓ View.readCov_skip, ↓ View.readCov_cons_toLoadRect, ↓ View.readCov_fill]
  frame_out
  simp only [read_unread_whole]
  unfold before
  generalize (outsAt0 m c (t.val - 1) _).2.1 = M
  generalize (outsAt0 m c (t.val - 1) _).2.2 = A
  funext y
  refine View.canon_append_of_piecesOf (nextA (X0_0 m c t) (X0_1 m c t) (X0_2 m c t) M A) [] [_, _, _, _, _, _, _, _, _, _, _, _, _, _, _, _] ⟨?_, ?_, ?_, ?_, ?_, ?_, ?_, ?_, ?_, ?_, ?_, ?_, ?_, ?_, ?_, ?_, trivial⟩ y ?_
  iterate 16 exact fun x => pieceA _ _ _ _ _ _ _ _ rfl rfl (by decide) _ _ _ x
  exact View.cover_of_tiledL _ ![1, 80, 512] (by sl_kernel_rfl) y

/-- The maxima after the first point of a run. -/
theorem maxA (t : Fin cfg0.N) (h0 : t.val % 4 = 0) (h1 : ¬t.val % 4 = 3) :
    (outsAt0 m c t.val t.isLt).2.1 = nextM (X0_0 m c t) (X0_1 m c t) M₀ := by
  rw [outsAt0_A m c t h0 h1]
  frame_open
  simp (disch := decide) only [↓ View.readCov_skip, ↓ View.readCov_cons_toLoadRect, ↓ View.readCov_fill]
  frame_out
  funext y
  refine View.canon_append_of_piecesOf (nextM (X0_0 m c t) (X0_1 m c t) M₀) [_] [_, _, _, _, _, _, _, _, _, _, _, _, _, _, _, _] ⟨?_, ?_, ?_, ?_, ?_, ?_, ?_, ?_, ?_, ?_, ?_, ?_, ?_, ?_, ?_, ?_, trivial⟩ y ?_
  iterate 16 exact fun x => pieceM _ _ M₀ _ _ _ rfl rfl (by decide) _ _ x
  exact View.cover_of_tiledL _ ![1, 1, 512] (by sl_kernel_rfl) y

/-- The weighted sums after the first point of a run. -/
theorem sumA (t : Fin cfg0.N) (h0 : t.val % 4 = 0) (h1 : ¬t.val % 4 = 3) :
    (outsAt0 m c t.val t.isLt).2.2 = nextA (X0_0 m c t) (X0_1 m c t) (X0_2 m c t) M₀ A₀ := by
  have hz : k0_pay112 (F := Ideal) = A₀ := by
    funext y
    pointwise [k0_pay112]
    rfl
  rw [outsAt0_A m c t h0 h1]
  frame_open
  simp (disch := decide) only [↓ View.readCov_skip, ↓ View.readCov_cons_toLoadRect, ↓ View.readCov_fill]
  frame_out
  rw [hz]
  funext y
  refine View.canon_append_of_piecesOf (nextA (X0_0 m c t) (X0_1 m c t) (X0_2 m c t) M₀ A₀) [_] [_, _, _, _, _, _, _, _, _, _, _, _, _, _, _, _] ⟨?_, ?_, ?_, ?_, ?_, ?_, ?_, ?_, ?_, ?_, ?_, ?_, ?_, ?_, ?_, ?_, trivial⟩ y ?_
  iterate 16 exact fun x => pieceA _ _ _ M₀ _ _ _ _ rfl rfl (by decide) _ _ _ x
  exact View.cover_of_tiledL _ ![1, 80, 512] (by sl_kernel_rfl) y

/-- The part of the result at rows from `a` and columns from `b`. -/
theorem part (t : Fin cfg0.N) (M : Vec Ideal S16x1x512 .f32) (A : Vec Ideal S16x80x512 .f32) (a b : ℕ)
    (ha : a = 64 * ((8 * (a / 64) + b / 512) / 8)) (hb : b = 512 * ((8 * (a / 64) + b / 512) % 8)) (hg : 8 * (a / 64) + b / 512 < 16) (i₁ i₂ i₃ : _)
    (x : S64x512.Idx) :
    k0_pay2 (k0_pay16 (k0_pay6 (iblk m c 4 t)) (k0_pay8 (iblk m c 3 t) (View.ld (X0_0 m c t) (Rect.unit ![a, b] ![64, 512] i₁)))
        (k0_pay126 (k0_pay116 (X0_1 m c t) (View.ld (X0_0 m c t) (Rect.unit ![a, b] ![64, 512] i₁)))
          (View.ld M (Rect.unit ![8 * (a / 64) + b / 512, 0, 0] ![1, 1, 512] i₂)))
        (k0_pay125 (k0_pay114 (X0_2 m c t)) (k0_pay116 (X0_1 m c t) (View.ld (X0_0 m c t) (Rect.unit ![a, b] ![64, 512] i₁)))
          (View.ld M (Rect.unit ![8 * (a / 64) + b / 512, 0, 0] ![1, 1, 512] i₂))
          (View.ld A (Rect.unit ![8 * (a / 64) + b / 512, 0, 0] ![1, 80, 512] i₃)))) x
      = outB (X0_0 m c t) (iblk m c 3 t) (iblk m c 4 t) (nextM (X0_0 m c t) (X0_1 m c t) M)
        (nextA (X0_0 m c t) (X0_1 m c t) (X0_2 m c t) M A) ((Rect.unit (s := S128x4096) ![a, b] ![64, 512] i₁).emb x) :=
  pieceO _ _ _ _ _ _ a b ha hb hg i₁ i₂ i₃ _ _ (fun x => pieceM _ _ M _ a b ha hb hg i₁ i₂ x) (fun x => pieceA _ _ _ M A _ a b ha hb hg i₁ i₂ i₃ x) x

/-- The block of the result that the last point of a run leaves. -/
theorem outLast (t : Fin cfg0.N) (h0 : ¬t.val % 4 = 0) (h1 : t.val % 4 = 3) :
    (outsAt0 m c t.val t.isLt).1 = outB (X0_0 m c t) (iblk m c 3 t) (iblk m c 4 t) (nextM (X0_0 m c t) (X0_1 m c t) (before m c t).2.1)
      (nextA (X0_0 m c t) (X0_1 m c t) (X0_2 m c t) (before m c t).2.1 (before m c t).2.2) := by
  rw [outsAt0_C m c t h0 h1]
  frame_open
  simp (disch := decide) only [↓ View.readCov_skip, ↓ View.readCov_cons_toLoadRect, ↓ View.readCov_fill]
  frame_out
  simp only [read_unread_whole]
  unfold before
  generalize (outsAt0 m c (t.val - 1) _).2.1 = M
  generalize (outsAt0 m c (t.val - 1) _).2.2 = A
  funext y
  refine View.canon_append_of_piecesOf (outB (X0_0 m c t) (iblk m c 3 t) (iblk m c 4 t) (nextM (X0_0 m c t) (X0_1 m c t) M) (nextA (X0_0 m c t) (X0_1 m c t) (X0_2 m c t) M A)) [] [_, _, _, _, _, _, _, _, _, _, _, _, _, _, _, _] ⟨?_, ?_, ?_, ?_, ?_, ?_, ?_, ?_, ?_, ?_, ?_, ?_, ?_, ?_, ?_, ?_, trivial⟩ y ?_
  iterate 16
    on_goal 1 =>
      intro x
      dsimp only
      refine Eq.trans ?_ (part m c t M A _ _ (by decide) (by decide) (by decide) _ (by decide) (by decide) x)
      rfl
  exact View.cover_of_tiledL _ ![64, 512] (by sl_kernel_rfl) y
end Cert.KernelIdeal.Flash
end
-- ==== Proof.Flash.Blocks.lean ====
module
public import proofs.«01_k».proof.Proof.Flash.Body
/-! The blocks a grid point reads, as entries of the arguments. -/
@[expose] public section
set_option maxRecDepth 16384
noncomputable section
namespace Cert.KernelIdeal.Flash
open Idealize.ShloMosaic Idealize.ShloMosaic.TcCoe Cert.KernelIdeal Cert.KernelIdeal.Gen

variable (m : (ℓ : Loc nD τ sig) → Buf (Elt Ideal) ℓ) (c : Dev nD)

/-- The queries, a head's 64 rows after another's. -/
abbrev argQ : Vec Ideal S256x16640 .bf16 := m ((c : Thread nD τ).loc main_arg0)
/-- The keys. -/
abbrev argK : Vec Ideal S2x16640x64 .bf16 := m ((c : Thread nD τ).loc main_arg1)
/-- The values, a head's 64 rows after another's. -/
abbrev argV : Vec Ideal S128x16640 .bf16 := m ((c : Thread nD τ).loc main_arg2)

/-- The block numbers of the five inputs at a grid point. -/
theorem idx : ∀ t : Fin cfg0.N, win0_0.index t = ![t.val / 16, t.val / 4 % 4] ∧ win0_1.index t = ![t.val / 16, t.val % 4, 0]
    ∧ win0_2.index t = ![t.val / 16, t.val % 4] ∧ win0_3.index t = ![t.val / 16, 64, 0] ∧ win0_4.index t = ![t.val / 16, 64] :=
  (by decide +kernel : ∀ t : Fin grid0.N, _)

theorem point_lt (t : Fin cfg0.N) : t.val < 32 := lt_of_lt_of_eq t.isLt N_0

theorem blockQ (t : Fin cfg0.N) (a : Fin 128) (b : Fin 4096) : X0_0 m c t (ix2 a b)
    = argQ m c (ix2 ⟨128 * (t.val / 16) + a.val, by have := point_lt t; omega⟩ ⟨4096 * (t.val / 4 % 4) + b.val, by omega⟩) := by
  have hi := (idx t).1
  unfold X0_0 Pipeline.Window.fill
  rw [dif_pos (moved0_0 t _)]
  blk_ext [iblk, V_main_arg0, hi]

theorem blockK (t : Fin cfg0.N) (k : Fin 4096) (d : Fin 64) : X0_1 m c t (ix3 0 k d)
    = argK m c (ix3 ⟨t.val / 16, by have := point_lt t; omega⟩ ⟨4096 * (t.val % 4) + k.val, by omega⟩ d) := by
  have hi := (idx t).2.1
  unfold X0_1 Pipeline.Window.fill
  rw [dif_pos (moved0_1 t _)]
  blk_ext [iblk, V_main_arg1, hi]

theorem blockV (t : Fin cfg0.N) (r : Fin 64) (k : Fin 4096) : X0_2 m c t (ix2 r k)
    = argV m c (ix2 ⟨64 * (t.val / 16) + r.val, by have := point_lt t; omega⟩ ⟨4096 * (t.val % 4) + k.val, by omega⟩) := by
  have hi := (idx t).2.2.1
  unfold X0_2 Pipeline.Window.fill
  rw [dif_pos (moved0_2 t _)]
  blk_ext [iblk, V_main_arg2, hi]

theorem blockKc (t : Fin cfg0.N) (k : Fin 256) (d : Fin 64) : iblk m c 3 t (ix3 0 k d)
    = argK m c (ix3 ⟨t.val / 16, by have := point_lt t; omega⟩ ⟨16384 + k.val, by omega⟩ d) := by
  have hi := (idx t).2.2.2.1
  blk_ext [iblk, V_main_arg1, hi]

theorem blockVc (t : Fin cfg0.N) (r : Fin 64) (k : Fin 256) : iblk m c 4 t (ix2 r k)
    = argV m c (ix2 ⟨64 * (t.val / 16) + r.val, by have := point_lt t; omega⟩ ⟨16384 + k.val, by omega⟩) := by
  have hi := (idx t).2.2.2.2
  blk_ext [iblk, V_main_arg2, hi]
end Cert.KernelIdeal.Flash
end
-- ==== Proof.Flash.Fold.lean ====
module
public import proofs.«01_k».proof.Proof.Flash.Blocks
/-! The state after the grid points of a run, and the result array, as functions of the arguments. Queries and keys are
real numbers here; the values are any extended reals. -/
@[expose] public section
set_option maxRecDepth 16384
noncomputable section
namespace Cert.KernelIdeal.Flash
open Idealize.ShloMosaic Idealize.ShloMosaic.TcCoe Cert.KernelIdeal Cert.KernelIdeal.Gen

variable (m : (ℓ : Loc nD τ sig) → Buf (Elt Ideal) ℓ) (c : Dev nD)

/-- Every query of the latent columns and every key is a real number. -/
def RealQK : Prop :=
  (∀ (a : Fin 256) (b : Fin 16640), b.val < 16384 → argQ m c (ix2 a b) = (((argQ m c (ix2 a b)).toReal : ℝ) : EReal))
    ∧ ∀ (a : Fin 2) (b : Fin 16640) (d : Fin 64), argK m c (ix3 a b d) = (((argK m c (ix3 a b d)).toReal : ℝ) : EReal)

/-- The score of key `κ` against the query of head `h` at column `q`. -/
def score (h : Fin 4) (q : Fin 16384) (κ : ℕ) : ℝ :=
  if hκ : κ < 16640 then ∑ d : Fin 64, (argK m c (ix3 ⟨h.val / 2, by omega⟩ ⟨κ, hκ⟩ d)).toReal
    * (argQ m c (ix2 ⟨64 * h.val + d.val, by omega⟩ ⟨q.val, by omega⟩)).toReal
  else 0

/-- Row `r` of the values of head `h`'s keys; a row of ones from row 64 on. -/
def val (h : Fin 4) (r : Fin 80) (κ : ℕ) : EReal :=
  if hκ : κ < 16640 then (if hr : r.val < 64 then argV m c (ix2 ⟨64 * (h.val / 2) + r.val, by omega⟩ ⟨κ, hκ⟩) else 1) else 0

/-- The head of a group of a grid point. -/
def headOf (t : Fin cfg0.N) (g : Fin 16) : Fin 4 := ⟨2 * (t.val / 16) + g.val / 8, by have := point_lt t; omega⟩

/-- The query column of a group's column at a grid point. -/
def colOf (t : Fin cfg0.N) (g : Fin 16) (j : Fin 512) : Fin 16384 := ⟨4096 * (t.val / 4 % 4) + (512 * (g.val % 8) + j.val), by omega⟩

variable {m c}

/-- A group's scores over the main keys of a grid point. -/
theorem sc_main (hr : RealQK m c) (t : Fin cfg0.N) (g : Fin 16) (j : Fin 512) (k : Fin 4096) :
    sc (X0_0 m c t) (X0_1 m c t) g j k = (score m c (headOf t g) (colOf t g j) (4096 * (t.val % 4) + k.val) : EReal) := by
  have ht := point_lt t
  unfold sc qat score
  rw [dif_pos (by omega), coe_sum]
  refine Finset.sum_congr rfl fun d _ => ?_
  rw [blockQ, blockK, EReal.coe_mul, hr.2, hr.1 _ _ (by show 4096 * (t.val / 4 % 4) + (512 * (g.val % 8) + j.val) < 16384; omega)]
  rw [show (⟨t.val / 16, by omega⟩ : Fin 2) = ⟨(headOf t g).val / 2, by omega⟩ from Fin.ext (by show t.val / 16 = (2 * (t.val / 16) + g.val / 8) / 2; omega),
    show (⟨128 * (t.val / 16) + (64 * (g.val / 8) + d.val), by omega⟩ : Fin 256) = ⟨64 * (headOf t g).val + d.val, by omega⟩ from
      Fin.ext (by show 128 * (t.val / 16) + (64 * (g.val / 8) + d.val) = 64 * (2 * (t.val / 16) + g.val / 8) + d.val; omega)]
  rfl

/-- A group's scores over the context's keys. -/
theorem sc_ctx (hr : RealQK m c) (t : Fin cfg0.N) (g : Fin 16) (j : Fin 512) (k : Fin 256) :
    sc (X0_0 m c t) (iblk m c 3 t) g j k = (score m c (headOf t g) (colOf t g j) (16384 + k.val) : EReal) := by
  have ht := point_lt t
  unfold sc qat score
  rw [dif_pos (by omega), coe_sum]
  refine Finset.sum_congr rfl fun d _ => ?_
  rw [blockQ, blockKc, EReal.coe_mul, hr.2, hr.1 _ _ (by show 4096 * (t.val / 4 % 4) + (512 * (g.val % 8) + j.val) < 16384; omega)]
  rw [show (⟨t.val / 16, by omega⟩ : Fin 2) = ⟨(headOf t g).val / 2, by omega⟩ from Fin.ext (by show t.val / 16 = (2 * (t.val / 16) + g.val / 8) / 2; omega),
    show (⟨128 * (t.val / 16) + (64 * (g.val / 8) + d.val), by omega⟩ : Fin 256) = ⟨64 * (headOf t g).val + d.val, by omega⟩ from
      Fin.ext (by show 128 * (t.val / 16) + (64 * (g.val / 8) + d.val) = 64 * (2 * (t.val / 16) + g.val / 8) + d.val; omega)]
  rfl

theorem vrow_main (t : Fin cfg0.N) (g : Fin 16) (r : Fin 80) (k : Fin 4096) :
    vrow (X0_2 m c t) r k = val m c (headOf t g) r (4096 * (t.val % 4) + k.val) := by
  have ht := point_lt t
  unfold vrow val
  rw [dif_pos (show 4096 * (t.val % 4) + k.val < 16640 by omega)]
  split
  next hr =>
    rw [blockV, show (⟨64 * (t.val / 16) + r.val, by omega⟩ : Fin 128) = ⟨64 * ((headOf t g).val / 2) + r.val, by omega⟩ from
      Fin.ext (by show 64 * (t.val / 16) + r.val = 64 * ((2 * (t.val / 16) + g.val / 8) / 2) + r.val; omega)]
  next => rfl

theorem vrow_ctx (t : Fin cfg0.N) (g : Fin 16) (r : Fin 80) (k : Fin 256) :
    vrow (iblk m c 4 t) r k = val m c (headOf t g) r (16384 + k.val) := by
  have ht := point_lt t
  unfold vrow val
  rw [dif_pos (show 16384 + k.val < 16640 by omega)]
  split
  next hr =>
    rw [blockVc, show (⟨64 * (t.val / 16) + r.val, by omega⟩ : Fin 128) = ⟨64 * ((headOf t g).val / 2) + r.val, by omega⟩ from
      Fin.ext (by show 64 * (t.val / 16) + r.val = 64 * ((2 * (t.val / 16) + g.val / 8) / 2) + r.val; omega)]
  next => rfl

/-- One grid point's step over its main keys, from any state. -/
theorem step_main (hr : RealQK m c) (t : Fin cfg0.N) (g : Fin 16) (j : Fin 512) (N : ℕ) (hN : N = 4096 * (t.val % 4))
    (M : Vec Ideal S16x1x512 .f32) (A : Vec Ideal S16x80x512 .f32)
    (h : Inv N (score m c (headOf t g) (colOf t g j)) (val m c (headOf t g)) (M (ix3 g 0 j)) (fun r => A (ix3 g r j))) :
    Inv (N + 4096) (score m c (headOf t g) (colOf t g j)) (val m c (headOf t g)) (nextM (X0_0 m c t) (X0_1 m c t) M (ix3 g 0 j))
      (fun r => nextA (X0_0 m c t) (X0_1 m c t) (X0_2 m c t) M A (ix3 g r j)) :=
  h.step (sc (X0_0 m c t) (X0_1 m c t) g j) (vrow (X0_2 m c t)) (fun k => by rw [hN]; exact sc_main hr t g j k)
    (fun r k => by rw [hN]; exact vrow_main t g r k)

/-- The state after a point inside a run: all keys up to the point's block are in. -/
theorem inv (hr : RealQK m c) : ∀ (s : ℕ), s < 3 → ∀ (t : Fin cfg0.N), t.val % 4 = s → ∀ (g : Fin 16) (j : Fin 512),
    Inv (4096 * s + 4096) (score m c (headOf t g) (colOf t g j)) (val m c (headOf t g)) ((outsAt0 m c t.val t.isLt).2.1 (ix3 g 0 j))
      (fun r => (outsAt0 m c t.val t.isLt).2.2 (ix3 g r j)) := by
  intro s
  induction s with
  | zero =>
    intro _ t ht g j
    rw [maxA m c t ht (by omega), sumA m c t ht (by omega)]
    refine step_main hr t g j _ (by omega) M₀ A₀ ?_
    have h := Inv.init (score m c (headOf t g) (colOf t g j)) (val m c (headOf t g)) (-(13234890 * 2 ^ 76))
    have e : M₀ (ix3 g 0 j) = ((-(13234890 * 2 ^ 76) : ℝ) : EReal) := by
      unfold M₀
      simp [Ideal.ofBits, Ideal.ieee]
    rw [e]
    exact h
  | succ s ih =>
    intro hs t ht g j
    rw [maxB m c t (by omega) (by omega), sumB m c t (by omega) (by omega)]
    refine step_main hr t g j _ (by omega) _ _ ?_
    have h := ih (by omega) ⟨t.val - 1, Nat.lt_of_le_of_lt (Nat.sub_le _ _) t.isLt⟩ (by show (t.val - 1) % 4 = s; omega) g j
    have e1 : headOf ⟨t.val - 1, Nat.lt_of_le_of_lt (Nat.sub_le _ _) t.isLt⟩ g = headOf t g := by
      unfold headOf; ext; dsimp only; omega
    have e2 : colOf ⟨t.val - 1, Nat.lt_of_le_of_lt (Nat.sub_le _ _) t.isLt⟩ g j = colOf t g j := by
      unfold colOf; ext; dsimp only; omega
    rw [e1, e2] at h
    exact h

/-- Softmax attention of head `h` at column `q`, row `r` of the values; `μ` is subtracted from the scaled scores. -/
def attn (m : (ℓ : Loc nD τ sig) → Buf (Elt Ideal) ℓ) (c : Dev nD) (h : Fin 4) (q : Fin 16384) (r : Fin 80) (μ : ℝ) : EReal :=
  ∑ κ ∈ Finset.range 16640, val m c h r κ * Ideal.div ((Real.exp (score m c h q κ * Real.log 2 - μ) : ℝ) : EReal)
    (∑ κ ∈ Finset.range 16640, ((Real.exp (score m c h q κ * Real.log 2 - μ) : ℝ) : EReal))

/-- The last point of a run leaves the softmax attention of its heads and columns. -/
theorem last (hr : RealQK m c) (t : Fin cfg0.N) (ht : t.val % 4 = 3) (μ : ℝ) (y : S128x4096.Idx) :
    (outsAt0 m c t.val t.isLt).1 y = attn m c ⟨2 * (t.val / 16) + (y 0).val / 64, by have := point_lt t; have h0 : (y 0).val < 128 := (y 0).isLt; omega⟩
      ⟨4096 * (t.val / 4 % 4) + (y 1).val, by have h1 : (y 1).val < 4096 := (y 1).isLt; omega⟩ ⟨(y 0).val % 64, by omega⟩ μ := by
  have h0 : (y 0).val < 128 := (y 0).isLt
  have h1 : (y 1).val < 4096 := (y 1).isLt
  have htl := point_lt t
  rw [outLast m c t (by omega) ht]
  unfold outB outC
  generalize hg : (⟨8 * ((y 0).val / 64) + (y 1).val / 512, _⟩ : Fin 16) = g
  generalize hj : (⟨(y 1).val % 512, _⟩ : Fin 512) = j
  have eh : (⟨2 * (t.val / 16) + (y 0).val / 64, by omega⟩ : Fin 4) = headOf t g := by
    subst hg; unfold headOf; ext; dsimp only; omega
  have ec : (⟨4096 * (t.val / 4 % 4) + (y 1).val, by omega⟩ : Fin 16384) = colOf t g j := by
    subst hg hj; unfold colOf; ext; dsimp only; omega
  rw [eh, ec]
  have hp := inv hr 2 (by omega) ⟨t.val - 1, Nat.lt_of_le_of_lt (Nat.sub_le _ _) t.isLt⟩ (by show (t.val - 1) % 4 = 2; omega) g j
  have e1 : headOf ⟨t.val - 1, Nat.lt_of_le_of_lt (Nat.sub_le _ _) t.isLt⟩ g = headOf t g := by
    unfold headOf; ext; dsimp only; omega
  have e2 : colOf ⟨t.val - 1, Nat.lt_of_le_of_lt (Nat.sub_le _ _) t.isLt⟩ g j = colOf t g j := by
    unfold colOf; ext; dsimp only; omega
  rw [e1, e2] at hp
  have hm := step_main hr t g j _ (by omega) _ _ hp
  obtain ⟨ν, -, ha⟩ := hm.step (sc (X0_0 m c t) (iblk m c 3 t) g j) (vrow (iblk m c 4 t)) (fun k => sc_ctx hr t g j k) (fun r k => vrow_ctx t g r k)
  refine (congrArg₂ Ideal.div (ha ⟨(y 0).val % 64, by omega⟩) (ha 64)).trans ?_
  have hone : ∀ κ ∈ Finset.range 16640, ((Real.rpow 2 (score m c (headOf t g) (colOf t g j) κ - ν) : ℝ) : EReal) * val m c (headOf t g) 64 κ
      = ((Real.rpow 2 (score m c (headOf t g) (colOf t g j) κ - ν) : ℝ) : EReal) * 1 := by
    intro κ hκ
    unfold val
    rw [dif_pos (Finset.mem_range.mp hκ), dif_neg (by decide)]
  rw [show 4096 * 2 + 4096 + 4096 + 256 = 16640 from rfl, Finset.sum_congr rfl hone]
  exact quotient (by decide) _ _ ν μ

/-- The result array is the softmax attention of the arguments. -/
theorem result (hr : RealQK m c) (i : S256x16384.Idx) (μ : ℝ) :
    Value.G5 m c i = attn m c ⟨(i 0).val / 64, by have h0 : (i 0).val < 256 := (i 0).isLt; omega⟩ (i 1) ⟨(i 0).val % 64, by omega⟩ μ := by
  have h0 : (i 0).val < 256 := (i 0).isLt
  have h1 : (i 1).val < 16384 := (i 1).isLt
  have hp : Value.pt5Of i < cfg0.N := lt_of_lt_of_eq (by show 4 * (4 * ((i 0).val / 128 - 0) + 1 * ((i 1).val / 4096 - 0)) + 3 < 32; omega) N_0.symm
  unfold Value.G5
  rw [dif_pos hp, ← Value.outsAt0_sweep m c _ hp]
  refine (last hr ⟨Value.pt5Of i, hp⟩ (by show (4 * (4 * ((i 0).val / 128 - 0) + 1 * ((i 1).val / 4096 - 0)) + 3) % 4 = 3; omega) μ (Value.loc5Of i)).trans ?_
  congr 1 <;> ext
  · show 2 * ((4 * (4 * ((i 0).val / 128 - 0) + 1 * ((i 1).val / 4096 - 0)) + 3) / 16) + (i 0).val % 128 / 64 = (i 0).val / 64
    omega
  · show 4096 * ((4 * (4 * ((i 0).val / 128 - 0) + 1 * ((i 1).val / 4096 - 0)) + 3) / 4 % 4) + (i 1).val % 4096 = (i 1).val
    omega
  · show (i 0).val % 128 % 64 = (i 0).val % 64
    omega
end Cert.KernelIdeal.Flash
end
-- ==== Proof.Flash.Finite.lean ====
module
public import proofs.«01_k».proof.Pre_finite_qk
public import proofs.«01_k».proof.Proof.Flash.Fold
public import Idealize.ShloMosaic.Lib.ReduceAll
/-! What the precondition says: the queries and the keys are real numbers. -/
@[expose] public section
noncomputable section

/-- The side conditions of the precondition's operations. -/
instance Cert.Pre_finite_qk.sides : Cert.Pre_finite_qk.Facts where
  bitsLt_bf16_f32 := by decide
  slices_S256x16640_S256x16384_0_0 := by decide
  bcast_S_S256x16384 := by decide
  reducesTo_S256x16384_S_d0_1 := by decide
  h_S_ := by decide
  bcast_S_S2x16640x64 := by decide
  reducesTo_S2x16640x64_S_d0_1_2 := by decide

namespace Cert.KernelIdeal.Flash
open Idealize.ShloMosaic Idealize.ShloMosaic.TcCoe Cert.KernelIdeal Cert.KernelIdeal.Gen

theorem posInf : Ideal.ofBits .f32 0x7F800000#32 = ⊤ := by simp [Ideal.ofBits, Ideal.ieee]

/-- An extended real whose absolute value is below infinity is a real number. -/
theorem real_of_abs {x : EReal} (h : FloatOps.cmpf (F := Ideal) (φ := .f32) .olt (FloatOps.absf (F := Ideal) (φ := .f32) x) (⊤ : EReal) = 1#1) :
    x = ((x.toReal : ℝ) : EReal) := by
  have h1 : max x (-x) < ⊤ := by
    by_contra hc
    rw [show FloatOps.cmpf (F := Ideal) (φ := .f32) .olt (FloatOps.absf (F := Ideal) (φ := .f32) x) (⊤ : EReal) = BitVec.ofBool (decide (max x (-x) < ⊤)) from rfl,
      decide_eq_false hc] at h
    exact absurd h (by decide)
  refine (EReal.coe_toReal ?_ ?_).symm
  · rintro rfl
    simp at h1
  · rintro rfl
    simp at h1

/-- The precondition makes every query of the latent columns and every key a real number. -/
theorem real_of_pre (m : (ℓ : Loc nD τ sig) → Buf (Elt Ideal) ℓ) (c : Dev nD)
    (h : Cert.Pre_finite_qk.fn (F := Ideal) (argQ m c) (argK m c) (argV m c) = fun _ => 1#1) : RealQK m c := by
  have h0 := congrFun h fun i => i.elim0
  unfold Cert.Pre_finite_qk.fn at h0
  obtain ⟨hq, hk⟩ := IntOp.andi_eq_one.1 h0
  haveI : Subsingleton Cert.Pre_finite_qk.S_.Idx := ⟨fun a b => funext fun i => i.elim0⟩
  refine ⟨fun a b hb => ?_, fun a b d => ?_⟩
  · have e := Host.reduce_andi_all _ _ _ _ _ hq (ix2 a ⟨b.val, hb⟩)
    pointwise at e
    refine real_of_abs ?_
    rw [← posInf]
    exact e
  · have e := Host.reduce_andi_all _ _ _ _ _ hk (ix3 a b d)
    refine real_of_abs ?_
    rw [← posInf]
    exact e
end Cert.KernelIdeal.Flash
end
-- ==== Proof.Flash.Ref.lean ====
module
public import proofs.«01_k».proof.Proof.Gen.ReferenceIdeal.Run
public import proofs.«01_k».proof.Proof.Flash.Fold
/-! What the reference computes: the softmax attention of the kernel's result. -/
@[expose] public section
set_option maxRecDepth 16384
noncomputable section
namespace Cert.KernelIdeal.Flash
open Idealize.ShloMosaic Idealize.ShloMosaic.TcCoe

section
open Cert.ReferenceIdeal Cert.ReferenceIdeal.Gen

/-- The scaled scores of the reference. -/
def refScores (Q : FVec Ideal S256x16640 .bf16) (K : FVec Ideal S2x16640x64 .bf16) : FVec Ideal S2x2x16384x16640 .f32 :=
  mulf (Host.dotGeneral dot_S2x2x64x16384_S2x16640x64_S2x2x16384x16640_2_2_13_1_0_0 none
      (shapeCast _ (extractStridedSlice S256x16384 ![0, 0] Q slices_S256x16640_S256x16384_0_0) shapeCasts_S256x16384_S2x2x64x16384) K)
    (broadcastInDim S2x2x16384x16640 ![] bcast_S_S2x2x16384x16640 (Host.log (constant S_ .f32 0x40000000#32)))

/-- The row maxima of the scaled scores. -/
def refMax (S : FVec Ideal S2x2x16384x16640 .f32) : FVec Ideal S2x2x16384 .f32 :=
  maximumf (broadcastInDim S2x2x16384 ![] bcast_S_S2x2x16384 (constant S_ .f32 0xFF800000#32))
    (Host.reduce FloatOps.maximumf S (constant S_ .f32 0xFF800000#32) reducesTo_S2x2x16384x16640_S2x2x16384_d3 h_S_)

/-- The exponentials of the reference's softmax. -/
def refExp (S : FVec Ideal S2x2x16384x16640 .f32) : FVec Ideal S2x2x16384x16640 .f32 :=
  Host.exp (subf S (broadcastInDim S2x2x16384x16640 ![0, 1, 2, 3] bcast_S2x2x16384x1_S2x2x16384x16640_0_1_2_3
    (broadcastInDim S2x2x16384x1 ![0, 1, 2] bcast_S2x2x16384_S2x2x16384x1_0_1_2 (refMax S))))

/-- The reference's result from its exponentials. -/
def refOut (E : FVec Ideal S2x2x16384x16640 .f32) (V : FVec Ideal S128x16640 .bf16) : FVec Ideal S256x16384 .bf16 :=
  truncf .bf16 (shapeCast _ (transpose S2x2x64x16384 [0, 2, 1, 3]
    (Host.dotGeneral dot_S2x64x16640_S2x2x16384x16640_S2x64x2x16384_2_3_1_12_0_0 none (shapeCast _ V shapeCasts_S128x16640_S2x64x16640)
      (truncf .bf16 (Host.divf E (broadcastInDim S2x2x16384x16640 ![0, 1, 2, 3] bcast_S2x2x16384x1_S2x2x16384x16640_0_1_2_3
        (broadcastInDim S2x2x16384x1 ![0, 1, 2] bcast_S2x2x16384_S2x2x16384x1_0_1_2
          (Host.reduceAdd E (constant S_ .f32 0x00000000#32) reducesTo_S2x2x16384x16640_S2x2x16384_d3 h_S_)))) bitsLt_bf16_f32))
    transposes_S2x64x2x16384_S2x2x64x16384_0_2_1_3) shapeCasts_S2x2x64x16384_S256x16384) bitsLt_bf16_f32

theorem refScores_at (Q : FVec Ideal S256x16640 .bf16) (K : FVec Ideal S2x16640x64 .bf16) (a b : Fin 2) (q : Fin 16384) (k : Fin 16640) :
    refScores Q K (ix4 a b q k) = (∑ d : Fin 64, Q (ix2 ⟨64 * (2 * a.val + b.val) + d.val, by omega⟩ ⟨q.val, by omega⟩) * K (ix3 a k d))
      * Ideal.log (Ideal.ofBits .f32 0x40000000#32) := by
  unfold refScores
  pointwise
  congr 1
  refine Finset.sum_congr rfl fun d _ => ?_
  rw [show (⟨a.val * 128 + b.val * 64 + d.val, by omega⟩ : Fin 256) = ⟨64 * (2 * a.val + b.val) + d.val, by omega⟩ from
    Fin.ext (by show a.val * 128 + b.val * 64 + d.val = 64 * (2 * a.val + b.val) + d.val; omega)]

/-- The maximum along an axis of an array of real numbers is a real number. -/
theorem hostMax_real {s t u : Shape} {a : Fin s.rank} (x : FVec Ideal s .f32) (z : FVec Ideal u .f32) (h' : s.ReducesTo [a] t) (h : s.Reduces [a] t)
    (hu : 0 < u.numel) (hz : z (Shape.Idx.first hu) = ⊥) (hpos : 0 < s.size a) (j : t.Idx) (hx : ∀ i, ∃ r : ℝ, x i = (r : EReal)) :
    ∃ M : ℝ, Host.reduce FloatOps.maximumf x z h' hu j = (M : EReal) := by
  rw [Host.reduce_eq_fold_single _ x z h' h hu j, hz]
  have h1 : Finset.univ.fold max ⊥ (fun k => x (h.lift j k)) < ⊤ := by
    refine (Finset.fold_max_lt _).mpr ⟨bot_lt_top, fun k _ => ?_⟩
    obtain ⟨r, hr⟩ := hx (h.lift j k)
    rw [hr]
    exact EReal.coe_lt_top _
  have h2 : ⊥ < Finset.univ.fold max ⊥ (fun k => x (h.lift j k)) := by
    refine (Finset.lt_fold_max _).mpr (Or.inr ⟨⟨0, hpos⟩, Finset.mem_univ _, ?_⟩)
    obtain ⟨r, hr⟩ := hx (h.lift j ⟨0, hpos⟩)
    rw [hr]
    exact EReal.bot_lt_coe _
  exact ⟨_, (EReal.coe_toReal h1.ne h2.ne').symm⟩

theorem refMax_real (S : FVec Ideal S2x2x16384x16640 .f32) (j : S2x2x16384.Idx) (hS : ∀ i, ∃ r : ℝ, S i = (r : EReal)) :
    ∃ M : ℝ, refMax S j = (M : EReal) := by
  obtain ⟨M, hM⟩ := hostMax_real S (constant (F := Ideal) S_ .f32 0xFF800000#32) reducesTo_S2x2x16384x16640_S2x2x16384_d3 (by decide) h_S_ negInf (by decide) j hS
  refine ⟨M, ?_⟩
  unfold refMax
  rw [maximumf_apply, hM]
  have hb : broadcastInDim S2x2x16384 ![] bcast_S_S2x2x16384 (constant (F := Ideal) S_ .f32 0xFF800000#32) j = ⊥ := negInf
  rw [hb]
  exact max_eq_right bot_le

theorem refExp_at (S : FVec Ideal S2x2x16384x16640 .f32) (a b : Fin 2) (q : Fin 16384) (k : Fin 16640) :
    refExp S (ix4 a b q k) = Ideal.exp (S (ix4 a b q k) - refMax S (ix3 a b q)) := by
  unfold refExp
  pointwise

theorem refOut_at (E : FVec Ideal S2x2x16384x16640 .f32) (V : FVec Ideal S128x16640 .bf16) (i : S256x16384.Idx) (w : EReal)
    (hw : (∑ x : Fin 16640, V (ix2 ⟨(i 0).val / 128 * 64 + (i 0).val % 64, by have h : (i 0).val < 256 := (i 0).isLt; omega⟩ x)
      * Ideal.div (E (ix4 ⟨(i 0).val / 128, by have h : (i 0).val < 256 := (i 0).isLt; omega⟩ ⟨(i 0).val / 64 % 2, by omega⟩ (i 1) x))
        (∑ y : Fin 16640, E (ix4 ⟨(i 0).val / 128, by have h : (i 0).val < 256 := (i 0).isLt; omega⟩ ⟨(i 0).val / 64 % 2, by omega⟩ (i 1) y))) = w) :
    refOut E V i = w := by
  unfold refOut
  pointwise
  exact hw

theorem log_two : Ideal.log (Ideal.ofBits .f32 0x40000000#32) = ((Real.log 2 : ℝ) : EReal) := by
  have e : Ideal.ofBits .f32 0x40000000#32 = ((2 : ℝ) : EReal) := by
    simp [Ideal.ofBits, Ideal.ieee]
    rw [← EReal.coe_mul]
    norm_num
  rw [e]
  show (if (2 : ℝ) ≤ 0 then ⊥ else ((Real.log 2 : ℝ) : EReal)) = _
  rw [if_neg (by norm_num)]
end

variable (m : (ℓ : Loc Cert.KernelIdeal.nD Cert.KernelIdeal.τ Cert.KernelIdeal.sig) → Buf (Elt Ideal) ℓ) (c : Dev Cert.KernelIdeal.nD)

theorem refScores_real (hr : RealQK m c) (a b : Fin 2) (q : Fin 16384) (k : Fin 16640) :
    refScores (argQ m c) (argK m c) (ix4 a b q k)
      = ((score m c ⟨2 * a.val + b.val, by omega⟩ q k.val * Real.log 2 : ℝ) : EReal) := by
  rw [refScores_at, log_two, EReal.coe_mul]
  congr 1
  unfold score
  rw [dif_pos k.isLt, coe_sum]
  refine Finset.sum_congr rfl fun d _ => ?_
  rw [EReal.coe_mul, mul_comm, ← hr.1 _ _ q.isLt, ← hr.2]
  rw [show (⟨(2 * a.val + b.val) / 2, by omega⟩ : Fin 2) = a from Fin.ext (by show (2 * a.val + b.val) / 2 = a.val; omega)]

/-- The reference's exponentials at the head and column whose maximum is `μ`. -/
theorem refExp_real (hr : RealQK m c) (a b : Fin 2) (q : Fin 16384) (k : Fin 16640) (h : Fin 4) (hh : 2 * a.val + b.val = h.val) (μ : ℝ)
    (hμ : refMax (refScores (argQ m c) (argK m c)) (ix3 a b q) = (μ : EReal)) :
    refExp (refScores (argQ m c) (argK m c)) (ix4 a b q k) = ((Real.exp (score m c h q k.val * Real.log 2 - μ) : ℝ) : EReal) := by
  rw [refExp_at, refScores_real m c hr, hμ, ← EReal.coe_sub, show (⟨2 * a.val + b.val, by omega⟩ : Fin 4) = h from Fin.ext hh]
  rfl

/-- The softmax attention as sums over the 16640 keys. -/
theorem attn_fin (h : Fin 4) (q : Fin 16384) (r : Fin 80) (hr : r.val < 64) (μ : ℝ) (n : ℕ) (hn : n = 64 * (h.val / 2) + r.val) (hn' : n < 128) :
    attn m c h q r μ = ∑ k : Fin 16640, argV m c (ix2 ⟨n, hn'⟩ k) * Ideal.div ((Real.exp (score m c h q k.val * Real.log 2 - μ) : ℝ) : EReal)
      (∑ y : Fin 16640, ((Real.exp (score m c h q y.val * Real.log 2 - μ) : ℝ) : EReal)) := by
  subst hn
  unfold attn
  rw [Finset.sum_range, Finset.sum_range]
  refine Finset.sum_congr rfl fun k _ => ?_
  unfold val
  rw [dif_pos k.isLt, dif_pos hr]

/-- The reference's result is the softmax attention of the arguments, for some number subtracted from the scores. -/
theorem ref_value (hr : RealQK m c) (i : Cert.ReferenceIdeal.S256x16384.Idx) :
    ∃ μ : ℝ, refOut (refExp (refScores (argQ m c) (argK m c))) (argV m c) i
      = attn m c ⟨(i 0).val / 64, by have h0 : (i 0).val < 256 := (i 0).isLt; omega⟩ (i 1) ⟨(i 0).val % 64, by omega⟩ μ := by
  have h0 : (i 0).val < 256 := (i 0).isLt
  have hS : ∀ j, ∃ r : ℝ, refScores (argQ m c) (argK m c) j = (r : EReal) := fun j => by
    obtain ⟨a, b, q, k, rfl⟩ : ∃ (a b : Fin 2) (q : Fin 16384) (k : Fin 16640), j = ix4 a b q k := ⟨j 0, j 1, j 2, j 3, by blk_ext⟩
    exact ⟨_, refScores_real m c hr a b q k⟩
  obtain ⟨μ, hμ⟩ := refMax_real _ (ix3 (⟨(i 0).val / 128, by omega⟩ : Fin 2) (⟨(i 0).val / 64 % 2, by omega⟩ : Fin 2) (i 1 : Fin 16384)) hS
  refine ⟨μ, refOut_at _ _ i _ ?_⟩
  rw [attn_fin m c ⟨(i 0).val / 64, by omega⟩ (i 1) ⟨(i 0).val % 64, by omega⟩ (by show (i 0).val % 64 < 64; omega) μ ((i 0).val / 128 * 64 + (i 0).val % 64)
    (by show (i 0).val / 128 * 64 + (i 0).val % 64 = 64 * ((i 0).val / 64 / 2) + (i 0).val % 64; omega) (by omega)]
  have hE := fun k : Fin 16640 => refExp_real m c hr ⟨(i 0).val / 128, by omega⟩ ⟨(i 0).val / 64 % 2, by omega⟩ (i 1) k ⟨(i 0).val / 64, by omega⟩
    (by show 2 * ((i 0).val / 128) + (i 0).val / 64 % 2 = (i 0).val / 64; omega) μ hμ
  exact Finset.sum_congr rfl fun k _ => congrArg (argV m c (ix2 _ k) * ·) (congrArg₂ Ideal.div (hE k) (Finset.sum_congr rfl fun y _ => hE y))
end Cert.KernelIdeal.Flash
end
-- ==== Proof.Post.Rows.lean ====
module
public import Idealize.ShloMosaic.PureOps.Ideal
/-! What becomes of one row of the layer after the mixers: the gated unit, the output projection, the norms and the MLP,
over the extended reals. -/
@[expose] public section
noncomputable section
namespace Cert.Post
open Idealize.ShloMosaic

/-- The number that a 32-bit float word stands for. -/
abbrev lit (w : BitVec 32) : EReal := Ideal.ofBits .f32 w

/-- The gelu with the hyperbolic tangent. -/
def gelu (x : EReal) : EReal :=
  lit 0x3F000000#32 * x * (1 + Ideal.tanh (lit 0x3F4C422A#32 * (x + lit 0x3D372713#32 * (x * x * x))))

/-- The gated unit of a row. -/
def gated (s : Fin 256 → EReal) (W : Fin 256 → Fin 256 → EReal) (b : Fin 256 → EReal) (j : Fin 256) : EReal :=
  gelu (s j) * Ideal.logistic ((∑ k, gelu (s k) * W k j) + b j)

/-- The four groups of a row, one after another. -/
def joined (a b c d : Fin 256 → EReal) (k : Fin 1024) : EReal :=
  if h : k.val < 256 then a ⟨k.val, h⟩ else if h : k.val < 512 then b ⟨k.val - 256, by omega⟩
  else if h : k.val < 768 then c ⟨k.val - 512, by omega⟩ else d ⟨k.val - 768, by omega⟩

/-- The root-mean-square norm of a row, with a gain. -/
def norm (x g : Fin 1024 → EReal) (j : Fin 1024) : EReal :=
  x j * Ideal.rsqrt (Ideal.div (∑ k, x k * x k) (lit 0x44800000#32) + lit 0x358637BD#32) * g j

/-- The product of a row with a matrix. -/
def prod {n p : ℕ} (x : Fin n → EReal) (W : Fin n → Fin p → EReal) (j : Fin p) : EReal := ∑ k, x k * W k j

/-- The row after the mixers' residual. -/
def mixed (x m o g : Fin 1024 → EReal) (j : Fin 1024) : EReal := x j + m j * norm o g j

/-- The modulated norm that enters the MLP. -/
def modulated (x shift scale g : Fin 1024 → EReal) (j : Fin 1024) : EReal :=
  norm x g j * (1 + scale j) + shift j

/-- The squared positive part. -/
def square (x : EReal) : EReal := max x 0 * max x 0

/-- The MLP of a row. -/
def mlp (h : Fin 1024 → EReal) (W₁ : Fin 1024 → Fin 4096 → EReal) (W₂ : Fin 4096 → Fin 1024 → EReal) : Fin 1024 → EReal :=
  prod (fun k => square (prod h W₁ k)) W₂

/-- The result of a row, from its residual, its modulation, the joined groups and the weights. -/
def row (x : Fin 1024 → EReal) (m : Fin 6 → Fin 1024 → EReal) (u : Fin 1024 → EReal) (Wo : Fin 1024 → Fin 1024 → EReal)
    (g₁ g₂ g₃ : Fin 1024 → EReal) (W₁ : Fin 1024 → Fin 4096 → EReal) (W₂ : Fin 4096 → Fin 1024 → EReal) : Fin 1024 → EReal :=
  let y := mixed x (m 2) (prod u Wo) g₁
  mixed y (m 5) (mlp (modulated y (m 3) (m 4) g₂) W₁ W₂) g₃

/-- A sum over 1024 indices is the sum of its four quarters. -/
theorem sum_quarters (f : Fin 1024 → EReal) :
    ∑ k, f k = (∑ k : Fin 256, f ⟨k.val, by omega⟩) + (∑ k : Fin 256, f ⟨256 + k.val, by omega⟩)
      + (∑ k : Fin 256, f ⟨512 + k.val, by omega⟩) + ∑ k : Fin 256, f ⟨768 + k.val, by omega⟩ := by
  have h1 := Fin.sum_univ_add (a := 768) (b := 256) f
  have h2 := Fin.sum_univ_add (a := 512) (b := 256) fun k => f (Fin.castAdd 256 k)
  have h3 := Fin.sum_univ_add (a := 256) (b := 256) fun k => f (Fin.castAdd 256 (Fin.castAdd 256 k))
  rw [h1, h2, h3]
  rfl

/-- The product of the joined groups with a matrix is the sum of four products. -/
theorem prod_joined (a b c d : Fin 256 → EReal) (W : Fin 1024 → Fin 1024 → EReal) (j : Fin 1024) :
    prod (joined a b c d) W j = (∑ k : Fin 256, a k * W ⟨k.val, by omega⟩ j) + (∑ k : Fin 256, b k * W ⟨256 + k.val, by omega⟩ j)
      + (∑ k : Fin 256, c k * W ⟨512 + k.val, by omega⟩ j) + ∑ k : Fin 256, d k * W ⟨768 + k.val, by omega⟩ j := by
  unfold prod
  rw [sum_quarters]
  have ha (k : Fin 256) : joined a b c d ⟨k.val, by omega⟩ = a k := by
    unfold joined
    rw [dif_pos (show k.val < 256 by omega)]
  have hb (k : Fin 256) : joined a b c d ⟨256 + k.val, by omega⟩ = b k := by
    unfold joined
    rw [dif_neg (show ¬256 + k.val < 256 by omega), dif_pos (show 256 + k.val < 512 by omega)]
    exact congrArg b (Fin.ext (Nat.add_sub_cancel_left _ _))
  have hc (k : Fin 256) : joined a b c d ⟨512 + k.val, by omega⟩ = c k := by
    unfold joined
    rw [dif_neg (show ¬512 + k.val < 256 by omega), dif_neg (show ¬512 + k.val < 512 by omega), dif_pos (show 512 + k.val < 768 by omega)]
    exact congrArg c (Fin.ext (Nat.add_sub_cancel_left _ _))
  have hd (k : Fin 256) : joined a b c d ⟨768 + k.val, by omega⟩ = d k := by
    unfold joined
    rw [dif_neg (show ¬768 + k.val < 256 by omega), dif_neg (show ¬768 + k.val < 512 by omega), dif_neg (show ¬768 + k.val < 768 by omega)]
    exact congrArg d (Fin.ext (Nat.add_sub_cancel_left _ _))
  simp only [ha, hb, hc, hd]
end Cert.Post
end
-- ==== Proof.Post.Body.lean ====
module
public import proofs.«01_k».proof.Proof.Gen.Kernel2Ideal.Value
public import proofs.«01_k».proof.Proof.Post.Rows
public import Idealize.ShloMosaic.Lib.Pipeline.ValueKit
public import Idealize.ShloMosaic.Lib.Pipeline.ReadBack
public import Idealize.ShloMosaic.Lib.Pointwise
/-! What the body of the call after the mixers computes at one row of its block. -/
@[expose] public section
set_option maxRecDepth 16384
noncomputable section
namespace Cert.Kernel2Ideal.Post
open Idealize.ShloMosaic Cert.Kernel2Ideal Cert.Kernel2Ideal.Gen Cert.Post

theorem pay3_at (s : Vec Ideal S256x256 .f32) (W : Vec Ideal S256x256 .bf16) (b : Vec Ideal S1x256 .f32) (r k : Fin 256) :
    k0_pay3 s W b (ix2 r k) = gated (fun k => s (ix2 r k)) (fun k j => W (ix2 k j)) (fun k => b (ix2 0 k)) k := by
  pointwise [k0_pay3]
  rfl

theorem pay6_at (v : FVec Ideal S6x1024 .f32) (s h a : FVec Ideal S256x256 .f32) (w₀ w₁ w₂ w₃ : Vec Ideal S256x1024 .bf16)
    (p : Vec Ideal S256x256 .f32) (x : Vec Ideal S256x1024 .f32) (g : Vec Ideal S1x1024 .f32) (r : Fin 256) (j : Fin 1024) :
    k0_pay6 v s h a w₀ w₁ p w₂ w₃ x g (ix2 r j) = mixed (fun j => x (ix2 r j)) (fun j => v (ix2 2 j))
      (fun j => (∑ k, h (ix2 r k) * w₀ (ix2 k j)) + (∑ k, s (ix2 r k) * w₁ (ix2 k j)) + (∑ k, p (ix2 r k) * w₂ (ix2 k j)) + ∑ k, a (ix2 r k) * w₃ (ix2 k j))
      (fun j => g (ix2 0 j)) j := by
  pointwise [k0_pay6]
  rfl

theorem pay7_at (v : FVec Ideal S6x1024 .f32) (x : FVec Ideal S256x1024 .f32) (g : Vec Ideal S1x1024 .f32) (W₁ : Vec Ideal S1024x4096 .bf16)
    (W₂ : Vec Ideal S4096x1024 .bf16) (r : Fin 256) (j : Fin 1024) :
    k0_pay7 v x g W₁ W₂ (ix2 r j) = mlp (modulated (fun j => x (ix2 r j)) (fun j => v (ix2 3 j)) (fun j => v (ix2 4 j)) (fun j => g (ix2 0 j)))
      (fun k j => W₁ (ix2 k j)) (fun k j => W₂ (ix2 k j)) j := by
  pointwise [k0_pay7]
  rfl

theorem pay1_at (v : FVec Ideal S6x1024 .f32) (x : FVec Ideal S256x1024 .f32) (g g' : Vec Ideal S1x1024 .f32) (W₁ : Vec Ideal S1024x4096 .bf16)
    (W₂ : Vec Ideal S4096x1024 .bf16) (r : Fin 256) (j : Fin 1024) :
    k0_pay1 x (k0_pay7 v x g W₁ W₂) (k0_pay8 v) (k0_pay9 g') (k0_pay10 v x g W₁ W₂) (ix2 r j)
      = mixed (fun j => x (ix2 r j)) (fun j => v (ix2 5 j)) (fun j => k0_pay7 v x g W₁ W₂ (ix2 r j)) (fun j => g' (ix2 0 j)) j := by
  pointwise [k0_pay1, k0_pay8, k0_pay9, k0_pay10]
  rfl

theorem pay2_at (x : Vec Ideal S1x6x1024 .f32) (n : Fin 6) (j : Fin 1024) : k0_pay2 x (ix2 n j) = x (ix3 0 n j) := by
  pointwise [k0_pay2]

/-- The comparison of a grid point's number with 64. -/
theorem isCtx (n : ℕ) (h : n < 65) : Scalar.cmpi .sge (BitVec.ofNat 32 n) 64#32 = if 64 ≤ n then 1#1 else 0#1 := by
  have key : ∀ n : Fin 65, Scalar.cmpi .sge (BitVec.ofNat 32 n.val) 64#32 = if 64 ≤ n.val then 1#1 else 0#1 := by decide
  exact key ⟨n, h⟩

theorem pay4_at (i : grid0.Coords) (a b : Vec Ideal S256x256 .f32) (r k : Fin 256) :
    k0_pay4 i a b (ix2 r k) = if 64 ≤ (i 0).val then a (ix2 r k) else b (ix2 r k) := by
  unfold k0_pay4
  dsimp only
  rw [isCtx _ (i 0).isLt]
  split <;> rfl

theorem pay5_at (i : grid0.Coords) (a b : Vec Ideal S256x256 .bf16) (r k : Fin 256) :
    k0_pay5 i a b (ix2 r k) = if 64 ≤ (i 0).val then a (ix2 k r) else b (ix2 k r) := by
  unfold k0_pay5
  dsimp only
  rw [isCtx _ (i 0).isLt]
  split
  · show transpose S256x256 [1, 0] (extf (F := Ideal) .f32 a bitsLt_bf16_f32) transposes_S256x256_p1_0_S256x256 (ix2 r k) = _
    pointwise
  · show transpose S256x256 [1, 0] (extf (F := Ideal) .f32 b bitsLt_bf16_f32) transposes_S256x256_p1_0_S256x256 (ix2 r k) = _
    pointwise

/-- The four products with the quarters of the output weights are the product of the joined row. -/
theorem quarters (w : Vec Ideal S1024x1024 .bf16) (a b c d : Fin 256 → EReal) :
    (fun j : Fin 1024 => ∑ k, a k * View.ld w r0_3 (ix2 k j) + ∑ k, b k * View.ld w r0_4 (ix2 k j)
      + ∑ k, c k * View.ld w r0_5 (ix2 k j) + ∑ k, d k * View.ld w r0_6 (ix2 k j))
      = prod (joined a b c d) fun k j => w (ix2 k j) := by
  funext j
  rw [prod_joined]
  have h₀ (k : Fin 256) : View.ld w r0_3 (ix2 k j) = w (ix2 ⟨k.val, by omega⟩ j) := by
    rw [View.ld_apply]
    exact congrArg w (funext fun x => by fin_cases x <;> apply Fin.ext <;> simp)
  have h₁ (k : Fin 256) : View.ld w r0_4 (ix2 k j) = w (ix2 ⟨256 + k.val, by omega⟩ j) := by
    rw [View.ld_apply]
    exact congrArg w (funext fun x => by fin_cases x <;> apply Fin.ext <;> simp)
  have h₂ (k : Fin 256) : View.ld w r0_5 (ix2 k j) = w (ix2 ⟨512 + k.val, by omega⟩ j) := by
    rw [View.ld_apply]
    exact congrArg w (funext fun x => by fin_cases x <;> apply Fin.ext <;> simp)
  have h₃ (k : Fin 256) : View.ld w r0_6 (ix2 k j) = w (ix2 ⟨768 + k.val, by omega⟩ j) := by
    rw [View.ld_apply]
    exact congrArg w (funext fun x => by fin_cases x <;> apply Fin.ext <;> simp)
  simp only [h₀, h₁, h₂, h₃]

/-- Row `r` of the block that a grid point leaves is the layer's row from that row of the blocks. -/
theorem out_at (i : grid0.Coords) (x0 : Vec Ideal S256x1024 .f32) (x1 : Vec Ideal S1x6x1024 .f32) (x2 x3 x4 x5 : Vec Ideal S256x256 .f32)
    (x6 x7 x8 : Vec Ideal S256x256 .bf16) (x9 : Vec Ideal S1x256 .f32) (x10 : Vec Ideal S1024x1024 .bf16) (x11 x12 x13 : Vec Ideal S1x1024 .f32)
    (x14 : Vec Ideal S1024x4096 .bf16) (x15 : Vec Ideal S4096x1024 .bf16) (r : Fin 256) (j : Fin 1024) :
    out0_16 i x0 x1 x2 x3 x4 x5 x6 x7 x8 x9 x10 x11 x12 x13 x14 x15 (ix2 r j)
      = row (fun j => x0 (ix2 r j)) (fun n j => x1 (ix3 0 n j))
        (joined (fun k => if 64 ≤ (i 0).val then x3 (ix2 r k) else x2 (ix2 r k))
          (gated (fun k => x4 (ix2 r k)) (fun k j => x8 (ix2 k j)) (fun k => x9 (ix2 0 k))) (fun k => x5 (ix2 r k))
          (fun k => if 64 ≤ (i 0).val then x7 (ix2 k r) else x6 (ix2 k r)))
        (fun k j => x10 (ix2 k j)) (fun j => x11 (ix2 0 j)) (fun j => x12 (ix2 0 j)) (fun j => x13 (ix2 0 j))
        (fun k j => x14 (ix2 k j)) (fun k j => x15 (ix2 k j)) j := by
  unfold_out out0_16
  frame_out
  rw [pay1_at]
  simp only [pay7_at, pay6_at, pay3_at, pay4_at, pay5_at, pay2_at]
  simp only [quarters]
  rfl
end Cert.Kernel2Ideal.Post
end
-- ==== Proof.Post.Blocks.lean ====
module
public import proofs.«01_k».proof.Proof.Post.Body
/-! The blocks that a grid point of the output projection and MLP reads, as entries of the arguments. -/
@[expose] public section
set_option maxRecDepth 16384
noncomputable section
namespace Cert.Kernel2Ideal.Post
open Idealize.ShloMosaic Idealize.ShloMosaic.TcCoe Cert.Kernel2Ideal Cert.Kernel2Ideal.Gen

variable (m : (ℓ : Loc nD τ sig) → Buf (Elt Ideal) ℓ) (c : Dev nD)

/-- The layer's rows. -/
abbrev argX : Vec Ideal S16640x1024 .f32 := m ((c : Thread nD τ).loc main_arg0)
/-- The modulation of the two streams. -/
abbrev argM : Vec Ideal S2x6x1024 .f32 := m ((c : Thread nD τ).loc main_arg1)
/-- The first mixer's latent rows. -/
abbrev argHl : Vec Ideal S16384x256 .f32 := m ((c : Thread nD τ).loc main_arg2)
/-- The first mixer's context rows. -/
abbrev argHc : Vec Ideal S256x256 .f32 := m ((c : Thread nD τ).loc main_arg3)
/-- The second mixer's rows, not yet gated. -/
abbrev argS : Vec Ideal S16640x256 .f32 := m ((c : Thread nD τ).loc main_arg4)
/-- The third mixer's rows. -/
abbrev argP : Vec Ideal S16640x256 .f32 := m ((c : Thread nD τ).loc main_arg5)
/-- The attention of the latent rows, transposed. -/
abbrev argAl : Vec Ideal S256x16384 .bf16 := m ((c : Thread nD τ).loc main_arg6)
/-- The attention of the context rows, transposed. -/
abbrev argAc : Vec Ideal S256x256 .bf16 := m ((c : Thread nD τ).loc main_arg7)
/-- The gate's weights. -/
abbrev argG : Vec Ideal S256x256 .f32 := m ((c : Thread nD τ).loc main_arg8)
/-- The gate's bias. -/
abbrev argB : Vec Ideal S256 .f32 := m ((c : Thread nD τ).loc main_arg9)
/-- The output weights. -/
abbrev argO : Vec Ideal S1024x1024 .f32 := m ((c : Thread nD τ).loc main_arg10)
/-- The weights of the norm after the mixers. -/
abbrev argN₁ : Vec Ideal S1024 .f32 := m ((c : Thread nD τ).loc main_arg11)
/-- The weights of the norm before the MLP. -/
abbrev argN₂ : Vec Ideal S1024 .f32 := m ((c : Thread nD τ).loc main_arg12)
/-- The weights of the norm after the MLP. -/
abbrev argN₃ : Vec Ideal S1024 .f32 := m ((c : Thread nD τ).loc main_arg13)
/-- The MLP's first weights. -/
abbrev argW₁ : Vec Ideal S1024x4096 .f32 := m ((c : Thread nD τ).loc main_arg14)
/-- The MLP's second weights. -/
abbrev argW₂ : Vec Ideal S4096x1024 .f32 := m ((c : Thread nD τ).loc main_arg15)

theorem point_lt (t : Fin cfg0.N) : t.val < 65 := lt_of_lt_of_eq t.isLt N_0

/-- A point's one coordinate is its number. -/
theorem coord : ∀ t : Fin cfg0.N, (grid0.coords t 0).val = t.val := (by decide +kernel : ∀ t : Fin grid0.N, _)

/-- The block numbers of the inputs that move with the grid point. -/
theorem idx : ∀ t : Fin cfg0.N, win0_0.index t = ![t.val, 0] ∧ win0_1.index t = ![t.val / 64, 0, 0] ∧ win0_2.index t = ![min t.val 63, 0]
    ∧ win0_4.index t = ![t.val, 0] ∧ win0_5.index t = ![t.val, 0] ∧ win0_6.index t = ![0, min t.val 63] :=
  (by decide +kernel : ∀ t : Fin grid0.N, _)

/-- The inputs that stay are read at block zero. -/
theorem idx_const : ∀ t : Fin cfg0.N, win0_3.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![0, 0]
    ∧ win0_14.index t = ![0, 0] ∧ win0_15.index t = ![0, 0] :=
  (by decide +kernel : ∀ t : Fin grid0.N, _)

theorem block0 (t : Fin cfg0.N) (r : Fin 256) (j : Fin 1024) :
    iblk m c 0 t (ix2 r j) = argX m c (ix2 ⟨256 * t.val + r.val, by have := point_lt t; omega⟩ j) := by
  have hi := (idx t).1
  blk_ext [iblk, V_main_arg0, hi]

theorem block1 (t : Fin cfg0.N) (n : Fin 6) (j : Fin 1024) :
    iblk m c 1 t (ix3 0 n j) = argM m c (ix3 ⟨t.val / 64, by have := point_lt t; omega⟩ n j) := by
  have hi := (idx t).2.1
  blk_ext [iblk, V_main_arg1, hi]

theorem block2 (t : Fin cfg0.N) (r k : Fin 256) :
    iblk m c 2 t (ix2 r k) = argHl m c (ix2 ⟨256 * min t.val 63 + r.val, by omega⟩ k) := by
  have hi := (idx t).2.2.1
  blk_ext [iblk, V_main_arg2, hi]

theorem block3 (t : Fin cfg0.N) (r k : Fin 256) : iblk m c 3 t (ix2 r k) = argHc m c (ix2 r k) := by
  have hi := (idx_const t).1
  blk_ext [iblk, V_main_arg3, hi]

theorem block4 (t : Fin cfg0.N) (r k : Fin 256) :
    iblk m c 4 t (ix2 r k) = argS m c (ix2 ⟨256 * t.val + r.val, by have := point_lt t; omega⟩ k) := by
  have hi := (idx t).2.2.2.1
  blk_ext [iblk, V_main_arg4, hi]

theorem block5 (t : Fin cfg0.N) (r k : Fin 256) :
    iblk m c 5 t (ix2 r k) = argP m c (ix2 ⟨256 * t.val + r.val, by have := point_lt t; omega⟩ k) := by
  have hi := (idx t).2.2.2.2.1
  blk_ext [iblk, V_main_arg5, hi]

theorem block6 (t : Fin cfg0.N) (k r : Fin 256) :
    iblk m c 6 t (ix2 k r) = argAl m c (ix2 k ⟨256 * min t.val 63 + r.val, by omega⟩) := by
  have hi := (idx t).2.2.2.2.2
  blk_ext [iblk, V_main_arg6, hi]

theorem block7 (t : Fin cfg0.N) (k r : Fin 256) : iblk m c 7 t (ix2 k r) = argAc m c (ix2 k r) := by
  have hi := (idx_const t).2.1
  blk_ext [iblk, V_main_arg7, hi]

/-- The arrays the host makes of the weights hold the weights. -/
theorem made0 : V m c main_v0 = (argG m c : Vec Ideal S256x256 .f32) := by
  unfold_abbrev_sides
  after_results
  rfl

theorem made2 : V m c main_v2 = (argO m c : Vec Ideal S1024x1024 .f32) := by
  unfold_abbrev_sides
  after_results
  rfl

theorem made6 : V m c main_v6 = (argW₁ m c : Vec Ideal S1024x4096 .f32) := by
  unfold_abbrev_sides
  after_results
  rfl

theorem made7 : V m c main_v7 = (argW₂ m c : Vec Ideal S4096x1024 .f32) := by
  unfold_abbrev_sides
  after_results
  rfl

theorem made1 (k : Fin 256) : (V m c main_v1 : Vec Ideal S1x256 .f32) (ix2 0 k) = argB m c (ix1 k) := by
  unfold_abbrev_sides
  after_results
  pointwise

theorem made3 (k : Fin 1024) : (V m c main_v3 : Vec Ideal S1x1024 .f32) (ix2 0 k) = argN₁ m c (ix1 k) := by
  unfold_abbrev_sides
  after_results
  pointwise

theorem made4 (k : Fin 1024) : (V m c main_v4 : Vec Ideal S1x1024 .f32) (ix2 0 k) = argN₂ m c (ix1 k) := by
  unfold_abbrev_sides
  after_results
  pointwise

theorem made5 (k : Fin 1024) : (V m c main_v5 : Vec Ideal S1x1024 .f32) (ix2 0 k) = argN₃ m c (ix1 k) := by
  unfold_abbrev_sides
  after_results
  pointwise

theorem block8 (t : Fin cfg0.N) (k : Fin 256) (j : Fin 256) : iblk m c 8 t (ix2 k j) = argG m c (ix2 k j) := by
  have hi := (idx_const t).2.2.1
  blk_ext [iblk, made0, hi]

theorem block10 (t : Fin cfg0.N) (k : Fin 1024) (j : Fin 1024) : iblk m c 10 t (ix2 k j) = argO m c (ix2 k j) := by
  have hi := (idx_const t).2.2.2.2.1
  blk_ext [iblk, made2, hi]

theorem block14 (t : Fin cfg0.N) (k : Fin 1024) (j : Fin 4096) : iblk m c 14 t (ix2 k j) = argW₁ m c (ix2 k j) := by
  have hi := (idx_const t).2.2.2.2.2.2.2.2.1
  blk_ext [iblk, made6, hi]

theorem block15 (t : Fin cfg0.N) (k : Fin 4096) (j : Fin 1024) : iblk m c 15 t (ix2 k j) = argW₂ m c (ix2 k j) := by
  have hi := (idx_const t).2.2.2.2.2.2.2.2.2
  blk_ext [iblk, made7, hi]

theorem block9 (t : Fin cfg0.N) (k : Fin 256) : iblk m c 9 t (ix2 0 k) = argB m c (ix1 k) := by
  have hi := (idx_const t).2.2.2.1
  refine Eq.trans ?_ (made1 m c k)
  blk_ext [iblk, hi]

theorem block11 (t : Fin cfg0.N) (k : Fin 1024) : iblk m c 11 t (ix2 0 k) = argN₁ m c (ix1 k) := by
  have hi := (idx_const t).2.2.2.2.2.1
  refine Eq.trans ?_ (made3 m c k)
  blk_ext [iblk, hi]

theorem block12 (t : Fin cfg0.N) (k : Fin 1024) : iblk m c 12 t (ix2 0 k) = argN₂ m c (ix1 k) := by
  have hi := (idx_const t).2.2.2.2.2.2.1
  refine Eq.trans ?_ (made4 m c k)
  blk_ext [iblk, hi]

theorem block13 (t : Fin cfg0.N) (k : Fin 1024) : iblk m c 13 t (ix2 0 k) = argN₃ m c (ix1 k) := by
  have hi := (idx_const t).2.2.2.2.2.2.2.1
  refine Eq.trans ?_ (made5 m c k)
  blk_ext [iblk, hi]

end Cert.Kernel2Ideal.Post
end
-- ==== Proof.Post.Value.lean ====
module
public import proofs.«01_k».proof.Proof.Post.Blocks
public import Idealize.ShloMosaic.Lib.Pipeline.ValueKit
/-! The array that the kernel of the output projection and MLP leaves, entry by entry. -/
@[expose] public section
set_option maxRecDepth 16384
noncomputable section
namespace Cert.Kernel2Ideal.Post
open Idealize.ShloMosaic Idealize.ShloMosaic.TcCoe Cert.Kernel2Ideal Cert.Kernel2Ideal.Gen Cert.Post

/-- Row `i` of the latent rows followed by the context rows. -/
def stacked {α : Type} (latent : Fin 16384 → α) (ctx : Fin 256 → α) (i : Fin 16640) : α :=
  if h : i.val < 16384 then latent ⟨i.val, h⟩ else ctx ⟨i.val - 16384, by omega⟩

/-- Entry `(i, j)` of the layer from the mixers' results on: row `i` is modulated by its stream's modulation. -/
def layer (x : Vec Ideal S16640x1024 .f32) (μ : Vec Ideal S2x6x1024 .f32) (hl : Vec Ideal S16384x256 .f32) (hc : Vec Ideal S256x256 .f32)
    (s p : Vec Ideal S16640x256 .f32) (al : Vec Ideal S256x16384 .bf16) (ac : Vec Ideal S256x256 .bf16) (G : Vec Ideal S256x256 .f32)
    (B : Vec Ideal S256 .f32) (O : Vec Ideal S1024x1024 .f32) (g₁ g₂ g₃ : Vec Ideal S1024 .f32) (W₁ : Vec Ideal S1024x4096 .f32)
    (W₂ : Vec Ideal S4096x1024 .f32) (i : Fin 16640) : Fin 1024 → EReal :=
  row (fun j => x (ix2 i j)) (fun n j => μ (ix3 (if i.val < 16384 then 0 else 1) n j))
    (joined (fun k => stacked (fun r => hl (ix2 r k)) (fun r => hc (ix2 r k)) i)
      (gated (fun k => s (ix2 i k)) (fun k j => G (ix2 k j)) (fun k => B (ix1 k))) (fun k => p (ix2 i k))
      (fun k => stacked (fun r => al (ix2 k r)) (fun r => ac (ix2 k r)) i))
    (fun k j => O (ix2 k j)) (fun j => g₁ (ix1 j)) (fun j => g₂ (ix1 j)) (fun j => g₃ (ix1 j)) (fun k j => W₁ (ix2 k j)) (fun k j => W₂ (ix2 k j))

/-- A block's row read by its point: the latent block below point 64, else the context block. -/
theorem stacked_point {α : Type} (latent : Fin 16384 → α) (ctx : Fin 256 → α) (t : ℕ) (ht : t < 65) (r : Fin 256) :
    (if 64 ≤ t then ctx r else latent ⟨256 * min t 63 + r.val, by omega⟩) = stacked latent ctx ⟨256 * t + r.val, by omega⟩ := by
  unfold stacked
  by_cases h : 64 ≤ t
  · rw [if_pos h, dif_neg (by simp; omega)]
    exact congrArg ctx (Fin.ext (by simp; omega))
  · rw [if_neg h, dif_pos (by simp; omega)]
    exact congrArg latent (Fin.ext (by simp; omega))

/-- A block's stream of modulation. -/
theorem stream (t : ℕ) (ht : t < 65) (r : Fin 256) :
    (⟨t / 64, by omega⟩ : Fin 2) = if (⟨256 * t + r.val, by omega⟩ : Fin 16640).val < 16384 then 0 else 1 := by
  split <;> apply Fin.ext <;> simp at * <;> omega

variable (m : (ℓ : Loc nD τ sig) → Buf (Elt Ideal) ℓ) (c : Dev nD)

/-- What a grid point leaves in its block is the layer at that block's rows. -/
theorem point_value (t : Fin cfg0.N) (r : Fin 256) (j : Fin 1024) :
    out0_16 (grid0.coords t) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t) (iblk m c 14 t)
        (iblk m c 15 t) (ix2 r j)
      = layer (argX m c) (argM m c) (argHl m c) (argHc m c) (argS m c) (argP m c) (argAl m c) (argAc m c) (argG m c) (argB m c) (argO m c)
        (argN₁ m c) (argN₂ m c) (argN₃ m c) (argW₁ m c) (argW₂ m c) ⟨256 * t.val + r.val, by have := point_lt t; omega⟩ j := by
  have ht := point_lt t
  have hh (k : Fin 256) : (if 64 ≤ t.val then argHc m c (ix2 r k) else argHl m c (ix2 ⟨256 * min t.val 63 + r.val, by omega⟩ k)) = _ :=
    stacked_point (fun r => argHl m c (ix2 r k)) (fun r => argHc m c (ix2 r k)) t.val ht r
  have ha (k : Fin 256) : (if 64 ≤ t.val then argAc m c (ix2 k r) else argAl m c (ix2 k ⟨256 * min t.val 63 + r.val, by omega⟩)) = _ :=
    stacked_point (fun r => argAl m c (ix2 k r)) (fun r => argAc m c (ix2 k r)) t.val ht r
  rw [out_at]
  unfold layer
  simp only [block0, block1, block2, block3, block4, block5, block6, block7, block8, block9, block10, block11, block12, block13, block14,
    block15, coord, stream t.val ht r]
  simp only [hh, ha]

/-- The kernel's result is the layer, entry by entry. -/
theorem result : (dats m 0 c).arrAt 16 cfg0.N = fun i : S16640x1024.Idx =>
    layer (argX m c) (argM m c) (argHl m c) (argHc m c) (argS m c) (argP m c) (argAl m c) (argAc m c) (argG m c) (argB m c) (argO m c)
      (argN₁ m c) (argN₂ m c) (argN₃ m c) (argW₁ m c) (argW₂ m c) (i 0) (i 1) := by
  refine (dats m 0 c).arrAt_eq_of_covers 16 _ (by decide +kernel) fun t hf y => ?_
  have hi : win0_16.index t = ![t.val, 0] := (by decide +kernel : ∀ t : Fin grid0.N, win0_16.index t = ![t.val, 0]) t
  blk_simp
  rw [after0_16]
  have hy : (y : S256x1024.Idx) = ix2 (y 0) (y 1) := by funext x; fin_cases x <;> rfl
  refine Eq.trans (congrArg _ hy) ((point_value m c t (y 0) (y 1)).trans (congrArg₂ (layer _ _ _ _ _ _ _ _ _ _ _ _ _ _ _ _) ?_ ?_))
  · refine Fin.ext ?_
    blk_simp [hi]
    exact congrArg (· + (y 0).val) (Nat.mul_comm 256 t.val)
  · refine Fin.ext ?_
    blk_simp [hi]
end Cert.Kernel2Ideal.Post
end
-- ==== Proof.Post.Ref.lean ====
module
public import proofs.«01_k».proof.Proof.Gen.Reference2Ideal.Run
public import proofs.«01_k».proof.Proof.Post.Value
public import Idealize.ShloMosaic.Lib.Pointwise
/-! What the reference of the output projection and MLP computes, entry by entry. -/
@[expose] public section
set_option maxRecDepth 16384
noncomputable section
namespace Cert.Reference2Ideal.Post
open Idealize.ShloMosaic Idealize.ShloMosaic.TcCoe Cert.Reference2Ideal Cert.Reference2Ideal.Gen Cert.Post
open Cert.Kernel2Ideal.Post (stacked layer)

/-- The modulation of every row. -/
def refMod (μ : FVec Ideal S2x6x1024 .f32) : FVec Ideal S6x16640x1024 .f32 :=
  select (cmpi .slt (iotaInDim S6x16640x1024 32 1) (broadcastInDim S6x16640x1024 ![] bcast_S_S6x16640x1024 (constantI S_ 32 16384#32)))
    (broadcastInDim S6x16640x1024 ![0, 1, 2] bcast_S6x1x1024_S6x16640x1024_0_1_2
      (shapeCast _ (extractStridedSlice S1x6x1024 ![0, 0, 0] μ slices_S2x6x1024_S1x6x1024_0_0_0) shapeCasts_S1x6x1024_S6x1x1024))
    (broadcastInDim S6x16640x1024 ![0, 1, 2] bcast_S6x1x1024_S6x16640x1024_0_1_2
      (shapeCast _ (extractStridedSlice S1x6x1024 ![1, 0, 0] μ slices_S2x6x1024_S1x6x1024_1_0_0) shapeCasts_S1x6x1024_S6x1x1024))

/-- The gelu of every entry. -/
def refGelu (s : FVec Ideal S16640x256 .f32) : FVec Ideal S16640x256 .f32 :=
  mulf s (mulf (broadcastInDim S16640x256 ![] bcast_S_S16640x256 (constant S_ .f32 0x3F000000#32))
    (addf (broadcastInDim S16640x256 ![] bcast_S_S16640x256 (constant S_ .f32 0x3F800000#32))
      (Host.tanh (mulf (broadcastInDim S16640x256 ![] bcast_S_S16640x256 (constant S_ .f32 0x3F4C422A#32))
        (addf s (mulf (broadcastInDim S16640x256 ![] bcast_S_S16640x256 (constant S_ .f32 0x3D372713#32)) (mulf (mulf s s) s)))))))

/-- The gated unit from the gelu. -/
def refGated (g : FVec Ideal S16640x256 .f32) (W : FVec Ideal S256x256 .f32) (B : FVec Ideal S256 .f32) : FVec Ideal S16640x256 .f32 :=
  mulf g (Host.divf (broadcastInDim S16640x256 ![] bcast_S_S16640x256 (constant S_ .f32 0x3F800000#32))
    (addf (broadcastInDim S16640x256 ![] bcast_S_S16640x256 (constant S_ .f32 0x3F800000#32))
      (Host.exp (Host.negf (addf (Host.dotGeneral dot_S16640x256_S256x256_S16640x256_1_0_0_1_n_n none g W)
        (broadcastInDim S16640x256 ![0, 1] bcast_S1x256_S16640x256_0_1 (broadcastInDim S1x256 ![1] bcast_S256_S1x256_1 B)))))))

/-- Latent rows and after them context rows. -/
def refStack {α : Type} (a : S16384x256.Idx → α) (b : S256x256.Idx → α) : S16640x256.Idx → α :=
  concatenate S16640x256 0 [⟨S16384x256, a⟩, ⟨S256x256, b⟩] concatenates_S16384x256_S256x256_S16640x256_d0

/-- The four groups of columns side by side. -/
def refJoin (a b c d : FVec Ideal S16640x256 .f32) : FVec Ideal S16640x1024 .f32 :=
  concatenate S16640x1024 1 [⟨S16640x256, a⟩, ⟨S16640x256, b⟩, ⟨S16640x256, c⟩, ⟨S16640x256, d⟩]
    concatenates_S16640x256_S16640x256_S16640x256_S16640x256_S16640x1024_d1

/-- The root-mean-square norm of every row. -/
def refNorm (x : FVec Ideal S16640x1024 .f32) (g : FVec Ideal S1024 .f32) : FVec Ideal S16640x1024 .f32 :=
  mulf (mulf x (broadcastInDim S16640x1024 ![0, 1] bcast_S16640x1_S16640x1024_0_1
      (Host.rsqrt (addf (Host.divf (broadcastInDim S16640x1 ![0] bcast_S16640_S16640x1_0
          (Host.reduceAdd (mulf x x) (constant S_ .f32 0x00000000#32) reducesTo_S16640x1024_S16640_d1 h_S_))
        (broadcastInDim S16640x1 ![] bcast_S_S16640x1 (constant S_ .f32 0x44800000#32)))
        (broadcastInDim S16640x1 ![] bcast_S_S16640x1 (constant S_ .f32 0x358637BD#32))))))
    (broadcastInDim S16640x1024 ![0, 1] bcast_S1x1024_S16640x1024_0_1 (broadcastInDim S1x1024 ![1] bcast_S1024_S1x1024_1 g))

/-- The product with the output weights. -/
def refOut (u : FVec Ideal S16640x1024 .f32) (O : FVec Ideal S1024x1024 .f32) : FVec Ideal S16640x1024 .f32 :=
  Host.dotGeneral dot_S16640x1024_S1024x1024_S16640x1024_1_0_0_1_n_n none u O

/-- The rows after the mixers' residual. -/
def refMixed (x : FVec Ideal S16640x1024 .f32) (μ : FVec Ideal S6x16640x1024 .f32) (n : FVec Ideal S16640x1024 .f32) : FVec Ideal S16640x1024 .f32 :=
  addf x (mulf (shapeCast _ (extractStridedSlice S1x16640x1024 ![2, 0, 0] μ slices_S6x16640x1024_S1x16640x1024_2_0_0)
    shapeCasts_S1x16640x1024_S16640x1024) n)

/-- The hidden entries of the MLP before they are squared. -/
def refHidden (n : FVec Ideal S16640x1024 .f32) (μ : FVec Ideal S6x16640x1024 .f32) (W : FVec Ideal S1024x4096 .f32) : FVec Ideal S16640x4096 .f32 :=
  maximumf (Host.dotGeneral dot_S16640x1024_S1024x4096_S16640x4096_1_0_0_1_n_n none
    (addf (mulf n (addf (broadcastInDim S16640x1024 ![] bcast_S_S16640x1024 (constant S_ .f32 0x3F800000#32))
        (shapeCast _ (extractStridedSlice S1x16640x1024 ![4, 0, 0] μ slices_S6x16640x1024_S1x16640x1024_4_0_0)
          shapeCasts_S1x16640x1024_S16640x1024)))
      (shapeCast _ (extractStridedSlice S1x16640x1024 ![3, 0, 0] μ slices_S6x16640x1024_S1x16640x1024_3_0_0)
        shapeCasts_S1x16640x1024_S16640x1024)) W)
    (broadcastInDim S16640x4096 ![] bcast_S_S16640x4096 (constant S_ .f32 0x00000000#32))

/-- The MLP's result from its hidden entries. -/
def refMlp (h : FVec Ideal S16640x4096 .f32) (W : FVec Ideal S4096x1024 .f32) : FVec Ideal S16640x1024 .f32 :=
  Host.dotGeneral dot_S16640x4096_S4096x1024_S16640x1024_1_0_0_1_n_n none (mulf h h) W

/-- The result. -/
def refLast (x : FVec Ideal S16640x1024 .f32) (μ : FVec Ideal S6x16640x1024 .f32) (n : FVec Ideal S16640x1024 .f32) : FVec Ideal S16640x1024 .f32 :=
  addf x (mulf (shapeCast _ (extractStridedSlice S1x16640x1024 ![5, 0, 0] μ slices_S6x16640x1024_S1x16640x1024_5_0_0)
    shapeCasts_S1x16640x1024_S16640x1024) n)

/-- Comparing a row's number with the number of latent rows. -/
theorem isLatent (i : Fin 16640) : IntOp.cmpi CmpIPredicate.slt (BitVec.ofNat 32 i.val) 16384#32 = if i.val < 16384 then 1#1 else 0#1 := by
  have hs : (BitVec.ofNat 32 i.val).slt 16384#32 = decide (i.val < 16384) := by
    rw [BitVec.slt, BitVec.toInt_eq_toNat_of_lt (by simp; omega)]
    simp
    omega
  show BitVec.ofBool ((BitVec.ofNat 32 i.val).slt 16384#32) = _
  rw [hs]
  split <;> simp [*]

theorem refMod_at (μ : FVec Ideal S2x6x1024 .f32) (n : Fin 6) (i : Fin 16640) (j : Fin 1024) :
    refMod μ (ix3 n i j) = μ (ix3 (if i.val < 16384 then 0 else 1) n j) := by
  unfold refMod
  pointwise
  rw [isLatent]
  split <;> rfl

theorem refGelu_at (s : FVec Ideal S16640x256 .f32) (i : Fin 16640) (k : Fin 256) : refGelu s (ix2 i k) = gelu (s (ix2 i k)) := by
  unfold refGelu
  pointwise
  unfold gelu
  rw [← mul_assoc, mul_comm (s (ix2 i k)) (lit 0x3F000000#32)]

theorem refGated_at (g : FVec Ideal S16640x256 .f32) (W : FVec Ideal S256x256 .f32) (B : FVec Ideal S256 .f32) (i : Fin 16640) (j : Fin 256) :
    refGated g W B (ix2 i j) = g (ix2 i j) * Ideal.logistic ((∑ k, g (ix2 i k) * W (ix2 k j)) + B (ix1 j)) := by
  unfold refGated
  pointwise
  rfl

theorem refStack_at {α : Type} (a : S16384x256.Idx → α) (b : S256x256.Idx → α) (i : Fin 16640) (k : Fin 256) :
    refStack a b (ix2 i k) = stacked (fun r => a (ix2 r k)) (fun r => b (ix2 r k)) i := by
  unfold refStack
  pointwise
  rfl

theorem refJoin_at (a b c d : FVec Ideal S16640x256 .f32) (i : Fin 16640) (k : Fin 1024) :
    refJoin a b c d (ix2 i k) = joined (fun k => a (ix2 i k)) (fun k => b (ix2 i k)) (fun k => c (ix2 i k)) (fun k => d (ix2 i k)) k := by
  unfold refJoin
  pointwise
  unfold joined
  by_cases h₁ : k.val < 256
  · rw [dif_pos h₁, dif_pos h₁]
  by_cases h₂ : k.val < 512
  · rw [dif_neg h₁, dif_neg h₁, dif_pos (show k.val - 256 < 256 by omega), dif_pos h₂]
  by_cases h₃ : k.val < 768
  · rw [dif_neg h₁, dif_neg h₁, dif_neg (show ¬k.val - 256 < 256 by omega), dif_neg h₂, dif_pos (show k.val - 256 - 256 < 256 by omega),
      dif_pos h₃]
    exact congrArg (fun k => c (ix2 i k)) (Fin.ext (Nat.sub_sub _ _ _))
  · rw [dif_neg h₁, dif_neg h₁, dif_neg (show ¬k.val - 256 < 256 by omega), dif_neg h₂, dif_neg (show ¬k.val - 256 - 256 < 256 by omega),
      dif_neg h₃]
    exact congrArg (fun k => d (ix2 i k)) (Fin.ext (show k.val - 256 - 256 - 256 = k.val - 768 by omega))

theorem refNorm_at (x : FVec Ideal S16640x1024 .f32) (g : FVec Ideal S1024 .f32) (i : Fin 16640) (j : Fin 1024) :
    refNorm x g (ix2 i j) = norm (fun j => x (ix2 i j)) (fun j => g (ix1 j)) j := by
  unfold refNorm
  pointwise
  rfl

theorem refOut_at (u : FVec Ideal S16640x1024 .f32) (O : FVec Ideal S1024x1024 .f32) (i : Fin 16640) (j : Fin 1024) :
    refOut u O (ix2 i j) = prod (fun k => u (ix2 i k)) (fun k j => O (ix2 k j)) j := by
  unfold refOut
  pointwise
  rfl

theorem refMixed_at (x : FVec Ideal S16640x1024 .f32) (μ : FVec Ideal S6x16640x1024 .f32) (n : FVec Ideal S16640x1024 .f32) (i : Fin 16640) (j : Fin 1024) :
    refMixed x μ n (ix2 i j) = x (ix2 i j) + μ (ix3 2 i j) * n (ix2 i j) := by
  unfold refMixed
  pointwise

theorem refLast_at (x : FVec Ideal S16640x1024 .f32) (μ : FVec Ideal S6x16640x1024 .f32) (n : FVec Ideal S16640x1024 .f32) (i : Fin 16640) (j : Fin 1024) :
    refLast x μ n (ix2 i j) = x (ix2 i j) + μ (ix3 5 i j) * n (ix2 i j) := by
  unfold refLast
  pointwise

theorem refHidden_at (n : FVec Ideal S16640x1024 .f32) (μ : FVec Ideal S6x16640x1024 .f32) (W : FVec Ideal S1024x4096 .f32) (i : Fin 16640) (k : Fin 4096) :
    refHidden n μ W (ix2 i k)
      = max (prod (fun j => n (ix2 i j) * (1 + μ (ix3 4 i j)) + μ (ix3 3 i j)) (fun k j => W (ix2 k j)) k) 0 := by
  unfold refHidden
  pointwise
  rfl

theorem refMlp_at (h : FVec Ideal S16640x4096 .f32) (W : FVec Ideal S4096x1024 .f32) (i : Fin 16640) (j : Fin 1024) :
    refMlp h W (ix2 i j) = prod (fun k => h (ix2 i k) * h (ix2 i k)) (fun k j => W (ix2 k j)) j := by
  unfold refMlp
  pointwise
  rfl

/-- The reference's result, entry by entry. -/
theorem value (x : FVec Ideal S16640x1024 .f32) (μ : FVec Ideal S2x6x1024 .f32) (hl : FVec Ideal S16384x256 .f32) (hc : FVec Ideal S256x256 .f32)
    (s p : FVec Ideal S16640x256 .f32) (al : FVec Ideal S256x16384 .bf16) (ac : FVec Ideal S256x256 .bf16) (G : FVec Ideal S256x256 .f32)
    (B : FVec Ideal S256 .f32) (O : FVec Ideal S1024x1024 .f32) (g₁ g₂ g₃ : FVec Ideal S1024 .f32) (W₁ : FVec Ideal S1024x4096 .f32)
    (W₂ : FVec Ideal S4096x1024 .f32) (t : FVec Ideal S16640x256 .bf16) (ht : ∀ i k, t (ix2 i k) = stacked (fun r => al (ix2 k r)) (fun r => ac (ix2 k r)) i)
    (o y f : FVec Ideal S16640x1024 .f32) (h : FVec Ideal S16640x4096 .f32)
    (ho : o = refOut (refJoin (refStack hl hc) (refGated (refGelu s) G B) p (extf .f32 t bitsLt_bf16_f32)) O)
    (hy : y = refMixed x (refMod μ) (refNorm o g₁)) (hh : h = refHidden (refNorm y g₂) (refMod μ) W₁) (hf : f = refMlp h W₂)
    (i : Fin 16640) (j : Fin 1024) :
    refLast y (refMod μ) (refNorm f g₃) (ix2 i j) = layer x μ hl hc s p al ac G B O g₁ g₂ g₃ W₁ W₂ i j := by
  have eo : (fun j => o (ix2 i j)) = prod (joined (fun k => stacked (fun r => hl (ix2 r k)) (fun r => hc (ix2 r k)) i)
      (gated (fun k => s (ix2 i k)) (fun k j => G (ix2 k j)) (fun k => B (ix1 k))) (fun k => p (ix2 i k))
      (fun k => stacked (fun r => al (ix2 k r)) (fun r => ac (ix2 k r)) i)) (fun k j => O (ix2 k j)) := by
    funext j
    rw [ho, refOut_at]
    simp only [refJoin_at, refStack_at, refGated_at, refGelu_at, extf_apply, ht]
    rfl
  rw [refLast_at, refNorm_at, refMod_at, hf]
  simp only [refMlp_at, hh, refHidden_at, refNorm_at, refMod_at, hy, refMixed_at, eo]
  rfl
/-- The transposed attention of the two streams, one after the other. -/
def refAtt (al : FVec Ideal S256x16384 .bf16) (ac : FVec Ideal S256x256 .bf16) : FVec Ideal S16640x256 .bf16 :=
  refStack (transpose S16384x256 [1, 0] al transposes_S256x16384_S16384x256_1_0) (transpose S256x256 [1, 0] ac transposes_S256x256_S256x256_1_0)

theorem refAtt_at (al : FVec Ideal S256x16384 .bf16) (ac : FVec Ideal S256x256 .bf16) (i : Fin 16640) (k : Fin 256) :
    refAtt al ac (ix2 i k) = stacked (fun r => al (ix2 k r)) (fun r => ac (ix2 k r)) i := by
  unfold refAtt
  rw [refStack_at]
  congr 1
  · funext r
    pointwise
  · funext r
    pointwise

/-- The result of the run is the layer of the arguments. -/
theorem run_value (V : Valuation τ sig (Elt Ideal)) (i : Fin 16640) (j : Fin 1024) :
    refLast (Value.res_main_v65 V) (Value.res_main_v7 V) (refNorm (Value.res_main_v86 V) (V (Proc.devRef .tc main_arg13))) (ix2 i j)
      = layer (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) i j :=
  value (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15))
    (refAtt (V (Proc.devRef .tc main_arg6)) (V (Proc.devRef .tc main_arg7))) (refAtt_at _ _)
    (Value.res_main_v50 V) (Value.res_main_v65 V) (Value.res_main_v86 V) (Value.res_main_v84 V) rfl rfl rfl rfl i j
end Cert.Reference2Ideal.Post
end
-- ==== Proof.Last.Body.lean ====
module
public import proofs.«01_k».proof.Proof.Gen.Kernel4Ideal.Value
public import proofs.«01_k».proof.Proof.Post.Body
/-! The last layer's call has the body of the call of the other layers, at the latent points only. -/
@[expose] public section
set_option maxRecDepth 16384
noncomputable section
namespace Cert.Kernel4Ideal.Last
open Idealize.ShloMosaic Cert.Kernel4Ideal Cert.Kernel4Ideal.Gen Cert.Post

/-- A point among the points of the other layers' call. -/
def point (i : grid0.Coords) : Cert.Kernel2Ideal.grid0.Coords := fun k => Fin.castLE (by fin_cases k; decide) (i k)

/-- The block that a point leaves is the one that the other layers' call leaves there. -/
theorem out_eq (i : grid0.Coords) (x0 : Vec Ideal S256x1024 .f32) (x1 : Vec Ideal S1x6x1024 .f32) (x2 x3 x4 x5 : Vec Ideal S256x256 .f32)
    (x6 x7 x8 : Vec Ideal S256x256 .bf16) (x9 : Vec Ideal S1x256 .f32) (x10 : Vec Ideal S1024x1024 .bf16) (x11 x12 x13 : Vec Ideal S1x1024 .f32)
    (x14 : Vec Ideal S1024x4096 .bf16) (x15 : Vec Ideal S4096x1024 .bf16) :
    out0_16 i x0 x1 x2 x3 x4 x5 x6 x7 x8 x9 x10 x11 x12 x13 x14 x15
      = Cert.Kernel2Ideal.Gen.out0_16 (point i) x0 x1 x2 x3 x4 x5 x6 x7 x8 x9 x10 x11 x12 x13 x14 x15 := rfl

/-- Row `r` of the block that a point leaves is the layer's row from that row of the latent blocks. -/
theorem out_at (i : grid0.Coords) (x0 : Vec Ideal S256x1024 .f32) (x1 : Vec Ideal S1x6x1024 .f32) (x2 x3 x4 x5 : Vec Ideal S256x256 .f32)
    (x6 x7 x8 : Vec Ideal S256x256 .bf16) (x9 : Vec Ideal S1x256 .f32) (x10 : Vec Ideal S1024x1024 .bf16) (x11 x12 x13 : Vec Ideal S1x1024 .f32)
    (x14 : Vec Ideal S1024x4096 .bf16) (x15 : Vec Ideal S4096x1024 .bf16) (r : Fin 256) (j : Fin 1024) :
    out0_16 i x0 x1 x2 x3 x4 x5 x6 x7 x8 x9 x10 x11 x12 x13 x14 x15 (ix2 r j)
      = row (fun j => x0 (ix2 r j)) (fun n j => x1 (ix3 0 n j))
        (joined (fun k => x2 (ix2 r k)) (gated (fun k => x4 (ix2 r k)) (fun k j => x8 (ix2 k j)) (fun k => x9 (ix2 0 k))) (fun k => x5 (ix2 r k))
          (fun k => x6 (ix2 k r)))
        (fun k j => x10 (ix2 k j)) (fun j => x11 (ix2 0 j)) (fun j => x12 (ix2 0 j)) (fun j => x13 (ix2 0 j))
        (fun k j => x14 (ix2 k j)) (fun k j => x15 (ix2 k j)) j := by
  have h : ¬64 ≤ ((point i) 0).val := Nat.not_le.2 (i 0).isLt
  rw [out_eq, Cert.Kernel2Ideal.Post.out_at]
  simp only [if_neg h]
end Cert.Kernel4Ideal.Last
end
-- ==== Proof.Last.Blocks.lean ====
module
public import proofs.«01_k».proof.Proof.Last.Body
/-! The blocks that a grid point of the last layer's output projection and MLP reads, as entries of the arguments. -/
@[expose] public section
set_option maxRecDepth 16384
noncomputable section
namespace Cert.Kernel4Ideal.Last
open Idealize.ShloMosaic Idealize.ShloMosaic.TcCoe Cert.Kernel4Ideal Cert.Kernel4Ideal.Gen

variable (m : (ℓ : Loc nD τ sig) → Buf (Elt Ideal) ℓ) (c : Dev nD)

/-- The layer's rows. -/
abbrev argX : Vec Ideal S16640x1024 .f32 := m ((c : Thread nD τ).loc main_arg0)
/-- The modulation of the two streams. -/
abbrev argM : Vec Ideal S2x6x1024 .f32 := m ((c : Thread nD τ).loc main_arg1)
/-- The first mixer's latent rows. -/
abbrev argH : Vec Ideal S16384x256 .f32 := m ((c : Thread nD τ).loc main_arg2)
/-- The second mixer's rows, not yet gated. -/
abbrev argS : Vec Ideal S16640x256 .f32 := m ((c : Thread nD τ).loc main_arg4)
/-- The third mixer's rows. -/
abbrev argP : Vec Ideal S16640x256 .f32 := m ((c : Thread nD τ).loc main_arg5)
/-- The attention of the latent rows, transposed. -/
abbrev argA : Vec Ideal S256x16384 .bf16 := m ((c : Thread nD τ).loc main_arg6)
/-- The gate's weights. -/
abbrev argG : Vec Ideal S256x256 .f32 := m ((c : Thread nD τ).loc main_arg8)
/-- The gate's bias. -/
abbrev argB : Vec Ideal S256 .f32 := m ((c : Thread nD τ).loc main_arg9)
/-- The output weights. -/
abbrev argO : Vec Ideal S1024x1024 .f32 := m ((c : Thread nD τ).loc main_arg10)
/-- The weights of the norm after the mixers. -/
abbrev argN₁ : Vec Ideal S1024 .f32 := m ((c : Thread nD τ).loc main_arg11)
/-- The weights of the norm before the MLP. -/
abbrev argN₂ : Vec Ideal S1024 .f32 := m ((c : Thread nD τ).loc main_arg12)
/-- The weights of the norm after the MLP. -/
abbrev argN₃ : Vec Ideal S1024 .f32 := m ((c : Thread nD τ).loc main_arg13)
/-- The MLP's first weights. -/
abbrev argW₁ : Vec Ideal S1024x4096 .f32 := m ((c : Thread nD τ).loc main_arg14)
/-- The MLP's second weights. -/
abbrev argW₂ : Vec Ideal S4096x1024 .f32 := m ((c : Thread nD τ).loc main_arg15)

theorem point_lt (t : Fin cfg0.N) : t.val < 64 := lt_of_lt_of_eq t.isLt N_0

/-- The block numbers of the inputs that the latent points read. -/
theorem idx : ∀ t : Fin cfg0.N, win0_0.index t = ![t.val, 0] ∧ win0_1.index t = ![0, 0, 0] ∧ win0_2.index t = ![t.val, 0]
    ∧ win0_4.index t = ![t.val, 0] ∧ win0_5.index t = ![t.val, 0] ∧ win0_6.index t = ![0, t.val] :=
  (by decide +kernel : ∀ t : Fin grid0.N, _)

/-- The weights are read at block zero. -/
theorem idx_const : ∀ t : Fin cfg0.N, win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0] ∧ win0_15.index t = ![0, 0] :=
  (by decide +kernel : ∀ t : Fin grid0.N, _)

theorem block0 (t : Fin cfg0.N) (r : Fin 256) (j : Fin 1024) :
    iblk m c 0 t (ix2 r j) = argX m c (ix2 ⟨256 * t.val + r.val, by have := point_lt t; omega⟩ j) := by
  have hi := (idx t).1
  blk_ext [iblk, V_main_arg0, hi]

theorem block1 (t : Fin cfg0.N) (n : Fin 6) (j : Fin 1024) : iblk m c 1 t (ix3 0 n j) = argM m c (ix3 0 n j) := by
  have hi := (idx t).2.1
  blk_ext [iblk, V_main_arg1, hi]

theorem block2 (t : Fin cfg0.N) (r k : Fin 256) :
    iblk m c 2 t (ix2 r k) = argH m c (ix2 ⟨256 * t.val + r.val, by have := point_lt t; omega⟩ k) := by
  have hi := (idx t).2.2.1
  blk_ext [iblk, V_main_arg2, hi]

theorem block4 (t : Fin cfg0.N) (r k : Fin 256) :
    iblk m c 4 t (ix2 r k) = argS m c (ix2 ⟨256 * t.val + r.val, by have := point_lt t; omega⟩ k) := by
  have hi := (idx t).2.2.2.1
  blk_ext [iblk, V_main_arg4, hi]

theorem block5 (t : Fin cfg0.N) (r k : Fin 256) :
    iblk m c 5 t (ix2 r k) = argP m c (ix2 ⟨256 * t.val + r.val, by have := point_lt t; omega⟩ k) := by
  have hi := (idx t).2.2.2.2.1
  blk_ext [iblk, V_main_arg5, hi]

theorem block6 (t : Fin cfg0.N) (k r : Fin 256) :
    iblk m c 6 t (ix2 k r) = argA m c (ix2 k ⟨256 * t.val + r.val, by have := point_lt t; omega⟩) := by
  have hi := (idx t).2.2.2.2.2
  blk_ext [iblk, V_main_arg6, hi]

/-- The arrays the host makes of the weights hold the weights. -/
theorem made : V m c main_v0 = (argG m c : Vec Ideal S256x256 .f32) ∧ V m c main_v2 = (argO m c : Vec Ideal S1024x1024 .f32)
    ∧ V m c main_v6 = (argW₁ m c : Vec Ideal S1024x4096 .f32) ∧ V m c main_v7 = (argW₂ m c : Vec Ideal S4096x1024 .f32) := by
  refine ⟨?_, ?_, ?_, ?_⟩ <;> unfold_abbrev_sides <;> after_results <;> rfl

/-- The one-row arrays the host makes of the bias and the norms' weights hold them. -/
theorem madeRow : (∀ k : Fin 256, (V m c main_v1 : Vec Ideal S1x256 .f32) (ix2 0 k) = argB m c (ix1 k))
    ∧ (∀ k : Fin 1024, (V m c main_v3 : Vec Ideal S1x1024 .f32) (ix2 0 k) = argN₁ m c (ix1 k))
    ∧ (∀ k : Fin 1024, (V m c main_v4 : Vec Ideal S1x1024 .f32) (ix2 0 k) = argN₂ m c (ix1 k))
    ∧ ∀ k : Fin 1024, (V m c main_v5 : Vec Ideal S1x1024 .f32) (ix2 0 k) = argN₃ m c (ix1 k) := by
  refine ⟨fun k => ?_, fun k => ?_, fun k => ?_, fun k => ?_⟩ <;> unfold_abbrev_sides <;> after_results <;> pointwise

theorem block8 (t : Fin cfg0.N) (k : Fin 256) (j : Fin 256) : iblk m c 8 t (ix2 k j) = argG m c (ix2 k j) := by
  have hi := (idx_const t).1
  blk_ext [iblk, (made m c).1, hi]

theorem block10 (t : Fin cfg0.N) (k : Fin 1024) (j : Fin 1024) : iblk m c 10 t (ix2 k j) = argO m c (ix2 k j) := by
  have hi := (idx_const t).2.2.1
  blk_ext [iblk, (made m c).2.1, hi]

theorem block14 (t : Fin cfg0.N) (k : Fin 1024) (j : Fin 4096) : iblk m c 14 t (ix2 k j) = argW₁ m c (ix2 k j) := by
  have hi := (idx_const t).2.2.2.2.2.2.1
  blk_ext [iblk, (made m c).2.2.1, hi]

theorem block15 (t : Fin cfg0.N) (k : Fin 4096) (j : Fin 1024) : iblk m c 15 t (ix2 k j) = argW₂ m c (ix2 k j) := by
  have hi := (idx_const t).2.2.2.2.2.2.2
  blk_ext [iblk, (made m c).2.2.2, hi]

theorem block9 (t : Fin cfg0.N) (k : Fin 256) : iblk m c 9 t (ix2 0 k) = argB m c (ix1 k) := by
  have hi := (idx_const t).2.1
  refine Eq.trans ?_ ((madeRow m c).1 k)
  blk_ext [iblk, hi]

theorem block11 (t : Fin cfg0.N) (k : Fin 1024) : iblk m c 11 t (ix2 0 k) = argN₁ m c (ix1 k) := by
  have hi := (idx_const t).2.2.2.1
  refine Eq.trans ?_ ((madeRow m c).2.1 k)
  blk_ext [iblk, hi]

theorem block12 (t : Fin cfg0.N) (k : Fin 1024) : iblk m c 12 t (ix2 0 k) = argN₂ m c (ix1 k) := by
  have hi := (idx_const t).2.2.2.2.1
  refine Eq.trans ?_ ((madeRow m c).2.2.1 k)
  blk_ext [iblk, hi]

theorem block13 (t : Fin cfg0.N) (k : Fin 1024) : iblk m c 13 t (ix2 0 k) = argN₃ m c (ix1 k) := by
  have hi := (idx_const t).2.2.2.2.2.1
  refine Eq.trans ?_ ((madeRow m c).2.2.2 k)
  blk_ext [iblk, hi]
end Cert.Kernel4Ideal.Last
end
-- ==== Proof.Last.Value.lean ====
module
public import proofs.«01_k».proof.Proof.Last.Blocks
public import Idealize.ShloMosaic.Lib.Pipeline.ValueKit
/-! The array that the last layer's call leaves, entry by entry. -/
@[expose] public section
set_option maxRecDepth 16384
noncomputable section
namespace Cert.Kernel4Ideal.Last
open Idealize.ShloMosaic Idealize.ShloMosaic.TcCoe Cert.Kernel4Ideal Cert.Kernel4Ideal.Gen Cert.Post

/-- Latent row `i` of the last layer from the mixers' results on. -/
def lastRow (x : Vec Ideal S16640x1024 .f32) (μ : Vec Ideal S2x6x1024 .f32) (h : Vec Ideal S16384x256 .f32) (s p : Vec Ideal S16640x256 .f32)
    (a : Vec Ideal S256x16384 .bf16) (G : Vec Ideal S256x256 .f32) (B : Vec Ideal S256 .f32) (O : Vec Ideal S1024x1024 .f32)
    (g₁ g₂ g₃ : Vec Ideal S1024 .f32) (W₁ : Vec Ideal S1024x4096 .f32) (W₂ : Vec Ideal S4096x1024 .f32) (i : Fin 16384) : Fin 1024 → EReal :=
  row (fun j => x (ix2 ⟨i.val, by omega⟩ j)) (fun n j => μ (ix3 0 n j))
    (joined (fun k => h (ix2 i k)) (gated (fun k => s (ix2 ⟨i.val, by omega⟩ k)) (fun k j => G (ix2 k j)) (fun k => B (ix1 k)))
      (fun k => p (ix2 ⟨i.val, by omega⟩ k)) (fun k => a (ix2 k i)))
    (fun k j => O (ix2 k j)) (fun j => g₁ (ix1 j)) (fun j => g₂ (ix1 j)) (fun j => g₃ (ix1 j)) (fun k j => W₁ (ix2 k j)) (fun k j => W₂ (ix2 k j))

variable (m : (ℓ : Loc nD τ sig) → Buf (Elt Ideal) ℓ) (c : Dev nD)

/-- What a grid point leaves in its block is the last layer at that block's rows. -/
theorem point_value (t : Fin cfg0.N) (r : Fin 256) (j : Fin 1024) :
    out0_16 (grid0.coords t) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t) (iblk m c 14 t)
        (iblk m c 15 t) (ix2 r j)
      = lastRow (argX m c) (argM m c) (argH m c) (argS m c) (argP m c) (argA m c) (argG m c) (argB m c) (argO m c)
        (argN₁ m c) (argN₂ m c) (argN₃ m c) (argW₁ m c) (argW₂ m c) ⟨256 * t.val + r.val, by have := point_lt t; omega⟩ j := by
  rw [out_at]
  unfold lastRow
  simp only [block0, block1, block2, block4, block5, block6, block8, block9, block10, block11, block12, block13, block14, block15]

/-- The call's result is the last layer, entry by entry. -/
theorem result : (dats m 0 c).arrAt 16 cfg0.N = fun i : S16384x1024.Idx =>
    lastRow (argX m c) (argM m c) (argH m c) (argS m c) (argP m c) (argA m c) (argG m c) (argB m c) (argO m c)
      (argN₁ m c) (argN₂ m c) (argN₃ m c) (argW₁ m c) (argW₂ m c) (i 0) (i 1) := by
  refine (dats m 0 c).arrAt_eq_of_covers 16 _ (by decide +kernel) fun t hf y => ?_
  have hi : win0_16.index t = ![t.val, 0] := (by decide +kernel : ∀ t : Fin grid0.N, win0_16.index t = ![t.val, 0]) t
  blk_simp
  rw [after0_16]
  have hy : (y : S256x1024.Idx) = ix2 (y 0) (y 1) := by funext x; fin_cases x <;> rfl
  refine Eq.trans (congrArg _ hy) ((point_value m c t (y 0) (y 1)).trans (congrArg₂ (lastRow _ _ _ _ _ _ _ _ _ _ _ _ _ _) ?_ ?_))
  · refine Fin.ext ?_
    blk_simp [hi]
    exact congrArg (· + (y 0).val) (Nat.mul_comm 256 t.val)
  · refine Fin.ext ?_
    blk_simp [hi]
end Cert.Kernel4Ideal.Last
end
-- ==== Proof.Last.Ref.lean ====
module
public import proofs.«01_k».proof.Proof.Gen.Reference4Ideal.Run
public import proofs.«01_k».proof.Proof.Last.Value
public import Idealize.ShloMosaic.Lib.Pointwise
/-! What the reference of the last layer's output projection and MLP computes, entry by entry. -/
@[expose] public section
set_option maxRecDepth 16384
noncomputable section
namespace Cert.Reference4Ideal.Last
open Idealize.ShloMosaic Idealize.ShloMosaic.TcCoe Cert.Reference4Ideal Cert.Reference4Ideal.Gen Cert.Post
open Cert.Kernel4Ideal.Last (lastRow)

/-- The latent stream's modulation. -/
def refMod (μ : FVec Ideal S2x6x1024 .f32) : FVec Ideal S6x1024 .f32 :=
  shapeCast _ (extractStridedSlice S1x6x1024 ![0, 0, 0] μ slices_S2x6x1024_S1x6x1024_0_0_0) shapeCasts_S1x6x1024_S6x1024

theorem refMod_at (μ : FVec Ideal S2x6x1024 .f32) (n : Fin 6) (j : Fin 1024) : refMod μ (ix2 n j) = μ (ix3 0 n j) := by
  unfold refMod
  pointwise

/-- The latent rows of a mixer. -/
def refLatent (s : FVec Ideal S16640x256 .f32) : FVec Ideal S16384x256 .f32 := extractStridedSlice S16384x256 ![0, 0] s slices_S16640x256_S16384x256_0_0

theorem refLatent_at (s : FVec Ideal S16640x256 .f32) (i : Fin 16384) (k : Fin 256) : refLatent s (ix2 i k) = s (ix2 ⟨i.val, by omega⟩ k) := by
  unfold refLatent
  pointwise

/-- The gelu of every entry. -/
def refGelu (s : FVec Ideal S16384x256 .f32) : FVec Ideal S16384x256 .f32 :=
  mulf s (mulf (broadcastInDim S16384x256 ![] bcast_S_S16384x256 (constant S_ .f32 0x3F000000#32))
    (addf (broadcastInDim S16384x256 ![] bcast_S_S16384x256 (constant S_ .f32 0x3F800000#32))
      (Host.tanh (mulf (broadcastInDim S16384x256 ![] bcast_S_S16384x256 (constant S_ .f32 0x3F4C422A#32))
        (addf s (mulf (broadcastInDim S16384x256 ![] bcast_S_S16384x256 (constant S_ .f32 0x3D372713#32)) (mulf (mulf s s) s)))))))

theorem refGelu_at (s : FVec Ideal S16384x256 .f32) (i : Fin 16384) (k : Fin 256) : refGelu s (ix2 i k) = gelu (s (ix2 i k)) := by
  unfold refGelu
  pointwise
  unfold gelu
  rw [← mul_assoc, mul_comm (s (ix2 i k)) (lit 0x3F000000#32)]

/-- The gated unit from the gelu. -/
def refGated (g : FVec Ideal S16384x256 .f32) (W : FVec Ideal S256x256 .f32) (B : FVec Ideal S256 .f32) : FVec Ideal S16384x256 .f32 :=
  mulf g (Host.divf (broadcastInDim S16384x256 ![] bcast_S_S16384x256 (constant S_ .f32 0x3F800000#32))
    (addf (broadcastInDim S16384x256 ![] bcast_S_S16384x256 (constant S_ .f32 0x3F800000#32))
      (Host.exp (Host.negf (addf (Host.dotGeneral dot_S16384x256_S256x256_S16384x256_1_0_0_1_n_n none g W)
        (broadcastInDim S16384x256 ![0, 1] bcast_S1x256_S16384x256_0_1 (broadcastInDim S1x256 ![1] bcast_S256_S1x256_1 B)))))))

theorem refGated_at (g : FVec Ideal S16384x256 .f32) (W : FVec Ideal S256x256 .f32) (B : FVec Ideal S256 .f32) (i : Fin 16384) (j : Fin 256) :
    refGated g W B (ix2 i j) = g (ix2 i j) * Ideal.logistic ((∑ k, g (ix2 i k) * W (ix2 k j)) + B (ix1 j)) := by
  unfold refGated
  pointwise
  rfl

/-- The product of the four mixers' columns, side by side, with the output weights. -/
def refOut (a b c d : FVec Ideal S16384x256 .f32) (O : FVec Ideal S1024x1024 .f32) : FVec Ideal S16384x1024 .f32 :=
  Host.dotGeneral dot_S16384x1024_S1024x1024_S16384x1024_1_0_0_1_n_n none
    (concatenate S16384x1024 1 [⟨S16384x256, a⟩, ⟨S16384x256, b⟩, ⟨S16384x256, c⟩, ⟨S16384x256, d⟩]
      concatenates_S16384x256_S16384x256_S16384x256_S16384x256_S16384x1024_d1) O

theorem refOut_at (a b c d : FVec Ideal S16384x256 .f32) (O : FVec Ideal S1024x1024 .f32) (i : Fin 16384) (j : Fin 1024) :
    refOut a b c d O (ix2 i j) = prod (joined (fun k => a (ix2 i k)) (fun k => b (ix2 i k)) (fun k => c (ix2 i k)) (fun k => d (ix2 i k)))
      (fun k j => O (ix2 k j)) j := by
  unfold refOut
  pointwise
  refine Finset.sum_congr rfl fun k _ => congrArg (· * O (ix2 k j)) ?_
  unfold joined
  by_cases h₁ : k.val < 256
  · rw [dif_pos h₁, dif_pos h₁]
  by_cases h₂ : k.val < 512
  · rw [dif_neg h₁, dif_neg h₁, dif_pos (show k.val - 256 < 256 by omega), dif_pos h₂]
  by_cases h₃ : k.val < 768
  · rw [dif_neg h₁, dif_neg h₁, dif_neg (show ¬k.val - 256 < 256 by omega), dif_neg h₂, dif_pos (show k.val - 256 - 256 < 256 by omega),
      dif_pos h₃]
    exact congrArg (fun k => c (ix2 i k)) (Fin.ext (Nat.sub_sub _ _ _))
  · rw [dif_neg h₁, dif_neg h₁, dif_neg (show ¬k.val - 256 < 256 by omega), dif_neg h₂, dif_neg (show ¬k.val - 256 - 256 < 256 by omega),
      dif_neg h₃]
    exact congrArg (fun k => d (ix2 i k)) (Fin.ext (show k.val - 256 - 256 - 256 = k.val - 768 by omega))

/-- The root-mean-square norm of every row. -/
def refNorm (x : FVec Ideal S16384x1024 .f32) (g : FVec Ideal S1024 .f32) : FVec Ideal S16384x1024 .f32 :=
  mulf (mulf x (broadcastInDim S16384x1024 ![0, 1] bcast_S16384x1_S16384x1024_0_1
      (Host.rsqrt (addf (Host.divf (broadcastInDim S16384x1 ![0] bcast_S16384_S16384x1_0
          (Host.reduceAdd (mulf x x) (constant S_ .f32 0x00000000#32) reducesTo_S16384x1024_S16384_d1 h_S_))
        (broadcastInDim S16384x1 ![] bcast_S_S16384x1 (constant S_ .f32 0x44800000#32)))
        (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

theorem refNorm_at (x : FVec Ideal S16384x1024 .f32) (g : FVec Ideal S1024 .f32) (i : Fin 16384) (j : Fin 1024) :
    refNorm x g (ix2 i j) = norm (fun j => x (ix2 i j)) (fun j => g (ix1 j)) j := by
  unfold refNorm
  pointwise
  rfl

/-- The rows after the mixers' residual. -/
def refMixed (x : FVec Ideal S16640x1024 .f32) (μ : FVec Ideal S6x1024 .f32) (n : FVec Ideal S16384x1024 .f32) : FVec Ideal S16384x1024 .f32 :=
  addf (extractStridedSlice S16384x1024 ![0, 0] x slices_S16640x1024_S16384x1024_0_0)
    (mulf (broadcastInDim S16384x1024 ![0, 1] bcast_S1x1024_S16384x1024_0_1 (extractStridedSlice S1x1024 ![2, 0] μ slices_S6x1024_S1x1024_2_0)) n)

theorem refMixed_at (x : FVec Ideal S16640x1024 .f32) (μ : FVec Ideal S6x1024 .f32) (n : FVec Ideal S16384x1024 .f32) (i : Fin 16384) (j : Fin 1024) :
    refMixed x μ n (ix2 i j) = x (ix2 ⟨i.val, by omega⟩ j) + μ (ix2 2 j) * n (ix2 i j) := by
  unfold refMixed
  pointwise

/-- The hidden entries of the MLP before they are squared. -/
def refHidden (n : FVec Ideal S16384x1024 .f32) (μ : FVec Ideal S6x1024 .f32) (W : FVec Ideal S1024x4096 .f32) : FVec Ideal S16384x4096 .f32 :=
  maximumf (Host.dotGeneral dot_S16384x1024_S1024x4096_S16384x4096_1_0_0_1_n_n none
    (addf (mulf n (broadcastInDim S16384x1024 ![0, 1] bcast_S1x1024_S16384x1024_0_1
        (addf (broadcastInDim S1x1024 ![] bcast_S_S1x1024 (constant S_ .f32 0x3F800000#32)) (extractStridedSlice S1x1024 ![4, 0] μ slices_S6x1024_S1x1024_4_0))))
      (broadcastInDim S16384x1024 ![0, 1] bcast_S1x1024_S16384x1024_0_1 (extractStridedSlice S1x1024 ![3, 0] μ slices_S6x1024_S1x1024_3_0))) W)
    (broadcastInDim S16384x4096 ![] bcast_S_S16384x4096 (constant S_ .f32 0x00000000#32))

theorem refHidden_at (n : FVec Ideal S16384x1024 .f32) (μ : FVec Ideal S6x1024 .f32) (W : FVec Ideal S1024x4096 .f32) (i : Fin 16384) (k : Fin 4096) :
    refHidden n μ W (ix2 i k) = max (prod (fun j => n (ix2 i j) * (1 + μ (ix2 4 j)) + μ (ix2 3 j)) (fun k j => W (ix2 k j)) k) 0 := by
  unfold refHidden
  pointwise
  rfl

/-- The MLP's result from its hidden entries. -/
def refMlp (h : FVec Ideal S16384x4096 .f32) (W : FVec Ideal S4096x1024 .f32) : FVec Ideal S16384x1024 .f32 :=
  Host.dotGeneral dot_S16384x4096_S4096x1024_S16384x1024_1_0_0_1_n_n none (mulf h h) W

theorem refMlp_at (h : FVec Ideal S16384x4096 .f32) (W : FVec Ideal S4096x1024 .f32) (i : Fin 16384) (j : Fin 1024) :
    refMlp h W (ix2 i j) = prod (fun k => h (ix2 i k) * h (ix2 i k)) (fun k j => W (ix2 k j)) j := by
  unfold refMlp
  pointwise
  rfl

/-- The result. -/
def refLast (x : FVec Ideal S16384x1024 .f32) (μ : FVec Ideal S6x1024 .f32) (n : FVec Ideal S16384x1024 .f32) : FVec Ideal S16384x1024 .f32 :=
  addf x (mulf (broadcastInDim S16384x1024 ![0, 1] bcast_S1x1024_S16384x1024_0_1 (extractStridedSlice S1x1024 ![5, 0] μ slices_S6x1024_S1x1024_5_0)) n)

theorem refLast_at (x : FVec Ideal S16384x1024 .f32) (μ : FVec Ideal S6x1024 .f32) (n : FVec Ideal S16384x1024 .f32) (i : Fin 16384) (j : Fin 1024) :
    refLast x μ n (ix2 i j) = x (ix2 i j) + μ (ix2 5 j) * n (ix2 i j) := by
  unfold refLast
  pointwise

/-- The transposed attention. -/
def refAtt (a : FVec Ideal S256x16384 .bf16) : FVec Ideal S16384x256 .f32 :=
  extf .f32 (transpose S16384x256 [1, 0] a transposes_S256x16384_S16384x256_1_0) bitsLt_bf16_f32

theorem refAtt_at (a : FVec Ideal S256x16384 .bf16) (i : Fin 16384) (k : Fin 256) : refAtt a (ix2 i k) = a (ix2 k i) := by
  unfold refAtt
  pointwise

/-- The reference's result, entry by entry. -/
theorem value (x : FVec Ideal S16640x1024 .f32) (μ : FVec Ideal S2x6x1024 .f32) (h : FVec Ideal S16384x256 .f32) (s p : FVec Ideal S16640x256 .f32)
    (a : FVec Ideal S256x16384 .bf16) (G : FVec Ideal S256x256 .f32) (B : FVec Ideal S256 .f32) (O : FVec Ideal S1024x1024 .f32)
    (g₁ g₂ g₃ : FVec Ideal S1024 .f32) (W₁ : FVec Ideal S1024x4096 .f32) (W₂ : FVec Ideal S4096x1024 .f32)
    (o y f : FVec Ideal S16384x1024 .f32) (z : FVec Ideal S16384x4096 .f32)
    (ho : o = refOut h (refGated (refGelu (refLatent s)) G B) (refLatent p) (refAtt a) O)
    (hy : y = refMixed x (refMod μ) (refNorm o g₁)) (hz : z = refHidden (refNorm y g₂) (refMod μ) W₁) (hf : f = refMlp z W₂)
    (i : Fin 16384) (j : Fin 1024) :
    refLast y (refMod μ) (refNorm f g₃) (ix2 i j) = lastRow x μ h s p a G B O g₁ g₂ g₃ W₁ W₂ i j := by
  have eo : (fun j => o (ix2 i j)) = prod (joined (fun k => h (ix2 i k))
      (gated (fun k => s (ix2 ⟨i.val, by omega⟩ k)) (fun k j => G (ix2 k j)) (fun k => B (ix1 k))) (fun k => p (ix2 ⟨i.val, by omega⟩ k))
      (fun k => a (ix2 k i))) (fun k j => O (ix2 k j)) := by
    funext j
    rw [ho, refOut_at]
    simp only [refGated_at, refGelu_at, refLatent_at, refAtt_at]
    rfl
  rw [refLast_at, refNorm_at, refMod_at, hf]
  simp only [refMlp_at, hz, refHidden_at, refNorm_at, refMod_at, hy, refMixed_at, eo]
  rfl

/-- The result of the run is the last layer of the arguments. -/
theorem run_value (V : Valuation τ sig (Elt Ideal)) (i : Fin 16384) (j : Fin 1024) :
    refLast (Value.res_main_v54 V) (Value.res_main_v1 V) (refNorm (Value.res_main_v77 V) (V (Proc.devRef .tc main_arg13))) (ix2 i j)
      = lastRow (V (Proc.devRef .tc main_arg0)) (V (Proc.devRef .tc main_arg1)) (V (Proc.devRef .tc main_arg2)) (V (Proc.devRef .tc main_arg4))
        (V (Proc.devRef .tc main_arg5)) (V (Proc.devRef .tc main_arg6)) (V (Proc.devRef .tc main_arg8)) (V (Proc.devRef .tc main_arg9))
        (V (Proc.devRef .tc main_arg10)) (V (Proc.devRef .tc main_arg11)) (V (Proc.devRef .tc main_arg12)) (V (Proc.devRef .tc main_arg13))
        (V (Proc.devRef .tc main_arg14)) (V (Proc.devRef .tc main_arg15)) i j :=
  value (V (Proc.devRef .tc main_arg0)) (V (Proc.devRef .tc main_arg1)) (V (Proc.devRef .tc main_arg2)) (V (Proc.devRef .tc main_arg4))
    (V (Proc.devRef .tc main_arg5)) (V (Proc.devRef .tc main_arg6)) (V (Proc.devRef .tc main_arg8)) (V (Proc.devRef .tc main_arg9))
    (V (Proc.devRef .tc main_arg10)) (V (Proc.devRef .tc main_arg11)) (V (Proc.devRef .tc main_arg12)) (V (Proc.devRef .tc main_arg13))
    (V (Proc.devRef .tc main_arg14)) (V (Proc.devRef .tc main_arg15))
    (Value.res_main_v37 V) (Value.res_main_v54 V) (Value.res_main_v77 V) (Value.res_main_v75 V) rfl rfl rfl rfl i j
end Cert.Reference4Ideal.Last
end
-- ==== Proof.Premix.Rows.lean ====
module
public import proofs.«01_k».proof.Proof.Post.Rows
/-! The extended reals of one row before the mixers: which of its entries are real numbers, and the norm of a head. -/
@[expose] public section
noncomputable section
namespace Cert.Premix
open Idealize.ShloMosaic Cert.Post

/-- The extended real is a real number. -/
def IsReal (x : EReal) : Prop := ∃ r : ℝ, x = r

theorem IsReal.add {x y : EReal} : IsReal x → IsReal y → IsReal (x + y)
  | ⟨r, hr⟩, ⟨s, hs⟩ => ⟨r + s, by rw [hr, hs, EReal.coe_add]⟩

theorem IsReal.mul {x y : EReal} : IsReal x → IsReal y → IsReal (x * y)
  | ⟨r, hr⟩, ⟨s, hs⟩ => ⟨r * s, by rw [hr, hs, EReal.coe_mul]⟩

theorem IsReal.sum {ι : Type} (S : Finset ι) (f : ι → EReal) (h : ∀ i, IsReal (f i)) : IsReal (∑ i ∈ S, f i) := by
  classical
  induction S using Finset.induction_on with
  | empty => exact ⟨0, by simp⟩
  | insert a S ha ih => rw [Finset.sum_insert ha]; exact (h a).add ih

theorem lit_1024 : lit 0x44800000#32 = ((1024 : ℝ) : EReal) := by
  simp [lit, Ideal.ofBits, Ideal.ieee]
  rw [← EReal.coe_mul]
  norm_num

theorem lit_64 : lit 0x42800000#32 = ((64 : ℝ) : EReal) := by
  simp [lit, Ideal.ofBits, Ideal.ieee]
  rw [← EReal.coe_mul]
  norm_num

theorem lit_64th : lit 0x3C800000#32 = (((64 : ℝ)⁻¹ : ℝ) : EReal) := by
  simp [lit, Ideal.ofBits, Ideal.ieee]
  rw [← EReal.coe_mul]
  norm_num

/-- The norm's small constant is a positive real number. -/
theorem lit_eps : ∃ r : ℝ, 0 < r ∧ lit 0x358637BD#32 = r := by
  refine ⟨_, ?_, by simp only [lit, Ideal.ofBits, Ideal.ieee]; simp; rfl⟩
  norm_num

/-- A square is never negative. -/
theorem square_nonneg (x : EReal) : 0 ≤ x * x := by
  induction x with
  | bot => simp
  | top => simp
  | coe r => exact_mod_cast mul_self_nonneg r

/-- The square of an extended real that is not a real number is infinite. -/
theorem real_of_square {x : EReal} (h : x * x ≠ ⊤) : IsReal x := by
  induction x with
  | bot => simp at h
  | top => simp at h
  | coe r => exact ⟨r, rfl⟩

theorem rsqrt_top : Ideal.rsqrt ⊤ = 0 := rfl

theorem rsqrt_pos (r : ℝ) (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.2 h.le), if_neg h.ne']

/-- The norm of a row is a real number wherever the gain is one. -/
theorem norm_real (x g : Fin 1024 → EReal) (j : Fin 1024) (hg : IsReal (g j)) : IsReal (Post.norm x g j) := by
  obtain ⟨e, he, hl⟩ := lit_eps
  unfold Post.norm
  refine IsReal.mul ?_ hg
  rw [lit_1024, hl]
  have hd (y : EReal) : Ideal.div y ((1024 : ℝ) : EReal) = y * ((1024⁻¹ : ℝ) : EReal) := by
    unfold Ideal.div
    rw [if_neg (by norm_num), EReal.coe_inv]
  rw [hd]
  by_cases hs : ∑ k, x k * x k = ⊤
  · rw [hs, EReal.top_mul_coe_of_pos (by norm_num), EReal.top_add_coe]
    exact ⟨0, by rw [rsqrt_top]; simp⟩
  · have hx (k : Fin 1024) : IsReal (x k) := by
      refine real_of_square fun ht => hs (top_le_iff.1 ?_)
      rw [← ht]
      exact Finset.single_le_sum (fun i _ => square_nonneg (x i)) (Finset.mem_univ k)
    obtain ⟨s, hsr⟩ := IsReal.sum Finset.univ (fun k => x k * x k) fun k => (hx k).mul (hx k)
    have h0 : 0 ≤ s := by
      have : (0 : EReal) ≤ ∑ k, x k * x k := Finset.sum_nonneg fun i _ => square_nonneg (x i)
      rw [hsr] at this
      exact_mod_cast this
    refine (hx j).mul ?_
    rw [hsr, ← EReal.coe_mul, ← EReal.coe_add]
    have hp : 0 < s * 1024⁻¹ + e := by positivity
    exact ⟨(Real.sqrt (s * 1024⁻¹ + e))⁻¹, rsqrt_pos _ hp⟩

/-- A projected entry is a real number where the modulation, its gain and the column of the weights are. -/
theorem prod_real {p : ℕ} (x shift scale g : Fin 1024 → EReal) (W : Fin 1024 → Fin p → EReal) (j : Fin p) (h0 : ∀ k, IsReal (shift k))
    (h1 : ∀ k, IsReal (scale k)) (hg : ∀ k, IsReal (g k)) (hW : ∀ k, IsReal (W k j)) : IsReal (prod (modulated x shift scale g) W j) :=
  IsReal.sum _ _ fun k => (((norm_real x g k (hg k)).mul (IsReal.add ⟨1, by simp⟩ (h1 k))).add (h0 k)).mul (hW k)

/-- The root-mean-square norm of a head, with a gain. -/
def headNorm (t g : Fin 64 → EReal) (d : Fin 64) : EReal :=
  t d * Ideal.rsqrt (Ideal.div (∑ k, t k * t k) (lit 0x42800000#32) + lit 0x358637BD#32) * g d

/-- The even entries of a head before its odd ones. -/
def evenOdd (a : Fin 64) : Fin 64 := if h : a.val < 32 then ⟨2 * a.val, by omega⟩ else ⟨2 * (a.val - 32) + 1, by omega⟩

theorem evenOdd_bijective : Function.Bijective evenOdd := by decide

/-- One lane of several heads, normed with the means that a matrix takes of the squares, split in two parts. -/
def lane {w : ℕ} (u g : Fin w → EReal) (H : Fin w → Fin w → EReal) (j : Fin w) : EReal :=
  u j * Ideal.rsqrt ((∑ k, u k * u k * H k j) + (∑ k, (u k * u k - u k * u k) * H k j) + lit 0x358637BD#32) * g j

/-- A sum over the lanes of `n` heads is the sum over the heads of the sums over their lanes. -/
theorem sum_heads (n : ℕ) (f : Fin (n * 64) → EReal) :
    ∑ k, f k = ∑ h : Fin n, ∑ a : Fin 64, f ⟨64 * h.val + a.val, by omega⟩ := by
  rw [← Fintype.sum_equiv finProdFinEquiv (fun p : Fin n × Fin 64 => f (finProdFinEquiv p)) f fun _ => rfl, Fintype.sum_prod_type]
  refine Finset.sum_congr rfl fun h _ => Finset.sum_congr rfl fun a _ => congrArg f (Fin.ext ?_)
  simp [Nat.add_comm]

/-- A lane's norm is the head's, if the matrix holds a 64th within the heads and zero elsewhere, and the entries are real. -/
theorem lane_eq (n : ℕ) (u g : Fin (n * 64) → EReal) (H : Fin (n * 64) → Fin (n * 64) → EReal) (T G : Fin n → Fin 64 → EReal)
    (hu : ∀ k, IsReal (u k)) (hT : ∀ (h : Fin n) (a : Fin 64), u ⟨64 * h.val + a.val, by omega⟩ = T h (evenOdd a))
    (hG : ∀ (h : Fin n) (a : Fin 64), g ⟨64 * h.val + a.val, by omega⟩ = G h (evenOdd a))
    (hH : ∀ k j, H k j = if k.val / 64 = j.val / 64 then lit 0x3C800000#32 else 0) (h : Fin n) (a : Fin 64) :
    lane u g H ⟨64 * h.val + a.val, by omega⟩ = headNorm (T h) (G h) (evenOdd a) := by
  unfold lane headNorm
  rw [hT, hG]
  have hz (k : Fin (n * 64)) (j : Fin (n * 64)) : (u k * u k - u k * u k) * H k j = 0 := by
    obtain ⟨r, hr⟩ := hu k
    rw [hr, ← EReal.coe_mul, ← EReal.coe_sub, sub_self, EReal.coe_zero, zero_mul]
  rw [Finset.sum_congr rfl fun k _ => hz k _, Finset.sum_const_zero, add_zero, sum_heads]
  have hs : ∀ h' : Fin n, h' ≠ h → ∑ a' : Fin 64, u ⟨64 * h'.val + a'.val, by omega⟩ * u ⟨64 * h'.val + a'.val, by omega⟩
      * H ⟨64 * h'.val + a'.val, by omega⟩ ⟨64 * h.val + a.val, by omega⟩ = 0 := by
    intro h' hne
    refine Finset.sum_eq_zero fun a' _ => ?_
    rw [hH, if_neg, mul_zero]
    intro he
    exact hne (Fin.ext (by simp only at he; omega))
  rw [Finset.sum_eq_single h (fun h' _ => hs h') (fun hm => absurd (Finset.mem_univ h) hm)]
  have ht (d : Fin 64) : IsReal (T h d) := by
    obtain ⟨a', rfl⟩ := evenOdd_bijective.2 d
    rw [← hT]
    exact hu _
  choose r hr using ht
  have e1 : ∑ a' : Fin 64, u ⟨64 * h.val + a'.val, by omega⟩ * u ⟨64 * h.val + a'.val, by omega⟩
      * H ⟨64 * h.val + a'.val, by omega⟩ ⟨64 * h.val + a.val, by omega⟩ = ∑ d : Fin 64, T h d * T h d * lit 0x3C800000#32 := by
    rw [← evenOdd_bijective.sum_comp fun d => T h d * T h d * lit 0x3C800000#32]
    refine Finset.sum_congr rfl fun a' _ => ?_
    rw [hH, if_pos (by simp only; omega), hT]
  have coe_sum (f : Fin 64 → ℝ) : ((∑ i, f i : ℝ) : EReal) = ∑ i, (f i : EReal) := map_sum (⟨⟨Real.toEReal, EReal.coe_zero⟩, EReal.coe_add⟩ : ℝ →+ EReal) f _
  have e2 : ∑ d : Fin 64, T h d * T h d * lit 0x3C800000#32 = Ideal.div (∑ d, T h d * T h d) (lit 0x42800000#32) := by
    unfold Ideal.div
    rw [lit_64, lit_64th, if_neg (by norm_num), ← EReal.coe_inv]
    simp only [hr, ← EReal.coe_mul, ← coe_sum]
    rw [Finset.sum_mul]
  rw [e1, e2]

/-- The rotation of a head's normed pairs by an angle, the first of each pair (`b = 0`) or the second. -/
def turned (n : Fin 64 → EReal) (c s : Fin 32 → EReal) (b : Fin 2) (e : Fin 32) : EReal :=
  if b = 0 then n ⟨2 * e.val, by omega⟩ * c e - n ⟨2 * e.val + 1, by omega⟩ * s e
  else n ⟨2 * e.val, by omega⟩ * s e + n ⟨2 * e.val + 1, by omega⟩ * c e

/-- The rotation in lanes: each lane times the cosine, plus the lane of the other half of its head times the sine, whose
sign is the half's. -/
def swung {w : ℕ} (t c s : Fin w → EReal) (left right : Fin w → Fin w) (j : Fin w) : EReal :=
  t j * c j + (if j.val % 64 < 32 then t (left j) else t (right j)) * s j

/-- The rotation in lanes is the rotation of the pairs. -/
theorem swung_eq (n : ℕ) (t c s : Fin (n * 64) → EReal) (left right : Fin (n * 64) → Fin (n * 64)) (N : Fin n → Fin 64 → EReal)
    (C S : Fin 32 → EReal) (ht : ∀ (h : Fin n) (a : Fin 64), t ⟨64 * h.val + a.val, by omega⟩ = N h (evenOdd a))
    (hl : ∀ j, j.val % 64 < 32 → (left j).val = j.val + 32) (hr : ∀ j, ¬j.val % 64 < 32 → (right j).val = j.val - 32)
    (hc : ∀ (h : Fin n) (b : Fin 2) (e : Fin 32), c ⟨64 * h.val + 32 * b.val + e.val, by omega⟩ = C e)
    (hs : ∀ (h : Fin n) (b : Fin 2) (e : Fin 32), s ⟨64 * h.val + 32 * b.val + e.val, by omega⟩ = if b = 0 then -S e else S e)
    (h : Fin n) (b : Fin 2) (e : Fin 32) :
    swung t c s left right ⟨64 * h.val + 32 * b.val + e.val, by omega⟩ = turned (N h) C S b e := by
  have t0 : t ⟨64 * h.val + e.val, by omega⟩ = N h ⟨2 * e.val, by omega⟩ := by
    have := ht h ⟨e.val, by omega⟩
    rw [this, evenOdd, dif_pos e.isLt]
  have t1 : t ⟨64 * h.val + 32 + e.val, by omega⟩ = N h ⟨2 * e.val + 1, by omega⟩ := by
    have := ht h ⟨32 + e.val, by omega⟩
    rw [evenOdd, dif_neg (by simp)] at this
    rw [show (⟨64 * h.val + 32 + e.val, by omega⟩ : Fin (n * 64)) = ⟨64 * h.val + (32 + e.val), by omega⟩ from Fin.ext (by simp only; omega), this]
    exact congrArg (N h) (Fin.ext (by simp))
  unfold swung turned
  rw [hc, hs]
  obtain rfl | rfl : b = 0 ∨ b = 1 := by omega
  · rw [if_pos (by simp; omega), if_pos rfl, if_pos rfl, mul_neg, ← sub_eq_add_neg, ← t0, ← t1]
    congr 3
    exact Fin.ext ((hl _ (by simp; omega)).trans (by simp; omega))
  · rw [if_neg (by simp; omega), if_neg (by simp), if_neg (by simp), ← t0, ← t1, add_comm]
    congr 3
    exact Fin.ext ((hr _ (by simp; omega)).trans (by simp; omega))
end Cert.Premix
end
-- ==== Proof.Premix.Body.lean ====
module
public import proofs.«01_k».proof.Proof.Gen.Kernel3Ideal.Value
public import proofs.«01_k».proof.Proof.Premix.Rows
public import Idealize.ShloMosaic.Lib.Pipeline.ValueKit
public import Idealize.ShloMosaic.Lib.Pipeline.ReadBack
public import Idealize.ShloMosaic.Lib.Pointwise
/-! What the body of the call before the mixers computes at one row of its block. -/
@[expose] public section
set_option maxRecDepth 16384
noncomputable section
namespace Cert.Kernel3Ideal.Premix
open Idealize.ShloMosaic Cert.Kernel3Ideal Cert.Kernel3Ideal.Gen Cert.Post Cert.Premix

/-- A row of the block, projected. -/
def projected (x0 : Vec Ideal S256x1024 .f32) (x1 : Vec Ideal S1x6x1024 .f32) (x2 : Vec Ideal S1x1024 .f32) (x3 : Vec Ideal S1024x1792 .bf16)
    (r : Fin 256) : Fin 1792 → EReal :=
  prod (modulated (fun j => x0 (ix2 r j)) (fun j => x1 (ix3 0 0 j)) (fun j => x1 (ix3 0 1 j)) (fun j => x2 (ix2 0 j))) (fun k j => x3 (ix2 k j))

theorem pay6_at (x0 : Vec Ideal S256x1024 .f32) (x1 : Vec Ideal S1x6x1024 .f32) (x2 : Vec Ideal S1x1024 .f32) (x3 : Vec Ideal S1024x1792 .bf16)
    (r : Fin 256) (j : Fin 1792) : k0_pay6 x1 x0 x2 x3 (ix2 r j) = projected x0 x1 x2 x3 r j := by
  pointwise [k0_pay6]
  rfl

theorem pay15_at (u : FVec Ideal S256x1792 .f32) (H : Vec Ideal S256x256 .bf16) (g : Vec Ideal S1x256 .f32) (r j : Fin 256) :
    k0_pay15 u H g (ix2 r j) = lane (fun j : Fin 256 => u (ix2 r ⟨1280 + j.val, by omega⟩)) (fun j => g (ix2 0 j)) (fun k j => H (ix2 k j)) j := by
  pointwise [k0_pay15, k0_pay12]
  rfl

theorem pay19_at (u : FVec Ideal S256x1792 .f32) (H : FVec Ideal S256x256 .bf16) (g : Vec Ideal S1x128 .f32) (r : Fin 256) (j : Fin 128) :
    k0_pay19 u H g (ix2 r j) = lane (fun j : Fin 128 => u (ix2 r ⟨1536 + j.val, by omega⟩)) (fun j => g (ix2 0 j))
      (fun k j => H (ix2 ⟨k.val, by omega⟩ ⟨j.val, by omega⟩)) j := by
  pointwise [k0_pay19]
  rfl

/-- The remainder of a lane's number by 64, with the sign of the divisor. -/
def within (n : BitVec 32) : BitVec 32 :=
  let d : BitVec 32 := Scalar.select (Scalar.cmpi .eq 64#32 0#32) 1#32 64#32
  let q := IntOp.remsi .vector n d
  Scalar.select (IntOp.andi (IntOp.xori (IntOp.cmpi .slt q 0#32) (Scalar.cmpi .slt d 0#32)) (IntOp.cmpi .ne q 0#32)) (IntOp.addi q d) q

/-- The comparison that tells the first half of a head's lanes. -/
theorem first_half : ∀ j : Fin 256, IntOp.cmpi .slt (within (BitVec.ofNat 32 j.val)) 32#32 = if j.val % 64 < 32 then 1#1 else 0#1 := by
  decide +kernel

/-- A choice by that comparison. -/
theorem select_half {α : Type} (j : ℕ) (hj : j < 256) (a b : α) :
    Scalar.select (IntOp.cmpi .slt (within (BitVec.ofNat 32 j)) 32#32) a b = if j % 64 < 32 then a else b := by
  rw [first_half ⟨j, hj⟩]
  dsimp only
  split <;> rfl

theorem pay18_at (c s t : FVec Ideal S256x256 .f32) (r j : Fin 256) :
    k0_pay18 c s t k0_pay16 k0_pay17 (ix2 r j) = swung (fun j => t (ix2 r j)) (fun j => c (ix2 r j)) (fun j => s (ix2 r j))
      (fun j => ⟨(j.val + 256 - 224) % 256, by omega⟩) (fun j => ⟨(j.val + 256 - 32) % 256, by omega⟩) j * (((8 * Real.log 2)⁻¹ : ℝ) : EReal) := by
  pointwise [k0_pay18, k0_pay16, k0_pay17]
  unfold swung
  rw [← select_half j.val j.isLt]
  rfl

theorem pay1_at (c s t : FVec Ideal S256x128 .f32) (r : Fin 256) (j : Fin 128) :
    k0_pay1 c s t k0_pay20 k0_pay21 (ix2 r j) = swung (fun j => t (ix2 r j)) (fun j => c (ix2 r j)) (fun j => s (ix2 r j))
      (fun j => ⟨(j.val + 128 - 96) % 128, by omega⟩) (fun j => ⟨(j.val + 128 - 32) % 128, by omega⟩) j := by
  pointwise [k0_pay1, k0_pay20, k0_pay21]
  unfold swung
  rw [← select_half j.val (by omega)]
  rfl

/-- The tables of 128 lanes, twice over. -/
theorem twice_at (c : Vec Ideal S256x128 .f32) (r j : Fin 256) : k0_pay13 c (ix2 r j) = c (ix2 r ⟨j.val % 128, by omega⟩) := by
  pointwise [k0_pay13, k0_pay10]
  split
  · exact congrArg (fun k => c (ix2 r k)) (Fin.ext (Nat.mod_eq_of_lt (by assumption)).symm)
  · exact congrArg (fun k => c (ix2 r k)) (Fin.ext (by simp only; omega))

theorem out9_at (x0 : Vec Ideal S256x1024 .f32) (x1 : Vec Ideal S1x6x1024 .f32) (x2 : Vec Ideal S1x1024 .f32) (x3 : Vec Ideal S1024x1792 .bf16)
    (x4 x5 : Vec Ideal S256x128 .f32) (x6 : Vec Ideal S1x256 .f32) (x7 : Vec Ideal S1x128 .f32) (x8 : Vec Ideal S256x256 .bf16)
    (r : Fin 256) (j : Fin 768) : out0_9 x0 x1 x2 x3 x4 x5 x6 x7 x8 (ix2 r j) = projected x0 x1 x2 x3 r ⟨j.val, by omega⟩ := by
  unfold_out out0_9
  frame_out
  rw [← pay6_at]
  pointwise [k0_pay7]

theorem out10_at (x0 : Vec Ideal S256x1024 .f32) (x1 : Vec Ideal S1x6x1024 .f32) (x2 : Vec Ideal S1x1024 .f32) (x3 : Vec Ideal S1024x1792 .bf16)
    (x4 x5 : Vec Ideal S256x128 .f32) (x6 : Vec Ideal S1x256 .f32) (x7 : Vec Ideal S1x128 .f32) (x8 : Vec Ideal S256x256 .bf16)
    (r j : Fin 256) : out0_10 x0 x1 x2 x3 x4 x5 x6 x7 x8 (ix2 r j) = projected x0 x1 x2 x3 r ⟨768 + j.val, by omega⟩ := by
  unfold_out out0_10
  frame_out
  rw [← pay6_at]
  pointwise [k0_pay8]

theorem out11_at (x0 : Vec Ideal S256x1024 .f32) (x1 : Vec Ideal S1x6x1024 .f32) (x2 : Vec Ideal S1x1024 .f32) (x3 : Vec Ideal S1024x1792 .bf16)
    (x4 x5 : Vec Ideal S256x128 .f32) (x6 : Vec Ideal S1x256 .f32) (x7 : Vec Ideal S1x128 .f32) (x8 : Vec Ideal S256x256 .bf16)
    (r j : Fin 256) : out0_11 x0 x1 x2 x3 x4 x5 x6 x7 x8 (ix2 r j) = projected x0 x1 x2 x3 r ⟨1024 + j.val, by omega⟩ := by
  unfold_out out0_11
  frame_out
  rw [← pay6_at]
  pointwise [k0_pay9]

theorem out14_at (x0 : Vec Ideal S256x1024 .f32) (x1 : Vec Ideal S1x6x1024 .f32) (x2 : Vec Ideal S1x1024 .f32) (x3 : Vec Ideal S1024x1792 .bf16)
    (x4 x5 : Vec Ideal S256x128 .f32) (x6 : Vec Ideal S1x256 .f32) (x7 : Vec Ideal S1x128 .f32) (x8 : Vec Ideal S256x256 .bf16)
    (j : Fin 128) (r : Fin 256) : out0_14 x0 x1 x2 x3 x4 x5 x6 x7 x8 (ix2 j r) = projected x0 x1 x2 x3 r ⟨1664 + j.val, by omega⟩ := by
  unfold_out out0_14
  frame_out
  rw [← pay6_at]
  pointwise [k0_pay3]

theorem out12_at (x0 : Vec Ideal S256x1024 .f32) (x1 : Vec Ideal S1x6x1024 .f32) (x2 : Vec Ideal S1x1024 .f32) (x3 : Vec Ideal S1024x1792 .bf16)
    (x4 x5 : Vec Ideal S256x128 .f32) (x6 : Vec Ideal S1x256 .f32) (x7 : Vec Ideal S1x128 .f32) (x8 : Vec Ideal S256x256 .bf16)
    (j r : Fin 256) : out0_12 x0 x1 x2 x3 x4 x5 x6 x7 x8 (ix2 j r) = swung
      (lane (fun j : Fin 256 => projected x0 x1 x2 x3 r ⟨1280 + j.val, by omega⟩) (fun j => x6 (ix2 0 j)) (fun k j => x8 (ix2 k j)))
      (fun j => x4 (ix2 r ⟨j.val % 128, by omega⟩)) (fun j => x5 (ix2 r ⟨j.val % 128, by omega⟩))
      (fun j => ⟨(j.val + 256 - 224) % 256, by omega⟩) (fun j => ⟨(j.val + 256 - 32) % 256, by omega⟩) j * (((8 * Real.log 2)⁻¹ : ℝ) : EReal) := by
  unfold_out out0_12
  frame_out
  have e (u : FVec Ideal S256x256 .f32) : k0_pay2 u (ix2 j r) = u (ix2 r j) := by pointwise [k0_pay2]
  have e4 (r j : Fin 256) : k0_pay14 x5 (ix2 r j) = x5 (ix2 r ⟨j.val % 128, by omega⟩) := twice_at x5 r j
  rw [e, pay18_at]
  simp only [twice_at, e4, pay15_at, pay6_at]

theorem out13_at (x0 : Vec Ideal S256x1024 .f32) (x1 : Vec Ideal S1x6x1024 .f32) (x2 : Vec Ideal S1x1024 .f32) (x3 : Vec Ideal S1024x1792 .bf16)
    (x4 x5 : Vec Ideal S256x128 .f32) (x6 : Vec Ideal S1x256 .f32) (x7 : Vec Ideal S1x128 .f32) (x8 : Vec Ideal S256x256 .bf16)
    (h : Fin 2) (r : Fin 256) (a : Fin 64) : out0_13 x0 x1 x2 x3 x4 x5 x6 x7 x8 (ix3 h r a) = swung
      (lane (fun j : Fin 128 => projected x0 x1 x2 x3 r ⟨1536 + j.val, by omega⟩) (fun j => x7 (ix2 0 j))
        (fun k j => x8 (ix2 ⟨k.val, by omega⟩ ⟨j.val, by omega⟩)))
      (fun j => x4 (ix2 r j)) (fun j => x5 (ix2 r j))
      (fun j => ⟨(j.val + 128 - 96) % 128, by omega⟩) (fun j => ⟨(j.val + 128 - 32) % 128, by omega⟩) ⟨64 * h.val + a.val, by omega⟩ := by
  unfold_out out0_13
  frame_out
  refine (Value.canon13_eq x4 x5 x1 x0 x2 x3 x8 x7 _).trans ?_
  have e0 : k0_pay10 x4 = x4 := by
    funext i
    obtain ⟨r, j, rfl⟩ : ∃ (r : Fin 256) (j : Fin 128), i = ix2 r j := ⟨i 0, i 1, by funext x; fin_cases x <;> rfl⟩
    pointwise [k0_pay10]
  have e1 : k0_pay11 x5 = x5 := by
    funext i
    obtain ⟨r, j, rfl⟩ : ∃ (r : Fin 256) (j : Fin 128), i = ix2 r j := ⟨i 0, i 1, by funext x; fin_cases x <;> rfl⟩
    pointwise [k0_pay11]
  have e2 : k0_pay12 x8 = x8 := by
    funext i
    obtain ⟨r, j, rfl⟩ : ∃ (r j : Fin 256), i = ix2 r j := ⟨i 0, i 1, by funext x; fin_cases x <;> rfl⟩
    pointwise [k0_pay12]
  refine Eq.trans (b := k0_pay1 (k0_pay10 x4) (k0_pay11 x5) (k0_pay19 (k0_pay6 x1 x0 x2 x3) (k0_pay12 x8) x7) k0_pay20 k0_pay21
    (ix2 r ⟨64 * h.val + a.val, by omega⟩)) ?_ ?_
  · refine congrArg (k0_pay1 (k0_pay10 x4) (k0_pay11 x5) (k0_pay19 (k0_pay6 x1 x0 x2 x3) (k0_pay12 x8) x7) k0_pay20 k0_pay21) ?_
    funext x
    fin_cases x
    · rfl
    · exact Fin.ext (by simp; omega)
  rw [e0, e1, e2, pay1_at]
  simp only [pay19_at, pay6_at]
end Cert.Kernel3Ideal.Premix
end
-- ==== Proof.Premix.Words.lean ====
module
public import proofs.«01_k».proof.Proof.Premix.Body
/-! The host's gathers: which column of the weights and which gain each lane of the kernel reads. -/
@[expose] public section
set_option maxRecDepth 16384
noncomputable section
namespace Cert.Kernel3Ideal.Premix
open Idealize.ShloMosaic Idealize.ShloMosaic.TcCoe Cert.Kernel3Ideal Cert.Kernel3Ideal.Gen Cert.Premix

/-- A small number's word, read signed and clamped into a table it fits, is the number. -/
theorem clamp_word (n b : ℕ) (h : n ≤ b) (hb : b < 4096) : min (BitVec.ofNat 32 n).toInt.toNat b = n := by
  rw [BitVec.toInt_eq_toNat_of_lt (by rw [BitVec.toNat_ofNat]; omega), BitVec.toNat_ofNat]
  omega

/-- The gather of the weights' columns reads, at lane `j`, the column that the index table names. -/
theorem gather_cols (W : Vec Ideal S1024x1792 .f32) (idx : IVec S1792x1 32) (col : Fin 1792 → Fin 1792)
    (h : ∀ j, idx (ix2 j 0) = BitVec.ofNat 32 (col j).val) (i : Fin 1024) (j : Fin 1792) :
    Host.gather gather_S1024x1792_S1792x1_S1024x1792_0_1_n_n_1_1_10241 W idx (ix2 i j) = W (ix2 i (col j)) := by
  unfold Host.gather
  congr 1
  funext a
  refine Fin.ext ?_
  fin_cases a
  · show GatherDims.start _ _ _ _ + GatherDims.batchCoord _ _ _ + GatherDims.offCoord _ _ _ = i.val
    rw [GatherDims.batchCoord_eq_zero _ _ _ List.not_mem_nil]
    unfold GatherDims.start
    rw [dif_neg (by decide)]
    simp only [Nat.zero_add]
    rfl
  · show GatherDims.start _ _ _ _ + GatherDims.batchCoord _ _ _ + GatherDims.offCoord _ _ _ = (col j).val
    rw [GatherDims.batchCoord_eq_zero _ _ _ List.not_mem_nil, GatherDims.offCoord_eq_zero _ _ _ (by decide)]
    unfold GatherDims.start
    rw [dif_pos (by decide)]
    simp only [Nat.add_zero]
    refine Eq.trans (congrArg (fun w : BitVec 32 => min w.toInt.toNat 1791) (Eq.trans (congrArg idx ?_) (h j))) (clamp_word _ _ (by omega) (by omega))
    funext b
    refine Fin.ext ?_
    fin_cases b <;> rfl

/-- The gather of a gain reads, at lane `j`, the entry that the index table names. -/
theorem gather_gain (g : Vec Ideal S64 .f32) (idx : IVec S64x1 32) (e : Fin 64 → Fin 64)
    (h : ∀ j, idx (ix2 j 0) = BitVec.ofNat 32 (e j).val) (j : Fin 64) :
    Host.gather gather_S64_S64x1_S64_n_0_n_n_0_1_1 g idx (ix1 j) = g (ix1 (e j)) := by
  unfold Host.gather
  congr 1
  funext a
  refine Fin.ext ?_
  fin_cases a
  show GatherDims.start _ _ _ _ + GatherDims.batchCoord _ _ _ + GatherDims.offCoord _ _ _ = (e j).val
  rw [GatherDims.batchCoord_eq_zero _ _ _ List.not_mem_nil, GatherDims.offCoord_eq_zero _ _ _ (by decide)]
  unfold GatherDims.start
  rw [dif_pos (by decide)]
  simp only [Nat.add_zero]
  refine Eq.trans (congrArg (fun w : BitVec 32 => min w.toInt.toNat 63) (Eq.trans (congrArg idx ?_) (h j))) (clamp_word _ _ (by omega) (by omega))
  funext b
  refine Fin.ext ?_
  fin_cases b <;> rfl
end Cert.Kernel3Ideal.Premix
end
-- ==== Proof.Premix.Division.lean ====
module
public import proofs.«01_k».proof.Proof.Premix.Words
/-! The host's division of a row's number by 64: its quotient and its remainder. -/
@[expose] public section
set_option maxRecDepth 16384
noncomputable section
namespace Cert.Kernel3Ideal.Premix
open Idealize.ShloMosaic Idealize.ShloMosaic.TcCoe Cert.Kernel3Ideal Cert.Kernel3Ideal.Gen Cert.Premix

/-- The host's integer quotient of a row's number by 64, rounded down. -/
def quotients : IVec S16384 32 :=
  select (andi (cmpi .ne (signi (iotaInDim S16384 32 0)) (broadcastInDim S16384 ![] bcast_S_S16384 (signi (constantI S_ 32 64#32))))
      (cmpi .ne (Host.remsi (iotaInDim S16384 32 0) (broadcastInDim S16384 ![] bcast_S_S16384 (constantI S_ 32 64#32)))
        (broadcastInDim S16384 ![] bcast_S_S16384 (constantI S_ 32 0#32))))
    (subi (Host.divsi (iotaInDim S16384 32 0) (broadcastInDim S16384 ![] bcast_S_S16384 (constantI S_ 32 64#32)))
      (broadcastInDim S16384 ![] bcast_S_S16384 (constantI S_ 32 1#32)))
    (Host.divsi (iotaInDim S16384 32 0) (broadcastInDim S16384 ![] bcast_S_S16384 (constantI S_ 32 64#32)))

/-- The divisor of the host's remainder: one if it were zero, else 64. -/
def divisor : IVec S_ 32 := select (cmpi .eq (constantI S_ 32 64#32) (constantI S_ 32 0#32)) (constantI S_ 32 1#32) (constantI S_ 32 64#32)

/-- The remainder of a row's number by the divisor, with the dividend's sign. -/
def signedRest : IVec S16384 32 := Host.remsi (iotaInDim S16384 32 0) (broadcastInDim S16384 ![] bcast_S_S16384 divisor)

/-- The host's remainder of a row's number by 64, with the divisor's sign. -/
def remainders : IVec S16384 32 :=
  select (andi (cmpi .ne (cmpi .slt signedRest (broadcastInDim S16384 ![] bcast_S_S16384 (constantI S_ 32 0#32)))
        (broadcastInDim S16384 ![] bcast_S_S16384 (cmpi .slt divisor (constantI S_ 32 0#32))))
      (cmpi .ne signedRest (broadcastInDim S16384 ![] bcast_S_S16384 (constantI S_ 32 0#32))))
    (addi signedRest (broadcastInDim S16384 ![] bcast_S_S16384 divisor)) signedRest

/-- The quotient of row `64 a + b` is `a`. -/
theorem quotients_at : ∀ (a : Fin 256) (b : Fin 64), quotients (ix1 ⟨64 * a.val + b.val, by omega⟩) = BitVec.ofNat 32 a.val := by
  decide +kernel

/-- The remainder of row `64 a + b` is `b`. -/
theorem remainders_at : ∀ (a : Fin 256) (b : Fin 64), remainders (ix1 ⟨64 * a.val + b.val, by omega⟩) = BitVec.ofNat 32 b.val := by
  decide +kernel

end Cert.Kernel3Ideal.Premix
end
-- ==== Proof.Premix.Tables.lean ====
module
public import proofs.«01_k».proof.Proof.Premix.Division
public import Idealize.ShloMosaic.Lib.StableHlo.RunRead
/-! The tables that the host makes for the rotation: the cosine and the signed sine of every row's angles. -/
@[expose] public section
set_option maxRecDepth 16384
noncomputable section
namespace Cert.Kernel3Ideal.Premix
open Idealize.ShloMosaic Idealize.ShloMosaic.TcCoe Cert.Kernel3Ideal Cert.Kernel3Ideal.Gen Cert.Premix Cert.Post

/-- The rotation's 16 frequencies. -/
def freqs : Vec Ideal S16 .f32 :=
  Host.powf (broadcastInDim S16 ![] bcast_S_S16 (constant (F := Ideal) S_ .f32 0x461C4000#32))
    (Host.divf (Host.negf (addf (broadcastInDim S16 ![] bcast_S_S16 (constant (F := Ideal) S_ .f32 0x00000000#32))
        (mulf (broadcastInDim S16 ![] bcast_S_S16 (constant (F := Ideal) S_ .f32 0x40000000#32)) (sitofp (F := Ideal) .f32 (iotaInDim S16 32 0)))))
      (broadcastInDim S16 ![] bcast_S_S16 (constant (F := Ideal) S_ .f32 0x42000000#32)))

/-- Frequency `b`. -/
def freq (b : Fin 16) : EReal :=
  Ideal.pow (lit 0x461C4000#32) (Ideal.div (-(lit 0x40000000#32 * FloatOps.sitofp (F := Ideal) .f32 (BitVec.ofNat 32 b.val))) (lit 0x42000000#32))

theorem freqs_at (b : Fin 16) : freqs (ix1 b) = freq b := by
  unfold freqs
  pointwise
  rfl

/-- A whole number as the host converts its word. -/
def whole (n : ℕ) : EReal := FloatOps.sitofp (F := Ideal) .f32 (BitVec.ofNat 32 n)

/-- The angle of lane `b` at row `i`: the row's place in the grid of 64 columns times a frequency, its row for the first
    16 lanes, its column for the others. Context rows have angle zero. -/
def angle (i : Fin 16640) (b : Fin 32) : EReal :=
  if i.val < 16384 then
    if h : b.val < 16 then whole (i.val / 64) * freq ⟨b.val, h⟩ else whole (i.val % 64) * freq ⟨b.val - 16, by omega⟩
  else 0

/-- Two arrays of 16 lanes side by side. -/
def anglePair (x y : Vec Ideal S16384x16 .f32) : Vec Ideal S16384x32 .f32 :=
  concatenate S16384x32 1 [⟨S16384x16, x⟩, ⟨S16384x16, y⟩] concatenates_S16384x16_S16384x16_S16384x32_d1

/-- The latent rows above the context rows. -/
def angleRows (x : Vec Ideal S16384x32 .f32) (y : Vec Ideal S256x32 .f32) : Vec Ideal S16640x32 .f32 :=
  concatenate S16640x32 0 [⟨S16384x32, x⟩, ⟨S256x32, y⟩] concatenates_S16384x32_S256x32_S16640x32_d0

/-- Four tables of 32 lanes side by side. -/
def tableCat (x y z w : Vec Ideal S16640x32 .f32) : Vec Ideal S16640x128 .f32 :=
  concatenate S16640x128 1 [⟨S16640x32, x⟩, ⟨S16640x32, y⟩, ⟨S16640x32, z⟩, ⟨S16640x32, w⟩]
    concatenates_S16640x32_S16640x32_S16640x32_S16640x32_S16640x128_d1

/-- One word a row times one frequency a lane. -/
def products (w : IVec S16384 32) : Vec Ideal S16384x16 .f32 :=
  mulf (broadcastInDim S16384x16 ![0, 1] bcast_S16384x1_S16384x16_0_1
      (broadcastInDim S16384x1 ![0] bcast_S16384_S16384x1_0 (sitofp (F := Ideal) .f32 w)))
    (broadcastInDim S16384x16 ![0, 1] bcast_S1x16_S16384x16_0_1 (broadcastInDim S1x16 ![1] bcast_S16_S1x16_1 freqs))

/-- All the angles. -/
def angles : Vec Ideal S16640x32 .f32 :=
  angleRows (anglePair (products quotients) (products remainders))
    (broadcastInDim S256x32 ![] bcast_S_S256x32 (constant (F := Ideal) S_ .f32 0x00000000#32))

theorem anglePair_at (x y : Vec Ideal S16384x16 .f32) (i : Fin 16384) (b : Fin 32) :
    anglePair x y (ix2 i b) = if h : b.val < 16 then x (ix2 i ⟨b.val, h⟩) else y (ix2 i ⟨b.val - 16, by omega⟩) := by
  unfold anglePair
  pointwise

theorem angleRows_at (x : Vec Ideal S16384x32 .f32) (y : Vec Ideal S256x32 .f32) (i : Fin 16640) (b : Fin 32) :
    angleRows x y (ix2 i b) = if h : i.val < 16384 then x (ix2 ⟨i.val, h⟩ b) else y (ix2 ⟨i.val - 16384, by omega⟩ b) := by
  unfold angleRows
  pointwise

theorem tableCat_at (x y z w : Vec Ideal S16640x32 .f32) (i : Fin 16640) (j : Fin 128) :
    tableCat x y z w (ix2 i j) = (if j.val / 32 = 0 then x else if j.val / 32 = 1 then y else if j.val / 32 = 2 then z else w)
      (ix2 i ⟨j.val % 32, by omega⟩) := by
  unfold tableCat
  pointwise
  have hj := j.isLt
  have lane (n : ℕ) (hn : n < 32) (e : n = j.val % 32) : (⟨n, hn⟩ : Fin 32) = ⟨j.val % 32, by omega⟩ := Fin.ext e
  by_cases h0 : j.val < 32
  · refine (dif_pos h0).trans ?_
    rw [show j.val / 32 = 0 by omega]
    exact congrArg x (congrArg (ix2 i) (lane _ h0 (by omega)))
  · refine (dif_neg h0).trans ?_
    by_cases h1 : j.val - 32 < 32
    · refine (dif_pos h1).trans ?_
      rw [show j.val / 32 = 1 by omega]
      exact congrArg y (congrArg (ix2 i) (lane _ h1 (by omega)))
    · refine (dif_neg h1).trans ?_
      by_cases h2 : j.val - 32 - 32 < 32
      · refine (dif_pos h2).trans ?_
        rw [show j.val / 32 = 2 by omega]
        exact congrArg z (congrArg (ix2 i) (lane _ h2 (by omega)))
      · refine (dif_neg h2).trans ?_
        rw [show j.val / 32 = 3 by omega]
        exact congrArg w (congrArg (ix2 i) (lane _ (by omega) (by omega)))

theorem products_at (w : IVec S16384 32) (i : Fin 16384) (b : Fin 16) :
    products w (ix2 i b) = FloatOps.sitofp (F := Ideal) .f32 (w (ix1 i)) * freq b := by
  unfold products
  pointwise [freqs_at]

theorem angles_at (i : Fin 16640) (b : Fin 32) : angles (ix2 i b) = angle i b := by
  unfold angles angle
  rw [angleRows_at]
  by_cases h : i.val < 16384
  · rw [dif_pos h, if_pos h, anglePair_at]
    have e : (⟨i.val, h⟩ : Fin 16384) = ⟨64 * (i.val / 64) + i.val % 64, by omega⟩ := Fin.ext (by simp; omega)
    have hq : quotients (ix1 ⟨i.val, h⟩) = BitVec.ofNat 32 (i.val / 64) := by
      rw [e]; exact quotients_at ⟨i.val / 64, by omega⟩ ⟨i.val % 64, by omega⟩
    have hr : remainders (ix1 ⟨i.val, h⟩) = BitVec.ofNat 32 (i.val % 64) := by
      rw [e]; exact remainders_at ⟨i.val / 64, by omega⟩ ⟨i.val % 64, by omega⟩
    split
    · rw [products_at, hq]; rfl
    · rw [products_at, hr]; rfl
  · rw [dif_neg h, if_neg h]
    pointwise

variable (m : (ℓ : Loc nD τ sig) → Buf (Elt Ideal) ℓ) (c : Dev nD)

theorem tableCat_def (x y z w : Vec Ideal S16640x32 .f32) :
    concatenate S16640x128 1 [⟨S16640x32, x⟩, ⟨S16640x32, y⟩, ⟨S16640x32, z⟩, ⟨S16640x32, w⟩]
      concatenates_S16640x32_S16640x32_S16640x32_S16640x32_S16640x128_d1 = tableCat x y z w := rfl

theorem angleRows_def (x : Vec Ideal S16384x32 .f32) (y : Vec Ideal S256x32 .f32) :
    concatenate S16640x32 0 [⟨S16384x32, x⟩, ⟨S256x32, y⟩] concatenates_S16384x32_S256x32_S16640x32_d0 = angleRows x y := rfl

theorem anglePair_def (x y : Vec Ideal S16384x16 .f32) :
    concatenate S16384x32 1 [⟨S16384x16, x⟩, ⟨S16384x16, y⟩] concatenates_S16384x16_S16384x16_S16384x32_d1 = anglePair x y := rfl

/-- The host's angles. -/
theorem made27 : V m c main_v27 = (angles : Vec Ideal S16640x32 .f32) := by
  dsimp only [V, hostOps0, hostOps0_1, hostOps0_2, hostOps0_3, hostOps0_4, List.flatten, List.append, List.append_nil, List.cons_append, List.nil_append]
  after_reads_simp
  erw [angleRows_def]
  after_reads_simp
  erw [anglePair_def]
  after_reads_simp
  rfl

/-- The host's table of cosines: the same 32 lanes four times. -/
theorem made30 (i : Fin 16640) (j : Fin 128) :
    (V m c main_v30 : Vec Ideal S16640x128 .f32) (ix2 i j) = Ideal.cos (angle i ⟨j.val % 32, by omega⟩) := by
  have e : V m c main_v30 = tableCat (Host.cos (F := Ideal) (φ := .f32) angles) (Host.cos (F := Ideal) (φ := .f32) angles)
      (Host.cos (F := Ideal) (φ := .f32) angles) (Host.cos (F := Ideal) (φ := .f32) angles) := by
    dsimp only [V, hostOps0, hostOps0_1, hostOps0_2, hostOps0_3, hostOps0_4, List.flatten, List.append, List.append_nil, List.cons_append, List.nil_append]
    after_reads_simp
    erw [tableCat_def]
    dsimp only [Matrix.cons_val_zero, Matrix.cons_val_one, Matrix.cons_val]
    after_reads_simp
    erw [angleRows_def]
    after_reads_simp
    erw [anglePair_def]
    after_reads_simp
    rfl
  rw [e, tableCat_at]
  simp only [ite_self]
  rw [← angles_at]
  rfl

/-- The host's table of sines: the 32 lanes negated, plain, negated and plain. -/
theorem made33 (i : Fin 16640) (j : Fin 128) :
    (V m c main_v33 : Vec Ideal S16640x128 .f32) (ix2 i j)
      = if j.val / 32 % 2 = 0 then -Ideal.sin (angle i ⟨j.val % 32, by omega⟩) else Ideal.sin (angle i ⟨j.val % 32, by omega⟩) := by
  have e : V m c main_v33 = tableCat (Host.negf (F := Ideal) (φ := .f32) (Host.sin (F := Ideal) (φ := .f32) angles)) (Host.sin (F := Ideal) (φ := .f32) angles)
      (Host.negf (F := Ideal) (φ := .f32) (Host.sin (F := Ideal) (φ := .f32) angles)) (Host.sin (F := Ideal) (φ := .f32) angles) := by
    dsimp only [V, hostOps0, hostOps0_1, hostOps0_2, hostOps0_3, hostOps0_4, List.flatten, List.append, List.append_nil, List.cons_append, List.nil_append]
    after_reads_simp
    erw [tableCat_def]
    dsimp only [Matrix.cons_val_zero, Matrix.cons_val_one, Matrix.cons_val]
    after_reads_simp
    erw [angleRows_def]
    after_reads_simp
    erw [anglePair_def]
    after_reads_simp
    rfl
  rw [e, tableCat_at, ← angles_at]
  have hj := j.isLt
  rcases (by omega : j.val / 32 = 0 ∨ j.val / 32 = 1 ∨ j.val / 32 = 2 ∨ j.val / 32 = 3) with h | h | h | h <;> rw [h] <;> rfl

end Cert.Kernel3Ideal.Premix
end
-- ==== Proof.Premix.Columns.lean ====
module
public import proofs.«01_k».proof.Proof.Premix.Words
public import Idealize.ShloMosaic.Lib.StableHlo.RunRead
/-! The host's gathered weights and gains, and its matrix of head means. -/
@[expose] public section
set_option maxRecDepth 16384
noncomputable section
namespace Cert.Kernel3Ideal.Premix
open Idealize.ShloMosaic Idealize.ShloMosaic.TcCoe Cert.Kernel3Ideal Cert.Kernel3Ideal.Gen Cert.Premix Cert.Post

/-- Even numbers, then odd ones. -/
def permCat (x y : IVec S32 32) : IVec S64 32 := concatenate S64 0 [⟨S32, x⟩, ⟨S32, y⟩] concatenates_S32_S32_S64_d0

theorem permCat_def (x y : IVec S32 32) : concatenate S64 0 [⟨S32, x⟩, ⟨S32, y⟩] concatenates_S32_S32_S64_d0 = permCat x y := rfl

/-- The host's words of a head's order: every second lane from `s`. -/
def everySecond (s : BitVec 32) : IVec S32 32 :=
  addi (broadcastInDim S32 ![] bcast_S_S32 (constantI S_ 32 s))
    (muli (broadcastInDim S32 ![] bcast_S_S32 (constantI S_ 32 2#32)) (iotaInDim S32 32 0))

/-- The order in which a head's lanes are read. -/
def order : IVec S64 32 := permCat (everySecond 0#32) (everySecond 1#32)

theorem order_at : ∀ a : Fin 64, order (ix1 a) = BitVec.ofNat 32 (evenOdd a).val := by decide +kernel

/-- The columns of the four query heads, from column 1280. -/
def queryCols : IVec S256 32 :=
  addi (broadcastInDim S256 ![] bcast_S_S256 (constantI S_ 32 1280#32))
    (shapeCast S256 (addi (broadcastInDim S4x64 ![0, 1] bcast_S4x1_S4x64_0_1 (muli (broadcastInDim S4x1 ![0] bcast_S4_S4x1_0 (iotaInDim S4 32 0))
        (broadcastInDim S4x1 ![] bcast_S_S4x1 (constantI S_ 32 64#32))))
      (broadcastInDim S4x64 ![0, 1] bcast_S1x64_S4x64_0_1 (broadcastInDim S1x64 ![1] bcast_S64_S1x64_1 order))) shapeCasts_S4x64_S256)

/-- The columns of the two key heads, from column 1536. -/
def keyCols : IVec S128 32 :=
  addi (broadcastInDim S128 ![] bcast_S_S128 (constantI S_ 32 1536#32))
    (shapeCast S128 (addi (broadcastInDim S2x64 ![0, 1] bcast_S2x1_S2x64_0_1 (muli (broadcastInDim S2x1 ![0] bcast_S2_S2x1_0 (iotaInDim S2 32 0))
        (broadcastInDim S2x1 ![] bcast_S_S2x1 (constantI S_ 32 64#32))))
      (broadcastInDim S2x64 ![0, 1] bcast_S1x64_S2x64_0_1 (broadcastInDim S1x64 ![1] bcast_S64_S1x64_1 order))) shapeCasts_S2x64_S128)

/-- Four lists of columns one after another. -/
def colCat (x : IVec S1280 32) (y : IVec S256 32) (z w : IVec S128 32) : IVec S1792 32 :=
  concatenate S1792 0 [⟨S1280, x⟩, ⟨S256, y⟩, ⟨S128, z⟩, ⟨S128, w⟩] concatenates_S1280_S256_S128_S128_S1792_d0

theorem colCat_def (x : IVec S1280 32) (y : IVec S256 32) (z w : IVec S128 32) :
    concatenate S1792 0 [⟨S1280, x⟩, ⟨S256, y⟩, ⟨S128, z⟩, ⟨S128, w⟩] concatenates_S1280_S256_S128_S128_S1792_d0 = colCat x y z w := rfl

/-- All the columns in the order in which the kernel reads them. -/
def cols : IVec S1792 32 :=
  colCat (iotaInDim S1280 32 0) queryCols keyCols (addi (broadcastInDim S128 ![] bcast_S_S128 (constantI S_ 32 1664#32)) (iotaInDim S128 32 0))

/-- The column that lane `j` reads: the lanes of a query or key head in the order of `evenOdd`, the others their own. -/
def column (j : Fin 1792) : Fin 1792 :=
  if 1280 ≤ j.val ∧ j.val < 1664 then ⟨j.val / 64 * 64 + (evenOdd ⟨j.val % 64, by omega⟩).val, by
    have := (evenOdd ⟨j.val % 64, by omega⟩).isLt; have := j.isLt; omega⟩ else j

theorem queryCols_at : ∀ a : Fin 256, queryCols (ix1 a) = BitVec.ofNat 32 (column ⟨1280 + a.val, by omega⟩).val := by decide +kernel

theorem keyCols_at : ∀ a : Fin 128, keyCols (ix1 a) = BitVec.ofNat 32 (column ⟨1536 + a.val, by omega⟩).val := by decide +kernel

theorem cols_at (j : Fin 1792) : cols (ix1 j) = BitVec.ofNat 32 (column j).val := by
  unfold cols colCat
  pointwise
  have hj := j.isLt
  by_cases h0 : j.val < 1280
  · refine (dif_pos h0).trans ?_
    rw [show column j = j from if_neg (by omega)]
  · refine (dif_neg h0).trans ?_
    by_cases h1 : j.val - 1280 < 256
    · refine (dif_pos h1).trans ((queryCols_at ⟨_, h1⟩).trans ?_)
      exact congrArg (fun l : Fin 1792 => BitVec.ofNat 32 (column l).val) (Fin.ext (by simp only []; omega))
    · refine (dif_neg h1).trans ?_
      by_cases h2 : j.val - 1280 - 256 < 128
      · refine (dif_pos h2).trans ((keyCols_at ⟨_, h2⟩).trans ?_)
        exact congrArg (fun l : Fin 1792 => BitVec.ofNat 32 (column l).val) (Fin.ext (by simp only []; omega))
      · refine (dif_neg h2).trans ?_
        rw [show column j = j from if_neg (by omega)]
        show 1664#32 + BitVec.ofNat 32 (j.val - 1280 - 256 - 128) = _
        rw [show (1664#32 : BitVec 32) = BitVec.ofNat 32 1664 from rfl, ← BitVec.ofNat_add]
        exact congrArg (BitVec.ofNat 32) (by omega)

/-- A negative index counts from the end `n`. -/
def wrapped {s : Shape} (h : S_.BroadcastsInDim s ![]) (n : BitVec 32) (x : IVec s 32) : IVec s 32 :=
  select (cmpi .slt x (broadcastInDim s ![] h (constantI S_ 32 0#32))) (addi x (broadcastInDim s ![] h (constantI S_ 32 n))) x

theorem not_negative : ∀ k : Fin 1792, IntOp.cmpi .slt (BitVec.ofNat 32 k.val) 0#32 = 0#1 := by decide +kernel

/-- An index that is not negative stays. -/
theorem wrapped_at {s : Shape} (h : S_.BroadcastsInDim s ![]) (n : BitVec 32) (x : IVec s 32) (i : s.Idx) (k : ℕ) (hk : k < 1792)
    (e : x i = BitVec.ofNat 32 k) : wrapped h n x i = BitVec.ofNat 32 k := by
  have e1 : wrapped h n x i = if IntOp.cmpi .slt (x i) 0#32 = 1#1 then IntOp.addi (x i) n else x i := rfl
  rw [e1, e, not_negative ⟨k, hk⟩]
  rfl

theorem same_word : ∀ a b : Fin 4, IntOp.cmpi .eq (IntOp.addi (BitVec.ofNat 32 a.val) 0#32) (BitVec.ofNat 32 b.val) = if a.val = b.val then 1#1 else 0#1 := by
  decide +kernel

theorem cols_table (w : IVec S1792 32) (j : Fin 1792) : broadcastInDim S1792x1 ![0] bcast_S1792_S1792x1_0 w (ix2 j 0) = w (ix1 j) := by
  pointwise

theorem order_table (w : IVec S64 32) (a : Fin 64) : broadcastInDim S64x1 ![0] bcast_S64_S64x1_0 w (ix2 a 0) = w (ix1 a) := by
  pointwise

/-- The gathered gain of a head. -/
def gathered (g : Vec Ideal S64 .f32) : Vec Ideal S64 .f32 :=
  Host.gather gather_S64_S64x1_S64_n_0_n_n_0_1_1 g (broadcastInDim S64x1 ![0] bcast_S64_S64x1_0 (wrapped bcast_S_S64 64#32 order))

theorem gathered_at (g : Vec Ideal S64 .f32) (a : Fin 64) : gathered g (ix1 a) = g (ix1 (evenOdd a)) :=
  gather_gain _ _ evenOdd (fun l => (order_table _ l).trans
    (wrapped_at bcast_S_S64 64#32 order (ix1 l) _ (by have := (evenOdd l).isLt; omega) (order_at l))) a

variable (m : (ℓ : Loc nD τ sig) → Buf (Elt Ideal) ℓ) (c : Dev nD)

/-- The matrix of head means: one sixty-fourth between lanes of the same head, else zero. -/
theorem made85 (k j : Fin 256) :
    (V m c main_v85 : Vec Ideal S256x256 .bf16) (ix2 k j) = if k.val / 64 = j.val / 64 then lit 0x3C800000#32 else 0 := by
  dsimp only [V, hostOps0, hostOps0_1, hostOps0_2, hostOps0_3, hostOps0_4, List.flatten, List.append, List.append_nil, List.cons_append, List.nil_append]
  after_reads_simp
  pointwise
  have e := same_word ⟨k.val / 64, by omega⟩ ⟨j.val / 64, by omega⟩
  simp only [] at e
  rw [e]
  by_cases h : k.val / 64 = j.val / 64
  · rw [if_pos h, if_pos h]
    refine Eq.trans (congrArg (lit 0x3C800000#32 * ·) (?_ : _ = (1 : EReal))) (mul_one (M := EReal) _)
    show (((1 : ℕ) : ℝ) : EReal) = 1
    norm_num
  · rw [if_neg h, if_neg h]
    refine Eq.trans (congrArg (lit 0x3C800000#32 * ·) (?_ : _ = (0 : EReal))) (mul_zero (M₀ := EReal) _)
    show (((0 : ℕ) : ℝ) : EReal) = 0
    norm_num

/-- The gathered weights: lane `j` holds column `column j`. -/
theorem made93 (i : Fin 1024) (j : Fin 1792) :
    (V m c main_v93 : Vec Ideal S1024x1792 .bf16) (ix2 i j) = (m ((c : Thread nD τ).loc main_arg3) : Vec Ideal S1024x1792 .f32) (ix2 i (column j)) := by
  dsimp only [V, hostOps0, hostOps0_1, hostOps0_2, hostOps0_3, hostOps0_4, List.flatten, List.append, List.append_nil, List.cons_append, List.nil_append]
  after_reads_simp
  erw [colCat_def]
  dsimp only [Matrix.cons_val_zero, Matrix.cons_val_one, Matrix.cons_val]
  after_reads_simp
  erw [permCat_def]
  after_reads_simp
  show Host.gather gather_S1024x1792_S1792x1_S1024x1792_0_1_n_n_1_1_10241 (m ((c : Thread nD τ).loc main_arg3))
    (broadcastInDim S1792x1 ![0] bcast_S1792_S1792x1_0 (wrapped bcast_S_S1792 1792#32 cols)) (ix2 i j) = _
  refine gather_cols _ _ column (fun l => ?_) i j
  exact (cols_table _ l).trans (wrapped_at bcast_S_S1792 1792#32 cols (ix1 l) _ (column l).isLt (cols_at l))

/-- The gain of the query heads, once a head. -/
def queryGain (g : Vec Ideal S64 .f32) : Vec Ideal S1x256 .f32 :=
  shapeCast S1x256 (shapeCast S256 (broadcastInDim S4x64 ![0, 1] bcast_S1x64_S4x64_0_1 (shapeCast S1x64 (gathered g) shapeCasts_S64_S1x64))
    shapeCasts_S4x64_S256) shapeCasts_S256_S1x256

/-- The gain of the key heads, once a head. -/
def keyGain (g : Vec Ideal S64 .f32) : Vec Ideal S1x128 .f32 :=
  shapeCast S1x128 (shapeCast S128 (broadcastInDim S2x64 ![0, 1] bcast_S1x64_S2x64_0_1 (shapeCast S1x64 (gathered g) shapeCasts_S64_S1x64))
    shapeCasts_S2x64_S128) shapeCasts_S128_S1x128

theorem queryGain_at (g : Vec Ideal S64 .f32) (j : Fin 256) : queryGain g (ix2 0 j) = g (ix1 (evenOdd ⟨j.val % 64, by omega⟩)) := by
  rw [← gathered_at g]
  unfold queryGain
  pointwise

theorem keyGain_at (g : Vec Ideal S64 .f32) (j : Fin 128) : keyGain g (ix2 0 j) = g (ix1 (evenOdd ⟨j.val % 64, by omega⟩)) := by
  rw [← gathered_at g]
  unfold keyGain
  pointwise

theorem made104 : V m c main_v104 = (queryGain (m ((c : Thread nD τ).loc main_arg4)) : Vec Ideal S1x256 .f32) := by
  dsimp only [V, hostOps0, hostOps0_1, hostOps0_2, hostOps0_3, hostOps0_4, List.flatten, List.append, List.append_nil, List.cons_append, List.nil_append]
  after_reads_simp
  erw [permCat_def]
  after_reads_simp
  rfl

theorem made115 : V m c main_v115 = (keyGain (m ((c : Thread nD τ).loc main_arg5)) : Vec Ideal S1x128 .f32) := by
  dsimp only [V, hostOps0, hostOps0_1, hostOps0_2, hostOps0_3, hostOps0_4, List.flatten, List.append, List.append_nil, List.cons_append, List.nil_append]
  after_reads_simp
  erw [permCat_def]
  after_reads_simp
  rfl

/-- The gain before the projection, as a row. -/
theorem made116 (j : Fin 1024) : (V m c main_v116 : Vec Ideal S1x1024 .f32) (ix2 0 j) = (m ((c : Thread nD τ).loc main_arg2) : Vec Ideal S1024 .f32) (ix1 j) := by
  dsimp only [V, hostOps0, hostOps0_1, hostOps0_2, hostOps0_3, hostOps0_4, List.flatten, List.append, List.append_nil, List.cons_append, List.nil_append]
  after_reads_simp
  pointwise
end Cert.Kernel3Ideal.Premix
end
-- ==== Proof.Premix.Blocks.lean ====
module
public import proofs.«01_k».proof.Proof.Premix.Tables
public import proofs.«01_k».proof.Proof.Premix.Columns
/-! The blocks that a grid point of the premix reads, as entries of the arguments. -/
@[expose] public section
set_option maxRecDepth 16384
noncomputable section
namespace Cert.Kernel3Ideal.Premix
open Idealize.ShloMosaic Idealize.ShloMosaic.TcCoe Cert.Kernel3Ideal Cert.Kernel3Ideal.Gen Cert.Premix Cert.Post

variable (m : (ℓ : Loc nD τ sig) → Buf (Elt Ideal) ℓ) (c : Dev nD)

/-- The layer's rows. -/
abbrev argX : Vec Ideal S16640x1024 .f32 := m ((c : Thread nD τ).loc main_arg0)
/-- The modulation of the two streams. -/
abbrev argM : Vec Ideal S2x6x1024 .f32 := m ((c : Thread nD τ).loc main_arg1)
/-- The weights of the norm before the mixers. -/
abbrev argN : Vec Ideal S1024 .f32 := m ((c : Thread nD τ).loc main_arg2)
/-- The projection's weights. -/
abbrev argW : Vec Ideal S1024x1792 .f32 := m ((c : Thread nD τ).loc main_arg3)
/-- The gain of a query head. -/
abbrev argGq : Vec Ideal S64 .f32 := m ((c : Thread nD τ).loc main_arg4)
/-- The gain of a key head. -/
abbrev argGk : Vec Ideal S64 .f32 := m ((c : Thread nD τ).loc main_arg5)

theorem point_lt (t : Fin cfg0.N) : t.val < 65 := lt_of_lt_of_eq t.isLt N_0

/-- The block numbers of the inputs that move with the grid point. -/
theorem idx : ∀ t : Fin cfg0.N, win0_0.index t = ![t.val, 0] ∧ win0_1.index t = ![t.val / 64, 0, 0] ∧ win0_4.index t = ![t.val, 0]
    ∧ win0_5.index t = ![t.val, 0] :=
  (by decide +kernel : ∀ t : Fin grid0.N, _)

/-- The inputs that stay are read at block zero. -/
theorem idx_const : ∀ t : Fin cfg0.N, win0_2.index t = ![0, 0] ∧ win0_3.index t = ![0, 0] ∧ win0_6.index t = ![0, 0] ∧ win0_7.index t = ![0, 0]
    ∧ win0_8.index t = ![0, 0] :=
  (by decide +kernel : ∀ t : Fin grid0.N, _)

theorem block0 (t : Fin cfg0.N) (r : Fin 256) (j : Fin 1024) :
    iblk m c 0 t (ix2 r j) = argX m c (ix2 ⟨256 * t.val + r.val, by have := point_lt t; omega⟩ j) := by
  have hi := (idx t).1
  blk_ext [iblk, V_main_arg0, hi]

theorem block1 (t : Fin cfg0.N) (n : Fin 6) (j : Fin 1024) :
    iblk m c 1 t (ix3 0 n j) = argM m c (ix3 ⟨t.val / 64, by have := point_lt t; omega⟩ n j) := by
  have hi := (idx t).2.1
  blk_ext [iblk, V_main_arg1, hi]

theorem block2 (t : Fin cfg0.N) (j : Fin 1024) : iblk m c 2 t (ix2 0 j) = argN m c (ix1 j) := by
  have hi := (idx_const t).1
  refine Eq.trans ?_ (made116 m c j)
  blk_ext [iblk, hi]

theorem block3 (t : Fin cfg0.N) (k : Fin 1024) (j : Fin 1792) : iblk m c 3 t (ix2 k j) = argW m c (ix2 k (column j)) := by
  have hi := (idx_const t).2.1
  refine Eq.trans ?_ (made93 m c k j)
  blk_ext [iblk, hi]

theorem block4 (t : Fin cfg0.N) (r : Fin 256) (j : Fin 128) :
    iblk m c 4 t (ix2 r j) = Ideal.cos (angle ⟨256 * t.val + r.val, by have := point_lt t; omega⟩ ⟨j.val % 32, by omega⟩) := by
  have hi := (idx t).2.2.1
  refine Eq.trans ?_ (made30 m c ⟨256 * t.val + r.val, by have := point_lt t; omega⟩ j)
  blk_ext [iblk, hi]

theorem block5 (t : Fin cfg0.N) (r : Fin 256) (j : Fin 128) :
    iblk m c 5 t (ix2 r j) = if j.val / 32 % 2 = 0 then -Ideal.sin (angle ⟨256 * t.val + r.val, by have := point_lt t; omega⟩ ⟨j.val % 32, by omega⟩)
      else Ideal.sin (angle ⟨256 * t.val + r.val, by have := point_lt t; omega⟩ ⟨j.val % 32, by omega⟩) := by
  have hi := (idx t).2.2.2
  refine Eq.trans ?_ (made33 m c ⟨256 * t.val + r.val, by have := point_lt t; omega⟩ j)
  blk_ext [iblk, hi]

theorem block6 (t : Fin cfg0.N) (j : Fin 256) : iblk m c 6 t (ix2 0 j) = argGq m c (ix1 (evenOdd ⟨j.val % 64, by omega⟩)) := by
  have hi := (idx_const t).2.2.1
  refine Eq.trans ?_ ((congrFun (made104 m c) (ix2 0 j)).trans (queryGain_at _ j))
  blk_ext [iblk, hi]

theorem block7 (t : Fin cfg0.N) (j : Fin 128) : iblk m c 7 t (ix2 0 j) = argGk m c (ix1 (evenOdd ⟨j.val % 64, by omega⟩)) := by
  have hi := (idx_const t).2.2.2.1
  refine Eq.trans ?_ ((congrFun (made115 m c) (ix2 0 j)).trans (keyGain_at _ j))
  blk_ext [iblk, hi]

theorem block8 (t : Fin cfg0.N) (k j : Fin 256) : iblk m c 8 t (ix2 k j) = if k.val / 64 = j.val / 64 then lit 0x3C800000#32 else 0 := by
  have hi := (idx_const t).2.2.2.2
  refine Eq.trans ?_ (made85 m c k j)
  blk_ext [iblk, hi]
end Cert.Kernel3Ideal.Premix
end
-- ==== Proof.Premix.Layer.lean ====
module
public import proofs.«01_k».proof.Proof.Premix.Blocks
/-! What the premix computes, and what a grid point leaves of it. -/
@[expose] public section
set_option maxRecDepth 16384
noncomputable section
namespace Cert.Kernel3Ideal.Premix
open Idealize.ShloMosaic Idealize.ShloMosaic.TcCoe Cert.Kernel3Ideal Cert.Kernel3Ideal.Gen Cert.Premix Cert.Post

/-- A row's stream: the latent rows before the context rows. -/
def stream (i : Fin 16640) : Fin 2 := if i.val < 16384 then 0 else 1

/-- Row `i` of the projection: the norm of the layer's row, modulated by its stream, times the weights. -/
def projection (x : Vec Ideal S16640x1024 .f32) (μ : Vec Ideal S2x6x1024 .f32) (g : Vec Ideal S1024 .f32) (W : Vec Ideal S1024x1792 .f32)
    (i : Fin 16640) : Fin 1792 → EReal :=
  prod (modulated (fun j => x (ix2 i j)) (fun j => μ (ix3 (stream i) 0 j)) (fun j => μ (ix3 (stream i) 1 j)) (fun j => g (ix1 j)))
    (fun k j => W (ix2 k j))

/-- A query head of a row of the projection. -/
def queryHead (u : Fin 1792 → EReal) (h : Fin 4) (d : Fin 64) : EReal := u ⟨1280 + (64 * h.val + d.val), by omega⟩

/-- A key head of a row of the projection. -/
def keyHead (u : Fin 1792 → EReal) (h : Fin 2) (d : Fin 64) : EReal := u ⟨1536 + (64 * h.val + d.val), by omega⟩

/-- A head of row `i`, normed and rotated: half `b` and place `e` of its pairs. -/
def rotated (t : Fin 64 → EReal) (g : Vec Ideal S64 .f32) (i : Fin 16640) (b : Fin 2) (e : Fin 32) : EReal :=
  turned (headNorm t (fun d => g (ix1 d))) (fun e => Ideal.cos (angle i e)) (fun e => Ideal.sin (angle i e)) b e

/-- The queries' scale: the attention's eighth, with the change to base two. -/
def scale : EReal := (((8 * Real.log 2)⁻¹ : ℝ) : EReal)

theorem column_other (j : Fin 1792) (h : ¬(1280 ≤ j.val ∧ j.val < 1664)) : column j = j := if_neg h

theorem column_query (h : Fin 4) (a : Fin 64) :
    column ⟨1280 + (64 * h.val + a.val), by omega⟩ = ⟨1280 + (64 * h.val + (evenOdd a).val), by omega⟩ := by
  refine (if_pos (by simp only []; omega)).trans (Fin.ext ?_)
  have e : (⟨(1280 + (64 * h.val + a.val)) % 64, by omega⟩ : Fin 64) = a := Fin.ext (by simp only []; omega)
  simp only [e]
  omega

theorem column_key (h : Fin 2) (a : Fin 64) :
    column ⟨1536 + (64 * h.val + a.val), by omega⟩ = ⟨1536 + (64 * h.val + (evenOdd a).val), by omega⟩ := by
  refine (if_pos (by simp only []; omega)).trans (Fin.ext ?_)
  have e : (⟨(1536 + (64 * h.val + a.val)) % 64, by omega⟩ : Fin 64) = a := Fin.ext (by simp only []; omega)
  simp only [e]
  omega

theorem column_range (j : Fin 1792) (h : 1280 ≤ j.val ∧ j.val < 1664) : 1280 ≤ (column j).val ∧ (column j).val < 1664 := by
  rw [show column j = ⟨j.val / 64 * 64 + (evenOdd ⟨j.val % 64, by omega⟩).val, by
    have := (evenOdd ⟨j.val % 64, by omega⟩).isLt; omega⟩ from if_pos h]
  have := (evenOdd ⟨j.val % 64, by omega⟩).isLt
  simp only []
  omega

theorem stream_point (t : ℕ) (ht : t < 65) (r : Fin 256) : (⟨t / 64, by omega⟩ : Fin 2) = stream ⟨256 * t + r.val, by omega⟩ := by
  unfold stream
  split <;> apply Fin.ext <;> simp at * <;> omega

variable (m : (ℓ : Loc nD τ sig) → Buf (Elt Ideal) ℓ) (c : Dev nD)

/-- The numbers that the queries and the keys are made of are real: the modulation before the mixers, the norm's weights and
the projection's columns of the queries and keys. -/
def RealIn : Prop :=
  (∀ (s : Fin 2) (n : Fin 2) (j : Fin 1024), IsReal (argM m c (ix3 s ⟨n.val, by omega⟩ j))) ∧ (∀ j : Fin 1024, IsReal (argN m c (ix1 j)))
    ∧ ∀ (k : Fin 1024) (j : Fin 1792), 1280 ≤ j.val → j.val < 1664 → IsReal (argW m c (ix2 k j))

/-- A row of the projection of the layer's arguments. -/
abbrev proj (i : Fin 16640) : Fin 1792 → EReal := projection (argX m c) (argM m c) (argN m c) (argW m c) i

theorem proj_real (h : RealIn m c) (i : Fin 16640) (j : Fin 1792) (h0 : 1280 ≤ j.val) (h1 : j.val < 1664) : IsReal (proj m c i j) :=
  prod_real _ _ _ _ _ j (fun k => h.1 (stream i) 0 k) (fun k => h.1 (stream i) 1 k) (fun k => h.2.1 k) (fun k => h.2.2 k j h0 h1)

/-- A grid point's projection is the projection's rows of its block, in the kernel's order of columns. -/
theorem point_projected (t : Fin cfg0.N) (r : Fin 256) (j : Fin 1792) :
    projected (iblk m c 0 t) (iblk m c 1 t) (iblk m c 2 t) (iblk m c 3 t) r j
      = proj m c ⟨256 * t.val + r.val, by have := point_lt t; omega⟩ (column j) := by
  unfold projected proj projection
  simp only [block0, block1, block2, block3, stream_point t.val (point_lt t) r]
  rfl

theorem point9 (t : Fin cfg0.N) (r : Fin 256) (j : Fin 768) :
    out0_9 (iblk m c 0 t) (iblk m c 1 t) (iblk m c 2 t) (iblk m c 3 t) (iblk m c 4 t) (iblk m c 5 t) (iblk m c 6 t) (iblk m c 7 t) (iblk m c 8 t) (ix2 r j)
      = proj m c ⟨256 * t.val + r.val, by have := point_lt t; omega⟩ ⟨j.val, by omega⟩ := by
  rw [out9_at, point_projected, column_other _ (by simp only []; omega)]

theorem point10 (t : Fin cfg0.N) (r j : Fin 256) :
    out0_10 (iblk m c 0 t) (iblk m c 1 t) (iblk m c 2 t) (iblk m c 3 t) (iblk m c 4 t) (iblk m c 5 t) (iblk m c 6 t) (iblk m c 7 t) (iblk m c 8 t) (ix2 r j)
      = proj m c ⟨256 * t.val + r.val, by have := point_lt t; omega⟩ ⟨768 + j.val, by omega⟩ := by
  rw [out10_at, point_projected, column_other _ (by simp only []; omega)]

theorem point11 (t : Fin cfg0.N) (r j : Fin 256) :
    out0_11 (iblk m c 0 t) (iblk m c 1 t) (iblk m c 2 t) (iblk m c 3 t) (iblk m c 4 t) (iblk m c 5 t) (iblk m c 6 t) (iblk m c 7 t) (iblk m c 8 t) (ix2 r j)
      = proj m c ⟨256 * t.val + r.val, by have := point_lt t; omega⟩ ⟨1024 + j.val, by omega⟩ := by
  rw [out11_at, point_projected, column_other _ (by simp only []; omega)]

theorem point14 (t : Fin cfg0.N) (j : Fin 128) (r : Fin 256) :
    out0_14 (iblk m c 0 t) (iblk m c 1 t) (iblk m c 2 t) (iblk m c 3 t) (iblk m c 4 t) (iblk m c 5 t) (iblk m c 6 t) (iblk m c 7 t) (iblk m c 8 t) (ix2 j r)
      = proj m c ⟨256 * t.val + r.val, by have := point_lt t; omega⟩ ⟨1664 + j.val, by omega⟩ := by
  rw [out14_at, point_projected, column_other _ (by simp only []; omega)]

/-- The queries that a point leaves: normed, rotated and scaled. -/
theorem point12 (hr : RealIn m c) (t : Fin cfg0.N) (h : Fin 4) (b : Fin 2) (e : Fin 32) (r : Fin 256) :
    out0_12 (iblk m c 0 t) (iblk m c 1 t) (iblk m c 2 t) (iblk m c 3 t) (iblk m c 4 t) (iblk m c 5 t) (iblk m c 6 t) (iblk m c 7 t) (iblk m c 8 t)
        (ix2 ⟨64 * h.val + 32 * b.val + e.val, by omega⟩ r)
      = rotated (queryHead (proj m c ⟨256 * t.val + r.val, by have := point_lt t; omega⟩) h) (argGq m c)
          ⟨256 * t.val + r.val, by have := point_lt t; omega⟩ b e * scale := by
  rw [out12_at]
  refine congrArg (· * scale) ?_
  simp only [point_projected, block4, block5, block6, block8]
  refine swung_eq 4 _ _ _ _ _ (fun h => headNorm (queryHead (proj m c ⟨256 * t.val + r.val, by have := point_lt t; omega⟩) h)
    (fun d => argGq m c (ix1 d))) _ _ (fun h a => ?_) (fun j hj => ?_) (fun j hj => ?_) (fun h b e => ?_) (fun h b e => ?_) h b e
  · refine lane_eq 4 _ _ _ (queryHead (proj m c ⟨256 * t.val + r.val, by have := point_lt t; omega⟩)) (fun _ d => argGq m c (ix1 d))
      (fun k => ?_) (fun h a => ?_) (fun h a => ?_) (fun k j => rfl) h a
    · have := column_range ⟨1280 + k.val, by omega⟩ (by simp only []; omega)
      exact proj_real m c hr _ _ this.1 this.2
    · exact congrArg (proj m c _) (column_query h a)
    · exact congrArg (fun a => argGq m c (ix1 (evenOdd a))) (Fin.ext (by simp only []; omega))
  · have := j.isLt
    simp only []
    omega
  · have := j.isLt
    simp only []
    omega
  · exact congrArg (fun e => Ideal.cos (angle _ e)) (Fin.ext (by simp only []; omega))
  · have e1 : (⟨(64 * h.val + 32 * b.val + e.val) % 128 % 32, by omega⟩ : Fin 32) = e := Fin.ext (by simp only []; omega)
    simp only [e1]
    have e2 : (64 * h.val + 32 * b.val + e.val) % 128 / 32 % 2 = b.val := by omega
    rw [e2]
    exact if_congr (by omega) rfl rfl

/-- The keys that a point leaves: normed and rotated. -/
theorem point13 (hr : RealIn m c) (t : Fin cfg0.N) (h : Fin 2) (r : Fin 256) (b : Fin 2) (e : Fin 32) :
    out0_13 (iblk m c 0 t) (iblk m c 1 t) (iblk m c 2 t) (iblk m c 3 t) (iblk m c 4 t) (iblk m c 5 t) (iblk m c 6 t) (iblk m c 7 t) (iblk m c 8 t)
        (ix3 h r ⟨32 * b.val + e.val, by omega⟩)
      = rotated (keyHead (proj m c ⟨256 * t.val + r.val, by have := point_lt t; omega⟩) h) (argGk m c)
          ⟨256 * t.val + r.val, by have := point_lt t; omega⟩ b e := by
  rw [out13_at]
  simp only [point_projected, block4, block5, block7, block8]
  have el : (⟨64 * h.val + (32 * b.val + e.val), by omega⟩ : Fin 128) = ⟨64 * h.val + 32 * b.val + e.val, by omega⟩ := Fin.ext (by simp only []; omega)
  rw [el]
  refine swung_eq 2 _ _ _ _ _ (fun h => headNorm (keyHead (proj m c ⟨256 * t.val + r.val, by have := point_lt t; omega⟩) h)
    (fun d => argGk m c (ix1 d))) _ _ (fun h a => ?_) (fun j hj => ?_) (fun j hj => ?_) (fun h b e => ?_) (fun h b e => ?_) h b e
  · refine lane_eq 2 _ _ _ (keyHead (proj m c ⟨256 * t.val + r.val, by have := point_lt t; omega⟩)) (fun _ d => argGk m c (ix1 d))
      (fun k => ?_) (fun h a => ?_) (fun h a => ?_) (fun k j => rfl) h a
    · have := column_range ⟨1536 + k.val, by omega⟩ (by simp only []; omega)
      exact proj_real m c hr _ _ this.1 this.2
    · exact congrArg (proj m c _) (column_key h a)
    · exact congrArg (fun a => argGk m c (ix1 (evenOdd a))) (Fin.ext (by simp only []; omega))
  · have := j.isLt
    simp only []
    omega
  · have := j.isLt
    simp only []
    omega
  · exact congrArg (fun e => Ideal.cos (angle _ e)) (Fin.ext (by simp only []; omega))
  · have e1 : (⟨(64 * h.val + 32 * b.val + e.val) % 32, by omega⟩ : Fin 32) = e := Fin.ext (by simp only []; omega)
    simp only [e1]
    have e2 : (64 * h.val + 32 * b.val + e.val) / 32 % 2 = b.val := by omega
    rw [e2]
    exact if_congr (by omega) rfl rfl
end Cert.Kernel3Ideal.Premix
end
-- ==== Proof.Premix.Finite.lean ====
module
public import proofs.«01_k».proof.Pre_finite_in
public import proofs.«01_k».proof.Proof.Flash.Finite
public import proofs.«01_k».proof.Proof.Premix.Layer
public import Idealize.ShloMosaic.Lib.ReduceAll
/-! What the premix's precondition says: what the queries and the keys are made of is real. -/
@[expose] public section
noncomputable section

/-- The side conditions of the precondition's operations. -/
instance Cert.Pre_finite_in.sides : Cert.Pre_finite_in.Facts where
  slices_S2x6x1024_S2x2x1024_0_0_0 := by decide
  slices_S1024x1792_S1024x384_0_1280 := by decide
  bcast_S_S2x2x1024 := by decide
  reducesTo_S2x2x1024_S_d0_1_2 := by decide
  h_S_ := by decide
  bcast_S_S1024 := by decide
  reducesTo_S1024_S_d0 := by decide
  bcast_S_S1024x384 := by decide
  reducesTo_S1024x384_S_d0_1 := by decide

namespace Cert.Kernel3Ideal.Premix
open Idealize.ShloMosaic Idealize.ShloMosaic.TcCoe Cert.Kernel3Ideal Cert.Kernel3Ideal.Gen Cert.Premix
open Cert.KernelIdeal.Flash (posInf real_of_abs)

/-- The precondition makes the modulation, the norm's weights and the queries' and keys' columns of the weights real. -/
theorem real_of_pre (m : (ℓ : Loc nD τ sig) → Buf (Elt Ideal) ℓ) (c : Dev nD)
    (h : Cert.Pre_finite_in.fn (F := Ideal) (argX m c) (argM m c) (argN m c) (argW m c) (argGq m c) (argGk m c) = fun _ => 1#1) : RealIn m c := by
  have h0 := congrFun h fun i => i.elim0
  unfold Cert.Pre_finite_in.fn at h0
  obtain ⟨hab, hw⟩ := IntOp.andi_eq_one.1 h0
  obtain ⟨hm, hn⟩ := IntOp.andi_eq_one.1 hab
  haveI : Subsingleton Cert.Pre_finite_in.S_.Idx := ⟨fun a b => funext fun i => i.elim0⟩
  refine ⟨fun s n j => ?_, fun j => ?_, fun k j h0 h1 => ?_⟩
  · have e := Host.reduce_andi_all _ _ _ _ _ hm (ix3 s n j)
    pointwise at e
    refine ⟨_, real_of_abs ?_⟩
    rw [← posInf]
    exact e
  · have e := Host.reduce_andi_all _ _ _ _ _ hn (ix1 j)
    refine ⟨_, real_of_abs ?_⟩
    rw [← posInf]
    exact e
  · have e := Host.reduce_andi_all _ _ _ _ _ hw (ix2 k ⟨j.val - 1280, by omega⟩)
    pointwise at e
    have ej : (⟨1280 + (j.val - 1280), by omega⟩ : Fin 1792) = j := Fin.ext (by simp only []; omega)
    rw [← ej]
    refine ⟨_, real_of_abs ?_⟩
    rw [← posInf]
    exact e
end Cert.Kernel3Ideal.Premix
end
-- ==== Proof.Premix.Value.lean ====
module
public import proofs.«01_k».proof.Proof.Premix.Layer
public import Idealize.ShloMosaic.Lib.Pipeline.ValueKit
/-! The arrays that the premix's kernel leaves, entry by entry. -/
@[expose] public section
set_option maxRecDepth 16384
noncomputable section
namespace Cert.Kernel3Ideal.Premix
open Idealize.ShloMosaic Idealize.ShloMosaic.TcCoe Cert.Kernel3Ideal Cert.Kernel3Ideal.Gen Cert.Premix Cert.Post

/-- A query: coordinate `a` of the four heads side by side, the first elements of a head's pairs before the second ones. -/
def query (u : Fin 1792 → EReal) (g : Vec Ideal S64 .f32) (a : Fin 256) (i : Fin 16640) : EReal :=
  rotated (queryHead u ⟨a.val / 64, by omega⟩) g i ⟨a.val % 64 / 32, by omega⟩ ⟨a.val % 32, by omega⟩ * scale

/-- A key: coordinate `a` of head `h`, the first elements of the head's pairs before the second ones. -/
def key (u : Fin 1792 → EReal) (g : Vec Ideal S64 .f32) (h : Fin 2) (i : Fin 16640) (a : Fin 64) : EReal :=
  rotated (keyHead u h) g i ⟨a.val / 32, by omega⟩ ⟨a.val % 32, by omega⟩

variable (m : (ℓ : Loc nD τ sig) → Buf (Elt Ideal) ℓ) (c : Dev nD)

theorem point_query (hr : RealIn m c) (t : Fin cfg0.N) (a r : Fin 256) :
    out0_12 (iblk m c 0 t) (iblk m c 1 t) (iblk m c 2 t) (iblk m c 3 t) (iblk m c 4 t) (iblk m c 5 t) (iblk m c 6 t) (iblk m c 7 t) (iblk m c 8 t) (ix2 a r)
      = query (proj m c ⟨256 * t.val + r.val, by have := point_lt t; omega⟩) (argGq m c) a ⟨256 * t.val + r.val, by have := point_lt t; omega⟩ := by
  refine Eq.trans (congrArg (fun a => out0_12 _ _ _ _ _ _ _ _ _ (ix2 a r)) (Fin.ext ?_))
    (point12 m c hr t ⟨a.val / 64, by omega⟩ ⟨a.val % 64 / 32, by omega⟩ ⟨a.val % 32, by omega⟩ r)
  simp only []
  omega

theorem point_key (hr : RealIn m c) (t : Fin cfg0.N) (h : Fin 2) (r : Fin 256) (a : Fin 64) :
    out0_13 (iblk m c 0 t) (iblk m c 1 t) (iblk m c 2 t) (iblk m c 3 t) (iblk m c 4 t) (iblk m c 5 t) (iblk m c 6 t) (iblk m c 7 t) (iblk m c 8 t) (ix3 h r a)
      = key (proj m c ⟨256 * t.val + r.val, by have := point_lt t; omega⟩) (argGk m c) h ⟨256 * t.val + r.val, by have := point_lt t; omega⟩ a := by
  refine Eq.trans (congrArg (fun a => out0_13 _ _ _ _ _ _ _ _ _ (ix3 h r a)) (Fin.ext ?_))
    (point13 m c hr t h r ⟨a.val / 32, by omega⟩ ⟨a.val % 32, by omega⟩)
  simp only []
  omega

/-- The first mixer's columns of the projection. -/
theorem result9 : (dats m 0 c).arrAt 9 cfg0.N = fun i : S16640x768.Idx => proj m c (i 0) ⟨(i 1).val, by have := (i 1).isLt; simp at this; omega⟩ := by
  refine (dats m 0 c).arrAt_eq_of_covers 9 _ (by decide +kernel) fun t hf y => ?_
  have hi : win0_9.index t = ![t.val, 0] := (by decide +kernel : ∀ t : Fin grid0.N, win0_9.index t = ![t.val, 0]) t
  blk_simp
  rw [after0_9]
  have hy : (y : S256x768.Idx) = ix2 (y 0) (y 1) := by funext x; fin_cases x <;> rfl
  refine Eq.trans (congrArg _ hy) ((point9 m c t (y 0) (y 1)).trans (congrArg₂ (proj m c) ?_ ?_))
  · refine Fin.ext ?_
    blk_simp [hi]
    exact congrArg (· + (y 0).val) (Nat.mul_comm 256 t.val)
  · refine Fin.ext ?_
    blk_simp [hi]

/-- The second mixer's columns of the projection. -/
theorem result10 : (dats m 0 c).arrAt 10 cfg0.N = fun i : S16640x256.Idx => proj m c (i 0) ⟨768 + (i 1).val, by have := (i 1).isLt; simp at this; omega⟩ := by
  refine (dats m 0 c).arrAt_eq_of_covers 10 _ (by decide +kernel) fun t hf y => ?_
  have hi : win0_10.index t = ![t.val, 0] := (by decide +kernel : ∀ t : Fin grid0.N, win0_10.index t = ![t.val, 0]) t
  blk_simp
  rw [after0_10]
  have hy : (y : S256x256.Idx) = ix2 (y 0) (y 1) := by funext x; fin_cases x <;> rfl
  refine Eq.trans (congrArg _ hy) ((point10 m c t (y 0) (y 1)).trans (congrArg₂ (proj m c) ?_ ?_))
  · refine Fin.ext ?_
    blk_simp [hi]
    exact congrArg (· + (y 0).val) (Nat.mul_comm 256 t.val)
  · refine Fin.ext ?_
    blk_simp [hi]

/-- The third mixer's columns of the projection. -/
theorem result11 : (dats m 0 c).arrAt 11 cfg0.N = fun i : S16640x256.Idx => proj m c (i 0) ⟨1024 + (i 1).val, by have := (i 1).isLt; simp at this; omega⟩ := by
  refine (dats m 0 c).arrAt_eq_of_covers 11 _ (by decide +kernel) fun t hf y => ?_
  have hi : win0_11.index t = ![t.val, 0] := (by decide +kernel : ∀ t : Fin grid0.N, win0_11.index t = ![t.val, 0]) t
  blk_simp
  rw [after0_11]
  have hy : (y : S256x256.Idx) = ix2 (y 0) (y 1) := by funext x; fin_cases x <;> rfl
  refine Eq.trans (congrArg _ hy) ((point11 m c t (y 0) (y 1)).trans (congrArg₂ (proj m c) ?_ ?_))
  · refine Fin.ext ?_
    blk_simp [hi]
    exact congrArg (· + (y 0).val) (Nat.mul_comm 256 t.val)
  · refine Fin.ext ?_
    blk_simp [hi]

/-- The values: the last columns of the projection, transposed. -/
theorem result14 : (dats m 0 c).arrAt 14 cfg0.N = fun i : S128x16640.Idx => proj m c (i 1) ⟨1664 + (i 0).val, by have := (i 0).isLt; simp at this; omega⟩ := by
  refine (dats m 0 c).arrAt_eq_of_covers 14 _ (by decide +kernel) fun t hf y => ?_
  have hi : win0_14.index t = ![0, t.val] := (by decide +kernel : ∀ t : Fin grid0.N, win0_14.index t = ![0, t.val]) t
  blk_simp
  rw [after0_14]
  have hy : (y : S128x256.Idx) = ix2 (y 0) (y 1) := by funext x; fin_cases x <;> rfl
  refine Eq.trans (congrArg _ hy) ((point14 m c t (y 0) (y 1)).trans (congrArg₂ (proj m c) ?_ ?_))
  · refine Fin.ext ?_
    blk_simp [hi]
    exact congrArg (· + (y 1).val) (Nat.mul_comm 256 t.val)
  · refine Fin.ext ?_
    blk_simp [hi]

/-- The queries, transposed. -/
theorem result12 (hr : RealIn m c) : (dats m 0 c).arrAt 12 cfg0.N = fun i : S256x16640.Idx => query (proj m c (i 1)) (argGq m c) (i 0) (i 1) := by
  refine (dats m 0 c).arrAt_eq_of_covers 12 _ (by decide +kernel) fun t hf y => ?_
  have hi : win0_12.index t = ![0, t.val] := (by decide +kernel : ∀ t : Fin grid0.N, win0_12.index t = ![0, t.val]) t
  blk_simp
  rw [after0_12]
  have hy : (y : S256x256.Idx) = ix2 (y 0) (y 1) := by funext x; fin_cases x <;> rfl
  refine Eq.trans (congrArg _ hy) ((point_query m c hr t (y 0) (y 1)).trans (congrArg₂ (fun a i => query (proj m c i) (argGq m c) a i) ?_ ?_))
  · refine Fin.ext ?_
    blk_simp [hi]
  · refine Fin.ext ?_
    blk_simp [hi]
    exact congrArg (· + (y 1).val) (Nat.mul_comm 256 t.val)

/-- The keys. -/
theorem result13 (hr : RealIn m c) : (dats m 0 c).arrAt 13 cfg0.N = fun i : S2x16640x64.Idx => key (proj m c (i 1)) (argGk m c) (i 0) (i 1) (i 2) := by
  refine (dats m 0 c).arrAt_eq_of_covers 13 _ (by decide +kernel) fun t hf y => ?_
  have hi : win0_13.index t = ![0, t.val, 0] := (by decide +kernel : ∀ t : Fin grid0.N, win0_13.index t = ![0, t.val, 0]) t
  blk_simp
  rw [after0_13]
  have hy : (y : S2x256x64.Idx) = ix3 (y 0) (y 1) (y 2) := by funext x; fin_cases x <;> rfl
  refine Eq.trans (congrArg _ hy) ((point_key m c hr t (y 0) (y 1) (y 2)).trans ?_)
  refine congr (congrArg₂ (fun h i => key (proj m c i) (argGk m c) h i) ?_ ?_) ?_
  · refine Fin.ext ?_
    blk_simp [hi]
  · refine Fin.ext ?_
    blk_simp [hi]
    exact congrArg (· + (y 1).val) (Nat.mul_comm 256 t.val)
  · refine Fin.ext ?_
    blk_simp [hi]
end Cert.Kernel3Ideal.Premix
end
-- ==== Proof.Premix.Ref.lean ====
module
public import proofs.«01_k».proof.Proof.Gen.Reference3Ideal.Run
public import proofs.«01_k».proof.Proof.Flash.Ref
public import proofs.«01_k».proof.Proof.Post.Ref
public import proofs.«01_k».proof.Proof.Premix.Value
public import Idealize.ShloMosaic.Lib.Pointwise
/-! The parts of the premix's reference, entry by entry. -/
@[expose] public section
set_option maxRecDepth 16384
noncomputable section
namespace Cert.Reference3Ideal.Premix
open Idealize.ShloMosaic Idealize.ShloMosaic.TcCoe Cert.Reference3Ideal Cert.Reference3Ideal.Gen Cert.Post Cert.Premix
open Cert.Reference2Ideal.Post (refMod refNorm refMod_at refNorm_at)
open Cert.Kernel3Ideal.Premix

/-- The projection of the modulated norm. -/
def refProj (n : FVec Ideal S16640x1024 .f32) (μ : FVec Ideal S6x16640x1024 .f32) (W : FVec Ideal S1024x1792 .f32) : FVec Ideal S16640x1792 .f32 :=
  Host.dotGeneral dot_S16640x1024_S1024x1792_S16640x1792_1_0_0_1_n_n none
    (addf (mulf n (addf (broadcastInDim S16640x1024 ![] bcast_S_S16640x1024 (constant S_ .f32 0x3F800000#32))
        (shapeCast _ (extractStridedSlice S1x16640x1024 ![1, 0, 0] μ slices_S6x16640x1024_S1x16640x1024_1_0_0)
          shapeCasts_S1x16640x1024_S16640x1024)))
      (shapeCast _ (extractStridedSlice S1x16640x1024 ![0, 0, 0] μ slices_S6x16640x1024_S1x16640x1024_0_0_0)
        shapeCasts_S1x16640x1024_S16640x1024)) W

theorem refProj_at (n : FVec Ideal S16640x1024 .f32) (μ : FVec Ideal S6x16640x1024 .f32) (W : FVec Ideal S1024x1792 .f32)
    (i : Fin 16640) (k : Fin 1792) :
    refProj n μ W (ix2 i k) = prod (fun j => n (ix2 i j) * (1 + μ (ix3 1 i j)) + μ (ix3 0 i j)) (fun k j => W (ix2 k j)) k := by
  unfold refProj
  pointwise
  rfl

/-- The query heads of the projection. -/
def refHeadsQ (u : FVec Ideal S16640x1792 .f32) : FVec Ideal S16640x4x64 .f32 :=
  shapeCast _ (extractStridedSlice S16640x256 ![0, 1280] u slices_S16640x1792_S16640x256_0_1280) shapeCasts_S16640x256_S16640x4x64

/-- The key heads of the projection. -/
def refHeadsK (u : FVec Ideal S16640x1792 .f32) : FVec Ideal S16640x2x64 .f32 :=
  shapeCast _ (extractStridedSlice S16640x128 ![0, 1536] u slices_S16640x1792_S16640x128_0_1536) shapeCasts_S16640x128_S16640x2x64

theorem refHeadsQ_at (u : FVec Ideal S16640x1792 .f32) (i : Fin 16640) (h : Fin 4) (d : Fin 64) :
    refHeadsQ u (ix3 i h d) = u (ix2 i ⟨1280 + (64 * h.val + d.val), by omega⟩) := by
  unfold refHeadsQ
  pointwise
  exact congrArg (fun k => u (ix2 i k)) (Fin.ext (by simp only []; omega))

theorem refHeadsK_at (u : FVec Ideal S16640x1792 .f32) (i : Fin 16640) (h : Fin 2) (d : Fin 64) :
    refHeadsK u (ix3 i h d) = u (ix2 i ⟨1536 + (64 * h.val + d.val), by omega⟩) := by
  unfold refHeadsK
  pointwise
  exact congrArg (fun k => u (ix2 i k)) (Fin.ext (by simp only []; omega))

/-- The norm of every query head. -/
def refNormQ (t : FVec Ideal S16640x4x64 .f32) (g : FVec Ideal S64 .f32) : FVec Ideal S16640x4x64 .f32 :=
  mulf (mulf t (broadcastInDim S16640x4x64 ![0, 1, 2] bcast_S16640x4x1_S16640x4x64_0_1_2
      (Host.rsqrt (addf (Host.divf (broadcastInDim S16640x4x1 ![0, 1] bcast_S16640x4_S16640x4x1_0_1
          (Host.reduceAdd (mulf t t) (constant S_ .f32 0x00000000#32) reducesTo_S16640x4x64_S16640x4_d2 h_S_))
        (broadcastInDim S16640x4x1 ![] bcast_S_S16640x4x1 (constant S_ .f32 0x42800000#32)))
        (broadcastInDim S16640x4x1 ![] bcast_S_S16640x4x1 (constant S_ .f32 0x358637BD#32))))))
    (broadcastInDim S16640x4x64 ![0, 1, 2] bcast_S1x1x64_S16640x4x64_0_1_2 (broadcastInDim S1x1x64 ![2] bcast_S64_S1x1x64_2 g))

/-- The norm of every key head. -/
def refNormK (t : FVec Ideal S16640x2x64 .f32) (g : FVec Ideal S64 .f32) : FVec Ideal S16640x2x64 .f32 :=
  mulf (mulf t (broadcastInDim S16640x2x64 ![0, 1, 2] bcast_S16640x2x1_S16640x2x64_0_1_2
      (Host.rsqrt (addf (Host.divf (broadcastInDim S16640x2x1 ![0, 1] bcast_S16640x2_S16640x2x1_0_1
          (Host.reduceAdd (mulf t t) (constant S_ .f32 0x00000000#32) reducesTo_S16640x2x64_S16640x2_d2 h_S_))
        (broadcastInDim S16640x2x1 ![] bcast_S_S16640x2x1 (constant S_ .f32 0x42800000#32)))
        (broadcastInDim S16640x2x1 ![] bcast_S_S16640x2x1 (constant S_ .f32 0x358637BD#32))))))
    (broadcastInDim S16640x2x64 ![0, 1, 2] bcast_S1x1x64_S16640x2x64_0_1_2 (broadcastInDim S1x1x64 ![2] bcast_S64_S1x1x64_2 g))

theorem refNormQ_at (t : FVec Ideal S16640x4x64 .f32) (g : FVec Ideal S64 .f32) (i : Fin 16640) (h : Fin 4) (d : Fin 64) :
    refNormQ t g (ix3 i h d) = headNorm (fun d => t (ix3 i h d)) (fun d => g (ix1 d)) d := by
  unfold refNormQ
  pointwise
  rfl

theorem refNormK_at (t : FVec Ideal S16640x2x64 .f32) (g : FVec Ideal S64 .f32) (i : Fin 16640) (h : Fin 2) (d : Fin 64) :
    refNormK t g (ix3 i h d) = headNorm (fun d => t (ix3 i h d)) (fun d => g (ix1 d)) d := by
  unfold refNormK
  pointwise
  rfl

/-- The angles' frequencies. -/
def refFreqs : FVec Ideal S16 .f32 :=
  Host.powf (broadcastInDim S16 ![] bcast_S_S16 (constant S_ .f32 0x461C4000#32))
    (Host.divf (Host.negf (addf (broadcastInDim S16 ![] bcast_S_S16 (constant S_ .f32 0x00000000#32))
        (mulf (broadcastInDim S16 ![] bcast_S_S16 (constant S_ .f32 0x40000000#32)) (sitofp .f32 (iotaInDim S16 32 0)))))
      (broadcastInDim S16 ![] bcast_S_S16 (constant S_ .f32 0x42000000#32)))

theorem refFreqs_at (b : Fin 16) : refFreqs (ix1 b) = freq b := by
  unfold refFreqs
  pointwise
  rfl

/-- The rows' and the columns' numbers of the latent grid. -/
def refRows : IVec S16384 32 :=
  shapeCast _ (broadcastInDim S256x64 ![0] bcast_S256_S256x64_0 (iotaInDim S256 32 0)) shapeCasts_S256x64_S16384

/-- The columns' numbers of the latent grid. -/
def refCols : IVec S16384 32 :=
  shapeCast _ (broadcastInDim S256x64 ![0, 1] bcast_S1x64_S256x64_0_1 (shapeCast _ (iotaInDim S64 32 0) shapeCasts_S64_S1x64))
    shapeCasts_S256x64_S16384

theorem refRows_at (i : Fin 16384) : refRows (ix1 i) = BitVec.ofNat 32 (i.val / 64) := by
  unfold refRows
  pointwise

theorem refCols_at (i : Fin 16384) : refCols (ix1 i) = BitVec.ofNat 32 (i.val % 64) := by
  unfold refCols
  pointwise

/-- The angles of one of the grid's numbers. -/
def refTimes (p : IVec S16384 32) (f : FVec Ideal S16 .f32) : FVec Ideal S16384x16 .f32 :=
  mulf (broadcastInDim S16384x16 ![0, 1] bcast_S16384x1_S16384x16_0_1 (broadcastInDim S16384x1 ![0] bcast_S16384_S16384x1_0 (sitofp .f32 p)))
    (broadcastInDim S16384x16 ![0, 1] bcast_S1x16_S16384x16_0_1 (broadcastInDim S1x16 ![1] bcast_S16_S1x16_1 f))

theorem refTimes_at (p : IVec S16384 32) (f : FVec Ideal S16 .f32) (i : Fin 16384) (b : Fin 16) :
    refTimes p f (ix2 i b) = FloatOps.sitofp .f32 (p (ix1 i)) * f (ix1 b) := by
  unfold refTimes
  pointwise

/-- The angles. -/
def refAngles : FVec Ideal S16384x32 .f32 :=
  concatenate S16384x32 1 [⟨S16384x16, refTimes refRows refFreqs⟩, ⟨S16384x16, refTimes refCols refFreqs⟩] concatenates_S16384x16_S16384x16_S16384x32_d1

theorem refAngles_at (i : Fin 16384) (e : Fin 32) : refAngles (ix2 i e) = angle ⟨i.val, by omega⟩ e := by
  unfold refAngles angle
  pointwise
  simp only [refTimes_at, refRows_at, refCols_at, refFreqs_at]
  rfl

/-- The pairs of the latent rows' queries. -/
def refPairsQ (n : FVec Ideal S16640x4x64 .f32) : FVec Ideal S16384x4x32x2 .f32 :=
  shapeCast _ (extractStridedSlice S16384x4x64 ![0, 0, 0] n slices_S16640x4x64_S16384x4x64_0_0_0) shapeCasts_S16384x4x64_S16384x4x32x2

/-- The pairs' first elements. -/
def refFirstQ (p : FVec Ideal S16384x4x32x2 .f32) : FVec Ideal S16384x4x32 .f32 :=
  shapeCast _ (extractStridedSlice S16384x4x32x1 ![0, 0, 0, 0] p slices_S16384x4x32x2_S16384x4x32x1_0_0_0_0) shapeCasts_S16384x4x32x1_S16384x4x32

/-- The pairs' second elements. -/
def refSecondQ (p : FVec Ideal S16384x4x32x2 .f32) : FVec Ideal S16384x4x32 .f32 :=
  shapeCast _ (extractStridedSlice S16384x4x32x1 ![0, 0, 0, 1] p slices_S16384x4x32x2_S16384x4x32x1_0_0_0_1) shapeCasts_S16384x4x32x1_S16384x4x32

theorem refFirstQ_at (n : FVec Ideal S16640x4x64 .f32) (i : Fin 16384) (h : Fin 4) (e : Fin 32) :
    refFirstQ (refPairsQ n) (ix3 i h e) = n (ix3 ⟨i.val, by omega⟩ h ⟨2 * e.val, by omega⟩) := by
  unfold refFirstQ refPairsQ
  pointwise
  exact congrArg (fun d => n (ix3 ⟨i.val, by omega⟩ h d)) (Fin.ext (by simp only []; omega))

theorem refSecondQ_at (n : FVec Ideal S16640x4x64 .f32) (i : Fin 16384) (h : Fin 4) (e : Fin 32) :
    refSecondQ (refPairsQ n) (ix3 i h e) = n (ix3 ⟨i.val, by omega⟩ h ⟨2 * e.val + 1, by omega⟩) := by
  unfold refSecondQ refPairsQ
  pointwise
  exact congrArg (fun d => n (ix3 ⟨i.val, by omega⟩ h d)) (Fin.ext (by simp only []; omega))

/-- The rotated pairs of the queries. -/
def refTurnedQ (x y : FVec Ideal S16384x4x32 .f32) (c s : FVec Ideal S16384x32 .f32) : FVec Ideal S16384x4x32x2 .f32 :=
  concatenate S16384x4x32x2 3
    [⟨S16384x4x32x1, broadcastInDim S16384x4x32x1 ![0, 1, 2] bcast_S16384x4x32_S16384x4x32x1_0_1_2
      (subf (mulf x (broadcastInDim S16384x4x32 ![0, 1, 2] bcast_S16384x1x32_S16384x4x32_0_1_2 (broadcastInDim S16384x1x32 ![0, 2] bcast_S16384x32_S16384x1x32_0_2 c)))
        (mulf y (broadcastInDim S16384x4x32 ![0, 1, 2] bcast_S16384x1x32_S16384x4x32_0_1_2 (broadcastInDim S16384x1x32 ![0, 2] bcast_S16384x32_S16384x1x32_0_2 s))))⟩,
     ⟨S16384x4x32x1, broadcastInDim S16384x4x32x1 ![0, 1, 2] bcast_S16384x4x32_S16384x4x32x1_0_1_2
      (addf (mulf x (broadcastInDim S16384x4x32 ![0, 1, 2] bcast_S16384x1x32_S16384x4x32_0_1_2 (broadcastInDim S16384x1x32 ![0, 2] bcast_S16384x32_S16384x1x32_0_2 s)))
        (mulf y (broadcastInDim S16384x4x32 ![0, 1, 2] bcast_S16384x1x32_S16384x4x32_0_1_2 (broadcastInDim S16384x1x32 ![0, 2] bcast_S16384x32_S16384x1x32_0_2 c))))⟩]
    concatenates_S16384x4x32x1_S16384x4x32x1_S16384x4x32x2_d3

theorem refTurnedQ_at (x y : FVec Ideal S16384x4x32 .f32) (c s : FVec Ideal S16384x32 .f32) (i : Fin 16384) (h : Fin 4) (e : Fin 32) (b : Fin 2) :
    refTurnedQ x y c s (ix4 i h e b)
      = if b = 0 then x (ix3 i h e) * c (ix2 i e) - y (ix3 i h e) * s (ix2 i e) else x (ix3 i h e) * s (ix2 i e) + y (ix3 i h e) * c (ix2 i e) := by
  unfold refTurnedQ
  pointwise
  by_cases hb : b = 0
  · refine (dif_pos (by rw [hb]; exact Nat.one_pos)).trans (if_pos hb).symm
  · refine (dif_neg (fun hc : b.val < 1 => hb (Fin.ext (by simp only [Fin.val_zero]; omega)))).trans (if_neg hb).symm

/-- The queries of all rows: rotated latent rows, and after them the context rows. -/
def refAllQ (l : FVec Ideal S16384x4x32x2 .f32) (n : FVec Ideal S16640x4x64 .f32) : FVec Ideal S16640x4x64 .f32 :=
  concatenate S16640x4x64 0 [⟨S16384x4x64, shapeCast _ l shapeCasts_S16384x4x32x2_S16384x4x64⟩,
    ⟨S256x4x64, extractStridedSlice S256x4x64 ![16384, 0, 0] n slices_S16640x4x64_S256x4x64_16384_0_0⟩]
    concatenates_S16384x4x64_S256x4x64_S16640x4x64_d0

theorem refAllQ_at (l : FVec Ideal S16384x4x32x2 .f32) (n : FVec Ideal S16640x4x64 .f32) (i : Fin 16640) (h : Fin 4) (e : Fin 32) (b : Fin 2) :
    refAllQ l n (ix3 i h ⟨2 * e.val + b.val, by omega⟩)
      = if hi : i.val < 16384 then l (ix4 ⟨i.val, hi⟩ h e b) else n (ix3 i h ⟨2 * e.val + b.val, by omega⟩) := by
  unfold refAllQ
  pointwise
  by_cases hi : i.val < 16384
  · refine (dif_pos hi).trans ?_
    rw [dif_pos hi]
  · refine (dif_neg hi).trans ?_
    rw [dif_neg hi]
    exact congrArg (fun i => n (ix3 i h ⟨2 * e.val + b.val, by omega⟩)) (Fin.ext (by simp only []; omega))

/-- The pairs of the latent rows' keys. -/
def refPairsK (n : FVec Ideal S16640x2x64 .f32) : FVec Ideal S16384x2x32x2 .f32 :=
  shapeCast _ (extractStridedSlice S16384x2x64 ![0, 0, 0] n slices_S16640x2x64_S16384x2x64_0_0_0) shapeCasts_S16384x2x64_S16384x2x32x2

/-- The pairs' first elements. -/
def refFirstK (p : FVec Ideal S16384x2x32x2 .f32) : FVec Ideal S16384x2x32 .f32 :=
  shapeCast _ (extractStridedSlice S16384x2x32x1 ![0, 0, 0, 0] p slices_S16384x2x32x2_S16384x2x32x1_0_0_0_0) shapeCasts_S16384x2x32x1_S16384x2x32

/-- The pairs' second elements. -/
def refSecondK (p : FVec Ideal S16384x2x32x2 .f32) : FVec Ideal S16384x2x32 .f32 :=
  shapeCast _ (extractStridedSlice S16384x2x32x1 ![0, 0, 0, 1] p slices_S16384x2x32x2_S16384x2x32x1_0_0_0_1) shapeCasts_S16384x2x32x1_S16384x2x32

theorem refFirstK_at (n : FVec Ideal S16640x2x64 .f32) (i : Fin 16384) (h : Fin 2) (e : Fin 32) :
    refFirstK (refPairsK n) (ix3 i h e) = n (ix3 ⟨i.val, by omega⟩ h ⟨2 * e.val, by omega⟩) := by
  unfold refFirstK refPairsK
  pointwise
  exact congrArg (fun d => n (ix3 ⟨i.val, by omega⟩ h d)) (Fin.ext (by simp only []; omega))

theorem refSecondK_at (n : FVec Ideal S16640x2x64 .f32) (i : Fin 16384) (h : Fin 2) (e : Fin 32) :
    refSecondK (refPairsK n) (ix3 i h e) = n (ix3 ⟨i.val, by omega⟩ h ⟨2 * e.val + 1, by omega⟩) := by
  unfold refSecondK refPairsK
  pointwise
  exact congrArg (fun d => n (ix3 ⟨i.val, by omega⟩ h d)) (Fin.ext (by simp only []; omega))

/-- The rotated pairs of the keys. -/
def refTurnedK (x y : FVec Ideal S16384x2x32 .f32) (c s : FVec Ideal S16384x32 .f32) : FVec Ideal S16384x2x32x2 .f32 :=
  concatenate S16384x2x32x2 3
    [⟨S16384x2x32x1, broadcastInDim S16384x2x32x1 ![0, 1, 2] bcast_S16384x2x32_S16384x2x32x1_0_1_2
      (subf (mulf x (broadcastInDim S16384x2x32 ![0, 1, 2] bcast_S16384x1x32_S16384x2x32_0_1_2 (broadcastInDim S16384x1x32 ![0, 2] bcast_S16384x32_S16384x1x32_0_2 c)))
        (mulf y (broadcastInDim S16384x2x32 ![0, 1, 2] bcast_S16384x1x32_S16384x2x32_0_1_2 (broadcastInDim S16384x1x32 ![0, 2] bcast_S16384x32_S16384x1x32_0_2 s))))⟩,
     ⟨S16384x2x32x1, broadcastInDim S16384x2x32x1 ![0, 1, 2] bcast_S16384x2x32_S16384x2x32x1_0_1_2
      (addf (mulf x (broadcastInDim S16384x2x32 ![0, 1, 2] bcast_S16384x1x32_S16384x2x32_0_1_2 (broadcastInDim S16384x1x32 ![0, 2] bcast_S16384x32_S16384x1x32_0_2 s)))
        (mulf y (broadcastInDim S16384x2x32 ![0, 1, 2] bcast_S16384x1x32_S16384x2x32_0_1_2 (broadcastInDim S16384x1x32 ![0, 2] bcast_S16384x32_S16384x1x32_0_2 c))))⟩]
    concatenates_S16384x2x32x1_S16384x2x32x1_S16384x2x32x2_d3

theorem refTurnedK_at (x y : FVec Ideal S16384x2x32 .f32) (c s : FVec Ideal S16384x32 .f32) (i : Fin 16384) (h : Fin 2) (e : Fin 32) (b : Fin 2) :
    refTurnedK x y c s (ix4 i h e b)
      = if b = 0 then x (ix3 i h e) * c (ix2 i e) - y (ix3 i h e) * s (ix2 i e) else x (ix3 i h e) * s (ix2 i e) + y (ix3 i h e) * c (ix2 i e) := by
  unfold refTurnedK
  pointwise
  by_cases hb : b = 0
  · refine (dif_pos (by rw [hb]; exact Nat.one_pos)).trans (if_pos hb).symm
  · refine (dif_neg (fun hc : b.val < 1 => hb (Fin.ext (by simp only [Fin.val_zero]; omega)))).trans (if_neg hb).symm

/-- The keys of all rows: rotated latent rows, and after them the context rows. -/
def refAllK (l : FVec Ideal S16384x2x32x2 .f32) (n : FVec Ideal S16640x2x64 .f32) : FVec Ideal S16640x2x64 .f32 :=
  concatenate S16640x2x64 0 [⟨S16384x2x64, shapeCast _ l shapeCasts_S16384x2x32x2_S16384x2x64⟩,
    ⟨S256x2x64, extractStridedSlice S256x2x64 ![16384, 0, 0] n slices_S16640x2x64_S256x2x64_16384_0_0⟩]
    concatenates_S16384x2x64_S256x2x64_S16640x2x64_d0

theorem refAllK_at (l : FVec Ideal S16384x2x32x2 .f32) (n : FVec Ideal S16640x2x64 .f32) (i : Fin 16640) (h : Fin 2) (e : Fin 32) (b : Fin 2) :
    refAllK l n (ix3 i h ⟨2 * e.val + b.val, by omega⟩)
      = if hi : i.val < 16384 then l (ix4 ⟨i.val, hi⟩ h e b) else n (ix3 i h ⟨2 * e.val + b.val, by omega⟩) := by
  unfold refAllK
  pointwise
  by_cases hi : i.val < 16384
  · refine (dif_pos hi).trans ?_
    rw [dif_pos hi]
  · refine (dif_neg hi).trans ?_
    rw [dif_neg hi]
    exact congrArg (fun i => n (ix3 i h ⟨2 * e.val + b.val, by omega⟩)) (Fin.ext (by simp only []; omega))

/-- The queries' scale, their pairs' order and their transpose. -/
def refQuery (r : FVec Ideal S16640x4x64 .f32) : FVec Ideal S256x16640 .bf16 :=
  truncf .bf16 (shapeCast _ (transpose S4x2x32x16640 [1, 3, 2, 0] (shapeCast _ (Host.divf
    (mulf r (broadcastInDim S16640x4x64 ![] bcast_S_S16640x4x64 (constant S_ .f32 0x3E000000#32)))
    (broadcastInDim S16640x4x64 ![] bcast_S_S16640x4x64 (id (Host.log (constant S_ .f32 0x40000000#32)))))
    shapeCasts_S16640x4x64_S16640x4x32x2) transposes_S16640x4x32x2_S4x2x32x16640_1_3_2_0) shapeCasts_S4x2x32x16640_S256x16640) bitsLt_bf16_f32

theorem refQuery_at (r : FVec Ideal S16640x4x64 .f32) (a : Fin 256) (i : Fin 16640) :
    refQuery r (ix2 a i) = Ideal.div (r (ix3 i ⟨a.val / 64, by omega⟩ ⟨2 * (a.val % 32) + a.val % 64 / 32, by omega⟩) * lit 0x3E000000#32)
      (Ideal.log (lit 0x40000000#32)) := by
  unfold refQuery
  pointwise
  exact congrArg (fun d => Ideal.div (r (ix3 i ⟨a.val / 64, by omega⟩ d) * lit 0x3E000000#32) (Ideal.log (lit 0x40000000#32)))
    (Fin.ext (by simp only []; omega))

/-- The keys' pairs' order and their heads in front. -/
def refKey (r : FVec Ideal S16640x2x64 .f32) : FVec Ideal S2x16640x64 .bf16 :=
  truncf .bf16 (shapeCast _ (transpose S2x16640x2x32 [1, 0, 3, 2] (shapeCast _ r shapeCasts_S16640x2x64_S16640x2x32x2)
    transposes_S16640x2x32x2_S2x16640x2x32_1_0_3_2) shapeCasts_S2x16640x2x32_S2x16640x64) bitsLt_bf16_f32

theorem refKey_at (r : FVec Ideal S16640x2x64 .f32) (h : Fin 2) (i : Fin 16640) (a : Fin 64) :
    refKey r (ix3 h i a) = r (ix3 i h ⟨2 * (a.val % 32) + a.val / 32, by omega⟩) := by
  unfold refKey
  pointwise
  exact congrArg (fun d => r (ix3 i h d)) (Fin.ext (by simp only []; omega))
end Cert.Reference3Ideal.Premix
end
-- ==== Proof.Premix.Whole.lean ====
module
public import proofs.«01_k».proof.Proof.Premix.Ref
/-! What the premix's reference computes: the projection, and the queries and keys of its rows. -/
@[expose] public section
set_option maxRecDepth 16384
noncomputable section
namespace Cert.Reference3Ideal.Premix
open Idealize.ShloMosaic Idealize.ShloMosaic.TcCoe Cert.Reference3Ideal Cert.Reference3Ideal.Gen Cert.Post Cert.Premix
open Cert.Reference2Ideal.Post (refMod refNorm refMod_at refNorm_at)
open Cert.Kernel3Ideal.Premix

/-- The reference's projection is the kernel's. -/
theorem proj_at (x : FVec Ideal S16640x1024 .f32) (μ : FVec Ideal S2x6x1024 .f32) (g : FVec Ideal S1024 .f32) (W : FVec Ideal S1024x1792 .f32)
    (i : Fin 16640) (k : Fin 1792) : refProj (refNorm x g) (refMod μ) W (ix2 i k) = projection x μ g W i k := by
  rw [refProj_at]
  simp only [refNorm_at, refMod_at]
  rfl

/-- The rotation by no angle. -/
theorem turned_still (n : Fin 64 → EReal) (c s : Fin 32 → EReal) (b : Fin 2) (e : Fin 32) (hc : c e = 1) (hs : s e = 0) :
    turned n c s b e = n ⟨2 * e.val + b.val, by omega⟩ := by
  unfold turned
  rw [hc, hs, mul_one, mul_zero, mul_one, mul_zero, sub_zero, zero_add]
  split
  · next h => subst h; rfl
  · next h => exact congrArg n (Fin.ext (by simp only []; omega))

theorem cos_rest (i : Fin 16640) (e : Fin 32) (h : ¬i.val < 16384) : Ideal.cos (angle i e) = 1 := by
  rw [show angle i e = ((0 : ℝ) : EReal) from if_neg h]
  show ((Real.cos 0 : ℝ) : EReal) = 1
  rw [Real.cos_zero, EReal.coe_one]

theorem sin_rest (i : Fin 16640) (e : Fin 32) (h : ¬i.val < 16384) : Ideal.sin (angle i e) = 0 := by
  rw [show angle i e = ((0 : ℝ) : EReal) from if_neg h]
  show ((Real.sin 0 : ℝ) : EReal) = 0
  rw [Real.sin_zero, EReal.coe_zero]

/-- The queries of all rows, latent ones rotated. -/
theorem rotatedQ (n : FVec Ideal S16640x4x64 .f32) (i : Fin 16640) (h : Fin 4) (e : Fin 32) (b : Fin 2) :
    refAllQ (refTurnedQ (refFirstQ (refPairsQ n)) (refSecondQ (refPairsQ n)) (Host.cos refAngles) (Host.sin refAngles)) n
        (ix3 i h ⟨2 * e.val + b.val, by omega⟩)
      = turned (fun d => n (ix3 i h d)) (fun e => Ideal.cos (angle i e)) (fun e => Ideal.sin (angle i e)) b e := by
  rw [refAllQ_at]
  split
  · next hi =>
    have hc : Host.cos refAngles (ix2 ⟨i.val, hi⟩ e) = Ideal.cos (angle i e) := congrArg Ideal.cos (refAngles_at ⟨i.val, hi⟩ e)
    have hs : Host.sin refAngles (ix2 ⟨i.val, hi⟩ e) = Ideal.sin (angle i e) := congrArg Ideal.sin (refAngles_at ⟨i.val, hi⟩ e)
    rw [refTurnedQ_at, hc, hs, refFirstQ_at, refSecondQ_at]
    rfl
  · next hi => exact (turned_still (fun d => n (ix3 i h d)) _ _ b e (cos_rest i e hi) (sin_rest i e hi)).symm

/-- The keys of all rows, latent ones rotated. -/
theorem rotatedK (n : FVec Ideal S16640x2x64 .f32) (i : Fin 16640) (h : Fin 2) (e : Fin 32) (b : Fin 2) :
    refAllK (refTurnedK (refFirstK (refPairsK n)) (refSecondK (refPairsK n)) (Host.cos refAngles) (Host.sin refAngles)) n
        (ix3 i h ⟨2 * e.val + b.val, by omega⟩)
      = turned (fun d => n (ix3 i h d)) (fun e => Ideal.cos (angle i e)) (fun e => Ideal.sin (angle i e)) b e := by
  rw [refAllK_at]
  split
  · next hi =>
    have hc : Host.cos refAngles (ix2 ⟨i.val, hi⟩ e) = Ideal.cos (angle i e) := congrArg Ideal.cos (refAngles_at ⟨i.val, hi⟩ e)
    have hs : Host.sin refAngles (ix2 ⟨i.val, hi⟩ e) = Ideal.sin (angle i e) := congrArg Ideal.sin (refAngles_at ⟨i.val, hi⟩ e)
    rw [refTurnedK_at, hc, hs, refFirstK_at, refSecondK_at]
    rfl
  · next hi => exact (turned_still (fun d => n (ix3 i h d)) _ _ b e (cos_rest i e hi) (sin_rest i e hi)).symm

/-- An eighth, divided by the logarithm of two, is the queries' scale. -/
theorem scaled (x : EReal) : Ideal.div (x * lit 0x3E000000#32) (Ideal.log (lit 0x40000000#32)) = x * scale := by
  have e8 : lit 0x3E000000#32 = ((8⁻¹ : ℝ) : EReal) := by
    simp [lit, Ideal.ofBits, Ideal.ieee]
    rw [← EReal.coe_mul]
    norm_num
  have e2 : Ideal.log (lit 0x40000000#32) = ((Real.log 2 : ℝ) : EReal) := Cert.KernelIdeal.Flash.log_two
  have hl : Real.log 2 ≠ 0 := (Real.log_pos (by norm_num)).ne'
  rw [e8, e2, Ideal.div, if_neg (by exact_mod_cast hl), mul_assoc, ← EReal.coe_inv, ← EReal.coe_mul]
  unfold scale
  rw [mul_inv]

/-- The reference's queries are the kernel's. -/
theorem query_at (u : FVec Ideal S16640x1792 .f32) (g : FVec Ideal S64 .f32) (n : FVec Ideal S16640x4x64 .f32)
    (hn : n = refNormQ (refHeadsQ u) g) (a : Fin 256) (i : Fin 16640) :
    refQuery (refAllQ (refTurnedQ (refFirstQ (refPairsQ n)) (refSecondQ (refPairsQ n)) (Host.cos refAngles) (Host.sin refAngles)) n) (ix2 a i)
      = query (fun k => u (ix2 i k)) g a i := by
  rw [refQuery_at, scaled]
  refine congrArg (· * scale) ((rotatedQ n i ⟨a.val / 64, by omega⟩ ⟨a.val % 32, by omega⟩ ⟨a.val % 64 / 32, by omega⟩).trans ?_)
  simp only [hn, refNormQ_at, refHeadsQ_at]
  rfl

/-- The reference's keys are the kernel's. -/
theorem key_at (u : FVec Ideal S16640x1792 .f32) (g : FVec Ideal S64 .f32) (n : FVec Ideal S16640x2x64 .f32)
    (hn : n = refNormK (refHeadsK u) g) (h : Fin 2) (i : Fin 16640) (a : Fin 64) :
    refKey (refAllK (refTurnedK (refFirstK (refPairsK n)) (refSecondK (refPairsK n)) (Host.cos refAngles) (Host.sin refAngles)) n) (ix3 h i a)
      = key (fun k => u (ix2 i k)) g h i a := by
  rw [refKey_at]
  refine (rotatedK n i h ⟨a.val % 32, by omega⟩ ⟨a.val / 32, by omega⟩).trans ?_
  simp only [hn, refNormK_at, refHeadsK_at]
  rfl
end Cert.Reference3Ideal.Premix
end
-- ==== Proof.Premix.Equal.lean ====
module
public import proofs.«01_k».proof.Proof.Premix.Whole
/-! The premix's kernel and its reference leave the same arrays. -/
@[expose] public section
set_option maxRecDepth 16384
noncomputable section
namespace Cert.Reference3Ideal.Premix
open Idealize.ShloMosaic Idealize.ShloMosaic.TcCoe Cert.Reference3Ideal Cert.Reference3Ideal.Gen Cert.Post Cert.Premix
open Cert.Reference2Ideal.Post (refMod refNorm)
open Cert.Kernel3Ideal.Premix

/-- Columns of a projection, from the first one on. -/
theorem columns_at {n : ℕ} (u : FVec Ideal S16640x1792 .f32) (o : ℕ) (h : S16640x1792.Slices ![0, o] ⟨2, ![16640, n]⟩) (i : Fin 16640) (j : Fin n)
    (hj : o + j.val < 1792) : extractStridedSlice (⟨2, ![16640, n]⟩ : Shape) ![0, o] u h (ix2 i j) = u (ix2 i ⟨o + j.val, hj⟩) := by
  pointwise

/-- The transposed values. -/
theorem values_at (u : FVec Ideal S16640x1792 .f32) (j : Fin 128) (i : Fin 16640) :
    (truncf .bf16 (transpose S128x16640 [1, 0] (extractStridedSlice S16640x128 ![0, 1664] u slices_S16640x1792_S16640x128_0_1664)
      transposes_S16640x128_S128x16640_1_0) bitsLt_bf16_f32) (ix2 j i) = u (ix2 i ⟨1664 + j.val, by omega⟩) := by
  pointwise

/-- The run's projection is the projection of the arguments. -/
theorem run_proj (V : Valuation τ sig (Elt Ideal)) (i : Fin 16640) (k : Fin 1792) :
    Value.res_main_v69 V (ix2 i k) = projection (V (Proc.devRef .tc main_arg0)) (V (Proc.devRef .tc main_arg1)) (V (Proc.devRef .tc main_arg2))
      (V (Proc.devRef .tc main_arg3)) i k :=
  proj_at (V (Proc.devRef .tc main_arg0)) (V (Proc.devRef .tc main_arg1)) (V (Proc.devRef .tc main_arg2)) (V (Proc.devRef .tc main_arg3)) i k

/-- The queries of the run. -/
def runQuery (V : Valuation τ sig (Elt Ideal)) : FVec Ideal S256x16640 .bf16 :=
  refQuery (refAllQ (refTurnedQ (Value.res_main_v93 V) (Value.res_main_v95 V) (Value.res_main_v30 V) (Value.res_main_v31 V)) (Value.res_main_v89 V))

/-- The keys of the run. -/
def runKey (V : Valuation τ sig (Elt Ideal)) : FVec Ideal S2x16640x64 .bf16 :=
  refKey (refAllK (refTurnedK (Value.res_main_v138 V) (Value.res_main_v140 V) (Value.res_main_v30 V) (Value.res_main_v31 V)) (Value.res_main_v134 V))

theorem runQuery_at (V : Valuation τ sig (Elt Ideal)) (a : Fin 256) (i : Fin 16640) :
    runQuery V (ix2 a i) = query (fun k => Value.res_main_v69 V (ix2 i k)) (V (Proc.devRef .tc main_arg4)) a i :=
  query_at (Value.res_main_v69 V) (V (Proc.devRef .tc main_arg4)) (Value.res_main_v89 V) rfl a i

theorem runKey_at (V : Valuation τ sig (Elt Ideal)) (h : Fin 2) (i : Fin 16640) (a : Fin 64) :
    runKey V (ix3 h i a) = key (fun k => Value.res_main_v69 V (ix2 i k)) (V (Proc.devRef .tc main_arg5)) h i a :=
  key_at (Value.res_main_v69 V) (V (Proc.devRef .tc main_arg5)) (Value.res_main_v134 V) rfl h i a

variable (V : Valuation τ sig (Elt Ideal)) (m : (ℓ : Loc Cert.Kernel3Ideal.nD Cert.Kernel3Ideal.τ Cert.Kernel3Ideal.sig) → Buf (Elt Ideal) ℓ)
  (c : Dev Cert.Kernel3Ideal.nD)

/-- The reference's arguments are the kernel's. -/
structure Agree : Prop where
  x : V (Proc.devRef .tc main_arg0) = argX m c
  μ : V (Proc.devRef .tc main_arg1) = argM m c
  norm : V (Proc.devRef .tc main_arg2) = argN m c
  weights : V (Proc.devRef .tc main_arg3) = argW m c
  gq : V (Proc.devRef .tc main_arg4) = argGq m c
  gk : V (Proc.devRef .tc main_arg5) = argGk m c

variable {V m c}

theorem Agree.proj_at (e : Agree V m c) (i : Fin 16640) (k : Fin 1792) : Value.res_main_v69 V (ix2 i k) = proj m c i k := by
  rw [run_proj, e.x, e.μ, e.norm, e.weights]

theorem Agree.first (e : Agree V m c) : extractStridedSlice S16640x768 ![0, 0] (Value.res_main_v69 V) slices_S16640x1792_S16640x768_0_0
    = (Cert.Kernel3Ideal.Gen.dats m 0 c).arrAt 9 Cert.Kernel3Ideal.cfg0.N := by
  rw [result9]
  funext i
  have hi : i = ix2 (i 0) (i 1) := by funext x; fin_cases x <;> rfl
  rw [hi]
  refine (columns_at _ 0 _ (i 0) (i 1) (by have := (i 1).isLt; simp at this; omega)).trans ((e.proj_at _ _).trans ?_)
  exact congrArg (proj m c (i 0)) (Fin.ext (Nat.zero_add _))

theorem Agree.second (e : Agree V m c) : extractStridedSlice S16640x256 ![0, 768] (Value.res_main_v69 V) slices_S16640x1792_S16640x256_0_768
    = (Cert.Kernel3Ideal.Gen.dats m 0 c).arrAt 10 Cert.Kernel3Ideal.cfg0.N := by
  rw [result10]
  funext i
  have hi : i = ix2 (i 0) (i 1) := by funext x; fin_cases x <;> rfl
  rw [hi]
  exact (columns_at _ 768 _ (i 0) (i 1) (by have := (i 1).isLt; simp at this; omega)).trans (e.proj_at _ _)

theorem Agree.third (e : Agree V m c) : extractStridedSlice S16640x256 ![0, 1024] (Value.res_main_v69 V) slices_S16640x1792_S16640x256_0_1024
    = (Cert.Kernel3Ideal.Gen.dats m 0 c).arrAt 11 Cert.Kernel3Ideal.cfg0.N := by
  rw [result11]
  funext i
  have hi : i = ix2 (i 0) (i 1) := by funext x; fin_cases x <;> rfl
  rw [hi]
  exact (columns_at _ 1024 _ (i 0) (i 1) (by have := (i 1).isLt; simp at this; omega)).trans (e.proj_at _ _)

theorem Agree.values (e : Agree V m c) :
    truncf .bf16 (transpose S128x16640 [1, 0] (extractStridedSlice S16640x128 ![0, 1664] (Value.res_main_v69 V) slices_S16640x1792_S16640x128_0_1664)
      transposes_S16640x128_S128x16640_1_0) bitsLt_bf16_f32
    = (Cert.Kernel3Ideal.Gen.dats m 0 c).arrAt 14 Cert.Kernel3Ideal.cfg0.N := by
  rw [result14]
  funext i
  have hi : i = ix2 (i 0) (i 1) := by funext x; fin_cases x <;> rfl
  rw [hi]
  exact (values_at _ (i 0) (i 1)).trans (e.proj_at _ _)

theorem Agree.queries (e : Agree V m c) (hr : RealIn m c) :
    runQuery V = (Cert.Kernel3Ideal.Gen.dats m 0 c).arrAt 12 Cert.Kernel3Ideal.cfg0.N := by
  rw [result12 m c hr]
  funext i
  have hi : i = ix2 (i 0) (i 1) := by funext x; fin_cases x <;> rfl
  rw [hi]
  refine (runQuery_at V (i 0) (i 1)).trans ?_
  exact congrArg₂ (fun u g => query u g (i 0) (i 1)) (funext fun k => e.proj_at (i 1) k) e.gq

theorem Agree.keys (e : Agree V m c) (hr : RealIn m c) :
    runKey V = (Cert.Kernel3Ideal.Gen.dats m 0 c).arrAt 13 Cert.Kernel3Ideal.cfg0.N := by
  rw [result13 m c hr]
  funext i
  have hi : i = ix3 (i 0) (i 1) (i 2) := by funext x; fin_cases x <;> rfl
  rw [hi]
  refine (runKey_at V (i 0) (i 1) (i 2)).trans ?_
  exact congrArg₂ (fun u g => key u g (i 0) (i 1) (i 2)) (funext fun k => e.proj_at (i 1) k) e.gk
end Cert.Reference3Ideal.Premix
end
-- ==== Proof.Ctx.Body.lean ====
module
public import proofs.«01_k».proof.Proof.Gen.Kernel5Ideal.Value
public import proofs.«01_k».proof.Proof.Flash.Unit
public import Idealize.ShloMosaic.Lib.Pipeline.ValueKit
public import Idealize.ShloMosaic.Lib.Pipeline.ReadBack
public import Idealize.ShloMosaic.Lib.Pointwise
/-! What the body of the context rows' attention computes at one entry of its block. -/
@[expose] public section
set_option maxRecDepth 16384
noncomputable section
namespace Cert.Kernel5Ideal.Ctx
open Idealize.ShloMosaic Cert.Kernel5Ideal Cert.Kernel5Ideal.Gen

/-- The scores of a query against the context's keys. -/
def scores (K : Fin 256 → Fin 64 → EReal) (q : Fin 64 → EReal) (k : Fin 256) : EReal := ∑ d, K k d * q d

/-- The largest of 256 scores. -/
def top (s : Fin 256 → EReal) : EReal := Finset.univ.fold max ⊥ s

/-- The values with the weights `2 ^ (s - top s)`, over the sum of the weights. -/
def attend (s v : Fin 256 → EReal) : EReal :=
  Ideal.div (∑ k, v k * Ideal.exp2 (s k - top s)) (∑ k, Ideal.exp2 (s k - top s))

/-- A head's part of the result, at a row and a column. -/
theorem pay2_at (V : Vec Ideal S64x256 .bf16) (K : Vec Ideal S1x256x64 .bf16) (Q : Vec Ideal S64x256 .bf16) (x : S64x256.Idx) :
    k0_pay2 V K Q x = attend (scores (fun k d => K (ix3 0 k d)) fun d => Q (ix2 d (x 1))) fun k => V (ix2 (x 0) k) := by
  pointwise [k0_pay2, k0_pay1]
  rw [Cert.KernelIdeal.Flash.negInf]
  rfl

/-- The block of the result: the rows are two heads', the columns the queries'. -/
def out (X : Vec Ideal S128x256 .bf16) (K : Vec Ideal S1x256x64 .bf16) (V : Vec Ideal S64x256 .bf16) : Vec Ideal S128x256 .bf16 :=
  fun y => attend (scores (fun k d => K (ix3 0 k d)) fun d => X (ix2 ⟨64 * ((y 0).val / 64) + d.val, by
    have h0 : (y 0).val < 128 := (y 0).isLt
    omega⟩ (y 1))) fun k => V (ix2 ⟨(y 0).val % 64, by omega⟩ k)

/-- A head's part is its part of the block. -/
theorem piece (X : Vec Ideal S128x256 .bf16) (K : Vec Ideal S1x256x64 .bf16) (V : Vec Ideal S64x256 .bf16) (a : ℕ) (ha : a = 64 * (a / 64)) (h : a < 128)
    (i₁ : _) (x : S64x256.Idx) :
    k0_pay2 V K (View.ld X (Rect.unit (s := S128x256) ![a, 0] ![64, 256] i₁)) x
      = out X K V ((Rect.unit (s := S128x256) ![a, 0] ![64, 256] i₁).emb x) := by
  have hx : (x 0).val < 64 := (x 0).isLt
  have e : (Rect.unit (s := S128x256) ![a, 0] ![64, 256] i₁).emb x = ix2 (⟨a + (x 0).val, by omega⟩ : Fin 128) (x 1) := by
    blk_ext
  rw [pay2_at, e]
  unfold out
  refine congrArg₂ attend (congrArg (scores _) (funext fun d => ?_)) (funext fun k => congrArg (fun r => V (ix2 r k)) (Fin.ext ?_))
  · refine congrArg X ?_
    have h1 : 64 * ((a + (x 0).val) / 64) = a := by omega
    funext z
    fin_cases z <;> refine Fin.ext ?_ <;> simp [h1] <;> rfl
  · show (x 0).val = (a + (x 0).val) % 64
    omega

/-- What the body leaves of its blocks. -/
theorem out_eq (X : Vec Ideal S128x256 .bf16) (K : Vec Ideal S1x256x64 .bf16) (V : Vec Ideal S64x256 .bf16) : out0_3 X K V = out X K V := by
  funext y
  unfold out0_3
  have hV : View.ld V r0_0 = V := View.ld_unit_zero (by decide) _ _
  have hK : View.ld K r0_1 = K := View.ld_unit_zero (by decide) _ _
  rw [hV, hK]
  refine View.canon_append_of_piecesOf (out X K V) [] [_, _] ⟨?_, ?_, trivial⟩ y ?_
  · exact fun x => piece X K V 64 (by decide) (by decide) _ x
  · exact fun x => piece X K V 0 (by decide) (by decide) _ x
  · exact View.cover_of_tiledL _ ![64, 256] (by sl_kernel_rfl) y
end Cert.Kernel5Ideal.Ctx
end
-- ==== Proof.Ctx.Value.lean ====
module
public import proofs.«01_k».proof.Proof.Ctx.Body
/-! The array that the context rows' attention leaves, entry by entry. -/
@[expose] public section
set_option maxRecDepth 16384
noncomputable section
namespace Cert.Kernel5Ideal.Ctx
open Idealize.ShloMosaic Idealize.ShloMosaic.TcCoe Cert.Kernel5Ideal Cert.Kernel5Ideal.Gen

/-- The scores of a context query (head `h / 64`) against the context's keys. -/
def ctxScores (Q : Vec Ideal S256x16640 .bf16) (K : Vec Ideal S2x16640x64 .bf16) (h q : Fin 256) : Fin 256 → EReal :=
  scores (fun k d => K (ix3 ⟨h.val / 128, by omega⟩ ⟨16384 + k.val, by omega⟩ d)) fun d => Q (ix2 ⟨64 * (h.val / 64) + d.val, by omega⟩ ⟨16384 + q.val, by omega⟩)

/-- The context values of a row of the result. -/
def ctxValues (V : Vec Ideal S128x16640 .bf16) (h : Fin 256) (k : Fin 256) : EReal :=
  V (ix2 ⟨64 * (h.val / 128) + h.val % 64, by omega⟩ ⟨16384 + k.val, by omega⟩)

variable (m : (ℓ : Loc nD τ sig) → Buf (Elt Ideal) ℓ) (c : Dev nD)

/-- The queries, a head's 64 rows after another's. -/
abbrev argQ : Vec Ideal S256x16640 .bf16 := m ((c : Thread nD τ).loc main_arg0)
/-- The keys. -/
abbrev argK : Vec Ideal S2x16640x64 .bf16 := m ((c : Thread nD τ).loc main_arg1)
/-- The values, a head's 64 rows after another's. -/
abbrev argV : Vec Ideal S128x16640 .bf16 := m ((c : Thread nD τ).loc main_arg2)

theorem point_lt (t : Fin cfg0.N) : t.val < 2 := lt_of_lt_of_eq t.isLt N_0

/-- The block numbers of the inputs. -/
theorem idx : ∀ t : Fin cfg0.N, win0_0.index t = ![t.val, 64] ∧ win0_1.index t = ![t.val, 64, 0] ∧ win0_2.index t = ![t.val, 64] :=
  (by decide +kernel : ∀ t : Fin grid0.N, _)

theorem block0 (t : Fin cfg0.N) (a : Fin 128) (b : Fin 256) : iblk m c 0 t (ix2 a b)
    = argQ m c (ix2 ⟨128 * t.val + a.val, by have := point_lt t; omega⟩ ⟨16384 + b.val, by omega⟩) := by
  have hi := (idx t).1
  blk_ext [iblk, V_main_arg0, hi]

theorem block1 (t : Fin cfg0.N) (k : Fin 256) (d : Fin 64) : iblk m c 1 t (ix3 0 k d)
    = argK m c (ix3 ⟨t.val, point_lt t⟩ ⟨16384 + k.val, by omega⟩ d) := by
  have hi := (idx t).2.1
  blk_ext [iblk, V_main_arg1, hi]

theorem block2 (t : Fin cfg0.N) (r : Fin 64) (k : Fin 256) : iblk m c 2 t (ix2 r k)
    = argV m c (ix2 ⟨64 * t.val + r.val, by have := point_lt t; omega⟩ ⟨16384 + k.val, by omega⟩) := by
  have hi := (idx t).2.2
  blk_ext [iblk, V_main_arg2, hi]

/-- What a grid point leaves in its block is the attention of its two heads. -/
theorem point_value (t : Fin cfg0.N) (a : Fin 128) (b : Fin 256) :
    out0_3 (iblk m c 0 t) (iblk m c 1 t) (iblk m c 2 t) (ix2 a b)
      = attend (ctxScores (argQ m c) (argK m c) ⟨128 * t.val + a.val, by have := point_lt t; omega⟩ b)
        (ctxValues (argV m c) ⟨128 * t.val + a.val, by have := point_lt t; omega⟩) := by
  have ht := point_lt t
  rw [out_eq]
  unfold out ctxScores
  refine congrArg₂ attend (congrArg₂ scores (funext fun k => funext fun d => ?_) (funext fun d => ?_)) (funext fun k => ?_)
  · rw [block1]
    exact congrArg (fun x => argK m c (ix3 x _ d)) (Fin.ext (by show t.val = (128 * t.val + a.val) / 128; omega))
  · refine (block0 m c t _ b).trans ?_
    exact congrArg (fun x => argQ m c (ix2 x _)) (Fin.ext (by
      show 128 * t.val + (64 * (a.val / 64) + d.val) = 64 * ((128 * t.val + a.val) / 64) + d.val; omega))
  · refine (block2 m c t _ k).trans ?_
    exact congrArg (fun x => argV m c (ix2 x _)) (Fin.ext (by
      show 64 * t.val + a.val % 64 = 64 * ((128 * t.val + a.val) / 128) + (128 * t.val + a.val) % 64; omega))

/-- The call's result is the attention, entry by entry. -/
theorem result : (dats m 0 c).arrAt 3 cfg0.N = fun i : S256x256.Idx =>
    attend (ctxScores (argQ m c) (argK m c) (i 0) (i 1)) (ctxValues (argV m c) (i 0)) := by
  refine (dats m 0 c).arrAt_eq_of_covers 3 _ (by decide +kernel) fun t hf y => ?_
  have hi : win0_3.index t = ![t.val, 0] := (by decide +kernel : ∀ t : Fin grid0.N, win0_3.index t = ![t.val, 0]) t
  blk_simp
  rw [after0_3]
  have hy : (y : S128x256.Idx) = ix2 (y 0) (y 1) := by funext x; fin_cases x <;> rfl
  refine Eq.trans (congrArg _ hy) ((point_value m c t (y 0) (y 1)).trans
    (congrArg₂ (fun h q => attend (ctxScores (argQ m c) (argK m c) h q) (ctxValues (argV m c) h)) ?_ ?_))
  · refine Fin.ext ?_
    blk_simp [hi]
    exact congrArg (· + (y 0).val) (Nat.mul_comm 128 t.val)
  · refine Fin.ext ?_
    blk_simp [hi]
end Cert.Kernel5Ideal.Ctx
end
-- ==== Proof.Ctx.Real.lean ====
module
public import proofs.«01_k».proof.Pre_finite_ctx
public import proofs.«01_k».proof.Proof.Ctx.Value
public import proofs.«01_k».proof.Proof.Flash.Finite
/-! Of finite context queries and keys the attention is a softmax with any number subtracted from the scores. -/
@[expose] public section
noncomputable section

/-- The side conditions of the precondition's operations. -/
instance Cert.Pre_finite_ctx.sides : Cert.Pre_finite_ctx.Facts where
  bitsLt_bf16_f32 := by decide
  slices_S256x16640_S256x256_0_16384 := by decide
  slices_S2x16640x64_S2x256x64_0_16384_0 := by decide
  bcast_S_S256x256 := by decide
  reducesTo_S256x256_S_d0_1 := by decide
  h_S_ := by decide
  bcast_S_S2x256x64 := by decide
  reducesTo_S2x256x64_S_d0_1_2 := by decide

namespace Cert.Kernel5Ideal.Ctx
open Idealize.ShloMosaic Idealize.ShloMosaic.TcCoe Cert.Kernel5Ideal Cert.Kernel5Ideal.Gen
open Cert.KernelIdeal.Flash (quotient exp2_sub coe_sum posInf real_of_abs)

/-- The largest of real scores is a real number. -/
theorem top_real (σ : Fin 256 → ℝ) : ∃ μ : ℝ, top (fun k => (σ k : EReal)) = (μ : EReal) := by
  have h1 : top (fun k => (σ k : EReal)) < ⊤ := (Finset.fold_max_lt _).mpr ⟨bot_lt_top, fun k _ => EReal.coe_lt_top _⟩
  have h2 : ⊥ < top (fun k => (σ k : EReal)) := (Finset.lt_fold_max _).mpr (Or.inr ⟨0, Finset.mem_univ _, EReal.bot_lt_coe _⟩)
  exact ⟨_, (EReal.coe_toReal h1.ne h2.ne').symm⟩

/-- The attention of real scores is a softmax with any number subtracted. -/
theorem attend_real (s v : Fin 256 → EReal) (σ : Fin 256 → ℝ) (hs : ∀ k, s k = (σ k : EReal)) (M : ℝ) :
    attend s v = ∑ k, v k * Ideal.div ((Real.exp (σ k * Real.log 2 - M) : ℝ) : EReal) (∑ y, ((Real.exp (σ y * Real.log 2 - M) : ℝ) : EReal)) := by
  obtain rfl : s = fun k => (σ k : EReal) := funext hs
  obtain ⟨μ, hμ⟩ := top_real σ
  unfold attend
  rw [hμ]
  have h := quotient (N := 256) (by decide) (fun κ => if h : κ < 256 then σ ⟨κ, h⟩ else 0) (fun κ => if h : κ < 256 then v ⟨κ, h⟩ else 0) μ M
  simp only [Finset.sum_range, Fin.is_lt, dite_true, Fin.eta, mul_one] at h
  rw [← h]
  simp only [exp2_sub]
  exact congrArg (fun x => Ideal.div x _) (Finset.sum_congr rfl fun k _ => mul_comm _ _)

variable (m : (ℓ : Loc nD τ sig) → Buf (Elt Ideal) ℓ) (c : Dev nD)

/-- The context's queries and keys are real numbers. -/
def RealCtx : Prop :=
  (∀ (a b : Fin 256), argQ m c (ix2 a ⟨16384 + b.val, by omega⟩) = (((argQ m c (ix2 a ⟨16384 + b.val, by omega⟩)).toReal : ℝ) : EReal))
    ∧ ∀ (a : Fin 2) (b : Fin 256) (d : Fin 64), argK m c (ix3 a ⟨16384 + b.val, by omega⟩ d)
      = (((argK m c (ix3 a ⟨16384 + b.val, by omega⟩ d)).toReal : ℝ) : EReal)

/-- The precondition says so. -/
theorem real_of_pre (h : Cert.Pre_finite_ctx.fn (F := Ideal) (argQ m c) (argK m c) (argV m c) = fun _ => 1#1) : RealCtx m c := by
  have h0 := congrFun h fun i => i.elim0
  unfold Cert.Pre_finite_ctx.fn at h0
  obtain ⟨hq, hk⟩ := IntOp.andi_eq_one.1 h0
  haveI : Subsingleton Cert.Pre_finite_ctx.S_.Idx := ⟨fun a b => funext fun i => i.elim0⟩
  refine ⟨fun a b => ?_, fun a b d => ?_⟩
  · have e := Host.reduce_andi_all _ _ _ _ _ hq (ix2 a b)
    pointwise at e
    refine real_of_abs ?_
    rw [← posInf]
    exact e
  · have e := Host.reduce_andi_all _ _ _ _ _ hk (ix3 a b d)
    pointwise at e
    refine real_of_abs ?_
    rw [← posInf]
    exact e

/-- The real scores. -/
def score (h q k : Fin 256) : ℝ :=
  ∑ d : Fin 64, (argK m c (ix3 ⟨h.val / 128, by omega⟩ ⟨16384 + k.val, by omega⟩ d)).toReal
    * (argQ m c (ix2 ⟨64 * (h.val / 64) + d.val, by omega⟩ ⟨16384 + q.val, by omega⟩)).toReal

variable {m c}

theorem ctxScores_real (hr : RealCtx m c) (h q k : Fin 256) : ctxScores (argQ m c) (argK m c) h q k = (score m c h q k : EReal) := by
  unfold ctxScores scores score
  rw [coe_sum]
  refine Finset.sum_congr rfl fun d _ => ?_
  rw [EReal.coe_mul, ← hr.1, ← hr.2]
end Cert.Kernel5Ideal.Ctx
end
-- ==== Proof.Ctx.Ref.lean ====
module
public import proofs.«01_k».proof.Proof.Gen.Reference5Ideal.Run
public import proofs.«01_k».proof.Proof.Ctx.Real
public import proofs.«01_k».proof.Proof.Flash.Ref
/-! What the reference of the context rows' attention computes, and that the kernel's attention is the same. -/
@[expose] public section
set_option maxRecDepth 16384
noncomputable section
namespace Cert.Kernel5Ideal.Ctx
open Idealize.ShloMosaic Idealize.ShloMosaic.TcCoe
open Cert.KernelIdeal.Flash (hostMax_real log_two negInf)

section
open Cert.Reference5Ideal Cert.Reference5Ideal.Gen

/-- The reference's scores. -/
def refScores (Q : FVec Ideal S256x16640 .bf16) (K : FVec Ideal S2x16640x64 .bf16) : FVec Ideal S2x2x256x256 .f32 :=
  mulf (Host.dotGeneral dot_S2x2x64x256_S2x256x64_S2x2x256x256_2_2_13_1_0_0 none
      (shapeCast _ (extractStridedSlice S256x256 ![0, 16384] Q slices_S256x16640_S256x256_0_16384) shapeCasts_S256x256_S2x2x64x256)
      (extractStridedSlice S2x256x64 ![0, 16384, 0] K slices_S2x16640x64_S2x256x64_0_16384_0))
    (broadcastInDim S2x2x256x256 ![] bcast_S_S2x2x256x256 (Host.log (constant S_ .f32 0x40000000#32)))

/-- The largest score of a query. -/
def refMax (S : FVec Ideal S2x2x256x256 .f32) : FVec Ideal S2x2x256 .f32 :=
  maximumf (broadcastInDim S2x2x256 ![] bcast_S_S2x2x256 (constant S_ .f32 0xFF800000#32))
    (Host.reduce FloatOps.maximumf S (constant S_ .f32 0xFF800000#32) reducesTo_S2x2x256x256_S2x2x256_d3 h_S_)

/-- The exponentials of the reference's softmax. -/
def refExp (S : FVec Ideal S2x2x256x256 .f32) : FVec Ideal S2x2x256x256 .f32 :=
  Host.exp (subf S (broadcastInDim S2x2x256x256 ![0, 1, 2, 3] bcast_S2x2x256x1_S2x2x256x256_0_1_2_3
    (broadcastInDim S2x2x256x1 ![0, 1, 2] bcast_S2x2x256_S2x2x256x1_0_1_2 (refMax S))))

/-- The reference's result from its exponentials. -/
def refOut (E : FVec Ideal S2x2x256x256 .f32) (V : FVec Ideal S128x16640 .bf16) : FVec Ideal S256x256 .bf16 :=
  truncf .bf16 (shapeCast _ (transpose S2x2x64x256 [0, 2, 1, 3]
    (Host.dotGeneral dot_S2x64x256_S2x2x256x256_S2x64x2x256_2_3_1_12_0_0 none
      (shapeCast _ (extractStridedSlice S128x256 ![0, 16384] V slices_S128x16640_S128x256_0_16384) shapeCasts_S128x256_S2x64x256)
      (truncf .bf16 (Host.divf E (broadcastInDim S2x2x256x256 ![0, 1, 2, 3] bcast_S2x2x256x1_S2x2x256x256_0_1_2_3
        (broadcastInDim S2x2x256x1 ![0, 1, 2] bcast_S2x2x256_S2x2x256x1_0_1_2
          (Host.reduceAdd E (constant S_ .f32 0x00000000#32) reducesTo_S2x2x256x256_S2x2x256_d3 h_S_)))) bitsLt_bf16_f32))
    transposes_S2x64x2x256_S2x2x64x256_0_2_1_3) shapeCasts_S2x2x64x256_S256x256) bitsLt_bf16_f32

theorem refScores_at (Q : FVec Ideal S256x16640 .bf16) (K : FVec Ideal S2x16640x64 .bf16) (a b : Fin 2) (q k : Fin 256) :
    refScores Q K (ix4 a b q k) = (∑ d : Fin 64, Q (ix2 ⟨64 * (2 * a.val + b.val) + d.val, by omega⟩ ⟨16384 + q.val, by omega⟩)
      * K (ix3 a ⟨16384 + k.val, by omega⟩ d)) * Ideal.log (Ideal.ofBits .f32 0x40000000#32) := by
  unfold refScores
  pointwise
  congr 1
  refine Finset.sum_congr rfl fun d _ => ?_
  rw [show (⟨a.val * 128 + b.val * 64 + d.val, by omega⟩ : Fin 256) = ⟨64 * (2 * a.val + b.val) + d.val, by omega⟩ from
    Fin.ext (by show a.val * 128 + b.val * 64 + d.val = 64 * (2 * a.val + b.val) + d.val; omega)]

theorem refMax_real (S : FVec Ideal S2x2x256x256 .f32) (j : S2x2x256.Idx) (hS : ∀ i, ∃ r : ℝ, S i = (r : EReal)) :
    ∃ M : ℝ, refMax S j = (M : EReal) := by
  obtain ⟨M, hM⟩ := hostMax_real S (constant (F := Ideal) S_ .f32 0xFF800000#32) reducesTo_S2x2x256x256_S2x2x256_d3 (by decide) h_S_ negInf (by decide) j hS
  refine ⟨M, ?_⟩
  unfold refMax
  rw [maximumf_apply, hM]
  have hb : broadcastInDim S2x2x256 ![] bcast_S_S2x2x256 (constant (F := Ideal) S_ .f32 0xFF800000#32) j = ⊥ := negInf
  rw [hb]
  exact max_eq_right bot_le

theorem refExp_at (S : FVec Ideal S2x2x256x256 .f32) (a b : Fin 2) (q k : Fin 256) :
    refExp S (ix4 a b q k) = Ideal.exp (S (ix4 a b q k) - refMax S (ix3 a b q)) := by
  unfold refExp
  pointwise

theorem refOut_at (E : FVec Ideal S2x2x256x256 .f32) (V : FVec Ideal S128x16640 .bf16) (h q : Fin 256) (w : EReal)
    (hw : (∑ x : Fin 256, V (ix2 ⟨h.val / 128 * 64 + h.val % 64, by omega⟩ ⟨16384 + x.val, by omega⟩)
      * Ideal.div (E (ix4 ⟨h.val / 128, by omega⟩ ⟨h.val / 64 % 2, by omega⟩ q x))
        (∑ y : Fin 256, E (ix4 ⟨h.val / 128, by omega⟩ ⟨h.val / 64 % 2, by omega⟩ q y))) = w) :
    refOut E V (ix2 h q) = w := by
  unfold refOut
  pointwise
  exact hw
end

variable {m : (ℓ : Loc Cert.Kernel5Ideal.nD Cert.Kernel5Ideal.τ Cert.Kernel5Ideal.sig) → Buf (Elt Ideal) ℓ} {c : Dev Cert.Kernel5Ideal.nD}

theorem refScores_real (hr : RealCtx m c) (a b : Fin 2) (q k h : Fin 256) (h₁ : 2 * a.val + b.val = h.val / 64) (h₂ : a.val = h.val / 128) :
    refScores (argQ m c) (argK m c) (ix4 a b q k) = ((score m c h q k * Real.log 2 : ℝ) : EReal) := by
  rw [refScores_at, log_two, EReal.coe_mul, ← ctxScores_real hr]
  unfold ctxScores scores
  refine congrArg (· * _) (Finset.sum_congr rfl fun d _ => ?_)
  rw [mul_comm]
  refine congrArg₂ (· * ·) (congrArg (fun x => argK m c (ix3 x _ d)) (Fin.ext h₂)) (congrArg (fun x => argQ m c (ix2 x _)) (Fin.ext ?_))
  show 64 * (2 * a.val + b.val) + d.val = 64 * (h.val / 64) + d.val
  rw [h₁]

/-- The reference's result is the kernel's attention. -/
theorem ref_value (hr : RealCtx m c) (h q : Fin 256) :
    refOut (refExp (refScores (argQ m c) (argK m c))) (argV m c) (ix2 h q)
      = attend (ctxScores (argQ m c) (argK m c) h q) (ctxValues (argV m c) h) := by
  have hS : ∀ j, ∃ r : ℝ, refScores (argQ m c) (argK m c) j = (r : EReal) := fun j => by
    obtain ⟨a, b, q, k, rfl⟩ : ∃ (a b : Fin 2) (q k : Fin 256), j = ix4 a b q k := ⟨j 0, j 1, j 2, j 3, by blk_ext⟩
    exact ⟨_, refScores_real hr a b q k ⟨64 * (2 * a.val + b.val), by omega⟩ (by show _ = 64 * (2 * a.val + b.val) / 64; omega)
      (by show _ = 64 * (2 * a.val + b.val) / 128; omega)⟩
  obtain ⟨μ, hμ⟩ := refMax_real _ (ix3 (⟨h.val / 128, by omega⟩ : Fin 2) (⟨h.val / 64 % 2, by omega⟩ : Fin 2) q) hS
  have hE : ∀ k, refExp (refScores (argQ m c) (argK m c)) (ix4 (⟨h.val / 128, by omega⟩ : Fin 2) (⟨h.val / 64 % 2, by omega⟩ : Fin 2) q k)
      = ((Real.exp (score m c h q k * Real.log 2 - μ) : ℝ) : EReal) := fun k => by
    rw [refExp_at, refScores_real hr _ _ q k h (by show 2 * (h.val / 128) + h.val / 64 % 2 = h.val / 64; omega) rfl, hμ, ← EReal.coe_sub]
    rfl
  refine refOut_at _ _ h q _ ?_
  rw [attend_real _ (ctxValues (argV m c) h) (score m c h q) (fun k => ctxScores_real hr h q k) μ]
  refine Finset.sum_congr rfl fun k _ => congrArg₂ (· * ·) ?_ (congrArg₂ Ideal.div (hE k) (Finset.sum_congr rfl fun y _ => hE y))
  exact congrArg (fun x => argV m c (ix2 x _)) (Fin.ext (by show h.val / 128 * 64 + h.val % 64 = 64 * (h.val / 128) + h.val % 64; omega))
end Cert.Kernel5Ideal.Ctx
end
-- ==== Proof.Mod.Body.lean ====
module
public import proofs.«01_k».proof.Proof.Gen.Kernel6Ideal.Frame
public import Idealize.ShloMosaic.Lib.Pipeline.ValueKit
public import Idealize.ShloMosaic.Lib.Pointwise
/-! What the body of the modulation computes at one entry of its block. -/
@[expose] public section
set_option maxRecDepth 16384
noncomputable section
namespace Cert.Kernel6Ideal.Mod
open Idealize.ShloMosaic Cert.Kernel6Ideal Cert.Kernel6Ideal.Gen

/-- A conditioning's entry times its logistic. -/
def gate (x : EReal) : EReal := x * Ideal.logistic x

/-- A product in three parts: the second and the third are of what a rounding leaves. -/
def dot3 (s w : Fin 1024 → EReal) : EReal := (∑ k, s k * w k) + (∑ k, (s k - s k) * w k) + ∑ k, s k * (w k - w k)

/-- What is stored, at a row and a column. -/
theorem pay1_at (X : Vec Ideal S8x1024 .f32) (W : Vec Ideal S1x1024x1536 .f32) (B : Vec Ideal S1x1x1536 .f32) (r : Fin 8) (j : Fin 1536) :
    k0_pay1 X W B (ix3 0 r j) = dot3 (fun k => gate (X (ix2 r k))) (fun k => W (ix3 0 k j)) + B (ix3 0 0 j) := by
  pointwise [k0_pay1]
  rfl

/-- What the body leaves of its blocks. -/
theorem out_at (X : Vec Ideal S8x1024 .f32) (W : Vec Ideal S1x1024x1536 .f32) (B : Vec Ideal S1x1x1536 .f32) (r : Fin 8) (j : Fin 1536) :
    out0_3 X W B (ix3 0 r j) = dot3 (fun k => gate (X (ix2 r k))) (fun k => W (ix3 0 k j)) + B (ix3 0 0 j) := by
  have hX : View.ld X r0_0 = X := View.ld_unit_zero (by decide) _ _
  have hW : View.ld W r0_1 = W := View.ld_unit_zero (by decide) _ _
  have hB : View.ld B r0_2 = B := View.ld_unit_zero (by decide) _ _
  unfold out0_3
  rw [hX, hW, hB, View.canon_unit_zero (by decide)]
  exact pay1_at X W B r j
end Cert.Kernel6Ideal.Mod
end
-- ==== Proof.Mod.Value.lean ====
module
public import proofs.«01_k».proof.Proof.Mod.Body
public import Idealize.ShloMosaic.Lib.StableHlo.RunRead
/-! The array that the modulation's call leaves, entry by entry. -/
@[expose] public section
set_option maxRecDepth 16384
noncomputable section
namespace Cert.Kernel6Ideal.Mod
open Idealize.ShloMosaic Idealize.ShloMosaic.TcCoe Cert.Kernel6Ideal Cert.Kernel6Ideal.Gen

/-- The rows that are multiplied: the conditioning of the latent rows, that of the context rows, and zeros. -/
def rows (a : Vec Ideal S1x1024 .f32) (b : Vec Ideal S1024 .f32) (r : Fin 8) (k : Fin 1024) : EReal :=
  if r.val < 1 then a (ix2 0 k) else if r.val < 2 then b (ix1 k) else 0

variable (m : (ℓ : Loc nD τ sig) → Buf (Elt Ideal) ℓ) (c : Dev nD)

/-- The conditioning of the latent rows. -/
abbrev argA : Vec Ideal S1x1024 .f32 := m ((c : Thread nD τ).loc main_arg0)
/-- The conditioning of the context rows. -/
abbrev argB : Vec Ideal S1024 .f32 := m ((c : Thread nD τ).loc main_arg1)
/-- The layers' weights. -/
abbrev argW : Vec Ideal S4x1024x6144 .f32 := m ((c : Thread nD τ).loc main_arg2)
/-- The layers' biases. -/
abbrev argC : Vec Ideal S4x6144 .f32 := m ((c : Thread nD τ).loc main_arg3)

/-- A row, a row and six rows below one another. -/
def below (x y : Vec Ideal S1x1024 .f32) (z : Vec Ideal S6x1024 .f32) : Vec Ideal S8x1024 .f32 :=
  concatenate S8x1024 0 [⟨S1x1024, x⟩, ⟨S1x1024, y⟩, ⟨S6x1024, z⟩] concatenates_S1x1024_S1x1024_S6x1024_S8x1024_d0

theorem below_def (x y : Vec Ideal S1x1024 .f32) (z : Vec Ideal S6x1024 .f32) :
    concatenate S8x1024 0 [⟨S1x1024, x⟩, ⟨S1x1024, y⟩, ⟨S6x1024, z⟩] concatenates_S1x1024_S1x1024_S6x1024_S8x1024_d0 = below x y z := rfl

/-- The conditionings and the zeros below one another, entry by entry. -/
theorem below_at (a : Vec Ideal S1x1024 .f32) (b : Vec Ideal S1024 .f32) (r : Fin 8) (k : Fin 1024) :
    below a (shapeCast S1x1024 b shapeCasts_S1024_S1x1024) (broadcastInDim S6x1024 ![] bcast_S_S6x1024 (constant (F := Ideal) S_ .f32 0x00000000#32)) (ix2 r k)
      = rows a b r k := by
  pointwise [below]
  unfold rows
  by_cases h1 : r.val < 1
  · rw [dif_pos h1, if_pos h1]
    exact congrArg (fun x => a (ix2 x k)) (Subsingleton.elim (α := Fin 1) _ _)
  · rw [dif_neg h1, if_neg h1]
    by_cases h2 : r.val < 2
    · rw [if_pos h2, dif_pos (by omega)]
    · rw [if_neg h2, dif_neg (by omega)]

/-- The rows as the host joins them. -/
theorem made2 (r : Fin 8) (k : Fin 1024) : (V m c main_v2 : Vec Ideal S8x1024 .f32) (ix2 r k) = rows (argA m c) (argB m c) r k := by
  refine Eq.trans ?_ (below_at (argA m c) (argB m c) r k)
  dsimp only [V, V0, hostOps0, List.flatten, List.append, List.append_nil, List.cons_append, List.nil_append]
  after_reads_simp
  erw [below_def]
  dsimp only [Matrix.cons_val_zero, Matrix.cons_val_one, Matrix.cons_val]
  after_reads_simp
  rfl

/-- The biases with a row axis. -/
theorem made3 (l : Fin 4) (j : Fin 6144) : (V m c main_v3 : Vec Ideal S4x1x6144 .f32) (ix3 l 0 j) = argC m c (ix2 l j) := by
  dsimp only [V, V0, hostOps0, List.flatten, List.append, List.append_nil, List.cons_append, List.nil_append]
  after_results
  pointwise

theorem point_lt (t : Fin cfg0.N) : t.val < 16 := lt_of_lt_of_eq t.isLt N_0

/-- The block numbers of the inputs. -/
theorem idx : ∀ t : Fin cfg0.N, win0_0.index t = ![0, 0] ∧ win0_1.index t = ![t.val / 4, 0, t.val % 4] ∧ win0_2.index t = ![t.val / 4, 0, t.val % 4] :=
  (by decide +kernel : ∀ t : Fin grid0.N, _)

theorem block0 (t : Fin cfg0.N) (r : Fin 8) (k : Fin 1024) : iblk m c 0 t (ix2 r k) = rows (argA m c) (argB m c) r k := by
  have hi := (idx t).1
  refine Eq.trans ?_ (made2 m c r k)
  blk_ext [iblk, hi]

theorem block1 (t : Fin cfg0.N) (k : Fin 1024) (j : Fin 1536) : iblk m c 1 t (ix3 0 k j)
    = argW m c (ix3 ⟨t.val / 4, by have := point_lt t; omega⟩ k ⟨1536 * (t.val % 4) + j.val, by omega⟩) := by
  have hi := (idx t).2.1
  blk_ext [iblk, V_main_arg2, hi]

theorem block2 (t : Fin cfg0.N) (j : Fin 1536) : iblk m c 2 t (ix3 0 0 j)
    = argC m c (ix2 ⟨t.val / 4, by have := point_lt t; omega⟩ ⟨1536 * (t.val % 4) + j.val, by omega⟩) := by
  have hi := (idx t).2.2
  refine Eq.trans ?_ (made3 m c ⟨t.val / 4, by have := point_lt t; omega⟩ ⟨1536 * (t.val % 4) + j.val, by omega⟩)
  blk_ext [iblk, hi]

/-- The modulation that the call computes, at a layer, a row and a column. -/
def value (l : Fin 4) (r : Fin 8) (j : Fin 6144) : EReal :=
  dot3 (fun k => gate (rows (argA m c) (argB m c) r k)) (fun k => argW m c (ix3 l k j)) + argC m c (ix2 l j)

/-- What a grid point leaves in its block. -/
theorem point_value (t : Fin cfg0.N) (r : Fin 8) (j : Fin 1536) :
    out0_3 (iblk m c 0 t) (iblk m c 1 t) (iblk m c 2 t) (ix3 0 r j)
      = value m c ⟨t.val / 4, by have := point_lt t; omega⟩ r ⟨1536 * (t.val % 4) + j.val, by omega⟩ := by
  rw [out_at]
  unfold value
  simp only [block0, block1, block2]

/-- The array that the call leaves. -/
theorem result : (dats m 0 c).arrAt 3 cfg0.N = fun i : S4x8x6144.Idx => value m c (i 0) (i 1) (i 2) := by
  refine (dats m 0 c).arrAt_eq_of_covers 3 _ (by decide +kernel) fun t hf y => ?_
  have hi : win0_3.index t = ![t.val / 4, 0, t.val % 4] :=
    (by decide +kernel : ∀ t : Fin grid0.N, win0_3.index t = ![t.val / 4, 0, t.val % 4]) t
  blk_simp
  rw [after0_3]
  have hy : (y : S1x8x1536.Idx) = ix3 0 (y 1) (y 2) := by
    funext x; fin_cases x
    · exact Subsingleton.elim (α := Fin 1) _ _
    · rfl
    · rfl
  have e0 : ∀ a b : Fin 4, ∀ r s : Fin 8, ∀ j k : Fin 6144, a = b → r = s → j = k → value m c a r j = value m c b s k := by
    rintro a _ r _ j _ rfl rfl rfl; rfl
  have hy0 : (y 0).val = 0 := Nat.lt_one_iff.1 (y 0).isLt
  refine Eq.trans (congrArg _ hy) ((point_value m c t (y 1) (y 2)).trans (e0 _ _ _ _ _ _ ?_ ?_ ?_))
  · refine Fin.ext ?_
    blk_simp [hi]
  · refine Fin.ext ?_
    blk_simp [hi]
  · refine Fin.ext ?_
    blk_simp [hi]
    exact congrArg (· + (y 2).val) (Nat.mul_comm 1536 (t.val % 4))
end Cert.Kernel6Ideal.Mod
end
-- ==== Proof.Mod.Run.lean ====
module
public import proofs.«01_k».proof.Proof.Mod.Value
/-! The result of the modulation: the array that the call leaves, cut to its two rows and reshaped. -/
@[expose] public section
set_option maxRecDepth 16384
noncomputable section
namespace Cert.Kernel6Ideal.Mod
open Idealize.ShloMosaic Idealize.ShloMosaic.TcCoe Idealize.SL.Sem Cert.Kernel6Ideal Cert.Kernel6Ideal.Gen

variable (m : (ℓ : Loc nD τ sig) → Buf (Elt Ideal) ℓ) (c : Dev nD)

/-- The two rows that are kept, at every layer. -/
def kept : Vec Ideal S4x2x6144 .f32 := fun i => value m c (i 0) ⟨(i 1).val, by
  have h : (i 1).val < 2 := (i 1).isLt
  omega⟩ (i 2)

/-- What the host operations after the call leave. -/
theorem tail_eq : (Pipeline.afterTail₀ cfgs (dats m) 0 (V0 m) [hostOps1] c main_v6 : Vec Ideal S4x2x6x1024 .f32)
    = shapeCast S4x2x6x1024 (kept m c) shapeCasts_S4x2x6144_S4x2x6x1024 := by
  have h : Pipeline.withArrays (cfgs 0).spec c (V0 m c) (fun w => (dats m 0 c).arrAt w (cfgs 0).N) (Proc.devRef .tc main_v4)
      = fun i : S4x8x6144.Idx => value m c (i 0) (i 1) (i 2) :=
    (Pipeline.withArrays_arr spec0 (by decide) c (V0 m c) _ 3).trans (result m c)
  unfold Pipeline.afterTail₀
  dsimp only [hostOps1, List.flatten, List.append, List.append_nil, List.cons_append, List.nil_append]
  after_reads_simp
  rw [h]
  refine congrArg (fun x => shapeCast S4x2x6x1024 x shapeCasts_S4x2x6144_S4x2x6x1024) ?_
  funext i
  pointwise
  rfl

/-- The run of the program: its result, and its arguments unchanged. -/
theorem run (ρ : Dev nD → PrngReg) : θ_run defs (onTc (τ := τ) (main (F := Ideal))) ⟨m, fun _ => 0, ρ⟩ (fun r => ∀ c : Dev nD,
    r.2.mem ((c.tc : Thread nD τ).loc main_v6) = (shapeCast S4x2x6x1024 (kept m c) shapeCasts_S4x2x6144_S4x2x6x1024 : Vec Ideal S4x2x6x1024 .f32)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun _ h c => ⟨((h c).2 main_v6 (Pipeline.mem_restRefs_of main_v6 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c))⟩) (run_main m ρ)
end Cert.Kernel6Ideal.Mod
end
-- ==== Proof.Mod.Real.lean ====
module
public import proofs.«01_k».proof.Pre_finite_mod
public import proofs.«01_k».proof.Proof.Mod.Run
public import proofs.«01_k».proof.Proof.Flash.Finite
/-! Of finite conditionings and weights the three parts of the product are the product. -/
@[expose] public section
noncomputable section

/-- The side conditions of the precondition's operations. -/
instance Cert.Pre_finite_mod.sides : Cert.Pre_finite_mod.Facts where
  bcast_S_S1x1024 := by decide
  reducesTo_S1x1024_S_d0_1 := by decide
  h_S_ := by decide
  bcast_S_S1024 := by decide
  reducesTo_S1024_S_d0 := by decide
  bcast_S_S4x1024x6144 := by decide
  reducesTo_S4x1024x6144_S_d0_1_2 := by decide

namespace Cert.Kernel6Ideal.Mod
open Idealize.ShloMosaic Idealize.ShloMosaic.TcCoe Cert.Kernel6Ideal Cert.Kernel6Ideal.Gen
open Cert.KernelIdeal.Flash (posInf real_of_abs)

/-- What a rounding leaves of a real number is nothing, before roundings. -/
theorem sub_self_coe (x : ℝ) : (x : EReal) - (x : EReal) = 0 := by
  rw [← EReal.coe_sub, sub_self, EReal.coe_zero]

/-- The product in three parts of real numbers is their product. -/
theorem dot3_real (s w : Fin 1024 → EReal) (hs : ∀ k, ∃ x : ℝ, s k = (x : EReal)) (hw : ∀ k, ∃ x : ℝ, w k = (x : EReal)) :
    dot3 s w = ∑ k, s k * w k := by
  have h1 : ∀ k, s k - s k = 0 := fun k => by
    obtain ⟨x, hx⟩ := hs k
    rw [hx, sub_self_coe]
  have h2 : ∀ k, w k - w k = 0 := fun k => by
    obtain ⟨x, hx⟩ := hw k
    rw [hx, sub_self_coe]
  unfold dot3
  simp only [h1, h2, zero_mul, mul_zero, Finset.sum_const_zero, add_zero]

/-- The gate of a real number is a real number. -/
theorem gate_real (x : ℝ) : ∃ y : ℝ, gate (x : EReal) = (y : EReal) := ⟨x * (1 + Real.exp (-x))⁻¹, by
  unfold gate
  rw [Ideal.logistic_coe, EReal.coe_mul]⟩

variable (m : (ℓ : Loc nD τ sig) → Buf (Elt Ideal) ℓ) (c : Dev nD)

/-- The conditionings and the weights are real numbers. -/
def RealMod : Prop := (∀ k : Fin 1024, ∃ x : ℝ, argA m c (ix2 0 k) = (x : EReal)) ∧ (∀ k : Fin 1024, ∃ x : ℝ, argB m c (ix1 k) = (x : EReal))
  ∧ ∀ (l : Fin 4) (k : Fin 1024) (j : Fin 6144), ∃ x : ℝ, argW m c (ix3 l k j) = (x : EReal)

/-- The precondition says so. -/
theorem real_of_pre (h : Cert.Pre_finite_mod.fn (F := Ideal) (argA m c) (argB m c) (argW m c) (argC m c) = fun _ => 1#1) : RealMod m c := by
  have h0 := congrFun h fun i => i.elim0
  unfold Cert.Pre_finite_mod.fn at h0
  obtain ⟨hab, hw⟩ := IntOp.andi_eq_one.1 h0
  obtain ⟨ha, hb⟩ := IntOp.andi_eq_one.1 hab
  haveI : Subsingleton Cert.Pre_finite_mod.S_.Idx := ⟨fun a b => funext fun i => i.elim0⟩
  refine ⟨fun k => ⟨_, real_of_abs ?_⟩, fun k => ⟨_, real_of_abs ?_⟩, fun l k j => ⟨_, real_of_abs ?_⟩⟩
  · have e := Host.reduce_andi_all _ _ _ _ _ ha (ix2 0 k)
    pointwise at e
    rw [← posInf]
    exact e
  · have e := Host.reduce_andi_all _ _ _ _ _ hb (ix1 k)
    pointwise at e
    rw [← posInf]
    exact e
  · have e := Host.reduce_andi_all _ _ _ _ _ hw (ix3 l k j)
    pointwise at e
    rw [← posInf]
    exact e

variable {m c}

/-- The rows that are multiplied are real numbers. -/
theorem rows_real (hr : RealMod m c) (r : Fin 8) (k : Fin 1024) : ∃ x : ℝ, rows (argA m c) (argB m c) r k = (x : EReal) := by
  unfold rows
  split
  · exact hr.1 k
  · split
    · exact hr.2.1 k
    · exact ⟨0, EReal.coe_zero.symm⟩

/-- The call's value is the gated row times the weights, plus the bias. -/
theorem value_real (hr : RealMod m c) (l : Fin 4) (r : Fin 8) (j : Fin 6144) :
    value m c l r j = (∑ k, gate (rows (argA m c) (argB m c) r k) * argW m c (ix3 l k j)) + argC m c (ix2 l j) := by
  unfold value
  refine congrArg (· + argC m c (ix2 l j)) (dot3_real _ _ (fun k => ?_) fun k => hr.2.2 l k j)
  obtain ⟨x, hx⟩ := rows_real hr r k
  rw [hx]
  exact gate_real x
end Cert.Kernel6Ideal.Mod
end
-- ==== Proof.Mod.Ref.lean ====
module
public import proofs.«01_k».proof.Proof.Mod.Real
public import proofs.«01_k».proof.Proof.Gen.Reference6Ideal.Run
/-! The modulation's reference, entry by entry, and its equality with the kernel's result. -/
@[expose] public section
set_option maxRecDepth 16384
noncomputable section
namespace Cert.Reference6Ideal.Mod
open Idealize.ShloMosaic Idealize.ShloMosaic.TcCoe Cert.Reference6Ideal Cert.Reference6Ideal.Gen
open Cert.Kernel6Ideal.Mod (RealMod argA argB argW argC rows gate value value_real kept)

/-- The two conditionings below one another. -/
def both (a : Vec Ideal S1x1024 .f32) (b : Vec Ideal S1024 .f32) : Vec Ideal S2x1024 .f32 :=
  concatenate S2x1024 0 [⟨S1x1024, a⟩, ⟨S1x1024, broadcastInDim S1x1024 ![1] bcast_S1024_S1x1024_1 b⟩] concatenates_S1x1024_S1x1024_S2x1024_d0

/-- The conditionings times their logistics. -/
def gated (x : Vec Ideal S2x1024 .f32) : Vec Ideal S2x1024 .f32 :=
  mulf x (Host.divf (broadcastInDim S2x1024 ![] bcast_S_S2x1024 (constant (F := Ideal) S_ .f32 0x3F800000#32))
    (addf (broadcastInDim S2x1024 ![] bcast_S_S2x1024 (constant (F := Ideal) S_ .f32 0x3F800000#32)) (Host.exp (Host.negf x))))

/-- The reference before the last reshape. -/
def refRows (a : Vec Ideal S1x1024 .f32) (b : Vec Ideal S1024 .f32) (W : Vec Ideal S4x1024x6144 .f32) (C : Vec Ideal S4x6144 .f32) :
    Vec Ideal S4x2x6144 .f32 :=
  addf (F := Ideal) (transpose S4x2x6144 [0, 2, 1] (Host.dotGeneral (F := Ideal) (φ₁ := .f32) (φ₂ := .f32) dot_S4x1024x6144_S2x1024_S4x6144x2_1_1_02_0_n_n none W (gated (both a b)))
      transposes_S4x6144x2_S4x2x6144_0_2_1)
    (broadcastInDim S4x2x6144 ![0, 1, 2] bcast_S4x1x6144_S4x2x6144_0_1_2 (broadcastInDim S4x1x6144 ![0, 2] bcast_S4x6144_S4x1x6144_0_2 C))

theorem both_at (a : Vec Ideal S1x1024 .f32) (b : Vec Ideal S1024 .f32) (r : Fin 2) (k : Fin 1024) :
    both a b (ix2 r k) = rows a b ⟨r.val, by omega⟩ k := by
  pointwise [both]
  unfold rows
  by_cases h : r.val < 1
  · rw [dif_pos h, if_pos h]
    exact congrArg (fun x => a (ix2 x k)) (Subsingleton.elim (α := Fin 1) _ _)
  · rw [dif_neg h, if_neg h, if_pos r.isLt]

theorem gated_at (x : Vec Ideal S2x1024 .f32) (r : Fin 2) (k : Fin 1024) : gated x (ix2 r k) = gate (x (ix2 r k)) := by
  pointwise [gated]
  unfold gate Ideal.logistic
  rfl

/-- The reference at a layer, a row and a column. -/
theorem refRows_at (a : Vec Ideal S1x1024 .f32) (b : Vec Ideal S1024 .f32) (W : Vec Ideal S4x1024x6144 .f32) (C : Vec Ideal S4x6144 .f32)
    (l : Fin 4) (r : Fin 2) (j : Fin 6144) :
    refRows a b W C (ix3 l r j) = (∑ k, W (ix3 l k j) * gate (rows a b ⟨r.val, by omega⟩ k)) + C (ix2 l j) := by
  pointwise [refRows]
  simp only [gated_at, both_at]

variable {m : (ℓ : Loc Cert.Kernel6Ideal.nD Cert.Kernel6Ideal.τ Cert.Kernel6Ideal.sig) → Buf (Elt Ideal) ℓ} {c : Dev Cert.Kernel6Ideal.nD}

/-- The reference is what the kernel keeps of its call's array. -/
theorem refRows_eq (hr : RealMod m c) : refRows (argA m c) (argB m c) (argW m c) (argC m c) = kept m c := by
  funext i
  have hi : i = ix3 (i 0) (i 1) (i 2) := by funext x; fin_cases x <;> rfl
  rw [hi]
  refine (refRows_at _ _ _ _ (i 0) (i 1) (i 2)).trans ?_
  refine Eq.trans ?_ (value_real hr (i 0) _ (i 2)).symm
  exact congrArg (· + argC m c (ix2 (i 0) (i 2))) (Finset.sum_congr rfl fun k _ => mul_comm _ _)
end Cert.Reference6Ideal.Mod
end
-- ==== Proof.Local.Body.lean ====
module
public import proofs.«01_k».proof.Proof.Gen.Kernel7Ideal.Frame
public import Idealize.ShloMosaic.Lib.Pipeline.ValueKit
public import Idealize.ShloMosaic.Lib.Pointwise
/-! What the body of the local mixers computes at one entry of its blocks: the short convolution, and a row's neighbours. -/
@[expose] public section
set_option maxRecDepth 16384
noncomputable section
namespace Cert.Kernel7Ideal.Local
open Idealize.ShloMosaic Cert.Kernel7Ideal Cert.Kernel7Ideal.Gen

/-- The first row of the stream that a row lies in. -/
def first (n : ℕ) : ℕ := if n < 16384 then 0 else 16384
/-- The row after the last of the stream that a row lies in. -/
def past (n : ℕ) : ℕ := if n < 16384 then 16384 else 16640

theorem past_le (n : ℕ) : past n ≤ 16640 := by unfold past; split <;> omega

/-- A column's entry eight rows above position `q`, zero outside the stream of row `n`. -/
def near (f : Fin 16640 → EReal) (n q : ℕ) : EReal :=
  if h : first n + 8 ≤ q ∧ q < past n + 8 then f ⟨q - 8, by have := past_le n; omega⟩ else 0

theorem near_row (f : Fin 16640 → EReal) (i r q : ℕ) (hr : r < 256) : near f (256 * i + r) q = near f (256 * i) q := by
  have h1 : first (256 * i + r) = first (256 * i) := by unfold first; congr 1; exact propext (by omega)
  have h2 : past (256 * i + r) = past (256 * i) := by unfold past; congr 1; exact propext (by omega)
  unfold near
  simp only [h1, h2]

/-- The word comparison by which the body keeps the rows of its own stream. -/
theorem inside : ∀ i : Fin 65, ∀ r : Fin 272,
    IntOp.andi (IntOp.cmpi .sge (IntOp.addi (Scalar.subi (Scalar.muli (BitVec.ofNat 32 i.val) 256#32) 8#32) (BitVec.ofNat 32 r.val))
        (Scalar.select (Scalar.cmpi .sge (BitVec.ofNat 32 i.val) 64#32) 16384#32 0#32))
      (IntOp.cmpi .slt (IntOp.addi (Scalar.subi (Scalar.muli (BitVec.ofNat 32 i.val) 256#32) 8#32) (BitVec.ofNat 32 r.val))
        (Scalar.select (Scalar.cmpi .sge (BitVec.ofNat 32 i.val) 64#32) 16640#32 16384#32))
      = if first (256 * i.val) + 8 ≤ 256 * i.val + r.val ∧ 256 * i.val + r.val < past (256 * i.val) + 8 then 1#1 else 0#1 := by
  decide +kernel

theorem pay2_at (i : grid0.Coords) (r : Fin 272) : k0_pay2 i (ix2 r 0)
    = if first (256 * (i 0).val) + 8 ≤ 256 * (i 0).val + r.val ∧ 256 * (i 0).val + r.val < past (256 * (i 0).val) + 8 then 1#1 else 0#1 := by
  pointwise [k0_pay2]
  exact inside (i 0) r

/-- Eight rows before a block, the block and eight rows after it, the rows of other streams zero. -/
theorem joined (i : grid0.Coords) (r : Fin 272) (f : Fin 16640 → EReal) (p : Fin 8 → EReal) (a : Fin 256 → EReal) (q : Fin 8 → EReal)
    (hp : ∀ x : Fin 8, ∀ h : 8 * (32 * (i 0).val - 1) + x.val < 16640, p x = f ⟨8 * (32 * (i 0).val - 1) + x.val, h⟩)
    (ha : ∀ x : Fin 256, ∀ h : 256 * (i 0).val + x.val < 16640, a x = f ⟨256 * (i 0).val + x.val, h⟩)
    (hq : ∀ x : Fin 8, ∀ h : 8 * min (32 * ((i 0).val + 1)) 2079 + x.val < 16640, q x = f ⟨8 * min (32 * ((i 0).val + 1)) 2079 + x.val, h⟩) :
    Scalar.select (k0_pay2 i (ix2 r 0))
      (if h : r.val < 8 then p ⟨r.val, h⟩ else if h : r.val - 8 < 256 then a ⟨r.val - 8, h⟩ else q ⟨r.val - 8 - 256, by omega⟩) 0
      = near f (256 * (i 0).val) (256 * (i 0).val + r.val) := by
  have hi : (i 0).val < 65 := (i 0).isLt
  have hr := r.isLt
  rw [pay2_at]
  unfold near
  by_cases hv : first (256 * (i 0).val) + 8 ≤ 256 * (i 0).val + r.val ∧ 256 * (i 0).val + r.val < past (256 * (i 0).val) + 8
  · have hl := past_le (256 * (i 0).val)
    rw [if_pos hv, dif_pos hv]
    refine (if_pos rfl : Scalar.select 1#1 _ _ = _).trans ?_
    by_cases h1 : r.val < 8
    · rw [dif_pos h1, hp _ (by dsimp only; omega)]
      exact congrArg f (Fin.ext (by dsimp only; omega))
    · rw [dif_neg h1]
      by_cases h2 : r.val - 8 < 256
      · rw [dif_pos h2, ha _ (by dsimp only; omega)]
        exact congrArg f (Fin.ext (by dsimp only; omega))
      · rw [dif_neg h2, hq _ (by dsimp only; omega)]
        exact congrArg f (Fin.ext (by dsimp only; omega))
  · rw [if_neg hv, dif_neg hv]
    exact (if_neg (by decide) : Scalar.select 0#1 _ _ = _)

/-- A short convolution of three taps at a row of a column. -/
def conv (f : Fin 16640 → EReal) (w₀ w₁ w₂ b : EReal) (n : ℕ) : EReal :=
  b + w₀ * near f n (n + 7) + w₁ * near f n (n + 8) + w₂ * near f n (n + 9)

theorem pay3_at (i : grid0.Coords) (P : Vec Ideal S8x768 .f32) (A : Vec Ideal S256x768 .f32) (N : Vec Ideal S8x768 .f32) (r : Fin 272) (j : Fin 768) :
    k0_pay3 i P A N (ix2 r j) = Scalar.select (k0_pay2 i (ix2 r 0))
      (if h : r.val < 8 then P (ix2 ⟨r.val, h⟩ j) else if h : r.val - 8 < 256 then A (ix2 ⟨r.val - 8, h⟩ j) else N (ix2 ⟨r.val - 8 - 256, by omega⟩ j)) 0 := by
  pointwise [k0_pay3]

theorem pay7_at (i : grid0.Coords) (P : Vec Ideal S8x768 .f32) (A : Vec Ideal S256x768 .f32) (N : Vec Ideal S8x768 .f32) (W : Vec Ideal S3x768 .f32)
    (B : Vec Ideal S1x768 .f32) (r : Fin 256) (j : Fin 768) :
    k0_pay7 (k0_pay4 i P A N W B) (k0_pay5 W) (k0_pay6 i P A N) (ix2 r j)
      = B (ix2 0 j) + W (ix2 0 j) * k0_pay3 i P A N (ix2 ⟨7 + r.val, by omega⟩ j) + W (ix2 1 j) * k0_pay3 i P A N (ix2 ⟨8 + r.val, by omega⟩ j)
        + W (ix2 2 j) * k0_pay3 i P A N (ix2 ⟨9 + r.val, by omega⟩ j) := by
  have h1 : (8 + r.val + 272 - 1) % 272 = 7 + r.val := by omega
  have h2 : (8 + r.val + 272 - 271) % 272 = 9 + r.val := by omega
  pointwise [k0_pay7, k0_pay4, k0_pay5, k0_pay6]
  simp only [h1, h2]

/-- The convolution of a block's rows, from the blocks' entries. -/
theorem conv_at (i : grid0.Coords) (X : Vec Ideal S16640x768 .f32) (P : Vec Ideal S8x768 .f32) (A : Vec Ideal S256x768 .f32) (N : Vec Ideal S8x768 .f32)
    (W : Vec Ideal S3x768 .f32) (B : Vec Ideal S1x768 .f32)
    (hp : ∀ x : Fin 8, ∀ j, ∀ h : 8 * (32 * (i 0).val - 1) + x.val < 16640, P (ix2 x j) = X (ix2 ⟨8 * (32 * (i 0).val - 1) + x.val, h⟩ j))
    (ha : ∀ x : Fin 256, ∀ j, ∀ h : 256 * (i 0).val + x.val < 16640, A (ix2 x j) = X (ix2 ⟨256 * (i 0).val + x.val, h⟩ j))
    (hq : ∀ x : Fin 8, ∀ j, ∀ h : 8 * min (32 * ((i 0).val + 1)) 2079 + x.val < 16640,
      N (ix2 x j) = X (ix2 ⟨8 * min (32 * ((i 0).val + 1)) 2079 + x.val, h⟩ j)) (r : Fin 256) (j : Fin 768) :
    k0_pay7 (k0_pay4 i P A N W B) (k0_pay5 W) (k0_pay6 i P A N) (ix2 r j)
      = conv (fun n => X (ix2 n j)) (W (ix2 0 j)) (W (ix2 1 j)) (W (ix2 2 j)) (B (ix2 0 j)) (256 * (i 0).val + r.val) := by
  have e : ∀ s : Fin 272, k0_pay3 i P A N (ix2 s j) = near (fun n => X (ix2 n j)) (256 * (i 0).val) (256 * (i 0).val + s.val) := fun s =>
    (pay3_at i P A N s j).trans (joined i s (fun n => X (ix2 n j)) (fun x => P (ix2 x j)) (fun x => A (ix2 x j)) (fun x => N (ix2 x j))
      (fun x h => hp x j h) (fun x h => ha x j h) (fun x h => hq x j h))
  rw [pay7_at]
  unfold conv
  simp only [e, near_row _ _ _ _ r.isLt]
  have h7 : 256 * (i 0).val + (7 + r.val) = 256 * (i 0).val + r.val + 7 := by omega
  have h8 : 256 * (i 0).val + (8 + r.val) = 256 * (i 0).val + r.val + 8 := by omega
  have h9 : 256 * (i 0).val + (9 + r.val) = 256 * (i 0).val + r.val + 9 := by omega
  rw [h7, h8, h9]
end Cert.Kernel7Ideal.Local
end
-- ==== Proof.Local.Pool.lean ====
module
public import proofs.«01_k».proof.Proof.Local.Body
/-! What the body of the local mixers computes at one entry of its blocks: the pooling mixer. -/
@[expose] public section
set_option maxRecDepth 16384
noncomputable section
namespace Cert.Kernel7Ideal.Local
open Idealize.ShloMosaic Cert.Kernel7Ideal Cert.Kernel7Ideal.Gen

/-- The sum of `w` entries from `s` on. -/
def win (E : ℕ → EReal) (s w : ℕ) : EReal := ∑ k ∈ Finset.range w, E (s + k)

theorem win_add (E : ℕ → EReal) (s a b : ℕ) : win E s (a + b) = win E s a + win E (s + a) b := by
  unfold win
  rw [Finset.sum_range_add]
  simp only [Nat.add_assoc]

section sums
variable (v : IVec S272x1 1) (P : Vec Ideal S8x256 .f32) (A : Vec Ideal S256x256 .f32) (N : Vec Ideal S8x256 .f32) (E : ℕ → EReal) (j : Fin 256)
  (hE : ∀ r : Fin 272, Scalar.select (v (ix2 r 0))
      (if h : r.val < 8 then P (ix2 ⟨r.val, h⟩ j) else if h : r.val - 8 < 256 then A (ix2 ⟨r.val - 8, h⟩ j) else N (ix2 ⟨r.val - 8 - 256, by omega⟩ j)) 0 = E r.val)
include hE

theorem sum2 (s : ℕ) (h : s + 1 < 272) : k0_pay11 v P A N (ix2 ⟨s + 1, h⟩ j) = win E s 2 := by
  have h1 : (s + 1 + 272 - 1) % 272 = s := by omega
  pointwise [k0_pay11]
  simp only [h1]
  unfold win
  rw [Finset.sum_range_succ, Finset.sum_range_one]
  exact (congrArg₂ (· + ·) (hE ⟨s + 1, h⟩) (hE ⟨s, by omega⟩)).trans (add_comm _ _)

theorem sum4 (s : ℕ) (h : s + 3 < 272) : k0_pay12 v P A N (ix2 ⟨s + 2, by omega⟩ j) = win E s 4 := by
  have h1 : (s + 2 + 272 - 1) % 272 = s + 1 := by omega
  have h2 : (s + 2 + 272 - 271) % 272 = (s + 2) + 1 := by omega
  pointwise [k0_pay12]
  simp only [h1, h2]
  rw [sum2 v P A N E j hE s, sum2 v P A N E j hE (s + 2)]
  exact (win_add E s 2 2).symm

theorem sum8 (s : ℕ) (h : s + 7 < 272) : k0_pay13 v P A N (ix2 ⟨s + 4, by omega⟩ j) = win E s 8 := by
  have h1 : (s + 4 + 272 - 2) % 272 = s + 2 := by omega
  have h2 : (s + 4 + 272 - 270) % 272 = (s + 4) + 2 := by omega
  pointwise [k0_pay13]
  simp only [h1, h2]
  rw [sum4 v P A N E j hE s (by omega), sum4 v P A N E j hE (s + 4) (by omega)]
  exact (win_add E s 4 4).symm

theorem sum16 (s : ℕ) (h : s + 15 < 272) : k0_pay14 v P A N (ix2 ⟨s + 8, by omega⟩ j) = win E s 16 := by
  have h1 : (s + 8 + 272 - 4) % 272 = s + 4 := by omega
  have h2 : (s + 8 + 272 - 268) % 272 = (s + 8) + 4 := by omega
  pointwise [k0_pay14]
  simp only [h1, h2]
  rw [sum8 v P A N E j hE s (by omega), sum8 v P A N E j hE (s + 8) (by omega)]
  exact (win_add E s 8 8).symm
end sums

/-- Half the length of the window by which a lane is pooled. -/
def half (x : ℕ) : ℕ := if x < 64 then 1 else if x < 128 then 2 else if x < 192 then 4 else 8

/-- How many rows of a stream of length `len` lie in the window about row `t`. -/
def count (t len h : ℕ) : EReal :=
  FloatOps.sitofp (F := Ideal) .f32 (IntOp.subi (IntOp.minsi (IntOp.addi (BitVec.ofNat 32 t) (BitVec.ofNat 32 h)) (BitVec.ofNat 32 len))
    (IntOp.maxsi (IntOp.subi (BitVec.ofNat 32 t) (BitVec.ofNat 32 h)) 0#32))

/-- A window's mean less the row itself. -/
def pooled (f : Fin 16640 → EReal) (h : ℕ) (n : Fin 16640) : EReal :=
  Ideal.div (win (near f n.val) (n.val + 8 - h) (2 * h)) (count (n.val - first n.val) (past n.val - first n.val) h) - f n

/-- The lane comparisons. -/
theorem lanes : ∀ x : Fin 256, IntOp.cmpi .slt (BitVec.ofNat 32 x.val) 64#32 = (if x.val < 64 then 1#1 else 0#1)
    ∧ IntOp.cmpi .slt (BitVec.ofNat 32 x.val) 128#32 = (if x.val < 128 then 1#1 else 0#1)
    ∧ IntOp.cmpi .slt (BitVec.ofNat 32 x.val) 192#32 = (if x.val < 192 then 1#1 else 0#1) := by
  decide +kernel

theorem select_ite {α : Type} (p : Prop) [Decidable p] (a b : α) : Scalar.select (if p then 1#1 else 0#1) a b = if p then a else b := by
  by_cases h : p
  · rw [if_pos h, if_pos h]; exact if_pos rfl
  · rw [if_neg h, if_neg h]; exact if_neg (by decide)

/-- A row's place in its stream, as a word. -/
theorem place : ∀ i : Fin 65, ∀ r : Fin 256,
    IntOp.subi (IntOp.addi (Scalar.muli (BitVec.ofNat 32 i.val) 256#32) (BitVec.ofNat 32 r.val))
        (Scalar.select (Scalar.cmpi .sge (BitVec.ofNat 32 i.val) 64#32) 16384#32 0#32)
      = BitVec.ofNat 32 (256 * i.val + r.val - first (256 * i.val + r.val)) := by
  decide +kernel

/-- A stream's length, as a word. -/
theorem length : ∀ i : Fin 65, Scalar.subi (Scalar.select (Scalar.cmpi .sge (BitVec.ofNat 32 i.val) 64#32) 16640#32 16384#32)
        (Scalar.select (Scalar.cmpi .sge (BitVec.ofNat 32 i.val) 64#32) 16384#32 0#32)
      = BitVec.ofNat 32 (past (256 * i.val) - first (256 * i.val)) := by
  decide +kernel

/-- The sum of the window of a lane's own length. -/
def summed (v : IVec S272x1 1) (P : Vec Ideal S8x256 .f32) (A : Vec Ideal S256x256 .f32) (N : Vec Ideal S8x256 .f32) (r x : Fin 256) : EReal :=
  if x.val < 64 then k0_pay11 v P A N (ix2 ⟨8 + r.val, by omega⟩ x) else if x.val < 128 then k0_pay12 v P A N (ix2 ⟨8 + r.val, by omega⟩ x)
  else if x.val < 192 then k0_pay13 v P A N (ix2 ⟨8 + r.val, by omega⟩ x) else k0_pay14 v P A N (ix2 ⟨8 + r.val, by omega⟩ x)

/-- What the body stores of the pooling mixer, from the sums of its windows. -/
theorem pay19_at (i : Fin 65) (v : IVec S272x1 1) (P : Vec Ideal S8x256 .f32) (A : Vec Ideal S256x256 .f32) (N : Vec Ideal S8x256 .f32)
    (D : Vec Ideal S256x256 .f32) (S : Vec Ideal S1x256 .f32) (r j : Fin 256) :
    k0_pay1 (k0_pay19 (BitVec.ofNat 32 i.val) (Scalar.select (Scalar.cmpi .sge (BitVec.ofNat 32 i.val) 64#32) 16384#32 0#32)
      (Scalar.select (Scalar.cmpi .sge (BitVec.ofNat 32 i.val) 64#32) 16640#32 16384#32)
      (k0_pay13 v P A N) (k0_pay14 v P A N) (iota .tc S256x256 32 [1] iota_S256x256_d1_w32)
      k0_pay15 (k0_pay16 v P A N) k0_pay17 (k0_pay18 v P A N) A D) S (ix2 r j)
    = (∑ x : Fin 256, (Ideal.div (summed v P A N r x)
        (count (256 * i.val + r.val - first (256 * i.val + r.val)) (past (256 * i.val) - first (256 * i.val)) (half x.val)) - A (ix2 r x)) * D (ix2 x j)) * S (ix2 0 j) := by
  have hh : ∀ x : Fin 256, (if x.val < 64 then 1#32 else if x.val < 128 then 2#32 else if x.val < 192 then 4#32 else 8#32) = BitVec.ofNat 32 (half x.val) := by
    decide +kernel
  pointwise [k0_pay1, k0_pay19, k0_pay15, k0_pay16, k0_pay17, k0_pay18]
  simp only [(lanes _).1, (lanes _).2.1, (lanes _).2.2, select_ite, hh, place, length]
  rfl

/-- What the body stores of the pooling mixer, from the blocks' entries. -/
theorem pool_at (i : grid0.Coords) (X : Vec Ideal S16640x256 .f32) (P : Vec Ideal S8x256 .f32) (A : Vec Ideal S256x256 .f32) (N : Vec Ideal S8x256 .f32)
    (D : Vec Ideal S256x256 .f32) (S : Vec Ideal S1x256 .f32)
    (hp : ∀ x : Fin 8, ∀ j, ∀ h : 8 * (32 * (i 0).val - 1) + x.val < 16640, P (ix2 x j) = X (ix2 ⟨8 * (32 * (i 0).val - 1) + x.val, h⟩ j))
    (ha : ∀ x : Fin 256, ∀ j, ∀ h : 256 * (i 0).val + x.val < 16640, A (ix2 x j) = X (ix2 ⟨256 * (i 0).val + x.val, h⟩ j))
    (hq : ∀ x : Fin 8, ∀ j, ∀ h : 8 * min (32 * ((i 0).val + 1)) 2079 + x.val < 16640,
      N (ix2 x j) = X (ix2 ⟨8 * min (32 * ((i 0).val + 1)) 2079 + x.val, h⟩ j)) (r j : Fin 256) (hn : 256 * (i 0).val + r.val < 16640) :
    k0_pay1 (k0_pay19 (BitVec.ofNat 32 (i 0).val) (Scalar.select (Scalar.cmpi .sge (BitVec.ofNat 32 (i 0).val) 64#32) 16384#32 0#32)
      (Scalar.select (Scalar.cmpi .sge (BitVec.ofNat 32 (i 0).val) 64#32) 16640#32 16384#32)
      (k0_pay13 (k0_pay2 i) P A N) (k0_pay14 (k0_pay2 i) P A N) (iota .tc S256x256 32 [1] iota_S256x256_d1_w32)
      k0_pay15 (k0_pay16 (k0_pay2 i) P A N) k0_pay17 (k0_pay18 (k0_pay2 i) P A N) A D) S (ix2 r j)
    = (∑ x : Fin 256, pooled (fun n => X (ix2 n x)) (half x.val) ⟨256 * (i 0).val + r.val, hn⟩ * D (ix2 x j)) * S (ix2 0 j) := by
  have hr := r.isLt
  refine (pay19_at (i 0) (k0_pay2 i) P A N D S r j).trans (congrArg (· * S (ix2 0 j)) (Finset.sum_congr rfl fun x _ => congrArg (· * D (ix2 x j)) ?_))
  let E : ℕ → EReal := fun s => near (fun n => X (ix2 n x)) (256 * (i 0).val) (256 * (i 0).val + s)
  have hE : ∀ s : Fin 272, Scalar.select (k0_pay2 i (ix2 s 0))
      (if h : s.val < 8 then P (ix2 ⟨s.val, h⟩ x) else if h : s.val - 8 < 256 then A (ix2 ⟨s.val - 8, h⟩ x) else N (ix2 ⟨s.val - 8 - 256, by omega⟩ x)) 0 = E s.val :=
    fun s => joined i s (fun n => X (ix2 n x)) (fun y => P (ix2 y x)) (fun y => A (ix2 y x)) (fun y => N (ix2 y x))
      (fun y h => hp y x h) (fun y h => ha y x h) (fun y h => hq y x h)
  have hw : ∀ s w t, 256 * (i 0).val + s = t → win E s w = win (near (fun n => X (ix2 n x)) (256 * (i 0).val + r.val)) t w := by
    rintro s w _ rfl
    unfold win
    refine Finset.sum_congr rfl fun k _ => ?_
    rw [near_row _ _ _ _ hr, Nat.add_assoc]
  have e2 : k0_pay11 (k0_pay2 i) P A N (ix2 ⟨8 + r.val, by omega⟩ x) = win E (r.val + 7) 2 :=
    (congrArg (fun s => k0_pay11 (k0_pay2 i) P A N (ix2 s x)) (Fin.ext (Nat.add_comm 8 r.val))).trans (sum2 (k0_pay2 i) P A N E x hE (r.val + 7) (by omega))
  have e4 : k0_pay12 (k0_pay2 i) P A N (ix2 ⟨8 + r.val, by omega⟩ x) = win E (r.val + 6) 4 :=
    (congrArg (fun s => k0_pay12 (k0_pay2 i) P A N (ix2 s x)) (Fin.ext (Nat.add_comm 8 r.val))).trans (sum4 (k0_pay2 i) P A N E x hE (r.val + 6) (by omega))
  have e8 : k0_pay13 (k0_pay2 i) P A N (ix2 ⟨8 + r.val, by omega⟩ x) = win E (r.val + 4) 8 :=
    (congrArg (fun s => k0_pay13 (k0_pay2 i) P A N (ix2 s x)) (Fin.ext (Nat.add_comm 8 r.val))).trans (sum8 (k0_pay2 i) P A N E x hE (r.val + 4) (by omega))
  have e16 : k0_pay14 (k0_pay2 i) P A N (ix2 ⟨8 + r.val, by omega⟩ x) = win E r.val 16 :=
    (congrArg (fun s => k0_pay14 (k0_pay2 i) P A N (ix2 s x)) (Fin.ext (Nat.add_comm 8 r.val))).trans (sum16 (k0_pay2 i) P A N E x hE r.val (by omega))
  have hl : past (256 * (i 0).val) - first (256 * (i 0).val) = past (256 * (i 0).val + r.val) - first (256 * (i 0).val + r.val) := by
    unfold past first; split <;> split <;> omega
  unfold summed
  rw [e2, e4, e8, e16, hl, ha r x hn]
  unfold pooled
  refine congrArg (fun y => Ideal.div y _ - _) ?_
  unfold half
  split
  · exact hw _ _ _ (by dsimp only; omega)
  · split
    · exact hw _ _ _ (by dsimp only; omega)
    · split
      · exact hw _ _ _ (by dsimp only; omega)
      · exact hw _ _ _ (by dsimp only; omega)

/-- What the body leaves of its blocks for the pooling mixer. -/
theorem out13_def (i : grid0.Coords) (x0 : Vec Ideal S256x768 .f32) (x1 x2 : Vec Ideal S8x768 .f32) (A : Vec Ideal S256x256 .f32)
    (P N : Vec Ideal S8x256 .f32) (x6 : Vec Ideal S3x768 .f32) (x7 : Vec Ideal S1x768 .f32) (D : Vec Ideal S256x256 .f32) (S : Vec Ideal S1x256 .f32) :
    out0_13 i x0 x1 x2 A P N x6 x7 D S
      = k0_pay1 (k0_pay19 (BitVec.ofNat 32 (i 0).val) (Scalar.select (Scalar.cmpi .sge (BitVec.ofNat 32 (i 0).val) 64#32) 16384#32 0#32)
      (Scalar.select (Scalar.cmpi .sge (BitVec.ofNat 32 (i 0).val) 64#32) 16640#32 16384#32)
      (k0_pay13 (k0_pay2 i) P A N) (k0_pay14 (k0_pay2 i) P A N) (iota .tc S256x256 32 [1] iota_S256x256_d1_w32)
      k0_pay15 (k0_pay16 (k0_pay2 i) P A N) k0_pay17 (k0_pay18 (k0_pay2 i) P A N) A D) S := by
  have hA : View.ld A r0_4 = A := View.ld_unit_zero (by decide) _ _
  have hP : View.ld P r0_5 = P := View.ld_unit_zero (by decide) _ _
  have hN : View.ld N r0_5 = N := View.ld_unit_zero (by decide) _ _
  have hD : View.ld D r0_4 = D := View.ld_unit_zero (by decide) _ _
  have hS : View.ld S r0_6 = S := View.ld_unit_zero (by decide) _ _
  unfold out0_13 k0_pay20
  rw [View.canon_unit_zero (by decide), hA, hP, hN, hD, hS]

/-- What the body leaves of its blocks for the three parts of the convolution. -/
theorem out_conv_def (i : grid0.Coords) (A : Vec Ideal S256x768 .f32) (P N : Vec Ideal S8x768 .f32) (x3 : Vec Ideal S256x256 .f32)
    (x4 x5 : Vec Ideal S8x256 .f32) (W : Vec Ideal S3x768 .f32) (B : Vec Ideal S1x768 .f32) (x8 : Vec Ideal S256x256 .f32) (x9 : Vec Ideal S1x256 .f32) :
    out0_10 i A P N x3 x4 x5 W B x8 x9 = k0_pay8 (k0_pay4 i P A N W B) (k0_pay5 W) (k0_pay6 i P A N)
    ∧ out0_11 i A P N x3 x4 x5 W B x8 x9 = k0_pay9 (k0_pay4 i P A N W B) (k0_pay5 W) (k0_pay6 i P A N)
    ∧ out0_12 i A P N x3 x4 x5 W B x8 x9 = k0_pay10 (k0_pay4 i P A N W B) (k0_pay5 W) (k0_pay6 i P A N) := by
  have hA : View.ld A r0_1 = A := View.ld_unit_zero (by decide) _ _
  have hP : View.ld P r0_0 = P := View.ld_unit_zero (by decide) _ _
  have hN : View.ld N r0_0 = N := View.ld_unit_zero (by decide) _ _
  have hW : View.ld W r0_2 = W := View.ld_unit_zero (by decide) _ _
  have hB : View.ld B r0_3 = B := View.ld_unit_zero (by decide) _ _
  unfold out0_10 out0_11 out0_12 k0_pay21 k0_pay22 k0_pay23
  rw [hA, hP, hN, hW, hB]
  refine ⟨?_, ?_, ?_⟩ <;> rw [View.canon_unit_zero (by decide)]
end Cert.Kernel7Ideal.Local
end
-- ==== Proof.Local.Value.lean ====
module
public import proofs.«01_k».proof.Proof.Local.Pool
public import Idealize.ShloMosaic.Lib.StableHlo.RunRead
/-! The arrays that the local mixers' call leaves, entry by entry. -/
@[expose] public section
set_option maxRecDepth 16384
noncomputable section
namespace Cert.Kernel7Ideal.Local
open Idealize.ShloMosaic Idealize.ShloMosaic.TcCoe Cert.Kernel7Ideal Cert.Kernel7Ideal.Gen

variable (m : (ℓ : Loc nD τ sig) → Buf (Elt Ideal) ℓ) (c : Dev nD)

/-- The rows that are convolved. -/
abbrev argA : Vec Ideal S16640x768 .f32 := m ((c : Thread nD τ).loc main_arg0)
/-- The rows that are pooled. -/
abbrev argP : Vec Ideal S16640x256 .f32 := m ((c : Thread nD τ).loc main_arg1)
/-- The convolution's taps. -/
abbrev argW : Vec Ideal S3x768 .f32 := m ((c : Thread nD τ).loc main_arg2)
/-- The convolution's biases. -/
abbrev argB : Vec Ideal S768 .f32 := m ((c : Thread nD τ).loc main_arg3)
/-- The pooling mixer's weights, one matrix for a group of lanes. -/
abbrev argG : Vec Ideal S4x64x64 .f32 := m ((c : Thread nD τ).loc main_arg4)
/-- The pooling mixer's scales. -/
abbrev argS : Vec Ideal S256 .f32 := m ((c : Thread nD τ).loc main_arg5)

theorem made0 (j : Fin 768) : (V m c main_v0 : Vec Ideal S1x768 .f32) (ix2 0 j) = argB m c (ix1 j) := by
  dsimp only [V, hostOps0, List.flatten, List.append, List.append_nil, List.cons_append, List.nil_append]
  after_results
  pointwise

theorem made13 (j : Fin 256) : (V m c main_v13 : Vec Ideal S1x256 .f32) (ix2 0 j) = argS m c (ix1 j) := by
  dsimp only [V, hostOps0, List.flatten, List.append, List.append_nil, List.cons_append, List.nil_append]
  after_results
  pointwise

/-- The groups' matrices along a diagonal, zeros elsewhere. -/
def diag (G : Vec Ideal S4x64x64 .f32) (k j : Fin 256) : EReal :=
  if k.val / 64 = j.val / 64 then G (ix3 ⟨k.val / 64, by omega⟩ ⟨k.val % 64, by omega⟩ ⟨j.val % 64, by omega⟩) else 0

theorem made12 (k j : Fin 256) : (V m c main_v12 : Vec Ideal S256x256 .f32) (ix2 k j) = diag (argG m c) k j := by
  dsimp only [V, hostOps0, List.flatten, List.append, List.append_nil, List.cons_append, List.nil_append]
  after_results
  pointwise
  have he : ∀ a b : Fin 4, IntOp.cmpi .eq (IntOp.addi (BitVec.ofNat 32 a.val) 0#32) (BitVec.ofNat 32 b.val) = if a.val = b.val then 1#1 else 0#1 := by
    decide +kernel
  refine (congrArg (fun w => argG m c (ix3 ⟨k.val / 64, _⟩ ⟨k.val % 64, _⟩ ⟨j.val % 64, _⟩) * FloatOps.uitofp (F := Ideal) .f32 w) (he ⟨k.val / 64, by omega⟩ ⟨j.val / 64, by omega⟩)).trans ?_
  unfold diag
  by_cases h : k.val / 64 = j.val / 64
  · rw [if_pos h, if_pos h]
    refine (congrArg (argG m c _ * ·) ?_).trans (mul_one _)
    show (((1#1).toNat : ℝ) : EReal) = 1
    simp
  · rw [if_neg h, if_neg h]
    refine (congrArg (argG m c _ * ·) ?_).trans (mul_zero _)
    show (((0#1).toNat : ℝ) : EReal) = 0
    simp

theorem point_lt (t : Fin cfg0.N) : t.val < 65 := lt_of_lt_of_eq t.isLt N_0

/-- The block numbers of the inputs. -/
theorem idx : ∀ t : Fin cfg0.N, (grid0.coords t 0).val = t.val ∧ win0_0.index t = ![t.val, 0] ∧ win0_1.index t = ![32 * t.val - 1, 0] ∧ win0_2.index t = ![min (32 * (t.val + 1)) 2079, 0]
    ∧ win0_3.index t = ![t.val, 0] ∧ win0_4.index t = ![32 * t.val - 1, 0] ∧ win0_5.index t = ![min (32 * (t.val + 1)) 2079, 0]
    ∧ win0_6.index t = ![0, 0] ∧ win0_7.index t = ![0, 0] ∧ win0_8.index t = ![0, 0] ∧ win0_9.index t = ![0, 0]
    ∧ win0_10.index t = ![t.val, 0] ∧ win0_11.index t = ![t.val, 0] ∧ win0_12.index t = ![t.val, 0] ∧ win0_13.index t = ![t.val, 0] :=
  (by decide +kernel : ∀ t : Fin grid0.N, _)

theorem block0 (t : Fin cfg0.N) (x : Fin 256) (j : Fin 768) (h : 256 * t.val + x.val < 16640) : iblk m c 0 t (ix2 x j) = argA m c (ix2 ⟨256 * t.val + x.val, h⟩ j) := by
  have hi := (idx t).2.1
  blk_ext [iblk, V_main_arg0, hi]

theorem block1 (t : Fin cfg0.N) (x : Fin 8) (j : Fin 768) (h : 8 * (32 * t.val - 1) + x.val < 16640) : iblk m c 1 t (ix2 x j) = argA m c (ix2 ⟨8 * (32 * t.val - 1) + x.val, h⟩ j) := by
  have hi := (idx t).2.2.1
  blk_ext [iblk, V_main_arg0, hi]

theorem block2 (t : Fin cfg0.N) (x : Fin 8) (j : Fin 768) (h : 8 * min (32 * (t.val + 1)) 2079 + x.val < 16640) :
    iblk m c 2 t (ix2 x j) = argA m c (ix2 ⟨8 * min (32 * (t.val + 1)) 2079 + x.val, h⟩ j) := by
  have hi := (idx t).2.2.2.1
  blk_ext [iblk, V_main_arg0, hi]

theorem block3 (t : Fin cfg0.N) (x : Fin 256) (j : Fin 256) (h : 256 * t.val + x.val < 16640) : iblk m c 3 t (ix2 x j) = argP m c (ix2 ⟨256 * t.val + x.val, h⟩ j) := by
  have hi := (idx t).2.2.2.2.1
  blk_ext [iblk, V_main_arg1, hi]

theorem block4 (t : Fin cfg0.N) (x : Fin 8) (j : Fin 256) (h : 8 * (32 * t.val - 1) + x.val < 16640) : iblk m c 4 t (ix2 x j) = argP m c (ix2 ⟨8 * (32 * t.val - 1) + x.val, h⟩ j) := by
  have hi := (idx t).2.2.2.2.2.1
  blk_ext [iblk, V_main_arg1, hi]

theorem block5 (t : Fin cfg0.N) (x : Fin 8) (j : Fin 256) (h : 8 * min (32 * (t.val + 1)) 2079 + x.val < 16640) :
    iblk m c 5 t (ix2 x j) = argP m c (ix2 ⟨8 * min (32 * (t.val + 1)) 2079 + x.val, h⟩ j) := by
  have hi := (idx t).2.2.2.2.2.2.1
  blk_ext [iblk, V_main_arg1, hi]

theorem block6 (t : Fin cfg0.N) (x : Fin 3) (j : Fin 768) : iblk m c 6 t (ix2 x j) = argW m c (ix2 x j) := by
  have hi := (idx t).2.2.2.2.2.2.2.1
  blk_ext [iblk, V_main_arg2, hi]

theorem block7 (t : Fin cfg0.N) (j : Fin 768) : iblk m c 7 t (ix2 0 j) = argB m c (ix1 j) := by
  have hi := (idx t).2.2.2.2.2.2.2.2.1
  refine Eq.trans ?_ (made0 m c j)
  blk_ext [iblk, hi]

theorem block8 (t : Fin cfg0.N) (k j : Fin 256) : iblk m c 8 t (ix2 k j) = diag (argG m c) k j := by
  have hi := (idx t).2.2.2.2.2.2.2.2.2.1
  refine Eq.trans ?_ (made12 m c k j)
  blk_ext [iblk, hi]

theorem block9 (t : Fin cfg0.N) (j : Fin 256) : iblk m c 9 t (ix2 0 j) = argS m c (ix1 j) := by
  have hi := (idx t).2.2.2.2.2.2.2.2.2.2.1
  refine Eq.trans ?_ (made13 m c j)
  blk_ext [iblk, hi]

/-- The convolution at a row and a column. -/
def convolved (n : ℕ) (j : Fin 768) : EReal :=
  conv (fun n => argA m c (ix2 n j)) (argW m c (ix2 0 j)) (argW m c (ix2 1 j)) (argW m c (ix2 2 j)) (argB m c (ix1 j)) n

/-- The pooling mixer at a row and a lane. -/
def mixed (n : Fin 16640) (j : Fin 256) : EReal :=
  (∑ x : Fin 256, pooled (fun n => argP m c (ix2 n x)) (half x.val) n * diag (argG m c) x j) * argS m c (ix1 j)

/-- The convolution as a grid point computes it. -/
theorem point_conv (t : Fin cfg0.N) (r : Fin 256) (j : Fin 768) :
    k0_pay7 (k0_pay4 (grid0.coords t) (iblk m c 1 t) (iblk m c 0 t) (iblk m c 2 t) (iblk m c 6 t) (iblk m c 7 t)) (k0_pay5 (iblk m c 6 t))
      (k0_pay6 (grid0.coords t) (iblk m c 1 t) (iblk m c 0 t) (iblk m c 2 t)) (ix2 r j) = convolved m c (256 * t.val + r.val) j := by
  have h0 := (idx t).1
  refine (conv_at (grid0.coords t) (argA m c) _ _ _ _ _ ?_ ?_ ?_ r j).trans ?_
  · simp only [h0]
    exact fun x j h => block1 m c t x j h
  · simp only [h0]
    exact fun x j h => block0 m c t x j h
  · simp only [h0]
    exact fun x j h => block2 m c t x j h
  · simp only [h0, block6, block7]
    rfl

/-- The blocks of a grid point, by the body's results. -/
abbrev left (f : grid0.Coords → Vec Ideal S256x768 .f32 → Vec Ideal S8x768 .f32 → Vec Ideal S8x768 .f32 → Vec Ideal S256x256 .f32 → Vec Ideal S8x256 .f32
    → Vec Ideal S8x256 .f32 → Vec Ideal S3x768 .f32 → Vec Ideal S1x768 .f32 → Vec Ideal S256x256 .f32 → Vec Ideal S1x256 .f32 → Vec Ideal S256x256 .f32)
    (t : Fin cfg0.N) : Vec Ideal S256x256 .f32 :=
  f (grid0.coords t) (iblk m c 0 t) (iblk m c 1 t) (iblk m c 2 t) (iblk m c 3 t) (iblk m c 4 t) (iblk m c 5 t) (iblk m c 6 t) (iblk m c 7 t)
    (iblk m c 8 t) (iblk m c 9 t)

theorem out10_at (t : Fin cfg0.N) (r j : Fin 256) : left m c out0_10 t (ix2 r j) = convolved m c (256 * t.val + r.val) ⟨j.val, by omega⟩ := by
  refine (congrFun (out_conv_def ..).1 _).trans (Eq.trans ?_ (point_conv m c t r ⟨j.val, by omega⟩))
  pointwise [k0_pay8]

theorem out11_at (t : Fin cfg0.N) (r j : Fin 256) : left m c out0_11 t (ix2 r j) = convolved m c (256 * t.val + r.val) ⟨256 + j.val, by omega⟩ := by
  refine (congrFun (out_conv_def ..).2.1 _).trans (Eq.trans ?_ (point_conv m c t r ⟨256 + j.val, by omega⟩))
  pointwise [k0_pay9]

theorem out12_at (t : Fin cfg0.N) (r j : Fin 256) : left m c out0_12 t (ix2 r j) = convolved m c (256 * t.val + r.val) ⟨512 + j.val, by omega⟩ := by
  refine (congrFun (out_conv_def ..).2.2 _).trans (Eq.trans ?_ (point_conv m c t r ⟨512 + j.val, by omega⟩))
  pointwise [k0_pay10]

theorem out13_at (t : Fin cfg0.N) (r j : Fin 256) (hn : 256 * t.val + r.val < 16640) :
    left m c out0_13 t (ix2 r j) = mixed m c ⟨256 * t.val + r.val, hn⟩ j := by
  have h0 := (idx t).1
  refine (congrFun (out13_def ..) _).trans ((pool_at (grid0.coords t) (argP m c) _ _ _ _ _ ?_ ?_ ?_ r j (by rw [h0]; exact hn)).trans ?_)
  · simp only [h0]
    exact fun x j h => block4 m c t x j h
  · simp only [h0]
    exact fun x j h => block3 m c t x j h
  · simp only [h0]
    exact fun x j h => block5 m c t x j h
  · simp only [h0, block8, block9]
    rfl

/-- A block's row and lane. -/
theorem entry (y : S256x256.Idx) : y = ix2 (y 0) (y 1) := by funext x; fin_cases x <;> rfl

theorem convolved_congr {a b : ℕ} {x y : Fin 768} (h : a = b) (h' : x.val = y.val) : convolved m c a x = convolved m c b y := by
  rw [h, Fin.ext h']

theorem mixed_congr {a b : Fin 16640} {x y : Fin 256} (h : a.val = b.val) (h' : x.val = y.val) : mixed m c a x = mixed m c b y := by
  rw [Fin.ext h, Fin.ext h']

/-- The columns of the convolution's `k`-th part. -/
def part (k : ℕ) (hk : k ≤ 512) (i : S16640x256.Idx) : EReal := convolved m c (i 0).val ⟨k + (i 1).val, by have h : (i 1).val < 256 := (i 1).isLt; omega⟩

/-- The array of the first result. -/
theorem result10 : (dats m 0 c).arrAt 10 cfg0.N = part m c 0 (by omega) := by
  refine (dats m 0 c).arrAt_eq_of_covers 10 _ (by decide +kernel) fun t hf y => ?_
  have hi := (idx t).2.2.2.2.2.2.2.2.2.2.2.1
  blk_simp
  rw [after0_10]
  refine Eq.trans (congrArg _ (entry y)) ((out10_at m c t (y 0) (y 1)).trans (convolved_congr m c ?_ ?_))
  · blk_simp [hi]
    omega
  · blk_simp [hi]

/-- The array of the second result. -/
theorem result11 : (dats m 0 c).arrAt 11 cfg0.N = part m c 256 (by omega) := by
  refine (dats m 0 c).arrAt_eq_of_covers 11 _ (by decide +kernel) fun t hf y => ?_
  have hi := (idx t).2.2.2.2.2.2.2.2.2.2.2.2.1
  blk_simp
  rw [after0_11]
  refine Eq.trans (congrArg _ (entry y)) ((out11_at m c t (y 0) (y 1)).trans (convolved_congr m c ?_ ?_))
  · blk_simp [hi]
    omega
  · blk_simp [hi]

/-- The array of the third result. -/
theorem result12 : (dats m 0 c).arrAt 12 cfg0.N = part m c 512 (by omega) := by
  refine (dats m 0 c).arrAt_eq_of_covers 12 _ (by decide +kernel) fun t hf y => ?_
  have hi := (idx t).2.2.2.2.2.2.2.2.2.2.2.2.2.1
  blk_simp
  rw [after0_12]
  refine Eq.trans (congrArg _ (entry y)) ((out12_at m c t (y 0) (y 1)).trans (convolved_congr m c ?_ ?_))
  · blk_simp [hi]
    omega
  · blk_simp [hi]

/-- The array of the fourth result. -/
theorem result13 : (dats m 0 c).arrAt 13 cfg0.N = fun i : S16640x256.Idx => mixed m c (i 0) (i 1) := by
  refine (dats m 0 c).arrAt_eq_of_covers 13 _ (by decide +kernel) fun t hf y => ?_
  have hi := (idx t).2.2.2.2.2.2.2.2.2.2.2.2.2.2
  have ht := point_lt t
  have hy : (y 0).val < 256 := (y 0).isLt
  blk_simp
  rw [after0_13]
  refine Eq.trans (congrArg _ (entry y)) ((out13_at m c t (y 0) (y 1) (by omega)).trans (mixed_congr m c ?_ ?_))
  · show 256 * t.val + (y 0).val = _
    blk_simp [hi]
    omega
  · blk_simp [hi]
end Cert.Kernel7Ideal.Local
end
-- ==== Proof.Local.Windows.lean ====
module
public import proofs.«01_k».proof.Proof.Local.Pool
/-! A column padded within its stream, the sums of its windows, and the product with matrices along a diagonal. -/
@[expose] public section
set_option maxRecDepth 16384
noncomputable section
namespace Cert.Kernel7Ideal.Local
open Idealize.ShloMosaic

theorem zero_word : (FloatOps.sitofp (F := Ideal) .f32 0#32 : EReal) = 0 := by
  show (((0#32).toInt : ℝ) : EReal) = 0
  simp

theorem first_latent {n : ℕ} (h : n < 16384) : first n = 0 := if_pos h
theorem past_latent {n : ℕ} (h : n < 16384) : past n = 16384 := if_pos h
theorem first_context {n : ℕ} (h : 16384 ≤ n) : first n = 16384 := if_neg (by omega)
theorem past_context {n : ℕ} (h : 16384 ≤ n) : past n = 16640 := if_neg (by omega)

/-- The latent rows of a column with `k` zeros before and after them. -/
theorem padded_latent (f : Fin 16640 → EReal) {n q k : ℕ} (hn : n < 16384) (hk : k ≤ 8) :
    (if h : k ≤ q ∧ q - k < 16384 then f ⟨q - k, by omega⟩ else FloatOps.sitofp (F := Ideal) .f32 0#32 : EReal) = near f n (q + 8 - k) := by
  have h1 := first_latent hn
  have h2 := past_latent hn
  unfold near
  rw [zero_word]
  by_cases h : k ≤ q ∧ q - k < 16384
  · rw [dif_pos h, dif_pos (by omega)]
    exact congrArg f (Fin.ext (by dsimp only; omega))
  · rw [dif_neg h, dif_neg (by omega)]

/-- The context rows of a column with `k` zeros before and after them. -/
theorem padded_context (f : Fin 16640 → EReal) {n q k : ℕ} (hn : 16384 ≤ n) (hk : k ≤ 8) :
    (if h : k ≤ q ∧ q - k < 256 then f ⟨16384 + (q - k), by omega⟩ else FloatOps.sitofp (F := Ideal) .f32 0#32 : EReal) = near f n (16384 + q + 8 - k) := by
  have h1 := first_context hn
  have h2 := past_context hn
  unfold near
  rw [zero_word]
  by_cases h : k ≤ q ∧ q - k < 256
  · rw [dif_pos h, dif_pos (by omega)]
    exact congrArg f (Fin.ext (by dsimp only; omega))
  · rw [dif_neg h, dif_neg (by omega)]

theorem win_two (E : ℕ → EReal) (s : ℕ) : win E s 2 = E s + E (1 + s) := by
  simp only [win, Finset.sum_range_succ, Finset.sum_range_zero, zero_add, Nat.add_zero, Nat.add_comm s]

theorem win_four (E : ℕ → EReal) (s : ℕ) : win E s 4 = E s + E (1 + s) + E (2 + s) + E (3 + s) := by
  simp only [win, Finset.sum_range_succ, Finset.sum_range_zero, zero_add, Nat.add_zero, Nat.add_comm s]

theorem win_eight (E : ℕ → EReal) (s : ℕ) :
    win E s 8 = E s + E (1 + s) + E (2 + s) + E (3 + s) + E (4 + s) + E (5 + s) + E (6 + s) + E (7 + s) := by
  simp only [win, Finset.sum_range_succ, Finset.sum_range_zero, zero_add, Nat.add_zero, Nat.add_comm s]

theorem win_sixteen (E : ℕ → EReal) (s : ℕ) :
    win E s 16 = E s + E (1 + s) + E (2 + s) + E (3 + s) + E (4 + s) + E (5 + s) + E (6 + s) + E (7 + s)
      + E (8 + s) + E (9 + s) + E (10 + s) + E (11 + s) + E (12 + s) + E (13 + s) + E (14 + s) + E (15 + s) := by
  simp only [win, Finset.sum_range_succ, Finset.sum_range_zero, zero_add, Nat.add_zero, Nat.add_comm s]

/-- A window counted from its stream's first row. -/
theorem win_shift (f : Fin 16640 → EReal) (n h b s w : ℕ) (hs : b + s = n) (hh : h ≤ 8) :
    win (near f n) (n + 8 - h) w = win (fun q => near f n (b + q + 8 - h)) s w := by
  unfold win
  refine Finset.sum_congr rfl fun k _ => congrArg (near f n) ?_
  omega

/-- The pooling of a latent row. -/
theorem pooled_latent (f : Fin 16640 → EReal) (h n : ℕ) (hn : n < 16384) (hh : h ≤ 8) :
    pooled f h ⟨n, by omega⟩ = Ideal.div (win (fun q => near f n (q + 8 - h)) n (2 * h))
      (FloatOps.sitofp (F := Ideal) .f32 (IntOp.subi (IntOp.minsi (IntOp.addi (BitVec.ofNat 32 n) (BitVec.ofNat 32 h)) 16384#32)
        (IntOp.maxsi (IntOp.subi (BitVec.ofNat 32 n) (BitVec.ofNat 32 h)) 0#32))) - f ⟨n, by omega⟩ := by
  unfold pooled count
  rw [first_latent hn, past_latent hn, win_shift f n h 0 n (2 * h) (by omega) hh]
  simp only [Nat.zero_add]
  rfl

/-- The pooling of a context row. -/
theorem pooled_context (f : Fin 16640 → EReal) (h n : ℕ) (hn : n < 256) (hh : h ≤ 8) :
    pooled f h ⟨16384 + n, by omega⟩ = Ideal.div (win (fun q => near f (16384 + n) (16384 + q + 8 - h)) n (2 * h))
      (FloatOps.sitofp (F := Ideal) .f32 (IntOp.subi (IntOp.minsi (IntOp.addi (BitVec.ofNat 32 n) (BitVec.ofNat 32 h)) 256#32)
        (IntOp.maxsi (IntOp.subi (BitVec.ofNat 32 n) (BitVec.ofNat 32 h)) 0#32))) - f ⟨16384 + n, by omega⟩ := by
  unfold pooled count
  rw [first_context (by dsimp only; omega), past_context (by dsimp only; omega), win_shift f (16384 + n) h 16384 n (2 * h) rfl hh, Nat.add_sub_cancel_left]

/-- A sum over the lanes that only one group of lanes enters. -/
theorem sum_group (F : Fin 256 → EReal) (g : Fin 4) :
    (∑ x : Fin 256, if x.val / 64 = g.val then F x else 0) = ∑ c : Fin 64, F ⟨64 * g.val + c.val, by omega⟩ := by
  rw [← Fintype.sum_equiv (finProdFinEquiv (m := 4) (n := 64)) (fun p => if p.1.val = g.val then F ⟨64 * p.1.val + p.2.val, by omega⟩ else 0)
    (fun x : Fin 256 => if x.val / 64 = g.val then F x else 0) ?_, Fintype.sum_prod_type, Finset.sum_eq_single g]
  · exact Finset.sum_congr rfl fun c _ => if_pos rfl
  · intro b _ hb
    exact Finset.sum_eq_zero fun c _ => if_neg fun h => hb (Fin.ext h)
  · exact fun h => absurd (Finset.mem_univ _) h
  · rintro ⟨a, b⟩
    have e : (finProdFinEquiv (a, b) : Fin 256) = ⟨64 * a.val + b.val, by omega⟩ := Fin.ext (Nat.add_comm _ _)
    have e' : (64 * a.val + b.val) / 64 = a.val := by omega
    dsimp only
    rw [e]
    dsimp only
    rw [e']
end Cert.Kernel7Ideal.Local
end
-- ==== Proof.Local.RefConv.lean ====
module
public import proofs.«01_k».proof.Proof.Local.Windows
public import proofs.«01_k».proof.Proof.Gen.Reference7Ideal.Run
/-! The short convolution of the reference, entry by entry. -/
@[expose] public section
set_option maxRecDepth 16384
noncomputable section
namespace Cert.Reference7Ideal.Local
open Idealize.ShloMosaic Idealize.ShloMosaic.TcCoe Cert.Reference7Ideal Cert.Reference7Ideal.Gen Cert.Reference7Ideal.Value
open Cert.Kernel7Ideal.Local (near conv padded_latent padded_context)

variable (V0 : Valuation τ sig (Elt Ideal))

/-- The rows that are convolved. -/
abbrev argA : Vec Ideal S16640x768 .f32 := V0 (Proc.devRef .tc main_arg0)
/-- The convolution's taps. -/
abbrev argW : Vec Ideal S3x768 .f32 := V0 (Proc.devRef .tc main_arg2)
/-- The convolution's biases. -/
abbrev argB : Vec Ideal S768 .f32 := V0 (Proc.devRef .tc main_arg3)

/-- The latent rows above the context rows. -/
theorem above_at (x : Vec Ideal S16384x768 .f32) (y : Vec Ideal S256x768 .f32) (n : Fin 16640) (j : Fin 768) :
    concatenate S16640x768 0 [⟨S16384x768, x⟩, ⟨S256x768, y⟩] concatenates_S16384x768_S256x768_S16640x768_d0 (ix2 n j)
      = if h : n.val < 16384 then x (ix2 ⟨n.val, h⟩ j) else y (ix2 ⟨n.val - 16384, by omega⟩ j) := by
  pointwise

theorem latent_at (n q : ℕ) (hn : n < 16384) (hq : q < 16386) (j : Fin 768) :
    (res_main_v1 V0 : Vec Ideal S16386x768 .f32) (ix2 ⟨q, hq⟩ j) = near (fun r => argA V0 (ix2 r j)) n (q + 8 - 1) := by
  refine Eq.trans ?_ (padded_latent (fun r => argA V0 (ix2 r j)) hn (by omega))
  pointwise [res_main_v1]

theorem context_at (n q : ℕ) (hn : 16384 ≤ n) (hq : q < 258) (j : Fin 768) :
    (res_main_v26 V0 : Vec Ideal S258x768 .f32) (ix2 ⟨q, hq⟩ j) = near (fun r => argA V0 (ix2 r j)) n (16384 + q + 8 - 1) := by
  refine Eq.trans ?_ (padded_context (fun r => argA V0 (ix2 r j)) hn (by omega))
  pointwise [res_main_v26]

/-- The convolution at a row and a column. -/
theorem conv_at (n : Fin 16640) (j : Fin 768) : (res_main_v50 V0 : Vec Ideal S16640x768 .f32) (ix2 n j)
    = conv (fun r => argA V0 (ix2 r j)) (argW V0 (ix2 0 j)) (argW V0 (ix2 1 j)) (argW V0 (ix2 2 j)) (argB V0 (ix1 j)) n.val := by
  refine (above_at _ _ n j).trans ?_
  by_cases h : n.val < 16384
  · have h7 : n.val + 8 - 1 = n.val + 7 := by omega
    have h8 : 1 + n.val + 8 - 1 = n.val + 8 := by omega
    have h9 : 2 + n.val + 8 - 1 = n.val + 9 := by omega
    rw [dif_pos h]
    pointwise
    simp only [latent_at V0 n.val _ h]
    rw [h7, h8, h9]
    rfl
  · rw [dif_neg h]
    obtain ⟨s, hs⟩ : ∃ s : Fin 256, s = ⟨n.val - 16384, by omega⟩ := ⟨_, rfl⟩
    have hv : s.val = n.val - 16384 := by rw [hs]
    have h7 : 16384 + s.val + 8 - 1 = n.val + 7 := by omega
    have h8 : 16384 + (1 + s.val) + 8 - 1 = n.val + 8 := by omega
    have h9 : 16384 + (2 + s.val) + 8 - 1 = n.val + 9 := by omega
    rw [← hs]
    pointwise
    simp only [context_at V0 n.val _ (Nat.le_of_not_lt h)]
    rw [h7, h8, h9]
    rfl
end Cert.Reference7Ideal.Local
end
-- ==== Proof.Local.RefPool.lean ====
module
public import proofs.«01_k».proof.Proof.Local.Windows
public import proofs.«01_k».proof.Proof.Gen.Reference7Ideal.Run
/-! The windows' means of the reference, entry by entry. -/
@[expose] public section
set_option maxRecDepth 16384
noncomputable section
namespace Cert.Reference7Ideal.Local
open Idealize.ShloMosaic Idealize.ShloMosaic.TcCoe Cert.Reference7Ideal Cert.Reference7Ideal.Gen Cert.Reference7Ideal.Value
open Cert.Kernel7Ideal.Local (near win pooled padded_latent padded_context pooled_latent pooled_context win_two win_four win_eight win_sixteen)

variable (V0 : Valuation τ sig (Elt Ideal))

/-- The rows that are pooled. -/
abbrev argP : Vec Ideal S16640x256 .f32 := V0 (Proc.devRef .tc main_arg1)

/-- A lane of the rows that are pooled. -/
def lane (x : Fin 256) (r : Fin 16640) : EReal := argP V0 (ix2 r x)

/-- Rows with `k` rows of another value before and after them. -/
theorem pad_rows {a b k : ℕ} (x : Vec Ideal ⟨2, ![a, 64]⟩ .f32) (v : Vec Ideal S_ .f32) (hp) (q : ℕ) (hq : q < b) (c : Fin 64) :
    pad (⟨2, ![b, 64]⟩ : Shape) ![k, 0] ![k, 0] ![0, 0] x v hp h_S_ (ix2 ⟨q, hq⟩ c)
      = if h : k ≤ q ∧ q - k < a then x (ix2 ⟨q - k, h.2⟩ c) else v (Shape.Idx.first h_S_) := by
  pointwise
  refine dite_congr rfl (fun _ => congrArg x (funext fun i => ?_)) fun _ => rfl
  fin_cases i
  · exact Fin.ext (Nat.div_one _)
  · exact Fin.ext (Nat.div_one _)

section latent
variable (n : Fin 16384) (c : Fin 64)

theorem latent0 : (res_main_v185 V0 : Vec Ideal S16384x4x64 .f32) (ix3 n 0 c) = pooled (lane V0 ⟨c.val, by omega⟩) 1 ⟨n.val, by omega⟩ := by
  have e : ∀ q h, (res_main_v54 V0 : Vec Ideal S16386x64 .f32) (ix2 ⟨q, h⟩ c) = near (lane V0 ⟨c.val, by omega⟩) n.val (q + 8 - 1) := fun q h => by
    refine (pad_rows (res_main_v53 V0) _ _ q h c).trans (Eq.trans ?_ (padded_latent _ n.isLt (by omega)))
    pointwise [res_main_v53, res_main_v51]
    rfl
  rw [pooled_latent _ _ _ n.isLt (by omega), win_two]
  pointwise [res_main_v185, res_main_v53, res_main_v52, res_main_v51]
  simp only [e]
  rfl

theorem latent1 : (res_main_v185 V0 : Vec Ideal S16384x4x64 .f32) (ix3 n 1 c) = pooled (lane V0 ⟨64 + c.val, by omega⟩) 2 ⟨n.val, by omega⟩ := by
  have e : ∀ q h, (res_main_v75 V0 : Vec Ideal S16388x64 .f32) (ix2 ⟨q, h⟩ c) = near (lane V0 ⟨64 + c.val, by omega⟩) n.val (q + 8 - 2) := fun q h => by
    refine (pad_rows (res_main_v74 V0) _ _ q h c).trans (Eq.trans ?_ (padded_latent _ n.isLt (by omega)))
    pointwise [res_main_v74, res_main_v51]
    rfl
  rw [pooled_latent _ _ _ n.isLt (by omega), win_four]
  pointwise [res_main_v185, res_main_v74, res_main_v52, res_main_v51]
  simp only [e]
  rfl

theorem latent2 : (res_main_v185 V0 : Vec Ideal S16384x4x64 .f32) (ix3 n 2 c) = pooled (lane V0 ⟨128 + c.val, by omega⟩) 4 ⟨n.val, by omega⟩ := by
  have e : ∀ q h, (res_main_v100 V0 : Vec Ideal S16392x64 .f32) (ix2 ⟨q, h⟩ c) = near (lane V0 ⟨128 + c.val, by omega⟩) n.val (q + 8 - 4) := fun q h => by
    refine (pad_rows (res_main_v99 V0) _ _ q h c).trans (Eq.trans ?_ (padded_latent _ n.isLt (by omega)))
    pointwise [res_main_v99, res_main_v51]
    rfl
  rw [pooled_latent _ _ _ n.isLt (by omega), win_eight]
  pointwise [res_main_v185, res_main_v99, res_main_v52, res_main_v51]
  simp only [e]
  rfl

theorem latent3 : (res_main_v185 V0 : Vec Ideal S16384x4x64 .f32) (ix3 n 3 c) = pooled (lane V0 ⟨192 + c.val, by omega⟩) 8 ⟨n.val, by omega⟩ := by
  have e : ∀ q h, (res_main_v133 V0 : Vec Ideal S16400x64 .f32) (ix2 ⟨q, h⟩ c) = near (lane V0 ⟨192 + c.val, by omega⟩) n.val (q + 8 - 8) := fun q h => by
    refine (pad_rows (res_main_v132 V0) _ _ q h c).trans (Eq.trans ?_ (padded_latent _ n.isLt (by omega)))
    pointwise [res_main_v132, res_main_v51]
    rfl
  rw [pooled_latent _ _ _ n.isLt (by omega), win_sixteen]
  pointwise [res_main_v185, res_main_v132, res_main_v52, res_main_v51]
  simp only [e]
  rfl
end latent

section context
variable (n : Fin 256) (c : Fin 64)

theorem context0 : (res_main_v326 V0 : Vec Ideal S256x4x64 .f32) (ix3 n 0 c) = pooled (lane V0 ⟨c.val, by omega⟩) 1 ⟨16384 + n.val, by omega⟩ := by
  have e : ∀ q h, (res_main_v195 V0 : Vec Ideal S258x64 .f32) (ix2 ⟨q, h⟩ c) = near (lane V0 ⟨c.val, by omega⟩) (16384 + n.val) (16384 + q + 8 - 1) := fun q h => by
    refine (pad_rows (res_main_v194 V0) _ _ q h c).trans (Eq.trans ?_ (padded_context _ (Nat.le_add_right _ _) (by omega)))
    pointwise [res_main_v194, res_main_v192]
    rfl
  rw [pooled_context _ _ _ n.isLt (by omega), win_two]
  pointwise [res_main_v326, res_main_v194, res_main_v193, res_main_v192]
  simp only [e]
  rfl

theorem context1 : (res_main_v326 V0 : Vec Ideal S256x4x64 .f32) (ix3 n 1 c) = pooled (lane V0 ⟨64 + c.val, by omega⟩) 2 ⟨16384 + n.val, by omega⟩ := by
  have e : ∀ q h, (res_main_v216 V0 : Vec Ideal S260x64 .f32) (ix2 ⟨q, h⟩ c) = near (lane V0 ⟨64 + c.val, by omega⟩) (16384 + n.val) (16384 + q + 8 - 2) := fun q h => by
    refine (pad_rows (res_main_v215 V0) _ _ q h c).trans (Eq.trans ?_ (padded_context _ (Nat.le_add_right _ _) (by omega)))
    pointwise [res_main_v215, res_main_v192]
    rfl
  rw [pooled_context _ _ _ n.isLt (by omega), win_four]
  pointwise [res_main_v326, res_main_v215, res_main_v193, res_main_v192]
  simp only [e]
  rfl

theorem context2 : (res_main_v326 V0 : Vec Ideal S256x4x64 .f32) (ix3 n 2 c) = pooled (lane V0 ⟨128 + c.val, by omega⟩) 4 ⟨16384 + n.val, by omega⟩ := by
  have e : ∀ q h, (res_main_v241 V0 : Vec Ideal S264x64 .f32) (ix2 ⟨q, h⟩ c) = near (lane V0 ⟨128 + c.val, by omega⟩) (16384 + n.val) (16384 + q + 8 - 4) := fun q h => by
    refine (pad_rows (res_main_v240 V0) _ _ q h c).trans (Eq.trans ?_ (padded_context _ (Nat.le_add_right _ _) (by omega)))
    pointwise [res_main_v240, res_main_v192]
    rfl
  rw [pooled_context _ _ _ n.isLt (by omega), win_eight]
  pointwise [res_main_v326, res_main_v240, res_main_v193, res_main_v192]
  simp only [e]
  rfl

theorem context3 : (res_main_v326 V0 : Vec Ideal S256x4x64 .f32) (ix3 n 3 c) = pooled (lane V0 ⟨192 + c.val, by omega⟩) 8 ⟨16384 + n.val, by omega⟩ := by
  have e : ∀ q h, (res_main_v274 V0 : Vec Ideal S272x64 .f32) (ix2 ⟨q, h⟩ c) = near (lane V0 ⟨192 + c.val, by omega⟩) (16384 + n.val) (16384 + q + 8 - 8) := fun q h => by
    refine (pad_rows (res_main_v273 V0) _ _ q h c).trans (Eq.trans ?_ (padded_context _ (Nat.le_add_right _ _) (by omega)))
    pointwise [res_main_v273, res_main_v192]
    rfl
  rw [pooled_context _ _ _ n.isLt (by omega), win_sixteen]
  pointwise [res_main_v326, res_main_v273, res_main_v193, res_main_v192]
  simp only [e]
  rfl
end context
end Cert.Reference7Ideal.Local
end
-- ==== Proof.Local.Ref.lean ====
module
public import proofs.«01_k».proof.Proof.Local.Value
public import proofs.«01_k».proof.Proof.Local.RefConv
public import proofs.«01_k».proof.Proof.Local.RefPool
/-! The pooling mixer of the reference, entry by entry. -/
@[expose] public section
set_option maxRecDepth 16384
noncomputable section
namespace Cert.Reference7Ideal.Local
open Idealize.ShloMosaic Idealize.ShloMosaic.TcCoe Cert.Reference7Ideal Cert.Reference7Ideal.Gen Cert.Reference7Ideal.Value
open Cert.Kernel7Ideal.Local (pooled half diag sum_group)

variable (V0 : Valuation τ sig (Elt Ideal))

/-- The groups' matrices. -/
abbrev argG : Vec Ideal S4x64x64 .f32 := V0 (Proc.devRef .tc main_arg4)

/-- The lanes' scales. -/
abbrev argS : Vec Ideal S256 .f32 := V0 (Proc.devRef .tc main_arg5)

theorem half_group (g : Fin 4) (c : Fin 64) : half (64 * g.val + c.val) = 2 ^ g.val :=
  (by decide +kernel : ∀ (g : Fin 4) (c : Fin 64), half (64 * g.val + c.val) = 2 ^ g.val) g c

theorem latent_all (n : Fin 16384) (g : Fin 4) (c : Fin 64) :
    (res_main_v185 V0 : Vec Ideal S16384x4x64 .f32) (ix3 n g c)
      = pooled (lane V0 ⟨64 * g.val + c.val, by omega⟩) (half (64 * g.val + c.val)) ⟨n.val, by omega⟩ := by
  rw [half_group]
  fin_cases g
  · exact (latent0 V0 n c).trans (by simp)
  · exact latent1 V0 n c
  · exact latent2 V0 n c
  · exact latent3 V0 n c

theorem context_all (n : Fin 256) (g : Fin 4) (c : Fin 64) :
    (res_main_v326 V0 : Vec Ideal S256x4x64 .f32) (ix3 n g c)
      = pooled (lane V0 ⟨64 * g.val + c.val, by omega⟩) (half (64 * g.val + c.val)) ⟨16384 + n.val, by omega⟩ := by
  rw [half_group]
  fin_cases g
  · exact (context0 V0 n c).trans (by simp)
  · exact context1 V0 n c
  · exact context2 V0 n c
  · exact context3 V0 n c

/-- The latent rows: the groups' products, side by side, times the scales. -/
abbrev latentRows (G : Vec Ideal S4x64x64 .f32) (y : Vec Ideal S16384x4x64 .f32) (S : Vec Ideal S256 .f32) : Vec Ideal S16384x256 .f32 :=
  mulf (F := Ideal) (φ := .f32) (shapeCast S16384x256 (transpose S16384x4x64 [2, 0, 1] (Host.dotGeneral (F := Ideal) (φ₁ := .f32) (φ₂ := .f32) dot_S4x64x64_S16384x4x64_S4x64x16384_1_2_2_0_0_1 none G y) transposes_S4x64x16384_S16384x4x64_2_0_1) shapeCasts_S16384x4x64_S16384x256)
    (broadcastInDim S16384x256 ![0, 1] bcast_S1x256_S16384x256_0_1 (broadcastInDim S1x256 ![1] bcast_S256_S1x256_1 S))

theorem latent_rows (G : Vec Ideal S4x64x64 .f32) (y : Vec Ideal S16384x4x64 .f32) (S : Vec Ideal S256 .f32) (n : Fin 16384) (j : Fin 256) :
    latentRows G y S (ix2 n j) = (∑ c : Fin 64, G (ix3 ⟨j.val / 64, by omega⟩ c ⟨j.val % 64, by omega⟩) * y (ix3 n ⟨j.val / 64, by omega⟩ c)) * S (ix1 j) := by
  pointwise

/-- The context rows: the groups' products, side by side, times the scales. -/
abbrev contextRows (G : Vec Ideal S4x64x64 .f32) (y : Vec Ideal S256x4x64 .f32) (S : Vec Ideal S256 .f32) : Vec Ideal S256x256 .f32 :=
  mulf (F := Ideal) (φ := .f32) (shapeCast S256x256 (transpose S256x4x64 [2, 0, 1] (Host.dotGeneral (F := Ideal) (φ₁ := .f32) (φ₂ := .f32) dot_S4x64x64_S256x4x64_S4x64x256_1_2_2_0_0_1 none G y) transposes_S4x64x256_S256x4x64_2_0_1) shapeCasts_S256x4x64_S256x256)
    (broadcastInDim S256x256 ![0, 1] bcast_S1x256_S256x256_0_1 (broadcastInDim S1x256 ![1] bcast_S256_S1x256_1 S))

theorem context_rows (G : Vec Ideal S4x64x64 .f32) (y : Vec Ideal S256x4x64 .f32) (S : Vec Ideal S256 .f32) (n : Fin 256) (j : Fin 256) :
    contextRows G y S (ix2 n j) = (∑ c : Fin 64, G (ix3 ⟨j.val / 64, by omega⟩ c ⟨j.val % 64, by omega⟩) * y (ix3 n ⟨j.val / 64, by omega⟩ c)) * S (ix1 j) := by
  pointwise

/-- Only the lanes of the entry's own group count. -/
theorem sum_diag (G : Vec Ideal S4x64x64 .f32) (p : Fin 256 → EReal) (j : Fin 256) :
    (∑ x : Fin 256, p x * diag G x j)
      = ∑ c : Fin 64, G (ix3 ⟨j.val / 64, by omega⟩ c ⟨j.val % 64, by omega⟩) * p ⟨64 * (j.val / 64) + c.val, by omega⟩ := by
  have hs := sum_group (fun x => p x * G (ix3 ⟨x.val / 64, by omega⟩ ⟨x.val % 64, by omega⟩ ⟨j.val % 64, by omega⟩)) ⟨j.val / 64, by omega⟩
  refine Eq.trans (Finset.sum_congr rfl fun x _ => ?_) (hs.trans (Finset.sum_congr rfl fun c _ => ?_))
  · unfold diag
    rw [mul_ite, mul_zero]
  · refine (mul_comm _ _).trans (congrArg₂ (fun a b => G (ix3 a b _) * _) (Fin.ext ?_) (Fin.ext ?_))
    · show (64 * (j.val / 64) + c.val) / 64 = j.val / 64
      omega
    · show (64 * (j.val / 64) + c.val) % 64 = c.val
      omega

/-- Rows put under one another. -/
theorem stacked_top (a : Vec Ideal S16384x256 .f32) (b : Vec Ideal S256x256 .f32) (n : Fin 16640) (j : Fin 256) :
    concatenate S16640x256 0 [⟨S16384x256, a⟩, ⟨S256x256, b⟩] concatenates_S16384x256_S256x256_S16640x256_d0 (ix2 n j)
      = if h : n.val < 16384 then a (ix2 ⟨n.val, h⟩ j) else b (ix2 ⟨n.val - 16384, by omega⟩ j) := by
  pointwise

/-- The result's rows. -/
abbrev mixedRows : Vec Ideal S16640x256 .f32 :=
  concatenate S16640x256 0 [⟨S16384x256, latentRows (argG V0) (res_main_v185 V0) (argS V0)⟩, ⟨S256x256, contextRows (argG V0) (res_main_v326 V0) (argS V0)⟩]
    concatenates_S16384x256_S256x256_S16640x256_d0

theorem mixed_at (n : Fin 16640) (j : Fin 256) :
    mixedRows V0 (ix2 n j) = (∑ x : Fin 256, pooled (lane V0 x) (half x.val) n * diag (argG V0) x j) * argS V0 (ix1 j) := by
  rw [sum_diag]
  refine (stacked_top _ _ n j).trans ?_
  by_cases h : n.val < 16384
  · rw [dif_pos h]
    refine (latent_rows (argG V0) (res_main_v185 V0) (argS V0) ⟨n.val, h⟩ j).trans (congrArg (· * _) (Finset.sum_congr rfl fun c _ => ?_))
    exact congrArg (_ * ·) (latent_all V0 ⟨n.val, h⟩ ⟨j.val / 64, by omega⟩ c)
  · rw [dif_neg h]
    obtain ⟨s, hn⟩ : ∃ s : Fin 256, n = ⟨16384 + s.val, by omega⟩ := ⟨⟨n.val - 16384, by omega⟩, Fin.ext (by dsimp only; omega)⟩
    have hs : (⟨n.val - 16384, by omega⟩ : Fin 256) = s := Fin.ext (by have hv := congrArg Fin.val hn; dsimp only at hv ⊢; omega)
    rw [hs]
    refine (context_rows (argG V0) (res_main_v326 V0) (argS V0) s j).trans (congrArg (· * _) (Finset.sum_congr rfl fun c _ => ?_))
    rw [hn]
    exact congrArg (_ * ·) (context_all V0 s ⟨j.val / 64, by omega⟩ c)

end Cert.Reference7Ideal.Local
end
-- ==== Proof.Local.Equal.lean ====
module
public import proofs.«01_k».proof.Proof.Local.Ref
/-! The local mixers' arrays are the reference's where the arguments are. -/
@[expose] public section
set_option maxRecDepth 16384
noncomputable section
namespace Cert.Reference7Ideal.Local
open Idealize.ShloMosaic Idealize.ShloMosaic.TcCoe Cert.Reference7Ideal Cert.Reference7Ideal.Gen Cert.Reference7Ideal.Value
open Cert.Kernel7Ideal.Local (convolved mixed part)

variable {V0 : Valuation τ sig (Elt Ideal)} {m : (ℓ : Loc Cert.Kernel7Ideal.nD Cert.Kernel7Ideal.τ Cert.Kernel7Ideal.sig) → Buf (Elt Ideal) ℓ}
  {c : Dev Cert.Kernel7Ideal.nD}

theorem pair {a b : ℕ} (i : (⟨2, ![a, b]⟩ : Shape).Idx) : i = ix2 (i 0) (i 1) := by
  funext x
  fin_cases x <;> rfl

/-- The columns from the `k`-th on. -/
theorem cut (x : Vec Ideal S16640x768 .f32) {k : ℕ} (hk : k ≤ 512) (hs) (n : Fin 16640) (j : Fin 256) :
    extractStridedSlice S16640x256 ![0, k] x hs (ix2 n j) = x (ix2 n ⟨k + j.val, by omega⟩) := by
  pointwise

section convolution
variable (hA : argA V0 = Cert.Kernel7Ideal.Local.argA m c) (hW : argW V0 = Cert.Kernel7Ideal.Local.argW m c)
  (hB : argB V0 = Cert.Kernel7Ideal.Local.argB m c)
include hA hW hB

theorem convolved_eq (n : Fin 16640) (j : Fin 768) : (res_main_v50 V0 : Vec Ideal S16640x768 .f32) (ix2 n j) = convolved m c n.val j := by
  rw [conv_at, hA, hW, hB]
  rfl

theorem first_eq : extractStridedSlice S16640x256 ![0, 0] (res_main_v50 V0 : Vec Ideal S16640x768 .f32) slices_S16640x768_S16640x256_0_0 = part m c 0 (by omega) := by
  funext i
  exact (congrArg _ (pair i)).trans ((cut _ (by omega) _ (i 0) (i 1)).trans (convolved_eq hA hW hB (i 0) _))

theorem second_eq : extractStridedSlice S16640x256 ![0, 256] (res_main_v50 V0 : Vec Ideal S16640x768 .f32) slices_S16640x768_S16640x256_0_256 = part m c 256 (by omega) := by
  funext i
  exact (congrArg _ (pair i)).trans ((cut _ (by omega) _ (i 0) (i 1)).trans (convolved_eq hA hW hB (i 0) _))

theorem third_eq : extractStridedSlice S16640x256 ![0, 512] (res_main_v50 V0 : Vec Ideal S16640x768 .f32) slices_S16640x768_S16640x256_0_512 = part m c 512 (by omega) := by
  funext i
  exact (congrArg _ (pair i)).trans ((cut _ (by omega) _ (i 0) (i 1)).trans (convolved_eq hA hW hB (i 0) _))

end convolution

theorem mixed_eq (hP : argP V0 = Cert.Kernel7Ideal.Local.argP m c) (hG : argG V0 = Cert.Kernel7Ideal.Local.argG m c)
    (hS : argS V0 = Cert.Kernel7Ideal.Local.argS m c) : mixedRows V0 = fun i : S16640x256.Idx => mixed m c (i 0) (i 1) := by
  funext i
  refine (congrArg (mixedRows V0) (pair i)).trans ((mixed_at V0 (i 0) (i 1)).trans ?_)
  unfold lane
  rw [hP, hG, hS]
  rfl

end Cert.Reference7Ideal.Local
end
-- ==== Proof.lean ====
/- The certificate of the attention kernel, of the kernel of the output projection and MLP, of the premix's kernel, of the
last layer's output projection and MLP, of the context rows' attention, of the modulation and of the local mixers: their
frames, and the equations of their results with the references'. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Flash.Finite
public import proofs.«01_k».proof.Proof.Flash.Ref
public import proofs.«01_k».proof.Proof.Post.Ref
public import proofs.«01_k».proof.Proof.Last.Ref
public import proofs.«01_k».proof.Proof.Premix.Finite
public import proofs.«01_k».proof.Proof.Premix.Equal
public import proofs.«01_k».proof.Proof.Ctx.Ref
public import proofs.«01_k».proof.Proof.Mod.Ref
public import proofs.«01_k».proof.Proof.Local.Equal
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem

/-- The reference ends with its arguments unchanged and every counter zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result is the reference's where the queries and the keys are finite. -/
theorem algebraic_flash : algebraic_KernelIdeal_ReferenceIdeal_pre_finite_qk := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨e0, e1, e2⟩ := hagree c
  have hr := Cert.KernelIdeal.Flash.real_of_pre m c (hpre c)
  rw [(h c).1, e0, e1, e2]
  funext i
  obtain ⟨μ, hμ⟩ := Cert.KernelIdeal.Flash.ref_value m c hr i
  rw [Cert.KernelIdeal.Flash.result hr i μ]
  exact hμ

/-- The second reference ends with its arguments unchanged and every counter zero. -/
theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The second kernel's result is the second reference's. -/
theorem algebraic_post : algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨?_, (h c).2⟩) (Cert.Reference2Ideal.Value.run (F := Ideal) m' ρ')
  obtain ⟨e0, e1, e2, e3, e4, e5, e6, e7, e8, e9, e10, e11, e12, e13, e14, e15⟩ := hagree c
  rw [(h c).1, Cert.Kernel2Ideal.Post.result]
  funext i
  have hi : i = ix2 (i 0) (i 1) := by funext x; fin_cases x <;> rfl
  rw [hi]
  refine (Cert.Reference2Ideal.Post.run_value (StableHlo.launchContents m' c) (i 0) (i 1)).trans ?_
  simp only [Cert.Kernel2Ideal.Post.argX, Cert.Kernel2Ideal.Post.argM, Cert.Kernel2Ideal.Post.argHl, Cert.Kernel2Ideal.Post.argHc, Cert.Kernel2Ideal.Post.argS, Cert.Kernel2Ideal.Post.argP, Cert.Kernel2Ideal.Post.argAl, Cert.Kernel2Ideal.Post.argAc, Cert.Kernel2Ideal.Post.argG, Cert.Kernel2Ideal.Post.argB, Cert.Kernel2Ideal.Post.argO, Cert.Kernel2Ideal.Post.argN₁, Cert.Kernel2Ideal.Post.argN₂, Cert.Kernel2Ideal.Post.argN₃, Cert.Kernel2Ideal.Post.argW₁, Cert.Kernel2Ideal.Post.argW₂]
  rw [← e0, ← e1, ← e2, ← e3, ← e4, ← e5, ← e6, ← e7, ← e8, ← e9, ← e10, ← e11, ← e12, ← e13, ← e14, ← e15]
  rfl

/-- The third reference ends with its arguments unchanged and every counter zero. -/
theorem quiescent_Reference3Ideal : quiescent_Reference3Ideal := fun m ρ _ =>
  (θ_run Cert.Reference3Ideal.defs _ _).mono (fun r h => ⟨fun c => (h c).2.2.2.2.2.2, sem_eq_zero_of_no_sems (by decide) r.2⟩)
    (Cert.Reference3Ideal.Value.run (F := Ideal) m ρ)

/-- The third kernel's results are the third reference's where the queries and the keys are made of finite numbers. -/
theorem algebraic_premix : algebraic_Kernel3Ideal_Reference3Ideal_pre_finite_in := by
  intro m ρ m' ρ' hpre hagree
  refine ⟨_, _, _, _, _, _, Cert.Kernel3Ideal.Value.run_blocks (F := Ideal) m ρ, ?_⟩
  refine (θ_run Cert.Reference3Ideal.defs _ _).mono (fun _ h c => ?_) (Cert.Reference3Ideal.Value.run (F := Ideal) m' ρ')
  obtain ⟨e0, e1, e2, e3, e4, e5⟩ := hagree c
  have e : Cert.Reference3Ideal.Premix.Agree (StableHlo.launchContents m' c) m c := ⟨e0, e1, e2, e3, e4, e5⟩
  have hr := Cert.Kernel3Ideal.Premix.real_of_pre m c (hpre c)
  obtain ⟨h0, h1, h2, h3, h4, h5, hargs⟩ := h c
  exact ⟨h0.trans e.first, h1.trans e.second, h2.trans e.third, h3.trans (e.queries hr), h4.trans (e.keys hr), h5.trans e.values, hargs⟩

/-- The queries' scale is named. -/
theorem preserves_premix : preserves_Kernel3_Kernel3Ideal :=
  IdealRules.named_const.statement Cert.Kernel3Ideal.κ "scale" .f32 0x3E38AA3B#32 (((8 * (Real.log 2))⁻¹ : ℝ) : EReal) rfl

/-- The fourth reference ends with its arguments unchanged and every counter zero. -/
theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The fourth kernel's result is the fourth reference's. -/
theorem algebraic_last : algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ⟨?_, (h c).2⟩) (Cert.Reference4Ideal.Value.run (F := Ideal) m' ρ')
  obtain ⟨e0, e1, e2, e3, e4, e5, e6, e7, e8, e9, e10, e11, e12, e13, e14, e15⟩ := hagree c
  rw [(h c).1, Cert.Kernel4Ideal.Last.result]
  funext i
  have hi : i = ix2 (i 0) (i 1) := by funext x; fin_cases x <;> rfl
  rw [hi]
  refine (Cert.Reference4Ideal.Last.run_value (StableHlo.launchContents m' c) (i 0) (i 1)).trans ?_
  simp only [Cert.Kernel4Ideal.Last.argX, Cert.Kernel4Ideal.Last.argM, Cert.Kernel4Ideal.Last.argH, Cert.Kernel4Ideal.Last.argS,
    Cert.Kernel4Ideal.Last.argP, Cert.Kernel4Ideal.Last.argA, Cert.Kernel4Ideal.Last.argG, Cert.Kernel4Ideal.Last.argB,
    Cert.Kernel4Ideal.Last.argO, Cert.Kernel4Ideal.Last.argN₁, Cert.Kernel4Ideal.Last.argN₂, Cert.Kernel4Ideal.Last.argN₃,
    Cert.Kernel4Ideal.Last.argW₁, Cert.Kernel4Ideal.Last.argW₂]
  rw [← e0, ← e1, ← e2, ← e4, ← e5, ← e6, ← e8, ← e9, ← e10, ← e11, ← e12, ← e13, ← e14, ← e15]
  rfl

/-- The fifth reference ends with its arguments unchanged and every counter zero. -/
theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The fifth kernel's result is the fifth reference's where the context's queries and keys are finite. -/
theorem algebraic_ctx : algebraic_Kernel5Ideal_Reference5Ideal_pre_finite_ctx := by
  intro m ρ m' ρ' hpre hagree
  refine ⟨_, Cert.Kernel5Ideal.Value.run_blocks (F := Ideal) m ρ, ?_⟩
  refine (θ_run Cert.Reference5Ideal.defs _ _).mono (fun _ h c => ⟨?_, (h c).2⟩) (Cert.Reference5Ideal.Value.run (F := Ideal) m' ρ')
  obtain ⟨e0, e1, e2⟩ := hagree c
  have hr := Cert.Kernel5Ideal.Ctx.real_of_pre m c (hpre c)
  rw [(h c).1, e0, e1, e2, Cert.Kernel5Ideal.Ctx.result]
  funext i
  have hi : i = ix2 (i 0) (i 1) := by funext x; fin_cases x <;> rfl
  rw [hi]
  exact Cert.Kernel5Ideal.Ctx.ref_value hr (i 0) (i 1)

/-- The sixth reference ends with its arguments unchanged and every counter zero. -/
theorem quiescent_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The sixth kernel's result is the sixth reference's where the conditionings and the weights are finite. -/
theorem algebraic_mod : algebraic_Kernel6Ideal_Reference6Ideal_pre_finite_mod := by
  intro m ρ m' ρ' hpre hagree
  refine ⟨_, Cert.Kernel6Ideal.Mod.run m ρ, ?_⟩
  refine (θ_run Cert.Reference6Ideal.defs _ _).mono (fun _ h c => ⟨?_, (h c).2⟩) (Cert.Reference6Ideal.Value.run (F := Ideal) m' ρ')
  obtain ⟨e0, e1, e2, e3⟩ := hagree c
  have hr := Cert.Kernel6Ideal.Mod.real_of_pre m c (hpre c)
  rw [(h c).1, e0, e1, e2, e3]
  exact congrArg (fun x => shapeCast Cert.Kernel6Ideal.S4x2x6x1024 x _)
    (Cert.Reference6Ideal.Mod.refRows_eq hr)

/-- The seventh reference ends with its arguments unchanged and every counter zero. -/
theorem quiescent_Reference7Ideal : quiescent_Reference7Ideal := fun m ρ _ =>
  (θ_run Cert.Reference7Ideal.defs _ _).mono (fun r h => ⟨fun c => (h c).2.2.2.2, sem_eq_zero_of_no_sems (by decide) r.2⟩)
    (Cert.Reference7Ideal.Value.run (F := Ideal) m ρ)

/-- The seventh kernel's four results are the seventh reference's. -/
theorem algebraic_local : algebraic_Kernel7Ideal_Reference7Ideal := by
  intro m ρ m' ρ' _ hagree
  refine ⟨_, _, _, _, Cert.Kernel7Ideal.Value.run_blocks (F := Ideal) m ρ, ?_⟩
  refine (θ_run Cert.Reference7Ideal.defs _ _).mono (fun _ h c => ?_) (Cert.Reference7Ideal.Value.run (F := Ideal) m' ρ')
  obtain ⟨e0, e1, e2, e3, e4, e5⟩ := hagree c
  obtain ⟨h0, h1, h2, h3, kept⟩ := h c
  refine ⟨?_, ?_, ?_, ?_, kept⟩
  · exact h0.trans ((Cert.Reference7Ideal.Local.first_eq (V0 := fun b => m' (c, b)) e0 e2 e3).trans (Cert.Kernel7Ideal.Local.result10 m c).symm)
  · exact h1.trans ((Cert.Reference7Ideal.Local.second_eq (V0 := fun b => m' (c, b)) e0 e2 e3).trans (Cert.Kernel7Ideal.Local.result11 m c).symm)
  · exact h2.trans ((Cert.Reference7Ideal.Local.third_eq (V0 := fun b => m' (c, b)) e0 e2 e3).trans (Cert.Kernel7Ideal.Local.result12 m c).symm)
  · exact h3.trans ((Cert.Reference7Ideal.Local.mixed_eq (V0 := fun b => m' (c, b)) e1 e4 e5).trans (Cert.Kernel7Ideal.Local.result13 m c).symm)

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts, Cert.Kernel6Ideal.Gen.facts,
  Cert.Reference6Ideal.Gen.facts, Cert.Kernel7.Gen.facts, Cert.Kernel7Ideal.Gen.facts, Cert.Reference7Ideal.Gen.facts,
  Cert.Pre_finite_qk.sides, Cert.Pre_finite_in.sides, Cert.Pre_finite_ctx.sides, Cert.Pre_finite_mod.sides,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, fun m ρ _ => Cert.Kernel3Ideal.Gen.frame m ρ,
  quiescent_Reference3Ideal, fun m ρ _ => quiescent_Reference3Ideal m ρ trivial,
  fun m ρ _ => Cert.Kernel4.Gen.frame m ρ, fun m ρ _ => Cert.Kernel4Ideal.Gen.frame m ρ, quiescent_Reference4Ideal,
  fun m ρ _ => Cert.Kernel5.Gen.frame m ρ, fun m ρ _ => Cert.Kernel5Ideal.Gen.frame m ρ, fun m ρ _ => Cert.Kernel5Ideal.Gen.frame m ρ,
  quiescent_Reference5Ideal, fun m ρ _ => quiescent_Reference5Ideal m ρ trivial,
  fun m ρ _ => Cert.Kernel6.Gen.frame m ρ, fun m ρ _ => Cert.Kernel6Ideal.Gen.frame m ρ, fun m ρ _ => Cert.Kernel6Ideal.Gen.frame m ρ,
  quiescent_Reference6Ideal, fun m ρ _ => quiescent_Reference6Ideal m ρ trivial,
  fun m ρ _ => Cert.Kernel7.Gen.frame m ρ, fun m ρ _ => Cert.Kernel7Ideal.Gen.frame m ρ, quiescent_Reference7Ideal,
  (trivial : preserves_Kernel_KernelIdeal), algebraic_flash, (trivial : preserves_Kernel2_Kernel2Ideal), algebraic_post,
  preserves_premix, algebraic_premix, (trivial : preserves_Kernel4_Kernel4Ideal), algebraic_last,
  (trivial : preserves_Kernel5_Kernel5Ideal), algebraic_ctx, (trivial : preserves_Kernel6_Kernel6Ideal), algebraic_mod,
  (trivial : preserves_Kernel7_Kernel7Ideal), algebraic_local⟩

end Cert.Proof

end
